-- ==== Defs.lean ====
def Pre_Corr (m : (ℓ : Loc Cert.Corr.nD Cert.Corr.τ Cert.Corr.sig) → Buf (Elt Bits) ℓ) : Prop :=
  True

def Pre_CorrIdeal (m : (ℓ : Loc Cert.CorrIdeal.nD Cert.CorrIdeal.τ Cert.CorrIdeal.sig) → Buf (Elt Ideal) ℓ) : Prop :=
  True

def Pre_CorrIdeal_finite [hPre_finite : Cert.Pre_finite.Facts] (m : (ℓ : Loc Cert.CorrIdeal.nD Cert.CorrIdeal.τ Cert.CorrIdeal.sig) → Buf (Elt Ideal) ℓ) : Prop :=
  ∀ c : Dev Cert.CorrIdeal.nD,
    (Cert.Pre_finite.fn (F := Ideal) (m ((c.tc : Thread Cert.CorrIdeal.nD Cert.CorrIdeal.τ).loc Cert.CorrIdeal.main_arg0)) (m ((c.tc : Thread Cert.CorrIdeal.nD Cert.CorrIdeal.τ).loc Cert.CorrIdeal.main_arg1))) = (fun _ => 1#1)

def Pre_CorrRefIdeal (m : (ℓ : Loc Cert.CorrRefIdeal.nD Cert.CorrRefIdeal.τ Cert.CorrRefIdeal.sig) → Buf (Elt Ideal) ℓ) : Prop :=
  True

def Pre_CorrRefIdeal_finite [hPre_finite : Cert.Pre_finite.Facts] (m : (ℓ : Loc Cert.CorrRefIdeal.nD Cert.CorrRefIdeal.τ Cert.CorrRefIdeal.sig) → Buf (Elt Ideal) ℓ) : Prop :=
  ∀ c : Dev Cert.CorrRefIdeal.nD,
    (Cert.Pre_finite.fn (F := Ideal) (m ((c.tc : Thread Cert.CorrRefIdeal.nD Cert.CorrRefIdeal.τ).loc Cert.CorrRefIdeal.main_arg0)) (m ((c.tc : Thread Cert.CorrRefIdeal.nD Cert.CorrRefIdeal.τ).loc Cert.CorrRefIdeal.main_arg1))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_finite_spectra [hPre_finite_spectra : Cert.Pre_finite_spectra.Facts] (m : (ℓ : Loc Cert.SelectIdeal.nD Cert.SelectIdeal.τ Cert.SelectIdeal.sig) → Buf (Elt Ideal) ℓ) : Prop :=
  ∀ c : Dev Cert.SelectIdeal.nD,
    (Cert.Pre_finite_spectra.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_finite_spectra [hPre_finite_spectra : Cert.Pre_finite_spectra.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_finite_spectra.fn (F := Ideal) (m ((c.tc : Thread Cert.SelectRefIdeal.nD Cert.SelectRefIdeal.τ).loc Cert.SelectRefIdeal.main_arg0)) (m ((c.tc : Thread Cert.SelectRefIdeal.nD Cert.SelectRefIdeal.τ).loc Cert.SelectRefIdeal.main_arg1))) = (fun _ => 1#1)

def Pre_Agg [hPre_in_range : Cert.Pre_in_range.Facts] (m : (ℓ : Loc Cert.Agg.nD Cert.Agg.τ Cert.Agg.sig) → Buf (Elt Bits) ℓ) : Prop :=
  ∀ c : Dev Cert.Agg.nD,
    (Cert.Pre_in_range.fn (F := Bits) (m ((c.tc : Thread Cert.Agg.nD Cert.Agg.τ).loc Cert.Agg.main_arg0)) (m ((c.tc : Thread Cert.Agg.nD Cert.Agg.τ).loc Cert.Agg.main_arg1)) (m ((c.tc : Thread Cert.Agg.nD Cert.Agg.τ).loc Cert.Agg.main_arg2))) = (fun _ => 1#1)

def Pre_AggIdeal [hPre_in_range : Cert.Pre_in_range.Facts] (m : (ℓ : Loc Cert.AggIdeal.nD Cert.AggIdeal.τ Cert.AggIdeal.sig) → Buf (Elt Ideal) ℓ) : Prop :=
  ∀ c : Dev Cert.AggIdeal.nD,
    (Cert.Pre_in_range.fn (F := Ideal) (m ((c.tc : Thread Cert.AggIdeal.nD Cert.AggIdeal.τ).loc Cert.AggIdeal.main_arg0)) (m ((c.tc : Thread Cert.AggIdeal.nD Cert.AggIdeal.τ).loc Cert.AggIdeal.main_arg1)) (m ((c.tc : Thread Cert.AggIdeal.nD Cert.AggIdeal.τ).loc Cert.AggIdeal.main_arg2))) = (fun _ => 1#1)

def Pre_AggRefIdeal (m : (ℓ : Loc Cert.AggRefIdeal.nD Cert.AggRefIdeal.τ Cert.AggRefIdeal.sig) → Buf (Elt Ideal) ℓ) : Prop :=
  True

def Pre_AggRefIdeal_in_range [hPre_in_range : Cert.Pre_in_range.Facts] (m : (ℓ : Loc Cert.AggRefIdeal.nD Cert.AggRefIdeal.τ Cert.AggRefIdeal.sig) → Buf (Elt Ideal) ℓ) : Prop :=
  ∀ c : Dev Cert.AggRefIdeal.nD,
    (Cert.Pre_in_range.fn (F := Ideal) (m ((c.tc : Thread Cert.AggRefIdeal.nD Cert.AggRefIdeal.τ).loc Cert.AggRefIdeal.main_arg0)) (m ((c.tc : Thread Cert.AggRefIdeal.nD Cert.AggRefIdeal.τ).loc Cert.AggRefIdeal.main_arg1)) (m ((c.tc : Thread Cert.AggRefIdeal.nD Cert.AggRefIdeal.τ).loc Cert.AggRefIdeal.main_arg2))) = (fun _ => 1#1)

def quiescent_Corr [hCorr : Cert.Corr.Facts] : Prop :=
  ∀ (m : (ℓ : Loc Cert.Corr.nD Cert.Corr.τ Cert.Corr.sig) → Buf (Elt Bits) ℓ) (g : Dev Cert.Corr.nD → PrngReg), Pre_Corr m →
    θ_run (Cert.Corr.defs (F := Bits)) (onTc (τ := Cert.Corr.τ) (Cert.Corr.main (F := Bits))) ⟨m, fun _ => 0, g⟩ (fun r => (∀ c : Dev Cert.Corr.nD,
      r.2.mem ((c.tc : Thread Cert.Corr.nD Cert.Corr.τ).loc Cert.Corr.main_arg0) = m ((c.tc : Thread Cert.Corr.nD Cert.Corr.τ).loc Cert.Corr.main_arg0)
      ∧ r.2.mem ((c.tc : Thread Cert.Corr.nD Cert.Corr.τ).loc Cert.Corr.main_arg1) = m ((c.tc : Thread Cert.Corr.nD Cert.Corr.τ).loc Cert.Corr.main_arg1))
      ∧ r.2.sem = fun _ => 0)

def quiescent_CorrIdeal [hCorrIdeal : Cert.CorrIdeal.Facts] : Prop :=
  ∀ (m : (ℓ : Loc Cert.CorrIdeal.nD Cert.CorrIdeal.τ Cert.CorrIdeal.sig) → Buf (Elt Ideal) ℓ) (g : Dev Cert.CorrIdeal.nD → PrngReg), Pre_CorrIdeal m →
    θ_run (Cert.CorrIdeal.defs (F := Ideal)) (onTc (τ := Cert.CorrIdeal.τ) (Cert.CorrIdeal.main (F := Ideal))) ⟨m, fun _ => 0, g⟩ (fun r => (∀ c : Dev Cert.CorrIdeal.nD,
      r.2.mem ((c.tc : Thread Cert.CorrIdeal.nD Cert.CorrIdeal.τ).loc Cert.CorrIdeal.main_arg0) = m ((c.tc : Thread Cert.CorrIdeal.nD Cert.CorrIdeal.τ).loc Cert.CorrIdeal.main_arg0)
      ∧ r.2.mem ((c.tc : Thread Cert.CorrIdeal.nD Cert.CorrIdeal.τ).loc Cert.CorrIdeal.main_arg1) = m ((c.tc : Thread Cert.CorrIdeal.nD Cert.CorrIdeal.τ).loc Cert.CorrIdeal.main_arg1))
      ∧ r.2.sem = fun _ => 0)

def quiescent_CorrIdeal_pre_finite [hCorrIdeal : Cert.CorrIdeal.Facts] [hPre_finite : Cert.Pre_finite.Facts] : Prop :=
  ∀ (m : (ℓ : Loc Cert.CorrIdeal.nD Cert.CorrIdeal.τ Cert.CorrIdeal.sig) → Buf (Elt Ideal) ℓ) (g : Dev Cert.CorrIdeal.nD → PrngReg), Pre_CorrIdeal_finite m →
    θ_run (Cert.CorrIdeal.defs (F := Ideal)) (onTc (τ := Cert.CorrIdeal.τ) (Cert.CorrIdeal.main (F := Ideal))) ⟨m, fun _ => 0, g⟩ (fun r => (∀ c : Dev Cert.CorrIdeal.nD,
      r.2.mem ((c.tc : Thread Cert.CorrIdeal.nD Cert.CorrIdeal.τ).loc Cert.CorrIdeal.main_arg0) = m ((c.tc : Thread Cert.CorrIdeal.nD Cert.CorrIdeal.τ).loc Cert.CorrIdeal.main_arg0)
      ∧ r.2.mem ((c.tc : Thread Cert.CorrIdeal.nD Cert.CorrIdeal.τ).loc Cert.CorrIdeal.main_arg1) = m ((c.tc : Thread Cert.CorrIdeal.nD Cert.CorrIdeal.τ).loc Cert.CorrIdeal.main_arg1))
      ∧ r.2.sem = fun _ => 0)

def quiescent_CorrRefIdeal [hCorrRefIdeal : Cert.CorrRefIdeal.Facts] : Prop :=
  ∀ (m : (ℓ : Loc Cert.CorrRefIdeal.nD Cert.CorrRefIdeal.τ Cert.CorrRefIdeal.sig) → Buf (Elt Ideal) ℓ) (g : Dev Cert.CorrRefIdeal.nD → PrngReg), Pre_CorrRefIdeal m →
    θ_run (Cert.CorrRefIdeal.defs (F := Ideal)) (onTc (τ := Cert.CorrRefIdeal.τ) (Cert.CorrRefIdeal.main (F := Ideal))) ⟨m, fun _ => 0, g⟩ (fun r => (∀ c : Dev Cert.CorrRefIdeal.nD,
      r.2.mem ((c.tc : Thread Cert.CorrRefIdeal.nD Cert.CorrRefIdeal.τ).loc Cert.CorrRefIdeal.main_arg0) = m ((c.tc : Thread Cert.CorrRefIdeal.nD Cert.CorrRefIdeal.τ).loc Cert.CorrRefIdeal.main_arg0)
      ∧ r.2.mem ((c.tc : Thread Cert.CorrRefIdeal.nD Cert.CorrRefIdeal.τ).loc Cert.CorrRefIdeal.main_arg1) = m ((c.tc : Thread Cert.CorrRefIdeal.nD Cert.CorrRefIdeal.τ).loc Cert.CorrRefIdeal.main_arg1))
      ∧ r.2.sem = fun _ => 0)

def quiescent_CorrRefIdeal_pre_finite [hCorrRefIdeal : Cert.CorrRefIdeal.Facts] [hPre_finite : Cert.Pre_finite.Facts] : Prop :=
  ∀ (m : (ℓ : Loc Cert.CorrRefIdeal.nD Cert.CorrRefIdeal.τ Cert.CorrRefIdeal.sig) → Buf (Elt Ideal) ℓ) (g : Dev Cert.CorrRefIdeal.nD → PrngReg), Pre_CorrRefIdeal_finite m →
    θ_run (Cert.CorrRefIdeal.defs (F := Ideal)) (onTc (τ := Cert.CorrRefIdeal.τ) (Cert.CorrRefIdeal.main (F := Ideal))) ⟨m, fun _ => 0, g⟩ (fun r => (∀ c : Dev Cert.CorrRefIdeal.nD,
      r.2.mem ((c.tc : Thread Cert.CorrRefIdeal.nD Cert.CorrRefIdeal.τ).loc Cert.CorrRefIdeal.main_arg0) = m ((c.tc : Thread Cert.CorrRefIdeal.nD Cert.CorrRefIdeal.τ).loc Cert.CorrRefIdeal.main_arg0)
      ∧ r.2.mem ((c.tc : Thread Cert.CorrRefIdeal.nD Cert.CorrRefIdeal.τ).loc Cert.CorrRefIdeal.main_arg1) = m ((c.tc : Thread Cert.CorrRefIdeal.nD Cert.CorrRefIdeal.τ).loc Cert.CorrRefIdeal.main_arg1))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_finite_spectra [hSelectIdeal : Cert.SelectIdeal.Facts] [hPre_finite_spectra : Cert.Pre_finite_spectra.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_finite_spectra m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_SelectRefIdeal_pre_finite_spectra [hSelectRefIdeal : Cert.SelectRefIdeal.Facts] [hPre_finite_spectra : Cert.Pre_finite_spectra.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_finite_spectra m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_Agg [hAgg : Cert.Agg.Facts] [hPre_in_range : Cert.Pre_in_range.Facts] : Prop :=
  ∀ (m : (ℓ : Loc Cert.Agg.nD Cert.Agg.τ Cert.Agg.sig) → Buf (Elt Bits) ℓ) (g : Dev Cert.Agg.nD → PrngReg), Pre_Agg m →
    θ_run (Cert.Agg.defs (F := Bits)) (onTc (τ := Cert.Agg.τ) (Cert.Agg.main (F := Bits))) ⟨m, fun _ => 0, g⟩ (fun r => (∀ c : Dev Cert.Agg.nD,
      r.2.mem ((c.tc : Thread Cert.Agg.nD Cert.Agg.τ).loc Cert.Agg.main_arg0) = m ((c.tc : Thread Cert.Agg.nD Cert.Agg.τ).loc Cert.Agg.main_arg0)
      ∧ r.2.mem ((c.tc : Thread Cert.Agg.nD Cert.Agg.τ).loc Cert.Agg.main_arg1) = m ((c.tc : Thread Cert.Agg.nD Cert.Agg.τ).loc Cert.Agg.main_arg1)
      ∧ r.2.mem ((c.tc : Thread Cert.Agg.nD Cert.Agg.τ).loc Cert.Agg.main_arg2) = m ((c.tc : Thread Cert.Agg.nD Cert.Agg.τ).loc Cert.Agg.main_arg2))
      ∧ r.2.sem = fun _ => 0)

def quiescent_AggIdeal [hAggIdeal : Cert.AggIdeal.Facts] [hPre_in_range : Cert.Pre_in_range.Facts] : Prop :=
  ∀ (m : (ℓ : Loc Cert.AggIdeal.nD Cert.AggIdeal.τ Cert.AggIdeal.sig) → Buf (Elt Ideal) ℓ) (g : Dev Cert.AggIdeal.nD → PrngReg), Pre_AggIdeal m →
    θ_run (Cert.AggIdeal.defs (F := Ideal)) (onTc (τ := Cert.AggIdeal.τ) (Cert.AggIdeal.main (F := Ideal))) ⟨m, fun _ => 0, g⟩ (fun r => (∀ c : Dev Cert.AggIdeal.nD,
      r.2.mem ((c.tc : Thread Cert.AggIdeal.nD Cert.AggIdeal.τ).loc Cert.AggIdeal.main_arg0) = m ((c.tc : Thread Cert.AggIdeal.nD Cert.AggIdeal.τ).loc Cert.AggIdeal.main_arg0)
      ∧ r.2.mem ((c.tc : Thread Cert.AggIdeal.nD Cert.AggIdeal.τ).loc Cert.AggIdeal.main_arg1) = m ((c.tc : Thread Cert.AggIdeal.nD Cert.AggIdeal.τ).loc Cert.AggIdeal.main_arg1)
      ∧ r.2.mem ((c.tc : Thread Cert.AggIdeal.nD Cert.AggIdeal.τ).loc Cert.AggIdeal.main_arg2) = m ((c.tc : Thread Cert.AggIdeal.nD Cert.AggIdeal.τ).loc Cert.AggIdeal.main_arg2))
      ∧ r.2.sem = fun _ => 0)

def quiescent_AggRefIdeal [hAggRefIdeal : Cert.AggRefIdeal.Facts] : Prop :=
  ∀ (m : (ℓ : Loc Cert.AggRefIdeal.nD Cert.AggRefIdeal.τ Cert.AggRefIdeal.sig) → Buf (Elt Ideal) ℓ) (g : Dev Cert.AggRefIdeal.nD → PrngReg), Pre_AggRefIdeal m →
    θ_run (Cert.AggRefIdeal.defs (F := Ideal)) (onTc (τ := Cert.AggRefIdeal.τ) (Cert.AggRefIdeal.main (F := Ideal))) ⟨m, fun _ => 0, g⟩ (fun r => (∀ c : Dev Cert.AggRefIdeal.nD,
      r.2.mem ((c.tc : Thread Cert.AggRefIdeal.nD Cert.AggRefIdeal.τ).loc Cert.AggRefIdeal.main_arg0) = m ((c.tc : Thread Cert.AggRefIdeal.nD Cert.AggRefIdeal.τ).loc Cert.AggRefIdeal.main_arg0)
      ∧ r.2.mem ((c.tc : Thread Cert.AggRefIdeal.nD Cert.AggRefIdeal.τ).loc Cert.AggRefIdeal.main_arg1) = m ((c.tc : Thread Cert.AggRefIdeal.nD Cert.AggRefIdeal.τ).loc Cert.AggRefIdeal.main_arg1)
      ∧ r.2.mem ((c.tc : Thread Cert.AggRefIdeal.nD Cert.AggRefIdeal.τ).loc Cert.AggRefIdeal.main_arg2) = m ((c.tc : Thread Cert.AggRefIdeal.nD Cert.AggRefIdeal.τ).loc Cert.AggRefIdeal.main_arg2))
      ∧ r.2.sem = fun _ => 0)

def quiescent_AggRefIdeal_pre_in_range [hAggRefIdeal : Cert.AggRefIdeal.Facts] [hPre_in_range : Cert.Pre_in_range.Facts] : Prop :=
  ∀ (m : (ℓ : Loc Cert.AggRefIdeal.nD Cert.AggRefIdeal.τ Cert.AggRefIdeal.sig) → Buf (Elt Ideal) ℓ) (g : Dev Cert.AggRefIdeal.nD → PrngReg), Pre_AggRefIdeal_in_range m →
    θ_run (Cert.AggRefIdeal.defs (F := Ideal)) (onTc (τ := Cert.AggRefIdeal.τ) (Cert.AggRefIdeal.main (F := Ideal))) ⟨m, fun _ => 0, g⟩ (fun r => (∀ c : Dev Cert.AggRefIdeal.nD,
      r.2.mem ((c.tc : Thread Cert.AggRefIdeal.nD Cert.AggRefIdeal.τ).loc Cert.AggRefIdeal.main_arg0) = m ((c.tc : Thread Cert.AggRefIdeal.nD Cert.AggRefIdeal.τ).loc Cert.AggRefIdeal.main_arg0)
      ∧ r.2.mem ((c.tc : Thread Cert.AggRefIdeal.nD Cert.AggRefIdeal.τ).loc Cert.AggRefIdeal.main_arg1) = m ((c.tc : Thread Cert.AggRefIdeal.nD Cert.AggRefIdeal.τ).loc Cert.AggRefIdeal.main_arg1)
      ∧ r.2.mem ((c.tc : Thread Cert.AggRefIdeal.nD Cert.AggRefIdeal.τ).loc Cert.AggRefIdeal.main_arg2) = m ((c.tc : Thread Cert.AggRefIdeal.nD Cert.AggRefIdeal.τ).loc Cert.AggRefIdeal.main_arg2))
      ∧ r.2.sem = fun _ => 0)

def preserves_Corr_CorrIdeal : Prop :=
  True

def algebraic_CorrIdeal_CorrRefIdeal_pre_finite [hCorrIdeal : Cert.CorrIdeal.Facts] [hCorrRefIdeal : Cert.CorrRefIdeal.Facts] [hPre_finite : Cert.Pre_finite.Facts] : Prop :=
  ∀ (m : (ℓ : Loc Cert.CorrIdeal.nD Cert.CorrIdeal.τ Cert.CorrIdeal.sig) → Buf (Elt Ideal) ℓ) (g : Dev Cert.CorrIdeal.nD → PrngReg)
    (m' : (ℓ : Loc Cert.CorrRefIdeal.nD Cert.CorrRefIdeal.τ Cert.CorrRefIdeal.sig) → Buf (Elt Ideal) ℓ) (g' : Dev Cert.CorrRefIdeal.nD → PrngReg), Pre_CorrIdeal_finite m →
    (∀ c : Dev Cert.CorrIdeal.nD,
      m' ((c.tc : Thread Cert.CorrRefIdeal.nD Cert.CorrRefIdeal.τ).loc Cert.CorrRefIdeal.main_arg0) = m ((c.tc : Thread Cert.CorrIdeal.nD Cert.CorrIdeal.τ).loc Cert.CorrIdeal.main_arg0)
      ∧ m' ((c.tc : Thread Cert.CorrRefIdeal.nD Cert.CorrRefIdeal.τ).loc Cert.CorrRefIdeal.main_arg1) = m ((c.tc : Thread Cert.CorrIdeal.nD Cert.CorrIdeal.τ).loc Cert.CorrIdeal.main_arg1)) →
    ∃ (v0 : (c : Dev Cert.CorrIdeal.nD) → Buf (Elt Ideal) ((c.tc : Thread Cert.CorrIdeal.nD Cert.CorrIdeal.τ).loc Cert.CorrIdeal.main_v0_0)) (v1 : (c : Dev Cert.CorrIdeal.nD) → Buf (Elt Ideal) ((c.tc : Thread Cert.CorrIdeal.nD Cert.CorrIdeal.τ).loc Cert.CorrIdeal.main_v0_1)),
      θ_run (Cert.CorrIdeal.defs (F := Ideal)) (onTc (τ := Cert.CorrIdeal.τ) (Cert.CorrIdeal.main (F := Ideal))) ⟨m, fun _ => 0, g⟩ (fun r => ∀ c : Dev Cert.CorrIdeal.nD,
          r.2.mem ((c.tc : Thread Cert.CorrIdeal.nD Cert.CorrIdeal.τ).loc Cert.CorrIdeal.main_v0_0) = v0 c
          ∧ r.2.mem ((c.tc : Thread Cert.CorrIdeal.nD Cert.CorrIdeal.τ).loc Cert.CorrIdeal.main_v0_1) = v1 c
          ∧ r.2.mem ((c.tc : Thread Cert.CorrIdeal.nD Cert.CorrIdeal.τ).loc Cert.CorrIdeal.main_arg0) = m ((c.tc : Thread Cert.CorrIdeal.nD Cert.CorrIdeal.τ).loc Cert.CorrIdeal.main_arg0)
          ∧ r.2.mem ((c.tc : Thread Cert.CorrIdeal.nD Cert.CorrIdeal.τ).loc Cert.CorrIdeal.main_arg1) = m ((c.tc : Thread Cert.CorrIdeal.nD Cert.CorrIdeal.τ).loc Cert.CorrIdeal.main_arg1))
      ∧ θ_run (Cert.CorrRefIdeal.defs (F := Ideal)) (onTc (τ := Cert.CorrRefIdeal.τ) (Cert.CorrRefIdeal.main (F := Ideal))) ⟨m', fun _ => 0, g'⟩ (fun r => ∀ c : Dev Cert.CorrRefIdeal.nD,
          r.2.mem ((c.tc : Thread Cert.CorrRefIdeal.nD Cert.CorrRefIdeal.τ).loc Cert.CorrRefIdeal.main_v31) = v0 c
          ∧ r.2.mem ((c.tc : Thread Cert.CorrRefIdeal.nD Cert.CorrRefIdeal.τ).loc Cert.CorrRefIdeal.main_v33) = v1 c
          ∧ r.2.mem ((c.tc : Thread Cert.CorrRefIdeal.nD Cert.CorrRefIdeal.τ).loc Cert.CorrRefIdeal.main_arg0) = m' ((c.tc : Thread Cert.CorrRefIdeal.nD Cert.CorrRefIdeal.τ).loc Cert.CorrRefIdeal.main_arg0)
          ∧ r.2.mem ((c.tc : Thread Cert.CorrRefIdeal.nD Cert.CorrRefIdeal.τ).loc Cert.CorrRefIdeal.main_arg1) = m' ((c.tc : Thread Cert.CorrRefIdeal.nD Cert.CorrRefIdeal.τ).loc Cert.CorrRefIdeal.main_arg1))

def preserves_Select_SelectIdeal : Prop :=
  True

def algebraic_SelectIdeal_SelectRefIdeal_pre_finite_spectra [hSelectIdeal : Cert.SelectIdeal.Facts] [hSelectRefIdeal : Cert.SelectRefIdeal.Facts] [hPre_finite_spectra : Cert.Pre_finite_spectra.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_finite_spectra m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)
      ∧ m' ((c.tc : Thread Cert.SelectRefIdeal.nD Cert.SelectRefIdeal.τ).loc Cert.SelectRefIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_0) = v0 c
          ∧ r.2.mem ((c.tc : Thread Cert.SelectIdeal.nD Cert.SelectIdeal.τ).loc Cert.SelectIdeal.main_v0_1) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v46) = v0 c
          ∧ r.2.mem ((c.tc : Thread Cert.SelectRefIdeal.nD Cert.SelectRefIdeal.τ).loc Cert.SelectRefIdeal.main_v45) = v1 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0)
          ∧ r.2.mem ((c.tc : Thread Cert.SelectRefIdeal.nD Cert.SelectRefIdeal.τ).loc Cert.SelectRefIdeal.main_arg1) = m' ((c.tc : Thread Cert.SelectRefIdeal.nD Cert.SelectRefIdeal.τ).loc Cert.SelectRefIdeal.main_arg1))

def preserves_Agg_AggIdeal : Prop :=
  True

def algebraic_AggIdeal_AggRefIdeal [hAggIdeal : Cert.AggIdeal.Facts] [hAggRefIdeal : Cert.AggRefIdeal.Facts] [hPre_in_range : Cert.Pre_in_range.Facts] : Prop :=
  ∀ (m : (ℓ : Loc Cert.AggIdeal.nD Cert.AggIdeal.τ Cert.AggIdeal.sig) → Buf (Elt Ideal) ℓ) (g : Dev Cert.AggIdeal.nD → PrngReg)
    (m' : (ℓ : Loc Cert.AggRefIdeal.nD Cert.AggRefIdeal.τ Cert.AggRefIdeal.sig) → Buf (Elt Ideal) ℓ) (g' : Dev Cert.AggRefIdeal.nD → PrngReg), Pre_AggIdeal m →
    (∀ c : Dev Cert.AggIdeal.nD,
      m' ((c.tc : Thread Cert.AggRefIdeal.nD Cert.AggRefIdeal.τ).loc Cert.AggRefIdeal.main_arg0) = m ((c.tc : Thread Cert.AggIdeal.nD Cert.AggIdeal.τ).loc Cert.AggIdeal.main_arg0)
      ∧ m' ((c.tc : Thread Cert.AggRefIdeal.nD Cert.AggRefIdeal.τ).loc Cert.AggRefIdeal.main_arg1) = m ((c.tc : Thread Cert.AggIdeal.nD Cert.AggIdeal.τ).loc Cert.AggIdeal.main_arg1)
      ∧ m' ((c.tc : Thread Cert.AggRefIdeal.nD Cert.AggRefIdeal.τ).loc Cert.AggRefIdeal.main_arg2) = m ((c.tc : Thread Cert.AggIdeal.nD Cert.AggIdeal.τ).loc Cert.AggIdeal.main_arg2)) →
    ∃ (v0 : (c : Dev Cert.AggIdeal.nD) → Buf (Elt Ideal) ((c.tc : Thread Cert.AggIdeal.nD Cert.AggIdeal.τ).loc Cert.AggIdeal.main_v0)),
      θ_run (Cert.AggIdeal.defs (F := Ideal)) (onTc (τ := Cert.AggIdeal.τ) (Cert.AggIdeal.main (F := Ideal))) ⟨m, fun _ => 0, g⟩ (fun r => ∀ c : Dev Cert.AggIdeal.nD,
          r.2.mem ((c.tc : Thread Cert.AggIdeal.nD Cert.AggIdeal.τ).loc Cert.AggIdeal.main_v0) = v0 c
          ∧ r.2.mem ((c.tc : Thread Cert.AggIdeal.nD Cert.AggIdeal.τ).loc Cert.AggIdeal.main_arg0) = m ((c.tc : Thread Cert.AggIdeal.nD Cert.AggIdeal.τ).loc Cert.AggIdeal.main_arg0)
          ∧ r.2.mem ((c.tc : Thread Cert.AggIdeal.nD Cert.AggIdeal.τ).loc Cert.AggIdeal.main_arg1) = m ((c.tc : Thread Cert.AggIdeal.nD Cert.AggIdeal.τ).loc Cert.AggIdeal.main_arg1)
          ∧ r.2.mem ((c.tc : Thread Cert.AggIdeal.nD Cert.AggIdeal.τ).loc Cert.AggIdeal.main_arg2) = m ((c.tc : Thread Cert.AggIdeal.nD Cert.AggIdeal.τ).loc Cert.AggIdeal.main_arg2))
      ∧ θ_run (Cert.AggRefIdeal.defs (F := Ideal)) (onTc (τ := Cert.AggRefIdeal.τ) (Cert.AggRefIdeal.main (F := Ideal))) ⟨m', fun _ => 0, g'⟩ (fun r => ∀ c : Dev Cert.AggRefIdeal.nD,
          r.2.mem ((c.tc : Thread Cert.AggRefIdeal.nD Cert.AggRefIdeal.τ).loc Cert.AggRefIdeal.main_v101) = v0 c
          ∧ r.2.mem ((c.tc : Thread Cert.AggRefIdeal.nD Cert.AggRefIdeal.τ).loc Cert.AggRefIdeal.main_arg0) = m' ((c.tc : Thread Cert.AggRefIdeal.nD Cert.AggRefIdeal.τ).loc Cert.AggRefIdeal.main_arg0)
          ∧ r.2.mem ((c.tc : Thread Cert.AggRefIdeal.nD Cert.AggRefIdeal.τ).loc Cert.AggRefIdeal.main_arg1) = m' ((c.tc : Thread Cert.AggRefIdeal.nD Cert.AggRefIdeal.τ).loc Cert.AggRefIdeal.main_arg1)
          ∧ r.2.mem ((c.tc : Thread Cert.AggRefIdeal.nD Cert.AggRefIdeal.τ).loc Cert.AggRefIdeal.main_arg2) = m' ((c.tc : Thread Cert.AggRefIdeal.nD Cert.AggRefIdeal.τ).loc Cert.AggRefIdeal.main_arg2))

def Claim : Prop :=
  ∃ (hCorr : Cert.Corr.Facts) (hCorrIdeal : Cert.CorrIdeal.Facts) (hCorrRefIdeal : Cert.CorrRefIdeal.Facts) (hSelect : Cert.Select.Facts) (hSelectIdeal : Cert.SelectIdeal.Facts) (hSelectRefIdeal : Cert.SelectRefIdeal.Facts) (hAgg : Cert.Agg.Facts) (hAggIdeal : Cert.AggIdeal.Facts) (hAggRefIdeal : Cert.AggRefIdeal.Facts) (hPre_finite : Cert.Pre_finite.Facts) (hPre_finite_spectra : Cert.Pre_finite_spectra.Facts) (hPre_in_range : Cert.Pre_in_range.Facts),
    quiescent_Corr (hCorr := hCorr)
    ∧ quiescent_CorrIdeal (hCorrIdeal := hCorrIdeal)
    ∧ quiescent_CorrIdeal_pre_finite (hCorrIdeal := hCorrIdeal) (hPre_finite := hPre_finite)
    ∧ quiescent_CorrRefIdeal (hCorrRefIdeal := hCorrRefIdeal)
    ∧ quiescent_CorrRefIdeal_pre_finite (hCorrRefIdeal := hCorrRefIdeal) (hPre_finite := hPre_finite)
    ∧ quiescent_Select (hSelect := hSelect)
    ∧ quiescent_SelectIdeal (hSelectIdeal := hSelectIdeal)
    ∧ quiescent_SelectIdeal_pre_finite_spectra (hSelectIdeal := hSelectIdeal) (hPre_finite_spectra := hPre_finite_spectra)
    ∧ quiescent_SelectRefIdeal (hSelectRefIdeal := hSelectRefIdeal)
    ∧ quiescent_SelectRefIdeal_pre_finite_spectra (hSelectRefIdeal := hSelectRefIdeal) (hPre_finite_spectra := hPre_finite_spectra)
    ∧ quiescent_Agg (hAgg := hAgg) (hPre_in_range := hPre_in_range)
    ∧ quiescent_AggIdeal (hAggIdeal := hAggIdeal) (hPre_in_range := hPre_in_range)
    ∧ quiescent_AggRefIdeal (hAggRefIdeal := hAggRefIdeal)
    ∧ quiescent_AggRefIdeal_pre_in_range (hAggRefIdeal := hAggRefIdeal) (hPre_in_range := hPre_in_range)
    ∧ preserves_Corr_CorrIdeal
    ∧ algebraic_CorrIdeal_CorrRefIdeal_pre_finite (hCorrIdeal := hCorrIdeal) (hCorrRefIdeal := hCorrRefIdeal) (hPre_finite := hPre_finite)
    ∧ preserves_Select_SelectIdeal
    ∧ algebraic_SelectIdeal_SelectRefIdeal_pre_finite_spectra (hSelectIdeal := hSelectIdeal) (hSelectRefIdeal := hSelectRefIdeal) (hPre_finite_spectra := hPre_finite_spectra)
    ∧ preserves_Agg_AggIdeal
    ∧ algebraic_AggIdeal_AggRefIdeal (hAggIdeal := hAggIdeal) (hAggRefIdeal := hAggRefIdeal) (hPre_in_range := hPre_in_range)
-- ==== Pre_finite.lean ====
abbrev S4x4096x16x64 : Shape := ⟨4, ![4, 4096, 16, 64]⟩
abbrev S_ : Shape := ⟨0, ![]⟩

class Facts : Prop where
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel

variable [Facts]

def fn {F : FTy → Type} [FloatOps F] (main_arg0 : FVec F S4x4096x16x64 .f32) (main_arg1 : FVec F S4x4096x16x64 .f32) : IVec S_ 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_c : IVec S_ 1 := constantI S_ 1 1#1
  let main_v3 : IVec S_ 1 := (fun x v => Host.reduce IntOp.andi x v reducesTo_S4x4096x16x64_S_d0_1_2_3 h_S_) main_v2 main_c
  let main_v4 : FVec F S4x4096x16x64 .f32 := Host.absf main_arg1
  let main_cst_0 : FVec F S_ .f32 := constant S_ .f32 0x7F800000#32
  let main_v5 : FVec F S4x4096x16x64 .f32 := broadcastInDim S4x4096x16x64 ![] bcast_S_S4x4096x16x64 main_cst_0
  let main_v6 : IVec S4x4096x16x64 1 := cmpf .olt main_v4 main_v5
  let main_c_1 : IVec S_ 1 := constantI S_ 1 1#1
  let main_v7 : IVec S_ 1 := (fun x v => Host.reduce IntOp.andi x v reducesTo_S4x4096x16x64_S_d0_1_2_3 h_S_) main_v6 main_c_1
  let main_v8 : IVec S_ 1 := andi main_v3 main_v7
  main_v8
-- ==== Pre_finite_spectra.lean ====
abbrev S4x32x128 : Shape := ⟨3, ![4, 32, 128]⟩
abbrev S_ : Shape := ⟨0, ![]⟩

class Facts : Prop where
  bcast_S_S4x32x128 : S_.BroadcastsInDim S4x32x128 (![] : Fin 0 → Fin S4x32x128.rank)
  reducesTo_S4x32x128_S_d0_1_2 : S4x32x128.ReducesTo [0, 1, 2] S_
  h_S_ : 0 < S_.numel

variable [Facts]

def fn {F : FTy → Type} [FloatOps F] (main_arg0 : FVec F S4x32x128 .f32) (main_arg1 : FVec F S4x32x128 .f32) : IVec S_ 1 :=
  let main_v0 : FVec F S4x32x128 .f32 := Host.absf main_arg0
  let main_cst : FVec F S_ .f32 := constant S_ .f32 0x7F800000#32
  let main_v1 : FVec F S4x32x128 .f32 := broadcastInDim S4x32x128 ![] bcast_S_S4x32x128 main_cst
  let main_v2 : IVec S4x32x128 1 := cmpf .olt main_v0 main_v1
  let main_c : IVec S_ 1 := constantI S_ 1 1#1
  let main_v3 : IVec S_ 1 := (fun x v => Host.reduce IntOp.andi x v reducesTo_S4x32x128_S_d0_1_2 h_S_) main_v2 main_c
  let main_v4 : FVec F S4x32x128 .f32 := Host.absf main_arg1
  let main_cst_0 : FVec F S_ .f32 := constant S_ .f32 0x7F800000#32
  let main_v5 : FVec F S4x32x128 .f32 := broadcastInDim S4x32x128 ![] bcast_S_S4x32x128 main_cst_0
  let main_v6 : IVec S4x32x128 1 := cmpf .olt main_v4 main_v5
  let main_c_1 : IVec S_ 1 := constantI S_ 1 1#1
  let main_v7 : IVec S_ 1 := (fun x v => Host.reduce IntOp.andi x v reducesTo_S4x32x128_S_d0_1_2 h_S_) main_v6 main_c_1
  let main_v8 : IVec S_ 1 := andi main_v3 main_v7
  main_v8
-- ==== Pre_in_range.lean ====
abbrev S1x8 : Shape := ⟨2, ![1, 8]⟩
abbrev S4x8 : Shape := ⟨2, ![4, 8]⟩
abbrev S4x4096x16x64 : Shape := ⟨4, ![4, 4096, 16, 64]⟩
abbrev S_ : Shape := ⟨0, ![]⟩

class Facts : Prop where
  bcast_S_S1x8 : S_.BroadcastsInDim S1x8 (![] : Fin 0 → Fin S1x8.rank)

variable [Facts]

def fn {F : FTy → Type} [FloatOps F] (main_arg0 : IVec S1x8 32) (main_arg1 : FVec F S4x8 .f32) (main_arg2 : FVec F S4x4096x16x64 .f32) : IVec S1x8 1 :=
  let main_c : IVec S_ 32 := constantI S_ 32 0#32
  let main_v0 : IVec S1x8 32 := broadcastInDim S1x8 ![] bcast_S_S1x8 main_c
  let main_v1 : IVec S1x8 1 := cmpi .sge main_arg0 main_v0
  let main_c_0 : IVec S_ 32 := constantI S_ 32 4096#32
  let main_v2 : IVec S1x8 32 := broadcastInDim S1x8 ![] bcast_S_S1x8 main_c_0
  let main_v3 : IVec S1x8 1 := cmpi .slt main_arg0 main_v2
  let main_v4 : IVec S1x8 1 := andi main_v1 main_v3
  main_v4
-- ==== Corr.lean ====
abbrev S4x4096x16x64 : Shape := ⟨4, ![4, 4096, 16, 64]⟩
abbrev S4x32x128x1024 : Shape := ⟨4, ![4, 32, 128, 1024]⟩
abbrev S4x32x1024x128 : Shape := ⟨4, ![4, 32, 1024, 128]⟩
abbrev S_ : Shape := ⟨0, ![]⟩
abbrev S32x32 : Shape := ⟨2, ![32, 32]⟩
abbrev S128x128 : Shape := ⟨2, ![128, 128]⟩
abbrev S32x128 : Shape := ⟨2, ![32, 128]⟩
abbrev S4x32x128 : Shape := ⟨3, ![4, 32, 128]⟩
abbrev S1x32x128x128 : Shape := ⟨4, ![1, 32, 128, 128]⟩
abbrev S1x32x128 : Shape := ⟨3, ![1, 32, 128]⟩
abbrev S32x128x128 : Shape := ⟨3, ![32, 128, 128]⟩
abbrev S32x16384 : Shape := ⟨2, ![32, 16384]⟩
abbrev S32x1x128 : Shape := ⟨3, ![32, 1, 128]⟩
abbrev S4096x128 : Shape := ⟨2, ![4096, 128]⟩

abbrev nBuf : Space → Nat
  | .hbm => 109
  | .vmem => 14
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x32x128x1024, .f32⟩
  | .hbm, ⟨3, _⟩ => ⟨S4x32x1024x128, .f32⟩
  | .hbm, ⟨4, _⟩ => ⟨S4x32x128x1024, .f32⟩
  | .hbm, ⟨5, _⟩ => ⟨S4x32x1024x128, .f32⟩
  | .hbm, ⟨6, _⟩ => ⟨S_, .f32⟩
  | .hbm, ⟨7, _⟩ => ⟨S_, .f32⟩
  | .hbm, ⟨8, _⟩ => ⟨S32x32, .i32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S32x32, .i32⟩
  | .hbm, ⟨18, _⟩ => ⟨S32x32, .i32⟩
  | .hbm, ⟨19, _⟩ => ⟨S_, .i32⟩
  | .hbm, ⟨20, _⟩ => ⟨S32x32, .i32⟩
  | .hbm, ⟨21, _⟩ => ⟨S32x32, .i1⟩
  | .hbm, ⟨22, _⟩ => ⟨S_, .i32⟩
  | .hbm, ⟨23, _⟩ => ⟨S32x32, .i32⟩
  | .hbm, ⟨24, _⟩ => ⟨S32x32, .i1⟩
  | .hbm, ⟨25, _⟩ => ⟨S_, .i32⟩
  | .hbm, ⟨26, _⟩ => ⟨S_, .i1⟩
  | .hbm, ⟨27, _⟩ => ⟨S32x32, .i1⟩
  | .hbm, ⟨28, _⟩ => ⟨S32x32, .i1⟩
  | .hbm, ⟨29, _⟩ => ⟨S32x32, .i1⟩
  | .hbm, ⟨30, _⟩ => ⟨S32x32, .i32⟩
  | .hbm, ⟨31, _⟩ => ⟨S32x32, .i32⟩
  | .hbm, ⟨32, _⟩ => ⟨S32x32, .i32⟩
  | .hbm, ⟨33, _⟩ => ⟨S32x32, .f32⟩
  | .hbm, ⟨34, _⟩ => ⟨S_, .f32⟩
  | .hbm, ⟨35, _⟩ => ⟨S_, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S32x32, .f32⟩
  | .hbm, ⟨40, _⟩ => ⟨S32x32, .f32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i1⟩
  | .hbm, ⟨55, _⟩ => ⟨S_, .i32⟩
  | .hbm, ⟨56, _⟩ => ⟨S128x128, .i32⟩
  | .hbm, ⟨57, _⟩ => ⟨S128x128, .i1⟩
  | .hbm, ⟨58, _⟩ => ⟨S_, .i32⟩
  | .hbm, ⟨59, _⟩ => ⟨S_, .i1⟩
  | .hbm, ⟨60, _⟩ => ⟨S128x128, .i1⟩
  | .hbm, ⟨61, _⟩ => ⟨S128x128, .i1⟩
  | .hbm, ⟨62, _⟩ => ⟨S128x128, .i1⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .f32⟩
  | .hbm, ⟨67, _⟩ => ⟨S_, .f32⟩
  | .hbm, ⟨68, _⟩ => ⟨S_, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S32x128, .i32⟩
  | .hbm, ⟨75, _⟩ => ⟨S32x128, .i32⟩
  | .hbm, ⟨76, _⟩ => ⟨S32x128, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S32x128, .i32⟩
  | .hbm, ⟨84, _⟩ => ⟨S32x128, .i32⟩
  | .hbm, ⟨85, _⟩ => ⟨S_, .i32⟩
  | .hbm, ⟨86, _⟩ => ⟨S32x128, .i32⟩
  | .hbm, ⟨87, _⟩ => ⟨S32x128, .i1⟩
  | .hbm, ⟨88, _⟩ => ⟨S_, .i32⟩
  | .hbm, ⟨89, _⟩ => ⟨S32x128, .i32⟩
  | .hbm, ⟨90, _⟩ => ⟨S32x128, .i1⟩
  | .hbm, ⟨91, _⟩ => ⟨S_, .i32⟩
  | .hbm, ⟨92, _⟩ => ⟨S_, .i1⟩
  | .hbm, ⟨93, _⟩ => ⟨S32x128, .i1⟩
  | .hbm, ⟨94, _⟩ => ⟨S32x128, .i1⟩
  | .hbm, ⟨95, _⟩ => ⟨S32x128, .i1⟩
  | .hbm, ⟨96, _⟩ => ⟨S32x128, .i32⟩
  | .hbm, ⟨97, _⟩ => ⟨S32x128, .i32⟩
  | .hbm, ⟨98, _⟩ => ⟨S32x128, .i32⟩
  | .hbm, ⟨99, _⟩ => ⟨S32x128, .f32⟩
  | .hbm, ⟨100, _⟩ => ⟨S_, .f32⟩
  | .hbm, ⟨101, _⟩ => ⟨S_, .f32⟩
  | .hbm, ⟨102, _⟩ => ⟨S32x128, .f32⟩
  | .hbm, ⟨103, _⟩ => ⟨S32x128, .f32⟩
  | .hbm, ⟨104, _⟩ => ⟨S32x128, .f32⟩
  | .hbm, ⟨105, _⟩ => ⟨S32x128, .f32⟩
  | .hbm, ⟨106, _⟩ => ⟨S32x128, .f32⟩
  | .hbm, ⟨107, _⟩ => ⟨S4x32x128, .f32⟩
  | .hbm, ⟨108, _⟩ => ⟨S4x32x128, .f32⟩
  | .local _ .vmem, ⟨0, _⟩ => ⟨S32x32, .f32⟩
  | .local _ .vmem, ⟨1, _⟩ => ⟨S32x32, .f32⟩
  | .local _ .vmem, ⟨2, _⟩ => ⟨S128x128, .f32⟩
  | .local _ .vmem, ⟨3, _⟩ => ⟨S128x128, .f32⟩
  | .local _ .vmem, ⟨4, _⟩ => ⟨S32x128, .f32⟩
  | .local _ .vmem, ⟨5, _⟩ => ⟨S32x128, .f32⟩
  | .local _ .vmem, ⟨6, _⟩ => ⟨S1x32x128x128, .f32⟩
  | .local _ .vmem, ⟨7, _⟩ => ⟨S1x32x128x128, .f32⟩
  | .local _ .vmem, ⟨8, _⟩ => ⟨S1x32x128x128, .f32⟩
  | .local _ .vmem, ⟨9, _⟩ => ⟨S1x32x128x128, .f32⟩
  | .local _ .vmem, ⟨10, _⟩ => ⟨S1x32x128, .f32⟩
  | .local _ .vmem, ⟨11, _⟩ => ⟨S1x32x128, .f32⟩
  | .local _ .vmem, ⟨12, _⟩ => ⟨S1x32x128, .f32⟩
  | .local _ .vmem, ⟨13, _⟩ => ⟨S1x32x128, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_c : Ref sig .tc := ⟨.hbm, 11, rfl⟩
abbrev main_call0_call0_v0 : Ref sig .tc := ⟨.hbm, 12, rfl⟩
abbrev main_call0_call0_c : Ref sig .tc := ⟨.hbm, 13, rfl⟩
abbrev main_call0_call0_v1 : Ref sig .tc := ⟨.hbm, 14, rfl⟩
abbrev main_call0_call0_c_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_c_1 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_c_2 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_c_3 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_v8 : Ref sig .tc := ⟨.hbm, 32, rfl⟩
abbrev main_call0_v9 : Ref sig .tc := ⟨.hbm, 33, rfl⟩
abbrev main_call0_cst_0 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_c_1 : Ref sig .tc := ⟨.hbm, 44, rfl⟩
abbrev main_call0_call1_v0 : Ref sig .tc := ⟨.hbm, 45, rfl⟩
abbrev main_call0_call1_c : Ref sig .tc := ⟨.hbm, 46, rfl⟩
abbrev main_call0_call1_v1 : Ref sig .tc := ⟨.hbm, 47, rfl⟩
abbrev main_call0_call1_c_0 : Ref sig .tc := ⟨.hbm, 48, rfl⟩
abbrev main_call0_call1_v2 : Ref sig .tc := ⟨.hbm, 49, rfl⟩
abbrev main_call0_call1_v3 : Ref sig .tc := ⟨.hbm, 50, rfl⟩
abbrev main_call0_call1_v4 : Ref sig .tc := ⟨.hbm, 51, rfl⟩
abbrev main_call0_call1_c_1 : Ref sig .tc := ⟨.hbm, 52, rfl⟩
abbrev main_call0_call1_v5 : Ref sig .tc := ⟨.hbm, 53, rfl⟩
abbrev main_call0_call1_v6 : Ref sig .tc := ⟨.hbm, 54, rfl⟩
abbrev main_call0_call1_c_2 : Ref sig .tc := ⟨.hbm, 55, rfl⟩
abbrev main_call0_call1_v7 : Ref sig .tc := ⟨.hbm, 56, rfl⟩
abbrev main_call0_call1_v8 : Ref sig .tc := ⟨.hbm, 57, rfl⟩
abbrev main_call0_call1_c_3 : Ref sig .tc := ⟨.hbm, 58, rfl⟩
abbrev main_call0_call1_v9 : Ref sig .tc := ⟨.hbm, 59, rfl⟩
abbrev main_call0_call1_v10 : Ref sig .tc := ⟨.hbm, 60, rfl⟩
abbrev main_call0_call1_v11 : Ref sig .tc := ⟨.hbm, 61, rfl⟩
abbrev main_call0_call1_v12 : Ref sig .tc := ⟨.hbm, 62, rfl⟩
abbrev main_call0_call1_v13 : Ref sig .tc := ⟨.hbm, 63, rfl⟩
abbrev main_call0_call1_v14 : Ref sig .tc := ⟨.hbm, 64, rfl⟩
abbrev main_call0_v19 : Ref sig .tc := ⟨.hbm, 65, rfl⟩
abbrev main_call0_v20 : Ref sig .tc := ⟨.hbm, 66, rfl⟩
abbrev main_call0_cst_2 : Ref sig .tc := ⟨.hbm, 67, rfl⟩
abbrev main_call0_v21 : Ref sig .tc := ⟨.hbm, 68, rfl⟩
abbrev main_call0_v22 : Ref sig .tc := ⟨.hbm, 69, rfl⟩
abbrev main_call0_v23 : Ref sig .tc := ⟨.hbm, 70, rfl⟩
abbrev main_call0_v24 : Ref sig .tc := ⟨.hbm, 71, rfl⟩
abbrev main_call0_v25 : Ref sig .tc := ⟨.hbm, 72, rfl⟩
abbrev main_call0_v26 : Ref sig .tc := ⟨.hbm, 73, rfl⟩
abbrev main_call0_v27 : Ref sig .tc := ⟨.hbm, 74, rfl⟩
abbrev main_call0_v28 : Ref sig .tc := ⟨.hbm, 75, rfl⟩
abbrev main_call0_v29 : Ref sig .tc := ⟨.hbm, 76, rfl⟩
abbrev main_call0_c_3 : Ref sig .tc := ⟨.hbm, 77, rfl⟩
abbrev main_call0_call2_v0 : Ref sig .tc := ⟨.hbm, 78, rfl⟩
abbrev main_call0_call2_c : Ref sig .tc := ⟨.hbm, 79, rfl⟩
abbrev main_call0_call2_v1 : Ref sig .tc := ⟨.hbm, 80, rfl⟩
abbrev main_call0_call2_c_0 : Ref sig .tc := ⟨.hbm, 81, rfl⟩
abbrev main_call0_call2_v2 : Ref sig .tc := ⟨.hbm, 82, rfl⟩
abbrev main_call0_call2_v3 : Ref sig .tc := ⟨.hbm, 83, rfl⟩
abbrev main_call0_call2_v4 : Ref sig .tc := ⟨.hbm, 84, rfl⟩
abbrev main_call0_call2_c_1 : Ref sig .tc := ⟨.hbm, 85, rfl⟩
abbrev main_call0_call2_v5 : Ref sig .tc := ⟨.hbm, 86, rfl⟩
abbrev main_call0_call2_v6 : Ref sig .tc := ⟨.hbm, 87, rfl⟩
abbrev main_call0_call2_c_2 : Ref sig .tc := ⟨.hbm, 88, rfl⟩
abbrev main_call0_call2_v7 : Ref sig .tc := ⟨.hbm, 89, rfl⟩
abbrev main_call0_call2_v8 : Ref sig .tc := ⟨.hbm, 90, rfl⟩
abbrev main_call0_call2_c_3 : Ref sig .tc := ⟨.hbm, 91, rfl⟩
abbrev main_call0_call2_v9 : Ref sig .tc := ⟨.hbm, 92, rfl⟩
abbrev main_call0_call2_v10 : Ref sig .tc := ⟨.hbm, 93, rfl⟩
abbrev main_call0_call2_v11 : Ref sig .tc := ⟨.hbm, 94, rfl⟩
abbrev main_call0_call2_v12 : Ref sig .tc := ⟨.hbm, 95, rfl⟩
abbrev main_call0_call2_v13 : Ref sig .tc := ⟨.hbm, 96, rfl⟩
abbrev main_call0_call2_v14 : Ref sig .tc := ⟨.hbm, 97, rfl⟩
abbrev main_call0_v30 : Ref sig .tc := ⟨.hbm, 98, rfl⟩
abbrev main_call0_v31 : Ref sig .tc := ⟨.hbm, 99, rfl⟩
abbrev main_call0_cst_4 : Ref sig .tc := ⟨.hbm, 100, rfl⟩
abbrev main_call0_v32 : Ref sig .tc := ⟨.hbm, 101, rfl⟩
abbrev main_call0_v33 : Ref sig .tc := ⟨.hbm, 102, rfl⟩
abbrev main_call0_v34 : Ref sig .tc := ⟨.hbm, 103, rfl⟩
abbrev main_call0_v35 : Ref sig .tc := ⟨.hbm, 104, rfl⟩
abbrev main_call0_v36 : Ref sig .tc := ⟨.hbm, 105, rfl⟩
abbrev main_call0_v37 : Ref sig .tc := ⟨.hbm, 106, rfl⟩
abbrev main_v0_0 : Ref sig .tc := ⟨.hbm, 107, rfl⟩
abbrev main_v0_1 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v80 : BitVec 1 := Scalar.cmpi .eq arg1 c0_i32
  let v81 : BitVec 32 := Scalar.extui v80
  let c0_i32_32 : BitVec 32 := 0#32
  let v82 : BitVec 1 := Scalar.cmpi .ne v81 c0_i32_32
  v82

def k0_cond2 (i : grid0.Coords) : BitVec 1 :=
  let arg1 : BitVec 32 := BitVec.ofNat 32 (i 1).val
  let c0_i32_33 : BitVec 32 := 0#32
  let v83 : BitVec 1 := Scalar.cmpi .ne arg1 c0_i32_33
  let v84 : BitVec 32 := Scalar.extui v83
  let c0_i32_34 : BitVec 32 := 0#32
  let v85 : BitVec 1 := Scalar.cmpi .ne v84 c0_i32_34
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== CorrRefIdeal.lean ====
abbrev S4x4096x16x64 : Shape := ⟨4, ![4, 4096, 16, 64]⟩
abbrev S4096x4096 : Shape := ⟨2, ![4096, 4096]⟩
abbrev S_ : Shape := ⟨0, ![]⟩
abbrev S4x16x64x4096 : Shape := ⟨4, ![4, 16, 64, 4096]⟩
abbrev S4x16x4096 : Shape := ⟨3, ![4, 16, 4096]⟩
abbrev S4x4096 : Shape := ⟨2, ![4, 4096]⟩
abbrev S4x128x32 : Shape := ⟨3, ![4, 128, 32]⟩
abbrev S4x32x128 : Shape := ⟨3, ![4, 32, 128]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4096x4096, .i32⟩
  | .hbm, ⟨3, _⟩ => ⟨S4096x4096, .i32⟩
  | .hbm, ⟨4, _⟩ => ⟨S4096x4096, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S_, .i1⟩
  | .hbm, ⟨21, _⟩ => ⟨S4096x4096, .i1⟩
  | .hbm, ⟨22, _⟩ => ⟨S4096x4096, .i1⟩
  | .hbm, ⟨23, _⟩ => ⟨S4096x4096, .i1⟩
  | .hbm, ⟨24, _⟩ => ⟨S4096x4096, .i32⟩
  | .hbm, ⟨25, _⟩ => ⟨S4096x4096, .i32⟩
  | .hbm, ⟨26, _⟩ => ⟨S4096x4096, .i32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4x16x64x4096, .f32⟩
  | .hbm, ⟨39, _⟩ => ⟨S4x16x64x4096, .f32⟩
  | .hbm, ⟨40, _⟩ => ⟨S4x16x64x4096, .f32⟩
  | .hbm, ⟨41, _⟩ => ⟨S4x16x64x4096, .f32⟩
  | .hbm, ⟨42, _⟩ => ⟨S4x16x64x4096, .f32⟩
  | .hbm, ⟨43, _⟩ => ⟨S4x16x64x4096, .f32⟩
  | .hbm, ⟨44, _⟩ => ⟨S4x16x64x4096, .f32⟩
  | .hbm, ⟨45, _⟩ => ⟨S4x16x64x4096, .f32⟩
  | .hbm, ⟨46, _⟩ => ⟨S4x16x64x4096, .f32⟩
  | .hbm, ⟨47, _⟩ => ⟨S4x16x64x4096, .f32⟩
  | .hbm, ⟨48, _⟩ => ⟨S4x16x64x4096, .f32⟩
  | .hbm, ⟨49, _⟩ => ⟨S_, .f32⟩
  | .hbm, ⟨50, _⟩ => ⟨S4x16x4096, .f32⟩
  | .hbm, ⟨51, _⟩ => ⟨S_, .f32⟩
  | .hbm, ⟨52, _⟩ => ⟨S4x4096, .f32⟩
  | .hbm, ⟨53, _⟩ => ⟨S4x16x64x4096, .f32⟩
  | .hbm, ⟨54, _⟩ => ⟨S4x16x64x4096, .f32⟩
  | .hbm, ⟨55, _⟩ => ⟨S4x16x64x4096, .f32⟩
  | .hbm, ⟨56, _⟩ => ⟨S_, .f32⟩
  | .hbm, ⟨57, _⟩ => ⟨S4x16x4096, .f32⟩
  | .hbm, ⟨58, _⟩ => ⟨S_, .f32⟩
  | .hbm, ⟨59, _⟩ => ⟨S4x4096, .f32⟩
  | .hbm, ⟨60, _⟩ => ⟨S4x128x32, .f32⟩
  | .hbm, ⟨61, _⟩ => ⟨S4x32x128, .f32⟩
  | .hbm, ⟨62, _⟩ => ⟨S4x128x32, .f32⟩
  | .hbm, ⟨63, _⟩ => ⟨S4x32x128, .f32⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_cst_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_cst_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩

abbrev nD : Nat := 1
abbrev τ : Topo := Topo.v7x

variable {F : FTy → Type} [FloatOps F]
-- ==== Select.lean ====
abbrev S4x32x128 : Shape := ⟨3, ![4, 32, 128]⟩
abbrev S_ : Shape := ⟨0, ![]⟩
abbrev S32x32 : Shape := ⟨2, ![32, 32]⟩
abbrev S128x128 : Shape := ⟨2, ![128, 128]⟩
abbrev S32x128 : Shape := ⟨2, ![32, 128]⟩
abbrev S1x8 : Shape := ⟨2, ![1, 8]⟩
abbrev S4x8 : Shape := ⟨2, ![4, 8]⟩
abbrev S1x32x128 : Shape := ⟨3, ![1, 32, 128]⟩
abbrev S1 : Shape := ⟨1, ![1]⟩
abbrev S1x1x1 : Shape := ⟨3, ![1, 1, 1]⟩
abbrev S4 : Shape := ⟨1, ![4]⟩
abbrev S4x1 : Shape := ⟨2, ![4, 1]⟩

abbrev nBuf : Space → Nat
  | .hbm => 105
  | .vmem => 10
  | .smem => 0
  | _ => 0

abbrev bufTy : (tb : Table) → Fin (tcTables nBuf tb) → BufTy
  | .hbm, ⟨0, _⟩ => ⟨S4x32x128, .f32⟩
  | .hbm, ⟨1, _⟩ => ⟨S4x32x128, .f32⟩
  | .hbm, ⟨2, _⟩ => ⟨S_, .f32⟩
  | .hbm, ⟨3, _⟩ => ⟨S_, .f32⟩
  | .hbm, ⟨4, _⟩ => ⟨S32x32, .i32⟩
  | .hbm, ⟨5, _⟩ => ⟨S32x32, .i32⟩
  | .hbm, ⟨6, _⟩ => ⟨S32x32, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S32x32, .i32⟩
  | .hbm, ⟨14, _⟩ => ⟨S32x32, .i32⟩
  | .hbm, ⟨15, _⟩ => ⟨S_, .i32⟩
  | .hbm, ⟨16, _⟩ => ⟨S32x32, .i32⟩
  | .hbm, ⟨17, _⟩ => ⟨S32x32, .i1⟩
  | .hbm, ⟨18, _⟩ => ⟨S_, .i32⟩
  | .hbm, ⟨19, _⟩ => ⟨S32x32, .i32⟩
  | .hbm, ⟨20, _⟩ => ⟨S32x32, .i1⟩
  | .hbm, ⟨21, _⟩ => ⟨S_, .i32⟩
  | .hbm, ⟨22, _⟩ => ⟨S_, .i1⟩
  | .hbm, ⟨23, _⟩ => ⟨S32x32, .i1⟩
  | .hbm, ⟨24, _⟩ => ⟨S32x32, .i1⟩
  | .hbm, ⟨25, _⟩ => ⟨S32x32, .i1⟩
  | .hbm, ⟨26, _⟩ => ⟨S32x32, .i32⟩
  | .hbm, ⟨27, _⟩ => ⟨S32x32, .i32⟩
  | .hbm, ⟨28, _⟩ => ⟨S32x32, .i32⟩
  | .hbm, ⟨29, _⟩ => ⟨S32x32, .f32⟩
  | .hbm, ⟨30, _⟩ => ⟨S_, .f32⟩
  | .hbm, ⟨31, _⟩ => ⟨S_, .f32⟩
  | .hbm, ⟨32, _⟩ => ⟨S32x32, .f32⟩
  | .hbm, ⟨33, _⟩ => ⟨S32x32, .f32⟩
  | .hbm, ⟨34, _⟩ => ⟨S32x32, .f32⟩
  | .hbm, ⟨35, _⟩ => ⟨S32x32, .f32⟩
  | .hbm, ⟨36, _⟩ => ⟨S32x32, .f32⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i1⟩
  | .hbm, ⟨51, _⟩ => ⟨S_, .i32⟩
  | .hbm, ⟨52, _⟩ => ⟨S128x128, .i32⟩
  | .hbm, ⟨53, _⟩ => ⟨S128x128, .i1⟩
  | .hbm, ⟨54, _⟩ => ⟨S_, .i32⟩
  | .hbm, ⟨55, _⟩ => ⟨S_, .i1⟩
  | .hbm, ⟨56, _⟩ => ⟨S128x128, .i1⟩
  | .hbm, ⟨57, _⟩ => ⟨S128x128, .i1⟩
  | .hbm, ⟨58, _⟩ => ⟨S128x128, .i1⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .f32⟩
  | .hbm, ⟨63, _⟩ => ⟨S_, .f32⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S32x128, .i32⟩
  | .hbm, ⟨71, _⟩ => ⟨S32x128, .i32⟩
  | .hbm, ⟨72, _⟩ => ⟨S32x128, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S32x128, .i32⟩
  | .hbm, ⟨80, _⟩ => ⟨S32x128, .i32⟩
  | .hbm, ⟨81, _⟩ => ⟨S_, .i32⟩
  | .hbm, ⟨82, _⟩ => ⟨S32x128, .i32⟩
  | .hbm, ⟨83, _⟩ => ⟨S32x128, .i1⟩
  | .hbm, ⟨84, _⟩ => ⟨S_, .i32⟩
  | .hbm, ⟨85, _⟩ => ⟨S32x128, .i32⟩
  | .hbm, ⟨86, _⟩ => ⟨S32x128, .i1⟩
  | .hbm, ⟨87, _⟩ => ⟨S_, .i32⟩
  | .hbm, ⟨88, _⟩ => ⟨S_, .i1⟩
  | .hbm, ⟨89, _⟩ => ⟨S32x128, .i1⟩
  | .hbm, ⟨90, _⟩ => ⟨S32x128, .i1⟩
  | .hbm, ⟨91, _⟩ => ⟨S32x128, .i1⟩
  | .hbm, ⟨92, _⟩ => ⟨S32x128, .i32⟩
  | .hbm, ⟨93, _⟩ => ⟨S32x128, .i32⟩
  | .hbm, ⟨94, _⟩ => ⟨S32x128, .i32⟩
  | .hbm, ⟨95, _⟩ => ⟨S32x128, .f32⟩
  | .hbm, ⟨96, _⟩ => ⟨S_, .f32⟩
  | .hbm, ⟨97, _⟩ => ⟨S_, .f32⟩
  | .hbm, ⟨98, _⟩ => ⟨S32x128, .f32⟩
  | .hbm, ⟨99, _⟩ => ⟨S32x128, .f32⟩
  | .hbm, ⟨100, _⟩ => ⟨S32x128, .f32⟩
  | .hbm, ⟨101, _⟩ => ⟨S32x128, .f32⟩
  | .hbm, ⟨102, _⟩ => ⟨S32x128, .f32⟩
  | .hbm, ⟨103, _⟩ => ⟨S1x8, .i32⟩
  | .hbm, ⟨104, _⟩ => ⟨S4x8, .f32⟩
  | .local _ .vmem, ⟨0, _⟩ => ⟨S32x32, .f32⟩
  | .local _ .vmem, ⟨1, _⟩ => ⟨S32x32, .f32⟩
  | .local _ .vmem, ⟨2, _⟩ => ⟨S128x128, .f32⟩
  | .local _ .vmem, ⟨3, _⟩ => ⟨S128x128, .f32⟩
  | .local _ .vmem, ⟨4, _⟩ => ⟨S32x128, .f32⟩
  | .local _ .vmem, ⟨5, _⟩ => ⟨S32x128, .f32⟩
  | .local _ .vmem, ⟨6, _⟩ => ⟨S4x32x128, .f32⟩
  | .local _ .vmem, ⟨7, _⟩ => ⟨S4x32x128, .f32⟩
  | .local _ .vmem, ⟨8, _⟩ => ⟨S1x8, .i32⟩
  | .local _ .vmem, ⟨9, _⟩ => ⟨S4x8, .f32⟩
  | _, _ => ⟨S4x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_c : Ref sig .tc := ⟨.hbm, 7, rfl⟩
abbrev main_call0_call0_v0 : Ref sig .tc := ⟨.hbm, 8, rfl⟩
abbrev main_call0_call0_c : Ref sig .tc := ⟨.hbm, 9, rfl⟩
abbrev main_call0_call0_v1 : Ref sig .tc := ⟨.hbm, 10, rfl⟩
abbrev main_call0_call0_c_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_c_1 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_c_2 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_c_3 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_v4 : Ref sig .tc := ⟨.hbm, 28, rfl⟩
abbrev main_call0_v5 : Ref sig .tc := ⟨.hbm, 29, rfl⟩
abbrev main_call0_cst_0 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_c_1 : Ref sig .tc := ⟨.hbm, 40, rfl⟩
abbrev main_call0_call1_v0 : Ref sig .tc := ⟨.hbm, 41, rfl⟩
abbrev main_call0_call1_c : Ref sig .tc := ⟨.hbm, 42, rfl⟩
abbrev main_call0_call1_v1 : Ref sig .tc := ⟨.hbm, 43, rfl⟩
abbrev main_call0_call1_c_0 : Ref sig .tc := ⟨.hbm, 44, rfl⟩
abbrev main_call0_call1_v2 : Ref sig .tc := ⟨.hbm, 45, rfl⟩
abbrev main_call0_call1_v3 : Ref sig .tc := ⟨.hbm, 46, rfl⟩
abbrev main_call0_call1_v4 : Ref sig .tc := ⟨.hbm, 47, rfl⟩
abbrev main_call0_call1_c_1 : Ref sig .tc := ⟨.hbm, 48, rfl⟩
abbrev main_call0_call1_v5 : Ref sig .tc := ⟨.hbm, 49, rfl⟩
abbrev main_call0_call1_v6 : Ref sig .tc := ⟨.hbm, 50, rfl⟩
abbrev main_call0_call1_c_2 : Ref sig .tc := ⟨.hbm, 51, rfl⟩
abbrev main_call0_call1_v7 : Ref sig .tc := ⟨.hbm, 52, rfl⟩
abbrev main_call0_call1_v8 : Ref sig .tc := ⟨.hbm, 53, rfl⟩
abbrev main_call0_call1_c_3 : Ref sig .tc := ⟨.hbm, 54, rfl⟩
abbrev main_call0_call1_v9 : Ref sig .tc := ⟨.hbm, 55, rfl⟩
abbrev main_call0_call1_v10 : Ref sig .tc := ⟨.hbm, 56, rfl⟩
abbrev main_call0_call1_v11 : Ref sig .tc := ⟨.hbm, 57, rfl⟩
abbrev main_call0_call1_v12 : Ref sig .tc := ⟨.hbm, 58, rfl⟩
abbrev main_call0_call1_v13 : Ref sig .tc := ⟨.hbm, 59, rfl⟩
abbrev main_call0_call1_v14 : Ref sig .tc := ⟨.hbm, 60, rfl⟩
abbrev main_call0_v15 : Ref sig .tc := ⟨.hbm, 61, rfl⟩
abbrev main_call0_v16 : Ref sig .tc := ⟨.hbm, 62, rfl⟩
abbrev main_call0_cst_2 : Ref sig .tc := ⟨.hbm, 63, rfl⟩
abbrev main_call0_v17 : Ref sig .tc := ⟨.hbm, 64, rfl⟩
abbrev main_call0_v18 : Ref sig .tc := ⟨.hbm, 65, rfl⟩
abbrev main_call0_v19 : Ref sig .tc := ⟨.hbm, 66, rfl⟩
abbrev main_call0_v20 : Ref sig .tc := ⟨.hbm, 67, rfl⟩
abbrev main_call0_v21 : Ref sig .tc := ⟨.hbm, 68, rfl⟩
abbrev main_call0_v22 : Ref sig .tc := ⟨.hbm, 69, rfl⟩
abbrev main_call0_v23 : Ref sig .tc := ⟨.hbm, 70, rfl⟩
abbrev main_call0_v24 : Ref sig .tc := ⟨.hbm, 71, rfl⟩
abbrev main_call0_v25 : Ref sig .tc := ⟨.hbm, 72, rfl⟩
abbrev main_call0_c_3 : Ref sig .tc := ⟨.hbm, 73, rfl⟩
abbrev main_call0_call2_v0 : Ref sig .tc := ⟨.hbm, 74, rfl⟩
abbrev main_call0_call2_c : Ref sig .tc := ⟨.hbm, 75, rfl⟩
abbrev main_call0_call2_v1 : Ref sig .tc := ⟨.hbm, 76, rfl⟩
abbrev main_call0_call2_c_0 : Ref sig .tc := ⟨.hbm, 77, rfl⟩
abbrev main_call0_call2_v2 : Ref sig .tc := ⟨.hbm, 78, rfl⟩
abbrev main_call0_call2_v3 : Ref sig .tc := ⟨.hbm, 79, rfl⟩
abbrev main_call0_call2_v4 : Ref sig .tc := ⟨.hbm, 80, rfl⟩
abbrev main_call0_call2_c_1 : Ref sig .tc := ⟨.hbm, 81, rfl⟩
abbrev main_call0_call2_v5 : Ref sig .tc := ⟨.hbm, 82, rfl⟩
abbrev main_call0_call2_v6 : Ref sig .tc := ⟨.hbm, 83, rfl⟩
abbrev main_call0_call2_c_2 : Ref sig .tc := ⟨.hbm, 84, rfl⟩
abbrev main_call0_call2_v7 : Ref sig .tc := ⟨.hbm, 85, rfl⟩
abbrev main_call0_call2_v8 : Ref sig .tc := ⟨.hbm, 86, rfl⟩
abbrev main_call0_call2_c_3 : Ref sig .tc := ⟨.hbm, 87, rfl⟩
abbrev main_call0_call2_v9 : Ref sig .tc := ⟨.hbm, 88, rfl⟩
abbrev main_call0_call2_v10 : Ref sig .tc := ⟨.hbm, 89, rfl⟩
abbrev main_call0_call2_v11 : Ref sig .tc := ⟨.hbm, 90, rfl⟩
abbrev main_call0_call2_v12 : Ref sig .tc := ⟨.hbm, 91, rfl⟩
abbrev main_call0_call2_v13 : Ref sig .tc := ⟨.hbm, 92, rfl⟩
abbrev main_call0_call2_v14 : Ref sig .tc := ⟨.hbm, 93, rfl⟩
abbrev main_call0_v26 : Ref sig .tc := ⟨.hbm, 94, rfl⟩
abbrev main_call0_v27 : Ref sig .tc := ⟨.hbm, 95, rfl⟩
abbrev main_call0_cst_4 : Ref sig .tc := ⟨.hbm, 96, rfl⟩
abbrev main_call0_v28 : Ref sig .tc := ⟨.hbm, 97, rfl⟩
abbrev main_call0_v29 : Ref sig .tc := ⟨.hbm, 98, rfl⟩
abbrev main_call0_v30 : Ref sig .tc := ⟨.hbm, 99, rfl⟩
abbrev main_call0_v31 : Ref sig .tc := ⟨.hbm, 100, rfl⟩
abbrev main_call0_v32 : Ref sig .tc := ⟨.hbm, 101, rfl⟩
abbrev main_call0_v33 : Ref sig .tc := ⟨.hbm, 102, rfl⟩
abbrev main_v0_0 : Ref sig .tc := ⟨.hbm, 103, rfl⟩
abbrev main_v0_1 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== SelectRefIdeal.lean ====
abbrev S4x32x128 : Shape := ⟨3, ![4, 32, 128]⟩
abbrev S4x128x32 : Shape := ⟨3, ![4, 128, 32]⟩
abbrev S4x4096 : Shape := ⟨2, ![4, 4096]⟩
abbrev S4096x4096 : Shape := ⟨2, ![4096, 4096]⟩
abbrev S_ : Shape := ⟨0, ![]⟩
abbrev S4096 : Shape := ⟨1, ![4096]⟩
abbrev S8 : Shape := ⟨1, ![8]⟩
abbrev S8x1 : Shape := ⟨2, ![8, 1]⟩
abbrev S4x8 : Shape := ⟨2, ![4, 8]⟩
abbrev S4 : Shape := ⟨1, ![4]⟩
abbrev S4x1 : Shape := ⟨2, ![4, 1]⟩
abbrev S1x8 : Shape := ⟨2, ![1, 8]⟩

abbrev nBuf : Space → Nat
  | .hbm => 85
  | .vmem => 0
  | .smem => 0
  | _ => 0

abbrev bufTy : (tb : Table) → Fin (tcTables nBuf tb) → BufTy
  | .hbm, ⟨0, _⟩ => ⟨S4x32x128, .f32⟩
  | .hbm, ⟨1, _⟩ => ⟨S4x32x128, .f32⟩
  | .hbm, ⟨2, _⟩ => ⟨S4x128x32, .f32⟩
  | .hbm, ⟨3, _⟩ => ⟨S4x4096, .f32⟩
  | .hbm, ⟨4, _⟩ => ⟨S4x128x32, .f32⟩
  | .hbm, ⟨5, _⟩ => ⟨S4x4096, .f32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .i32⟩
  | .hbm, ⟨24, _⟩ => ⟨S_, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4x4096, .f32⟩
  | .hbm, ⟨43, _⟩ => ⟨S4x4096, .f32⟩
  | .hbm, ⟨44, _⟩ => ⟨S4x4096, .f32⟩
  | .hbm, ⟨45, _⟩ => ⟨S_, .f32⟩
  | .hbm, ⟨46, _⟩ => ⟨S4x4096, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S_, .f32⟩
  | .hbm, ⟨52, _⟩ => ⟨S4x4096, .f32⟩
  | .hbm, ⟨53, _⟩ => ⟨S4x4096, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S8, .f32⟩
  | .hbm, ⟨60, _⟩ => ⟨S8, .i32⟩
  | .hbm, ⟨61, _⟩ => ⟨S_, .i32⟩
  | .hbm, ⟨62, _⟩ => ⟨S8, .i32⟩
  | .hbm, ⟨63, _⟩ => ⟨S8, .i1⟩
  | .hbm, ⟨64, _⟩ => ⟨S_, .i32⟩
  | .hbm, ⟨65, _⟩ => ⟨S8, .i32⟩
  | .hbm, ⟨66, _⟩ => ⟨S8, .i32⟩
  | .hbm, ⟨67, _⟩ => ⟨S8, .i32⟩
  | .hbm, ⟨68, _⟩ => ⟨S8x1, .i32⟩
  | .hbm, ⟨69, _⟩ => ⟨S4x8, .f32⟩
  | .hbm, ⟨70, _⟩ => ⟨S_, .f32⟩
  | .hbm, ⟨71, _⟩ => ⟨S4, .f32⟩
  | .hbm, ⟨72, _⟩ => ⟨S_, .f32⟩
  | .hbm, ⟨73, _⟩ => ⟨S4, .f32⟩
  | .hbm, ⟨74, _⟩ => ⟨S4, .f32⟩
  | .hbm, ⟨75, _⟩ => ⟨S4x1, .f32⟩
  | .hbm, ⟨76, _⟩ => ⟨S4x8, .f32⟩
  | .hbm, ⟨77, _⟩ => ⟨S4x8, .f32⟩
  | .hbm, ⟨78, _⟩ => ⟨S4x8, .f32⟩
  | .hbm, ⟨79, _⟩ => ⟨S_, .f32⟩
  | .hbm, ⟨80, _⟩ => ⟨S4, .f32⟩
  | .hbm, ⟨81, _⟩ => ⟨S4x1, .f32⟩
  | .hbm, ⟨82, _⟩ => ⟨S4x8, .f32⟩
  | .hbm, ⟨83, _⟩ => ⟨S4x8, .f32⟩
  | .hbm, ⟨84, _⟩ => ⟨S1x8, .i32⟩
  | _, _ => ⟨S4x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_cst_4 : Ref sig .tc := ⟨.hbm, 51, rfl⟩
abbrev main_v23 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_values : Ref sig .tc := ⟨.hbm, 59, rfl⟩
abbrev main_indices : Ref sig .tc := ⟨.hbm, 60, rfl⟩
abbrev main_c_7 : Ref sig .tc := ⟨.hbm, 61, rfl⟩
abbrev main_v28 : Ref sig .tc := ⟨.hbm, 62, rfl⟩
abbrev main_v29 : Ref sig .tc := ⟨.hbm, 63, rfl⟩
abbrev main_c_8 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_9 : Ref sig .tc := ⟨.hbm, 70, rfl⟩
abbrev main_v35 : Ref sig .tc := ⟨.hbm, 71, rfl⟩
abbrev main_cst_10 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩

abbrev nD : Nat := 1
abbrev τ : Topo := Topo.v7x

variable {F : FTy → Type} [FloatOps F]
-- ==== Agg.lean ====
abbrev S1x8 : Shape := ⟨2, ![1, 8]⟩
abbrev S4x8 : Shape := ⟨2, ![4, 8]⟩
abbrev S4x4096x16x64 : Shape := ⟨4, ![4, 4096, 16, 64]⟩
abbrev S4x4096x1024 : Shape := ⟨3, ![4, 4096, 1024]⟩
abbrev S8 : Shape := ⟨1, ![8]⟩
abbrev S1x4096x256 : Shape := ⟨3, ![1, 4096, 256]⟩
abbrev S8192x256 : Shape := ⟨2, ![8192, 256]⟩
abbrev S4096x256 : Shape := ⟨2, ![4096, 256]⟩
abbrev S512x256 : Shape := ⟨2, ![512, 256]⟩
abbrev S1 : Shape := ⟨1, ![1]⟩
abbrev S520x256 : Shape := ⟨2, ![520, 256]⟩
abbrev S1x1 : Shape := ⟨2, ![1, 1]⟩
abbrev S1x512x256 : Shape := ⟨3, ![1, 512, 256]⟩

abbrev nBuf : Space → Nat
  | .hbm => 6
  | .vmem => 5
  | .smem => 2
  | _ => 0

abbrev bufTy : (tb : Table) → Fin (tcTables nBuf tb) → BufTy
  | .hbm, ⟨0, _⟩ => ⟨S1x8, .i32⟩
  | .hbm, ⟨1, _⟩ => ⟨S4x8, .f32⟩
  | .hbm, ⟨2, _⟩ => ⟨S4x4096x16x64, .f32⟩
  | .hbm, ⟨3, _⟩ => ⟨S4x4096x1024, .f32⟩
  | .hbm, ⟨4, _⟩ => ⟨S8, .i32⟩
  | .hbm, ⟨5, _⟩ => ⟨S4x4096x1024, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S8192x256, .f32⟩
  | .local _ .smem, ⟨0, _⟩ => ⟨S8, .i32⟩
  | .local _ .smem, ⟨1, _⟩ => ⟨S4x8, .f32⟩
  | _, _ => ⟨S1x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def k0_mult1 (v11 : BitVec 32) : BitVec 32 :=
  let c8_i32_13 : BitVec 32 := 8#32
  let c0_i32 : BitVec 32 := 0#32
  let v13 : BitVec 1 := Scalar.cmpi .sgt v11 c0_i32
  let v14 : BitVec 32 := Scalar.extui v13
  let c0_i32_9 : BitVec 32 := 0#32
  let v15 : BitVec 1 := Scalar.cmpi .slt v11 c0_i32_9
  let v16 : BitVec 32 := Scalar.extui v15
  let v17 : BitVec 32 := Scalar.subi v14 v16
  let c8_i32 : BitVec 32 := 8#32
  let c0_i32_10 : BitVec 32 := 0#32
  let v18 : BitVec 1 := Scalar.cmpi .sgt c8_i32 c0_i32_10
  let v19 : BitVec 32 := Scalar.extui v18
  let c0_i32_11 : BitVec 32 := 0#32
  let v20 : BitVec 1 := Scalar.cmpi .slt c8_i32 c0_i32_11
  let v21 : BitVec 32 := Scalar.extui v20
  let v22 : BitVec 32 := Scalar.subi v19 v21
  let v23 : BitVec 1 := Scalar.cmpi .ne v17 v22
  let v24 : BitVec 32 := Scalar.remsi v11 c8_i32
  let c0_i32_12 : BitVec 32 := 0#32
  let v25 : BitVec 1 := Scalar.cmpi .ne v24 c0_i32_12
  let v26 : BitVec 1 := Scalar.andi v23 v25
  let v12 : BitVec 32 := Scalar.divsi v11 c8_i32
  let c1_i32 : BitVec 32 := 1#32
  let v27 : BitVec 32 := Scalar.subi v12 c1_i32
  let v28 : BitVec 32 := Scalar.select v26 v27 v12
  let v29 : BitVec 32 := Scalar.muli c8_i32_13 v28
  v29

def k0_off1 (v11 : BitVec 32) : Fin 2 → Nat :=
  let c8_i32_13 : BitVec 32 := 8#32
  let c0_i32 : BitVec 32 := 0#32
  let v13 : BitVec 1 := Scalar.cmpi .sgt v11 c0_i32
  let v14 : BitVec 32 := Scalar.extui v13
  let c0_i32_9 : BitVec 32 := 0#32
  let v15 : BitVec 1 := Scalar.cmpi .slt v11 c0_i32_9
  let v16 : BitVec 32 := Scalar.extui v15
  let v17 : BitVec 32 := Scalar.subi v14 v16
  let c8_i32 : BitVec 32 := 8#32
  let c0_i32_10 : BitVec 32 := 0#32
  let v18 : BitVec 1 := Scalar.cmpi .sgt c8_i32 c0_i32_10
  let v19 : BitVec 32 := Scalar.extui v18
  let c0_i32_11 : BitVec 32 := 0#32
  let v20 : BitVec 1 := Scalar.cmpi .slt c8_i32 c0_i32_11
  let v21 : BitVec 32 := Scalar.extui v20
  let v22 : BitVec 32 := Scalar.subi v19 v21
  let v23 : BitVec 1 := Scalar.cmpi .ne v17 v22
  let v24 : BitVec 32 := Scalar.remsi v11 c8_i32
  let c0_i32_12 : BitVec 32 := 0#32
  let v25 : BitVec 1 := Scalar.cmpi .ne v24 c0_i32_12
  let v26 : BitVec 1 := Scalar.andi v23 v25
  let v12 : BitVec 32 := Scalar.divsi v11 c8_i32
  let c1_i32 : BitVec 32 := 1#32
  let v27 : BitVec 32 := Scalar.subi v12 c1_i32
  let v28 : BitVec 32 := Scalar.select v26 v27 v12
  let v29 : BitVec 32 := Scalar.muli c8_i32_13 v28
  let v30 : BitVec 32 := v29
  let c0_i32_20 : BitVec 32 := 0#32
  let v41 : BitVec 32 := Scalar.addi v30 c0_i32_20
  let v42 : Index := Scalar.indexCast v41
  let c0_21 : Index := 0#32
  ![v42.toNat, 0]

def k0_chk1 (v11 : BitVec 32) : Prop :=
  (8 ∣ (k0_mult1 v11).toNat) ∧
  (∀ a, (k0_off1 v11) a + S520x256.size a ≤ S8192x256.size a)
theorem k0_mult1_dvd : ∀ (v11 : BitVec 32) (k0_hw1 : k0_chk1 v11), 8 ∣ (k0_mult1 v11).toNat := fun v11 k0_hw1 => k0_hw1.1
theorem k0_off1_inb : ∀ (v11 : BitVec 32) (k0_hw1 : k0_chk1 v11), ∀ a, (k0_off1 v11) a + S520x256.size a ≤ S8192x256.size a := fun v11 k0_hw1 => k0_hw1.2

def k0_off2 (i : grid0.Coords) : Fin 2 → Nat :=
  let arg0 : BitVec 32 := BitVec.ofNat 32 (i 0).val
  let v57 : Index := Scalar.indexCast arg0
  let c0_28 : Index := 0#32
  ![v57.toNat, 0]
def k0_mult2 (v62 : BitVec 32) : BitVec 32 :=
  let c8_i32_36 : BitVec 32 := 8#32
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c8_i32_29 : BitVec 32 := 8#32
  let c0_i32_32 : BitVec 32 := 0#32
  let v69 : BitVec 1 := Scalar.cmpi .sgt c8_i32_29 c0_i32_32
  let v70 : BitVec 32 := Scalar.extui v69
  let c0_i32_33 : BitVec 32 := 0#32
  let v71 : BitVec 1 := Scalar.cmpi .slt c8_i32_29 c0_i32_33
  let v72 : BitVec 32 := Scalar.extui v71
  let v73 : BitVec 32 := Scalar.subi v70 v72
  let v74 : BitVec 1 := Scalar.cmpi .ne v68 v73
  let v75 : BitVec 32 := Scalar.remsi v62 c8_i32_29
  let c0_i32_34 : BitVec 32 := 0#32
  let v76 : BitVec 1 := Scalar.cmpi .ne v75 c0_i32_34
  let v77 : BitVec 1 := Scalar.andi v74 v76
  let v63 : BitVec 32 := Scalar.divsi v62 c8_i32_29
  let c1_i32_35 : BitVec 32 := 1#32
  let v78 : BitVec 32 := Scalar.subi v63 c1_i32_35
  let v79 : BitVec 32 := Scalar.select v77 v78 v63
  let v80 : BitVec 32 := Scalar.muli c8_i32_36 v79
  v80

def k0_off3 (v62 : BitVec 32) : Fin 2 → Nat :=
  let c8_i32_36 : BitVec 32 := 8#32
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c8_i32_29 : BitVec 32 := 8#32
  let c0_i32_32 : BitVec 32 := 0#32
  let v69 : BitVec 1 := Scalar.cmpi .sgt c8_i32_29 c0_i32_32
  let v70 : BitVec 32 := Scalar.extui v69
  let c0_i32_33 : BitVec 32 := 0#32
  let v71 : BitVec 1 := Scalar.cmpi .slt c8_i32_29 c0_i32_33
  let v72 : BitVec 32 := Scalar.extui v71
  let v73 : BitVec 32 := Scalar.subi v70 v72
  let v74 : BitVec 1 := Scalar.cmpi .ne v68 v73
  let v75 : BitVec 32 := Scalar.remsi v62 c8_i32_29
  let c0_i32_34 : BitVec 32 := 0#32
  let v76 : BitVec 1 := Scalar.cmpi .ne v75 c0_i32_34
  let v77 : BitVec 1 := Scalar.andi v74 v76
  let v63 : BitVec 32 := Scalar.divsi v62 c8_i32_29
  let c1_i32_35 : BitVec 32 := 1#32
  let v78 : BitVec 32 := Scalar.subi v63 c1_i32_35
  let v79 : BitVec 32 := Scalar.select v77 v78 v63
  let v80 : BitVec 32 := Scalar.muli c8_i32_36 v79
  let v81 : BitVec 32 := v80
  let c0_i32_43 : BitVec 32 := 0#32
  let v92 : BitVec 32 := Scalar.addi v81 c0_i32_43
  let v93 : Index := Scalar.indexCast v92
  let c0_44 : Index := 0#32
  ![v93.toNat, 0]

def k0_chk2 (v62 : BitVec 32) : Prop :=
  (8 ∣ (k0_mult2 v62).toNat) ∧
  (∀ a, (k0_off3 v62) a + S520x256.size a ≤ S8192x256.size a)
theorem k0_mult2_dvd : ∀ (v62 : BitVec 32) (k0_hw2 : k0_chk2 v62), 8 ∣ (k0_mult2 v62).toNat := fun v62 k0_hw2 => k0_hw2.1
theorem k0_off3_inb : ∀ (v62 : BitVec 32) (k0_hw2 : k0_chk2 v62), ∀ a, (k0_off3 v62) a + S520x256.size a ≤ S8192x256.size a := fun v62 k0_hw2 => k0_hw2.2

def k0_off4 (i : grid0.Coords) : Fin 2 → Nat :=
  let arg0 : BitVec 32 := BitVec.ofNat 32 (i 0).val
  let v108 : Index := Scalar.indexCast arg0
  let c1_52 : Index := 1#32
  ![v108.toNat, 1]
def k0_mult3 (v113 : BitVec 32) : BitVec 32 :=
  let c8_i32_60 : BitVec 32 := 8#32
  let c0_i32_54 : BitVec 32 := 0#32
  let v115 : BitVec 1 := Scalar.cmpi .sgt v113 c0_i32_54
  let v116 : BitVec 32 := Scalar.extui v115
  let c0_i32_55 : BitVec 32 := 0#32
  let v117 : BitVec 1 := Scalar.cmpi .slt v113 c0_i32_55
  let v118 : BitVec 32 := Scalar.extui v117
  let v119 : BitVec 32 := Scalar.subi v116 v118
  let c8_i32_53 : BitVec 32 := 8#32
  let c0_i32_56 : BitVec 32 := 0#32
  let v120 : BitVec 1 := Scalar.cmpi .sgt c8_i32_53 c0_i32_56
  let v121 : BitVec 32 := Scalar.extui v120
  let c0_i32_57 : BitVec 32 := 0#32
  let v122 : BitVec 1 := Scalar.cmpi .slt c8_i32_53 c0_i32_57
  let v123 : BitVec 32 := Scalar.extui v122
  let v124 : BitVec 32 := Scalar.subi v121 v123
  let v125 : BitVec 1 := Scalar.cmpi .ne v119 v124
  let v126 : BitVec 32 := Scalar.remsi v113 c8_i32_53
  let c0_i32_58 : BitVec 32 := 0#32
  let v127 : BitVec 1 := Scalar.cmpi .ne v126 c0_i32_58
  let v128 : BitVec 1 := Scalar.andi v125 v127
  let v114 : BitVec 32 := Scalar.divsi v113 c8_i32_53
  let c1_i32_59 : BitVec 32 := 1#32
  let v129 : BitVec 32 := Scalar.subi v114 c1_i32_59
  let v130 : BitVec 32 := Scalar.select v128 v129 v114
  let v131 : BitVec 32 := Scalar.muli c8_i32_60 v130
  v131

def k0_off5 (v113 : BitVec 32) : Fin 2 → Nat :=
  let c8_i32_60 : BitVec 32 := 8#32
  let c0_i32_54 : BitVec 32 := 0#32
  let v115 : BitVec 1 := Scalar.cmpi .sgt v113 c0_i32_54
  let v116 : BitVec 32 := Scalar.extui v115
  let c0_i32_55 : BitVec 32 := 0#32
  let v117 : BitVec 1 := Scalar.cmpi .slt v113 c0_i32_55
  let v118 : BitVec 32 := Scalar.extui v117
  let v119 : BitVec 32 := Scalar.subi v116 v118
  let c8_i32_53 : BitVec 32 := 8#32
  let c0_i32_56 : BitVec 32 := 0#32
  let v120 : BitVec 1 := Scalar.cmpi .sgt c8_i32_53 c0_i32_56
  let v121 : BitVec 32 := Scalar.extui v120
  let c0_i32_57 : BitVec 32 := 0#32
  let v122 : BitVec 1 := Scalar.cmpi .slt c8_i32_53 c0_i32_57
  let v123 : BitVec 32 := Scalar.extui v122
  let v124 : BitVec 32 := Scalar.subi v121 v123
  let v125 : BitVec 1 := Scalar.cmpi .ne v119 v124
  let v126 : BitVec 32 := Scalar.remsi v113 c8_i32_53
  let c0_i32_58 : BitVec 32 := 0#32
  let v127 : BitVec 1 := Scalar.cmpi .ne v126 c0_i32_58
  let v128 : BitVec 1 := Scalar.andi v125 v127
  let v114 : BitVec 32 := Scalar.divsi v113 c8_i32_53
  let c1_i32_59 : BitVec 32 := 1#32
  let v129 : BitVec 32 := Scalar.subi v114 c1_i32_59
  let v130 : BitVec 32 := Scalar.select v128 v129 v114
  let v131 : BitVec 32 := Scalar.muli c8_i32_60 v130
  let v132 : BitVec 32 := v131
  let c0_i32_67 : BitVec 32 := 0#32
  let v143 : BitVec 32 := Scalar.addi v132 c0_i32_67
  let v144 : Index := Scalar.indexCast v143
  let c0_68 : Index := 0#32
  ![v144.toNat, 0]

def k0_chk3 (v113 : BitVec 32) : Prop :=
  (8 ∣ (k0_mult3 v113).toNat) ∧
  (∀ a, (k0_off5 v113) a + S520x256.size a ≤ S8192x256.size a)
theorem k0_mult3_dvd : ∀ (v113 : BitVec 32) (k0_hw3 : k0_chk3 v113), 8 ∣ (k0_mult3 v113).toNat := fun v113 k0_hw3 => k0_hw3.1
theorem k0_off5_inb : ∀ (v113 : BitVec 32) (k0_hw3 : k0_chk3 v113), ∀ a, (k0_off5 v113) a + S520x256.size a ≤ S8192x256.size a := fun v113 k0_hw3 => k0_hw3.2

def k0_off6 (i : grid0.Coords) : Fin 2 → Nat :=
  let arg0 : BitVec 32 := BitVec.ofNat 32 (i 0).val
  let v159 : Index := Scalar.indexCast arg0
  let c2_76 : Index := 2#32
  ![v159.toNat, 2]
def k0_mult4 (v164 : BitVec 32) : BitVec 32 :=
  let c8_i32_84 : BitVec 32 := 8#32
  let c0_i32_78 : BitVec 32 := 0#32
  let v166 : BitVec 1 := Scalar.cmpi .sgt v164 c0_i32_78
  let v167 : BitVec 32 := Scalar.extui v166
  let c0_i32_79 : BitVec 32 := 0#32
  let v168 : BitVec 1 := Scalar.cmpi .slt v164 c0_i32_79
  let v169 : BitVec 32 := Scalar.extui v168
  let v170 : BitVec 32 := Scalar.subi v167 v169
  let c8_i32_77 : BitVec 32 := 8#32
  let c0_i32_80 : BitVec 32 := 0#32
  let v171 : BitVec 1 := Scalar.cmpi .sgt c8_i32_77 c0_i32_80
  let v172 : BitVec 32 := Scalar.extui v171
  let c0_i32_81 : BitVec 32 := 0#32
  let v173 : BitVec 1 := Scalar.cmpi .slt c8_i32_77 c0_i32_81
  let v174 : BitVec 32 := Scalar.extui v173
  let v175 : BitVec 32 := Scalar.subi v172 v174
  let v176 : BitVec 1 := Scalar.cmpi .ne v170 v175
  let v177 : BitVec 32 := Scalar.remsi v164 c8_i32_77
  let c0_i32_82 : BitVec 32 := 0#32
  let v178 : BitVec 1 := Scalar.cmpi .ne v177 c0_i32_82
  let v179 : BitVec 1 := Scalar.andi v176 v178
  let v165 : BitVec 32 := Scalar.divsi v164 c8_i32_77
  let c1_i32_83 : BitVec 32 := 1#32
  let v180 : BitVec 32 := Scalar.subi v165 c1_i32_83
  let v181 : BitVec 32 := Scalar.select v179 v180 v165
  let v182 : BitVec 32 := Scalar.muli c8_i32_84 v181
  v182

def k0_off7 (v164 : BitVec 32) : Fin 2 → Nat :=
  let c8_i32_84 : BitVec 32 := 8#32
  let c0_i32_78 : BitVec 32 := 0#32
  let v166 : BitVec 1 := Scalar.cmpi .sgt v164 c0_i32_78
  let v167 : BitVec 32 := Scalar.extui v166
  let c0_i32_79 : BitVec 32 := 0#32
  let v168 : BitVec 1 := Scalar.cmpi .slt v164 c0_i32_79
  let v169 : BitVec 32 := Scalar.extui v168
  let v170 : BitVec 32 := Scalar.subi v167 v169
  let c8_i32_77 : BitVec 32 := 8#32
  let c0_i32_80 : BitVec 32 := 0#32
  let v171 : BitVec 1 := Scalar.cmpi .sgt c8_i32_77 c0_i32_80
  let v172 : BitVec 32 := Scalar.extui v171
  let c0_i32_81 : BitVec 32 := 0#32
  let v173 : BitVec 1 := Scalar.cmpi .slt c8_i32_77 c0_i32_81
  let v174 : BitVec 32 := Scalar.extui v173
  let v175 : BitVec 32 := Scalar.subi v172 v174
  let v176 : BitVec 1 := Scalar.cmpi .ne v170 v175
  let v177 : BitVec 32 := Scalar.remsi v164 c8_i32_77
  let c0_i32_82 : BitVec 32 := 0#32
  let v178 : BitVec 1 := Scalar.cmpi .ne v177 c0_i32_82
  let v179 : BitVec 1 := Scalar.andi v176 v178
  let v165 : BitVec 32 := Scalar.divsi v164 c8_i32_77
  let c1_i32_83 : BitVec 32 := 1#32
  let v180 : BitVec 32 := Scalar.subi v165 c1_i32_83
  let v181 : BitVec 32 := Scalar.select v179 v180 v165
  let v182 : BitVec 32 := Scalar.muli c8_i32_84 v181
  let v183 : BitVec 32 := v182
  let c0_i32_91 : BitVec 32 := 0#32
  let v194 : BitVec 32 := Scalar.addi v183 c0_i32_91
  let v195 : Index := Scalar.indexCast v194
  let c0_92 : Index := 0#32
  ![v195.toNat, 0]

def k0_chk4 (v164 : BitVec 32) : Prop :=
  (8 ∣ (k0_mult4 v164).toNat) ∧
  (∀ a, (k0_off7 v164) a + S520x256.size a ≤ S8192x256.size a)
theorem k0_mult4_dvd : ∀ (v164 : BitVec 32) (k0_hw4 : k0_chk4 v164), 8 ∣ (k0_mult4 v164).toNat := fun v164 k0_hw4 => k0_hw4.1
theorem k0_off7_inb : ∀ (v164 : BitVec 32) (k0_hw4 : k0_chk4 v164), ∀ a, (k0_off7 v164) a + S520x256.size a ≤ S8192x256.size a := fun v164 k0_hw4 => k0_hw4.2

def k0_off8 (i : grid0.Coords) : Fin 2 → Nat :=
  let arg0 : BitVec 32 := BitVec.ofNat 32 (i 0).val
  let v210 : Index := Scalar.indexCast arg0
  let c3_100 : Index := 3#32
  ![v210.toNat, 3]
def k0_mult5 (v215 : BitVec 32) : BitVec 32 :=
  let c8_i32_108 : BitVec 32 := 8#32
  let c0_i32_102 : BitVec 32 := 0#32
  let v217 : BitVec 1 := Scalar.cmpi .sgt v215 c0_i32_102
  let v218 : BitVec 32 := Scalar.extui v217
  let c0_i32_103 : BitVec 32 := 0#32
  let v219 : BitVec 1 := Scalar.cmpi .slt v215 c0_i32_103
  let v220 : BitVec 32 := Scalar.extui v219
  let v221 : BitVec 32 := Scalar.subi v218 v220
  let c8_i32_101 : BitVec 32 := 8#32
  let c0_i32_104 : BitVec 32 := 0#32
  let v222 : BitVec 1 := Scalar.cmpi .sgt c8_i32_101 c0_i32_104
  let v223 : BitVec 32 := Scalar.extui v222
  let c0_i32_105 : BitVec 32 := 0#32
  let v224 : BitVec 1 := Scalar.cmpi .slt c8_i32_101 c0_i32_105
  let v225 : BitVec 32 := Scalar.extui v224
  let v226 : BitVec 32 := Scalar.subi v223 v225
  let v227 : BitVec 1 := Scalar.cmpi .ne v221 v226
  let v228 : BitVec 32 := Scalar.remsi v215 c8_i32_101
  let c0_i32_106 : BitVec 32 := 0#32
  let v229 : BitVec 1 := Scalar.cmpi .ne v228 c0_i32_106
  let v230 : BitVec 1 := Scalar.andi v227 v229
  let v216 : BitVec 32 := Scalar.divsi v215 c8_i32_101
  let c1_i32_107 : BitVec 32 := 1#32
  let v231 : BitVec 32 := Scalar.subi v216 c1_i32_107
  let v232 : BitVec 32 := Scalar.select v230 v231 v216
  let v233 : BitVec 32 := Scalar.muli c8_i32_108 v232
  v233

def k0_off9 (v215 : BitVec 32) : Fin 2 → Nat :=
  let c8_i32_108 : BitVec 32 := 8#32
  let c0_i32_102 : BitVec 32 := 0#32
  let v217 : BitVec 1 := Scalar.cmpi .sgt v215 c0_i32_102
  let v218 : BitVec 32 := Scalar.extui v217
  let c0_i32_103 : BitVec 32 := 0#32
  let v219 : BitVec 1 := Scalar.cmpi .slt v215 c0_i32_103
  let v220 : BitVec 32 := Scalar.extui v219
  let v221 : BitVec 32 := Scalar.subi v218 v220
  let c8_i32_101 : BitVec 32 := 8#32
  let c0_i32_104 : BitVec 32 := 0#32
  let v222 : BitVec 1 := Scalar.cmpi .sgt c8_i32_101 c0_i32_104
  let v223 : BitVec 32 := Scalar.extui v222
  let c0_i32_105 : BitVec 32 := 0#32
  let v224 : BitVec 1 := Scalar.cmpi .slt c8_i32_101 c0_i32_105
  let v225 : BitVec 32 := Scalar.extui v224
  let v226 : BitVec 32 := Scalar.subi v223 v225
  let v227 : BitVec 1 := Scalar.cmpi .ne v221 v226
  let v228 : BitVec 32 := Scalar.remsi v215 c8_i32_101
  let c0_i32_106 : BitVec 32 := 0#32
  let v229 : BitVec 1 := Scalar.cmpi .ne v228 c0_i32_106
  let v230 : BitVec 1 := Scalar.andi v227 v229
  let v216 : BitVec 32 := Scalar.divsi v215 c8_i32_101
  let c1_i32_107 : BitVec 32 := 1#32
  let v231 : BitVec 32 := Scalar.subi v216 c1_i32_107
  let v232 : BitVec 32 := Scalar.select v230 v231 v216
  let v233 : BitVec 32 := Scalar.muli c8_i32_108 v232
  let v234 : BitVec 32 := v233
  let c0_i32_115 : BitVec 32 := 0#32
  let v245 : BitVec 32 := Scalar.addi v234 c0_i32_115
  let v246 : Index := Scalar.indexCast v245
  let c0_116 : Index := 0#32
  ![v246.toNat, 0]

def k0_chk5 (v215 : BitVec 32) : Prop :=
  (8 ∣ (k0_mult5 v215).toNat) ∧
  (∀ a, (k0_off9 v215) a + S520x256.size a ≤ S8192x256.size a)
theorem k0_mult5_dvd : ∀ (v215 : BitVec 32) (k0_hw5 : k0_chk5 v215), 8 ∣ (k0_mult5 v215).toNat := fun v215 k0_hw5 => k0_hw5.1
theorem k0_off9_inb : ∀ (v215 : BitVec 32) (k0_hw5 : k0_chk5 v215), ∀ a, (k0_off9 v215) a + S520x256.size a ≤ S8192x256.size a := fun v215 k0_hw5 => k0_hw5.2

def k0_off10 (i : grid0.Coords) : Fin 2 → Nat :=
  let arg0 : BitVec 32 := BitVec.ofNat 32 (i 0).val
  let v261 : Index := Scalar.indexCast arg0
  let c4_124 : Index := 4#32
  ![v261.toNat, 4]
def k0_mult6 (v266 : BitVec 32) : BitVec 32 :=
  let c8_i32_132 : BitVec 32 := 8#32
  let c0_i32_126 : BitVec 32 := 0#32
  let v268 : BitVec 1 := Scalar.cmpi .sgt v266 c0_i32_126
  let v269 : BitVec 32 := Scalar.extui v268
  let c0_i32_127 : BitVec 32 := 0#32
  let v270 : BitVec 1 := Scalar.cmpi .slt v266 c0_i32_127
  let v271 : BitVec 32 := Scalar.extui v270
  let v272 : BitVec 32 := Scalar.subi v269 v271
  let c8_i32_125 : BitVec 32 := 8#32
  let c0_i32_128 : BitVec 32 := 0#32
  let v273 : BitVec 1 := Scalar.cmpi .sgt c8_i32_125 c0_i32_128
  let v274 : BitVec 32 := Scalar.extui v273
  let c0_i32_129 : BitVec 32 := 0#32
  let v275 : BitVec 1 := Scalar.cmpi .slt c8_i32_125 c0_i32_129
  let v276 : BitVec 32 := Scalar.extui v275
  let v277 : BitVec 32 := Scalar.subi v274 v276
  let v278 : BitVec 1 := Scalar.cmpi .ne v272 v277
  let v279 : BitVec 32 := Scalar.remsi v266 c8_i32_125
  let c0_i32_130 : BitVec 32 := 0#32
  let v280 : BitVec 1 := Scalar.cmpi .ne v279 c0_i32_130
  let v281 : BitVec 1 := Scalar.andi v278 v280
  let v267 : BitVec 32 := Scalar.divsi v266 c8_i32_125
  let c1_i32_131 : BitVec 32 := 1#32
  let v282 : BitVec 32 := Scalar.subi v267 c1_i32_131
  let v283 : BitVec 32 := Scalar.select v281 v282 v267
  let v284 : BitVec 32 := Scalar.muli c8_i32_132 v283
  v284

def k0_off11 (v266 : BitVec 32) : Fin 2 → Nat :=
  let c8_i32_132 : BitVec 32 := 8#32
  let c0_i32_126 : BitVec 32 := 0#32
  let v268 : BitVec 1 := Scalar.cmpi .sgt v266 c0_i32_126
  let v269 : BitVec 32 := Scalar.extui v268
  let c0_i32_127 : BitVec 32 := 0#32
  let v270 : BitVec 1 := Scalar.cmpi .slt v266 c0_i32_127
  let v271 : BitVec 32 := Scalar.extui v270
  let v272 : BitVec 32 := Scalar.subi v269 v271
  let c8_i32_125 : BitVec 32 := 8#32
  let c0_i32_128 : BitVec 32 := 0#32
  let v273 : BitVec 1 := Scalar.cmpi .sgt c8_i32_125 c0_i32_128
  let v274 : BitVec 32 := Scalar.extui v273
  let c0_i32_129 : BitVec 32 := 0#32
  let v275 : BitVec 1 := Scalar.cmpi .slt c8_i32_125 c0_i32_129
  let v276 : BitVec 32 := Scalar.extui v275
  let v277 : BitVec 32 := Scalar.subi v274 v276
  let v278 : BitVec 1 := Scalar.cmpi .ne v272 v277
  let v279 : BitVec 32 := Scalar.remsi v266 c8_i32_125
  let c0_i32_130 : BitVec 32 := 0#32
  let v280 : BitVec 1 := Scalar.cmpi .ne v279 c0_i32_130
  let v281 : BitVec 1 := Scalar.andi v278 v280
  let v267 : BitVec 32 := Scalar.divsi v266 c8_i32_125
  let c1_i32_131 : BitVec 32 := 1#32
  let v282 : BitVec 32 := Scalar.subi v267 c1_i32_131
  let v283 : BitVec 32 := Scalar.select v281 v282 v267
  let v284 : BitVec 32 := Scalar.muli c8_i32_132 v283
  let v285 : BitVec 32 := v284
  let c0_i32_139 : BitVec 32 := 0#32
  let v296 : BitVec 32 := Scalar.addi v285 c0_i32_139
  let v297 : Index := Scalar.indexCast v296
  let c0_140 : Index := 0#32
  ![v297.toNat, 0]

def k0_chk6 (v266 : BitVec 32) : Prop :=
  (8 ∣ (k0_mult6 v266).toNat) ∧
  (∀ a, (k0_off11 v266) a + S520x256.size a ≤ S8192x256.size a)
theorem k0_mult6_dvd : ∀ (v266 : BitVec 32) (k0_hw6 : k0_chk6 v266), 8 ∣ (k0_mult6 v266).toNat := fun v266 k0_hw6 => k0_hw6.1
theorem k0_off11_inb : ∀ (v266 : BitVec 32) (k0_hw6 : k0_chk6 v266), ∀ a, (k0_off11 v266) a + S520x256.size a ≤ S8192x256.size a := fun v266 k0_hw6 => k0_hw6.2

def k0_off12 (i : grid0.Coords) : Fin 2 → Nat :=
  let arg0 : BitVec 32 := BitVec.ofNat 32 (i 0).val
  let v312 : Index := Scalar.indexCast arg0
  let c5_148 : Index := 5#32
  ![v312.toNat, 5]
def k0_mult7 (v317 : BitVec 32) : BitVec 32 :=
  let c8_i32_156 : BitVec 32 := 8#32
  let c0_i32_150 : BitVec 32 := 0#32
  let v319 : BitVec 1 := Scalar.cmpi .sgt v317 c0_i32_150
  let v320 : BitVec 32 := Scalar.extui v319
  let c0_i32_151 : BitVec 32 := 0#32
  let v321 : BitVec 1 := Scalar.cmpi .slt v317 c0_i32_151
  let v322 : BitVec 32 := Scalar.extui v321
  let v323 : BitVec 32 := Scalar.subi v320 v322
  let c8_i32_149 : BitVec 32 := 8#32
  let c0_i32_152 : BitVec 32 := 0#32
  let v324 : BitVec 1 := Scalar.cmpi .sgt c8_i32_149 c0_i32_152
  let v325 : BitVec 32 := Scalar.extui v324
  let c0_i32_153 : BitVec 32 := 0#32
  let v326 : BitVec 1 := Scalar.cmpi .slt c8_i32_149 c0_i32_153
  let v327 : BitVec 32 := Scalar.extui v326
  let v328 : BitVec 32 := Scalar.subi v325 v327
  let v329 : BitVec 1 := Scalar.cmpi .ne v323 v328
  let v330 : BitVec 32 := Scalar.remsi v317 c8_i32_149
  let c0_i32_154 : BitVec 32 := 0#32
  let v331 : BitVec 1 := Scalar.cmpi .ne v330 c0_i32_154
  let v332 : BitVec 1 := Scalar.andi v329 v331
  let v318 : BitVec 32 := Scalar.divsi v317 c8_i32_149
  let c1_i32_155 : BitVec 32 := 1#32
  let v333 : BitVec 32 := Scalar.subi v318 c1_i32_155
  let v334 : BitVec 32 := Scalar.select v332 v333 v318
  let v335 : BitVec 32 := Scalar.muli c8_i32_156 v334
  v335

def k0_off13 (v317 : BitVec 32) : Fin 2 → Nat :=
  let c8_i32_156 : BitVec 32 := 8#32
  let c0_i32_150 : BitVec 32 := 0#32
  let v319 : BitVec 1 := Scalar.cmpi .sgt v317 c0_i32_150
  let v320 : BitVec 32 := Scalar.extui v319
  let c0_i32_151 : BitVec 32 := 0#32
  let v321 : BitVec 1 := Scalar.cmpi .slt v317 c0_i32_151
  let v322 : BitVec 32 := Scalar.extui v321
  let v323 : BitVec 32 := Scalar.subi v320 v322
  let c8_i32_149 : BitVec 32 := 8#32
  let c0_i32_152 : BitVec 32 := 0#32
  let v324 : BitVec 1 := Scalar.cmpi .sgt c8_i32_149 c0_i32_152
  let v325 : BitVec 32 := Scalar.extui v324
  let c0_i32_153 : BitVec 32 := 0#32
  let v326 : BitVec 1 := Scalar.cmpi .slt c8_i32_149 c0_i32_153
  let v327 : BitVec 32 := Scalar.extui v326
  let v328 : BitVec 32 := Scalar.subi v325 v327
  let v329 : BitVec 1 := Scalar.cmpi .ne v323 v328
  let v330 : BitVec 32 := Scalar.remsi v317 c8_i32_149
  let c0_i32_154 : BitVec 32 := 0#32
  let v331 : BitVec 1 := Scalar.cmpi .ne v330 c0_i32_154
  let v332 : BitVec 1 := Scalar.andi v329 v331
  let v318 : BitVec 32 := Scalar.divsi v317 c8_i32_149
  let c1_i32_155 : BitVec 32 := 1#32
  let v333 : BitVec 32 := Scalar.subi v318 c1_i32_155
  let v334 : BitVec 32 := Scalar.select v332 v333 v318
  let v335 : BitVec 32 := Scalar.muli c8_i32_156 v334
  let v336 : BitVec 32 := v335
  let c0_i32_163 : BitVec 32 := 0#32
  let v347 : BitVec 32 := Scalar.addi v336 c0_i32_163
  let v348 : Index := Scalar.indexCast v347
  let c0_164 : Index := 0#32
  ![v348.toNat, 0]

def k0_chk7 (v317 : BitVec 32) : Prop :=
  (8 ∣ (k0_mult7 v317).toNat) ∧
  (∀ a, (k0_off13 v317) a + S520x256.size a ≤ S8192x256.size a)
theorem k0_mult7_dvd : ∀ (v317 : BitVec 32) (k0_hw7 : k0_chk7 v317), 8 ∣ (k0_mult7 v317).toNat := fun v317 k0_hw7 => k0_hw7.1
theorem k0_off13_inb : ∀ (v317 : BitVec 32) (k0_hw7 : k0_chk7 v317), ∀ a, (k0_off13 v317) a + S520x256.size a ≤ S8192x256.size a := fun v317 k0_hw7 => k0_hw7.2

def k0_off14 (i : grid0.Coords) : Fin 2 → Nat :=
  let arg0 : BitVec 32 := BitVec.ofNat 32 (i 0).val
  let v363 : Index := Scalar.indexCast arg0
  let c6_172 : Index := 6#32
  ![v363.toNat, 6]
def k0_mult8 (v368 : BitVec 32) : BitVec 32 :=
  let c8_i32_180 : BitVec 32 := 8#32
  let c0_i32_174 : BitVec 32 := 0#32
  let v370 : BitVec 1 := Scalar.cmpi .sgt v368 c0_i32_174
  let v371 : BitVec 32 := Scalar.extui v370
  let c0_i32_175 : BitVec 32 := 0#32
  let v372 : BitVec 1 := Scalar.cmpi .slt v368 c0_i32_175
  let v373 : BitVec 32 := Scalar.extui v372
  let v374 : BitVec 32 := Scalar.subi v371 v373
  let c8_i32_173 : BitVec 32 := 8#32
  let c0_i32_176 : BitVec 32 := 0#32
  let v375 : BitVec 1 := Scalar.cmpi .sgt c8_i32_173 c0_i32_176
  let v376 : BitVec 32 := Scalar.extui v375
  let c0_i32_177 : BitVec 32 := 0#32
  let v377 : BitVec 1 := Scalar.cmpi .slt c8_i32_173 c0_i32_177
  let v378 : BitVec 32 := Scalar.extui v377
  let v379 : BitVec 32 := Scalar.subi v376 v378
  let v380 : BitVec 1 := Scalar.cmpi .ne v374 v379
  let v381 : BitVec 32 := Scalar.remsi v368 c8_i32_173
  let c0_i32_178 : BitVec 32 := 0#32
  let v382 : BitVec 1 := Scalar.cmpi .ne v381 c0_i32_178
  let v383 : BitVec 1 := Scalar.andi v380 v382
  let v369 : BitVec 32 := Scalar.divsi v368 c8_i32_173
  let c1_i32_179 : BitVec 32 := 1#32
  let v384 : BitVec 32 := Scalar.subi v369 c1_i32_179
  let v385 : BitVec 32 := Scalar.select v383 v384 v369
  let v386 : BitVec 32 := Scalar.muli c8_i32_180 v385
  v386

def k0_off15 (v368 : BitVec 32) : Fin 2 → Nat :=
  let c8_i32_180 : BitVec 32 := 8#32
  let c0_i32_174 : BitVec 32 := 0#32
  let v370 : BitVec 1 := Scalar.cmpi .sgt v368 c0_i32_174
  let v371 : BitVec 32 := Scalar.extui v370
  let c0_i32_175 : BitVec 32 := 0#32
  let v372 : BitVec 1 := Scalar.cmpi .slt v368 c0_i32_175
  let v373 : BitVec 32 := Scalar.extui v372
  let v374 : BitVec 32 := Scalar.subi v371 v373
  let c8_i32_173 : BitVec 32 := 8#32
  let c0_i32_176 : BitVec 32 := 0#32
  let v375 : BitVec 1 := Scalar.cmpi .sgt c8_i32_173 c0_i32_176
  let v376 : BitVec 32 := Scalar.extui v375
  let c0_i32_177 : BitVec 32 := 0#32
  let v377 : BitVec 1 := Scalar.cmpi .slt c8_i32_173 c0_i32_177
  let v378 : BitVec 32 := Scalar.extui v377
  let v379 : BitVec 32 := Scalar.subi v376 v378
  let v380 : BitVec 1 := Scalar.cmpi .ne v374 v379
  let v381 : BitVec 32 := Scalar.remsi v368 c8_i32_173
  let c0_i32_178 : BitVec 32 := 0#32
  let v382 : BitVec 1 := Scalar.cmpi .ne v381 c0_i32_178
  let v383 : BitVec 1 := Scalar.andi v380 v382
  let v369 : BitVec 32 := Scalar.divsi v368 c8_i32_173
  let c1_i32_179 : BitVec 32 := 1#32
  let v384 : BitVec 32 := Scalar.subi v369 c1_i32_179
  let v385 : BitVec 32 := Scalar.select v383 v384 v369
  let v386 : BitVec 32 := Scalar.muli c8_i32_180 v385
  let v387 : BitVec 32 := v386
  let c0_i32_187 : BitVec 32 := 0#32
  let v398 : BitVec 32 := Scalar.addi v387 c0_i32_187
  let v399 : Index := Scalar.indexCast v398
  let c0_188 : Index := 0#32
  ![v399.toNat, 0]

def k0_chk8 (v368 : BitVec 32) : Prop :=
  (8 ∣ (k0_mult8 v368).toNat) ∧
  (∀ a, (k0_off15 v368) a + S520x256.size a ≤ S8192x256.size a)
theorem k0_mult8_dvd : ∀ (v368 : BitVec 32) (k0_hw8 : k0_chk8 v368), 8 ∣ (k0_mult8 v368).toNat := fun v368 k0_hw8 => k0_hw8.1
theorem k0_off15_inb : ∀ (v368 : BitVec 32) (k0_hw8 : k0_chk8 v368), ∀ a, (k0_off15 v368) a + S520x256.size a ≤ S8192x256.size a := fun v368 k0_hw8 => k0_hw8.2

def k0_off16 (i : grid0.Coords) : Fin 2 → Nat :=
  let arg0 : BitVec 32 := BitVec.ofNat 32 (i 0).val
  let v414 : Index := Scalar.indexCast arg0
  let c7_196 : Index := 7#32
  ![v414.toNat, 7]
def k0_mult9 (v423 : BitVec 32) : BitVec 32 :=
  let c8_i32_209 : BitVec 32 := 8#32
  let c0_i32_203 : BitVec 32 := 0#32
  let v425 : BitVec 1 := Scalar.cmpi .sgt v423 c0_i32_203
  let v426 : BitVec 32 := Scalar.extui v425
  let c0_i32_204 : BitVec 32 := 0#32
  let v427 : BitVec 1 := Scalar.cmpi .slt v423 c0_i32_204
  let v428 : BitVec 32 := Scalar.extui v427
  let v429 : BitVec 32 := Scalar.subi v426 v428
  let c8_i32_202 : BitVec 32 := 8#32
  let c0_i32_205 : BitVec 32 := 0#32
  let v430 : BitVec 1 := Scalar.cmpi .sgt c8_i32_202 c0_i32_205
  let v431 : BitVec 32 := Scalar.extui v430
  let c0_i32_206 : BitVec 32 := 0#32
  let v432 : BitVec 1 := Scalar.cmpi .slt c8_i32_202 c0_i32_206
  let v433 : BitVec 32 := Scalar.extui v432
  let v434 : BitVec 32 := Scalar.subi v431 v433
  let v435 : BitVec 1 := Scalar.cmpi .ne v429 v434
  let v436 : BitVec 32 := Scalar.remsi v423 c8_i32_202
  let c0_i32_207 : BitVec 32 := 0#32
  let v437 : BitVec 1 := Scalar.cmpi .ne v436 c0_i32_207
  let v438 : BitVec 1 := Scalar.andi v435 v437
  let v424 : BitVec 32 := Scalar.divsi v423 c8_i32_202
  let c1_i32_208 : BitVec 32 := 1#32
  let v439 : BitVec 32 := Scalar.subi v424 c1_i32_208
  let v440 : BitVec 32 := Scalar.select v438 v439 v424
  let v441 : BitVec 32 := Scalar.muli c8_i32_209 v440
  v441

def k0_off17 (v423 : BitVec 32) : Fin 2 → Nat :=
  let c8_i32_209 : BitVec 32 := 8#32
  let c0_i32_203 : BitVec 32 := 0#32
  let v425 : BitVec 1 := Scalar.cmpi .sgt v423 c0_i32_203
  let v426 : BitVec 32 := Scalar.extui v425
  let c0_i32_204 : BitVec 32 := 0#32
  let v427 : BitVec 1 := Scalar.cmpi .slt v423 c0_i32_204
  let v428 : BitVec 32 := Scalar.extui v427
  let v429 : BitVec 32 := Scalar.subi v426 v428
  let c8_i32_202 : BitVec 32 := 8#32
  let c0_i32_205 : BitVec 32 := 0#32
  let v430 : BitVec 1 := Scalar.cmpi .sgt c8_i32_202 c0_i32_205
  let v431 : BitVec 32 := Scalar.extui v430
  let c0_i32_206 : BitVec 32 := 0#32
  let v432 : BitVec 1 := Scalar.cmpi .slt c8_i32_202 c0_i32_206
  let v433 : BitVec 32 := Scalar.extui v432
  let v434 : BitVec 32 := Scalar.subi v431 v433
  let v435 : BitVec 1 := Scalar.cmpi .ne v429 v434
  let v436 : BitVec 32 := Scalar.remsi v423 c8_i32_202
  let c0_i32_207 : BitVec 32 := 0#32
  let v437 : BitVec 1 := Scalar.cmpi .ne v436 c0_i32_207
  let v438 : BitVec 1 := Scalar.andi v435 v437
  let v424 : BitVec 32 := Scalar.divsi v423 c8_i32_202
  let c1_i32_208 : BitVec 32 := 1#32
  let v439 : BitVec 32 := Scalar.subi v424 c1_i32_208
  let v440 : BitVec 32 := Scalar.select v438 v439 v424
  let v441 : BitVec 32 := Scalar.muli c8_i32_209 v440
  let v442 : BitVec 32 := v441
  let c512_i32 : BitVec 32 := 512#32
  let v453 : BitVec 32 := Scalar.addi v442 c512_i32
  let v454 : Index := Scalar.indexCast v453
  let c0_216 : Index := 0#32
  ![v454.toNat, 0]

def k0_chk9 (v423 : BitVec 32) : Prop :=
  (8 ∣ (k0_mult9 v423).toNat) ∧
  (∀ a, (k0_off17 v423) a + S520x256.size a ≤ S8192x256.size a)
theorem k0_mult9_dvd : ∀ (v423 : BitVec 32) (k0_hw9 : k0_chk9 v423), 8 ∣ (k0_mult9 v423).toNat := fun v423 k0_hw9 => k0_hw9.1
theorem k0_off17_inb : ∀ (v423 : BitVec 32) (k0_hw9 : k0_chk9 v423), ∀ a, (k0_off17 v423) a + S520x256.size a ≤ S8192x256.size a := fun v423 k0_hw9 => k0_hw9.2

def k0_off18 (i : grid0.Coords) : Fin 2 → Nat :=
  let arg0 : BitVec 32 := BitVec.ofNat 32 (i 0).val
  let v469 : Index := Scalar.indexCast arg0
  let c0_224 : Index := 0#32
  ![v469.toNat, 0]
def k0_mult10 (v474 : BitVec 32) : BitVec 32 :=
  let c8_i32_233 : BitVec 32 := 8#32
  let c0_i32_227 : BitVec 32 := 0#32
  let v476 : BitVec 1 := Scalar.cmpi .sgt v474 c0_i32_227
  let v477 : BitVec 32 := Scalar.extui v476
  let c0_i32_228 : BitVec 32 := 0#32
  let v478 : BitVec 1 := Scalar.cmpi .slt v474 c0_i32_228
  let v479 : BitVec 32 := Scalar.extui v478
  let v480 : BitVec 32 := Scalar.subi v477 v479
  let c8_i32_226 : BitVec 32 := 8#32
  let c0_i32_229 : BitVec 32 := 0#32
  let v481 : BitVec 1 := Scalar.cmpi .sgt c8_i32_226 c0_i32_229
  let v482 : BitVec 32 := Scalar.extui v481
  let c0_i32_230 : BitVec 32 := 0#32
  let v483 : BitVec 1 := Scalar.cmpi .slt c8_i32_226 c0_i32_230
  let v484 : BitVec 32 := Scalar.extui v483
  let v485 : BitVec 32 := Scalar.subi v482 v484
  let v486 : BitVec 1 := Scalar.cmpi .ne v480 v485
  let v487 : BitVec 32 := Scalar.remsi v474 c8_i32_226
  let c0_i32_231 : BitVec 32 := 0#32
  let v488 : BitVec 1 := Scalar.cmpi .ne v487 c0_i32_231
  let v489 : BitVec 1 := Scalar.andi v486 v488
  let v475 : BitVec 32 := Scalar.divsi v474 c8_i32_226
  let c1_i32_232 : BitVec 32 := 1#32
  let v490 : BitVec 32 := Scalar.subi v475 c1_i32_232
  let v491 : BitVec 32 := Scalar.select v489 v490 v475
  let v492 : BitVec 32 := Scalar.muli c8_i32_233 v491
  v492

def k0_off19 (v474 : BitVec 32) : Fin 2 → Nat :=
  let c8_i32_233 : BitVec 32 := 8#32
  let c0_i32_227 : BitVec 32 := 0#32
  let v476 : BitVec 1 := Scalar.cmpi .sgt v474 c0_i32_227
  let v477 : BitVec 32 := Scalar.extui v476
  let c0_i32_228 : BitVec 32 := 0#32
  let v478 : BitVec 1 := Scalar.cmpi .slt v474 c0_i32_228
  let v479 : BitVec 32 := Scalar.extui v478
  let v480 : BitVec 32 := Scalar.subi v477 v479
  let c8_i32_226 : BitVec 32 := 8#32
  let c0_i32_229 : BitVec 32 := 0#32
  let v481 : BitVec 1 := Scalar.cmpi .sgt c8_i32_226 c0_i32_229
  let v482 : BitVec 32 := Scalar.extui v481
  let c0_i32_230 : BitVec 32 := 0#32
  let v483 : BitVec 1 := Scalar.cmpi .slt c8_i32_226 c0_i32_230
  let v484 : BitVec 32 := Scalar.extui v483
  let v485 : BitVec 32 := Scalar.subi v482 v484
  let v486 : BitVec 1 := Scalar.cmpi .ne v480 v485
  let v487 : BitVec 32 := Scalar.remsi v474 c8_i32_226
  let c0_i32_231 : BitVec 32 := 0#32
  let v488 : BitVec 1 := Scalar.cmpi .ne v487 c0_i32_231
  let v489 : BitVec 1 := Scalar.andi v486 v488
  let v475 : BitVec 32 := Scalar.divsi v474 c8_i32_226
  let c1_i32_232 : BitVec 32 := 1#32
  let v490 : BitVec 32 := Scalar.subi v475 c1_i32_232
  let v491 : BitVec 32 := Scalar.select v489 v490 v475
  let v492 : BitVec 32 := Scalar.muli c8_i32_233 v491
  let v493 : BitVec 32 := v492
  let c512_i32_240 : BitVec 32 := 512#32
  let v504 : BitVec 32 := Scalar.addi v493 c512_i32_240
  let v505 : Index := Scalar.indexCast v504
  let c0_241 : Index := 0#32
  ![v505.toNat, 0]

def k0_chk10 (v474 : BitVec 32) : Prop :=
  (8 ∣ (k0_mult10 v474).toNat) ∧
  (∀ a, (k0_off19 v474) a + S520x256.size a ≤ S8192x256.size a)
theorem k0_mult10_dvd : ∀ (v474 : BitVec 32) (k0_hw10 : k0_chk10 v474), 8 ∣ (k0_mult10 v474).toNat := fun v474 k0_hw10 => k0_hw10.1
theorem k0_off19_inb : ∀ (v474 : BitVec 32) (k0_hw10 : k0_chk10 v474), ∀ a, (k0_off19 v474) a + S520x256.size a ≤ S8192x256.size a := fun v474 k0_hw10 => k0_hw10.2

def k0_off20 (i : grid0.Coords) : Fin 2 → Nat :=
  let arg0 : BitVec 32 := BitVec.ofNat 32 (i 0).val
  let v520 : Index := Scalar.indexCast arg0
  let c1_249 : Index := 1#32
  ![v520.toNat, 1]
def k0_mult11 (v525 : BitVec 32) : BitVec 32 :=
  let c8_i32_258 : BitVec 32 := 8#32
  let c0_i32_252 : BitVec 32 := 0#32
  let v527 : BitVec 1 := Scalar.cmpi .sgt v525 c0_i32_252
  let v528 : BitVec 32 := Scalar.extui v527
  let c0_i32_253 : BitVec 32 := 0#32
  let v529 : BitVec 1 := Scalar.cmpi .slt v525 c0_i32_253
  let v530 : BitVec 32 := Scalar.extui v529
  let v531 : BitVec 32 := Scalar.subi v528 v530
  let c8_i32_251 : BitVec 32 := 8#32
  let c0_i32_254 : BitVec 32 := 0#32
  let v532 : BitVec 1 := Scalar.cmpi .sgt c8_i32_251 c0_i32_254
  let v533 : BitVec 32 := Scalar.extui v532
  let c0_i32_255 : BitVec 32 := 0#32
  let v534 : BitVec 1 := Scalar.cmpi .slt c8_i32_251 c0_i32_255
  let v535 : BitVec 32 := Scalar.extui v534
  let v536 : BitVec 32 := Scalar.subi v533 v535
  let v537 : BitVec 1 := Scalar.cmpi .ne v531 v536
  let v538 : BitVec 32 := Scalar.remsi v525 c8_i32_251
  let c0_i32_256 : BitVec 32 := 0#32
  let v539 : BitVec 1 := Scalar.cmpi .ne v538 c0_i32_256
  let v540 : BitVec 1 := Scalar.andi v537 v539
  let v526 : BitVec 32 := Scalar.divsi v525 c8_i32_251
  let c1_i32_257 : BitVec 32 := 1#32
  let v541 : BitVec 32 := Scalar.subi v526 c1_i32_257
  let v542 : BitVec 32 := Scalar.select v540 v541 v526
  let v543 : BitVec 32 := Scalar.muli c8_i32_258 v542
  v543

def k0_off21 (v525 : BitVec 32) : Fin 2 → Nat :=
  let c8_i32_258 : BitVec 32 := 8#32
  let c0_i32_252 : BitVec 32 := 0#32
  let v527 : BitVec 1 := Scalar.cmpi .sgt v525 c0_i32_252
  let v528 : BitVec 32 := Scalar.extui v527
  let c0_i32_253 : BitVec 32 := 0#32
  let v529 : BitVec 1 := Scalar.cmpi .slt v525 c0_i32_253
  let v530 : BitVec 32 := Scalar.extui v529
  let v531 : BitVec 32 := Scalar.subi v528 v530
  let c8_i32_251 : BitVec 32 := 8#32
  let c0_i32_254 : BitVec 32 := 0#32
  let v532 : BitVec 1 := Scalar.cmpi .sgt c8_i32_251 c0_i32_254
  let v533 : BitVec 32 := Scalar.extui v532
  let c0_i32_255 : BitVec 32 := 0#32
  let v534 : BitVec 1 := Scalar.cmpi .slt c8_i32_251 c0_i32_255
  let v535 : BitVec 32 := Scalar.extui v534
  let v536 : BitVec 32 := Scalar.subi v533 v535
  let v537 : BitVec 1 := Scalar.cmpi .ne v531 v536
  let v538 : BitVec 32 := Scalar.remsi v525 c8_i32_251
  let c0_i32_256 : BitVec 32 := 0#32
  let v539 : BitVec 1 := Scalar.cmpi .ne v538 c0_i32_256
  let v540 : BitVec 1 := Scalar.andi v537 v539
  let v526 : BitVec 32 := Scalar.divsi v525 c8_i32_251
  let c1_i32_257 : BitVec 32 := 1#32
  let v541 : BitVec 32 := Scalar.subi v526 c1_i32_257
  let v542 : BitVec 32 := Scalar.select v540 v541 v526
  let v543 : BitVec 32 := Scalar.muli c8_i32_258 v542
  let v544 : BitVec 32 := v543
  let c512_i32_265 : BitVec 32 := 512#32
  let v555 : BitVec 32 := Scalar.addi v544 c512_i32_265
  let v556 : Index := Scalar.indexCast v555
  let c0_266 : Index := 0#32
  ![v556.toNat, 0]

def k0_chk11 (v525 : BitVec 32) : Prop :=
  (8 ∣ (k0_mult11 v525).toNat) ∧
  (∀ a, (k0_off21 v525) a + S520x256.size a ≤ S8192x256.size a)
theorem k0_mult11_dvd : ∀ (v525 : BitVec 32) (k0_hw11 : k0_chk11 v525), 8 ∣ (k0_mult11 v525).toNat := fun v525 k0_hw11 => k0_hw11.1
theorem k0_off21_inb : ∀ (v525 : BitVec 32) (k0_hw11 : k0_chk11 v525), ∀ a, (k0_off21 v525) a + S520x256.size a ≤ S8192x256.size a := fun v525 k0_hw11 => k0_hw11.2

def k0_off22 (i : grid0.Coords) : Fin 2 → Nat :=
  let arg0 : BitVec 32 := BitVec.ofNat 32 (i 0).val
  let v571 : Index := Scalar.indexCast arg0
  let c2_274 : Index := 2#32
  ![v571.toNat, 2]
def k0_mult12 (v576 : BitVec 32) : BitVec 32 :=
  let c8_i32_283 : BitVec 32 := 8#32
  let c0_i32_277 : BitVec 32 := 0#32
  let v578 : BitVec 1 := Scalar.cmpi .sgt v576 c0_i32_277
  let v579 : BitVec 32 := Scalar.extui v578
  let c0_i32_278 : BitVec 32 := 0#32
  let v580 : BitVec 1 := Scalar.cmpi .slt v576 c0_i32_278
  let v581 : BitVec 32 := Scalar.extui v580
  let v582 : BitVec 32 := Scalar.subi v579 v581
  let c8_i32_276 : BitVec 32 := 8#32
  let c0_i32_279 : BitVec 32 := 0#32
  let v583 : BitVec 1 := Scalar.cmpi .sgt c8_i32_276 c0_i32_279
  let v584 : BitVec 32 := Scalar.extui v583
  let c0_i32_280 : BitVec 32 := 0#32
  let v585 : BitVec 1 := Scalar.cmpi .slt c8_i32_276 c0_i32_280
  let v586 : BitVec 32 := Scalar.extui v585
  let v587 : BitVec 32 := Scalar.subi v584 v586
  let v588 : BitVec 1 := Scalar.cmpi .ne v582 v587
  let v589 : BitVec 32 := Scalar.remsi v576 c8_i32_276
  let c0_i32_281 : BitVec 32 := 0#32
  let v590 : BitVec 1 := Scalar.cmpi .ne v589 c0_i32_281
  let v591 : BitVec 1 := Scalar.andi v588 v590
  let v577 : BitVec 32 := Scalar.divsi v576 c8_i32_276
  let c1_i32_282 : BitVec 32 := 1#32
  let v592 : BitVec 32 := Scalar.subi v577 c1_i32_282
  let v593 : BitVec 32 := Scalar.select v591 v592 v577
  let v594 : BitVec 32 := Scalar.muli c8_i32_283 v593
  v594

def k0_off23 (v576 : BitVec 32) : Fin 2 → Nat :=
  let c8_i32_283 : BitVec 32 := 8#32
  let c0_i32_277 : BitVec 32 := 0#32
  let v578 : BitVec 1 := Scalar.cmpi .sgt v576 c0_i32_277
  let v579 : BitVec 32 := Scalar.extui v578
  let c0_i32_278 : BitVec 32 := 0#32
  let v580 : BitVec 1 := Scalar.cmpi .slt v576 c0_i32_278
  let v581 : BitVec 32 := Scalar.extui v580
  let v582 : BitVec 32 := Scalar.subi v579 v581
  let c8_i32_276 : BitVec 32 := 8#32
  let c0_i32_279 : BitVec 32 := 0#32
  let v583 : BitVec 1 := Scalar.cmpi .sgt c8_i32_276 c0_i32_279
  let v584 : BitVec 32 := Scalar.extui v583
  let c0_i32_280 : BitVec 32 := 0#32
  let v585 : BitVec 1 := Scalar.cmpi .slt c8_i32_276 c0_i32_280
  let v586 : BitVec 32 := Scalar.extui v585
  let v587 : BitVec 32 := Scalar.subi v584 v586
  let v588 : BitVec 1 := Scalar.cmpi .ne v582 v587
  let v589 : BitVec 32 := Scalar.remsi v576 c8_i32_276
  let c0_i32_281 : BitVec 32 := 0#32
  let v590 : BitVec 1 := Scalar.cmpi .ne v589 c0_i32_281
  let v591 : BitVec 1 := Scalar.andi v588 v590
  let v577 : BitVec 32 := Scalar.divsi v576 c8_i32_276
  let c1_i32_282 : BitVec 32 := 1#32
  let v592 : BitVec 32 := Scalar.subi v577 c1_i32_282
  let v593 : BitVec 32 := Scalar.select v591 v592 v577
  let v594 : BitVec 32 := Scalar.muli c8_i32_283 v593
  let v595 : BitVec 32 := v594
  let c512_i32_290 : BitVec 32 := 512#32
  let v606 : BitVec 32 := Scalar.addi v595 c512_i32_290
  let v607 : Index := Scalar.indexCast v606
  let c0_291 : Index := 0#32
  ![v607.toNat, 0]

def k0_chk12 (v576 : BitVec 32) : Prop :=
  (8 ∣ (k0_mult12 v576).toNat) ∧
  (∀ a, (k0_off23 v576) a + S520x256.size a ≤ S8192x256.size a)
theorem k0_mult12_dvd : ∀ (v576 : BitVec 32) (k0_hw12 : k0_chk12 v576), 8 ∣ (k0_mult12 v576).toNat := fun v576 k0_hw12 => k0_hw12.1
theorem k0_off23_inb : ∀ (v576 : BitVec 32) (k0_hw12 : k0_chk12 v576), ∀ a, (k0_off23 v576) a + S520x256.size a ≤ S8192x256.size a := fun v576 k0_hw12 => k0_hw12.2

def k0_off24 (i : grid0.Coords) : Fin 2 → Nat :=
  let arg0 : BitVec 32 := BitVec.ofNat 32 (i 0).val
  let v622 : Index := Scalar.indexCast arg0
  let c3_299 : Index := 3#32
  ![v622.toNat, 3]
def k0_mult13 (v627 : BitVec 32) : BitVec 32 :=
  let c8_i32_308 : BitVec 32 := 8#32
  let c0_i32_302 : BitVec 32 := 0#32
  let v629 : BitVec 1 := Scalar.cmpi .sgt v627 c0_i32_302
  let v630 : BitVec 32 := Scalar.extui v629
  let c0_i32_303 : BitVec 32 := 0#32
  let v631 : BitVec 1 := Scalar.cmpi .slt v627 c0_i32_303
  let v632 : BitVec 32 := Scalar.extui v631
  let v633 : BitVec 32 := Scalar.subi v630 v632
  let c8_i32_301 : BitVec 32 := 8#32
  let c0_i32_304 : BitVec 32 := 0#32
  let v634 : BitVec 1 := Scalar.cmpi .sgt c8_i32_301 c0_i32_304
  let v635 : BitVec 32 := Scalar.extui v634
  let c0_i32_305 : BitVec 32 := 0#32
  let v636 : BitVec 1 := Scalar.cmpi .slt c8_i32_301 c0_i32_305
  let v637 : BitVec 32 := Scalar.extui v636
  let v638 : BitVec 32 := Scalar.subi v635 v637
  let v639 : BitVec 1 := Scalar.cmpi .ne v633 v638
  let v640 : BitVec 32 := Scalar.remsi v627 c8_i32_301
  let c0_i32_306 : BitVec 32 := 0#32
  let v641 : BitVec 1 := Scalar.cmpi .ne v640 c0_i32_306
  let v642 : BitVec 1 := Scalar.andi v639 v641
  let v628 : BitVec 32 := Scalar.divsi v627 c8_i32_301
  let c1_i32_307 : BitVec 32 := 1#32
  let v643 : BitVec 32 := Scalar.subi v628 c1_i32_307
  let v644 : BitVec 32 := Scalar.select v642 v643 v628
  let v645 : BitVec 32 := Scalar.muli c8_i32_308 v644
  v645

def k0_off25 (v627 : BitVec 32) : Fin 2 → Nat :=
  let c8_i32_308 : BitVec 32 := 8#32
  let c0_i32_302 : BitVec 32 := 0#32
  let v629 : BitVec 1 := Scalar.cmpi .sgt v627 c0_i32_302
  let v630 : BitVec 32 := Scalar.extui v629
  let c0_i32_303 : BitVec 32 := 0#32
  let v631 : BitVec 1 := Scalar.cmpi .slt v627 c0_i32_303
  let v632 : BitVec 32 := Scalar.extui v631
  let v633 : BitVec 32 := Scalar.subi v630 v632
  let c8_i32_301 : BitVec 32 := 8#32
  let c0_i32_304 : BitVec 32 := 0#32
  let v634 : BitVec 1 := Scalar.cmpi .sgt c8_i32_301 c0_i32_304
  let v635 : BitVec 32 := Scalar.extui v634
  let c0_i32_305 : BitVec 32 := 0#32
  let v636 : BitVec 1 := Scalar.cmpi .slt c8_i32_301 c0_i32_305
  let v637 : BitVec 32 := Scalar.extui v636
  let v638 : BitVec 32 := Scalar.subi v635 v637
  let v639 : BitVec 1 := Scalar.cmpi .ne v633 v638
  let v640 : BitVec 32 := Scalar.remsi v627 c8_i32_301
  let c0_i32_306 : BitVec 32 := 0#32
  let v641 : BitVec 1 := Scalar.cmpi .ne v640 c0_i32_306
  let v642 : BitVec 1 := Scalar.andi v639 v641
  let v628 : BitVec 32 := Scalar.divsi v627 c8_i32_301
  let c1_i32_307 : BitVec 32 := 1#32
  let v643 : BitVec 32 := Scalar.subi v628 c1_i32_307
  let v644 : BitVec 32 := Scalar.select v642 v643 v628
  let v645 : BitVec 32 := Scalar.muli c8_i32_308 v644
  let v646 : BitVec 32 := v645
  let c512_i32_315 : BitVec 32 := 512#32
  let v657 : BitVec 32 := Scalar.addi v646 c512_i32_315
  let v658 : Index := Scalar.indexCast v657
  let c0_316 : Index := 0#32
  ![v658.toNat, 0]

def k0_chk13 (v627 : BitVec 32) : Prop :=
  (8 ∣ (k0_mult13 v627).toNat) ∧
  (∀ a, (k0_off25 v627) a + S520x256.size a ≤ S8192x256.size a)
theorem k0_mult13_dvd : ∀ (v627 : BitVec 32) (k0_hw13 : k0_chk13 v627), 8 ∣ (k0_mult13 v627).toNat := fun v627 k0_hw13 => k0_hw13.1
theorem k0_off25_inb : ∀ (v627 : BitVec 32) (k0_hw13 : k0_chk13 v627), ∀ a, (k0_off25 v627) a + S520x256.size a ≤ S8192x256.size a := fun v627 k0_hw13 => k0_hw13.2

def k0_off26 (i : grid0.Coords) : Fin 2 → Nat :=
  let arg0 : BitVec 32 := BitVec.ofNat 32 (i 0).val
  let v673 : Index := Scalar.indexCast arg0
  let c4_324 : Index := 4#32
  ![v673.toNat, 4]
def k0_mult14 (v678 : BitVec 32) : BitVec 32 :=
  let c8_i32_333 : BitVec 32 := 8#32
  let c0_i32_327 : BitVec 32 := 0#32
  let v680 : BitVec 1 := Scalar.cmpi .sgt v678 c0_i32_327
  let v681 : BitVec 32 := Scalar.extui v680
  let c0_i32_328 : BitVec 32 := 0#32
  let v682 : BitVec 1 := Scalar.cmpi .slt v678 c0_i32_328
  let v683 : BitVec 32 := Scalar.extui v682
  let v684 : BitVec 32 := Scalar.subi v681 v683
  let c8_i32_326 : BitVec 32 := 8#32
  let c0_i32_329 : BitVec 32 := 0#32
  let v685 : BitVec 1 := Scalar.cmpi .sgt c8_i32_326 c0_i32_329
  let v686 : BitVec 32 := Scalar.extui v685
  let c0_i32_330 : BitVec 32 := 0#32
  let v687 : BitVec 1 := Scalar.cmpi .slt c8_i32_326 c0_i32_330
  let v688 : BitVec 32 := Scalar.extui v687
  let v689 : BitVec 32 := Scalar.subi v686 v688
  let v690 : BitVec 1 := Scalar.cmpi .ne v684 v689
  let v691 : BitVec 32 := Scalar.remsi v678 c8_i32_326
  let c0_i32_331 : BitVec 32 := 0#32
  let v692 : BitVec 1 := Scalar.cmpi .ne v691 c0_i32_331
  let v693 : BitVec 1 := Scalar.andi v690 v692
  let v679 : BitVec 32 := Scalar.divsi v678 c8_i32_326
  let c1_i32_332 : BitVec 32 := 1#32
  let v694 : BitVec 32 := Scalar.subi v679 c1_i32_332
  let v695 : BitVec 32 := Scalar.select v693 v694 v679
  let v696 : BitVec 32 := Scalar.muli c8_i32_333 v695
  v696

def k0_off27 (v678 : BitVec 32) : Fin 2 → Nat :=
  let c8_i32_333 : BitVec 32 := 8#32
  let c0_i32_327 : BitVec 32 := 0#32
  let v680 : BitVec 1 := Scalar.cmpi .sgt v678 c0_i32_327
  let v681 : BitVec 32 := Scalar.extui v680
  let c0_i32_328 : BitVec 32 := 0#32
  let v682 : BitVec 1 := Scalar.cmpi .slt v678 c0_i32_328
  let v683 : BitVec 32 := Scalar.extui v682
  let v684 : BitVec 32 := Scalar.subi v681 v683
  let c8_i32_326 : BitVec 32 := 8#32
  let c0_i32_329 : BitVec 32 := 0#32
  let v685 : BitVec 1 := Scalar.cmpi .sgt c8_i32_326 c0_i32_329
  let v686 : BitVec 32 := Scalar.extui v685
  let c0_i32_330 : BitVec 32 := 0#32
  let v687 : BitVec 1 := Scalar.cmpi .slt c8_i32_326 c0_i32_330
  let v688 : BitVec 32 := Scalar.extui v687
  let v689 : BitVec 32 := Scalar.subi v686 v688
  let v690 : BitVec 1 := Scalar.cmpi .ne v684 v689
  let v691 : BitVec 32 := Scalar.remsi v678 c8_i32_326
  let c0_i32_331 : BitVec 32 := 0#32
  let v692 : BitVec 1 := Scalar.cmpi .ne v691 c0_i32_331
  let v693 : BitVec 1 := Scalar.andi v690 v692
  let v679 : BitVec 32 := Scalar.divsi v678 c8_i32_326
  let c1_i32_332 : BitVec 32 := 1#32
  let v694 : BitVec 32 := Scalar.subi v679 c1_i32_332
  let v695 : BitVec 32 := Scalar.select v693 v694 v679
  let v696 : BitVec 32 := Scalar.muli c8_i32_333 v695
  let v697 : BitVec 32 := v696
  let c512_i32_340 : BitVec 32 := 512#32
  let v708 : BitVec 32 := Scalar.addi v697 c512_i32_340
  let v709 : Index := Scalar.indexCast v708
  let c0_341 : Index := 0#32
  ![v709.toNat, 0]

def k0_chk14 (v678 : BitVec 32) : Prop :=
  (8 ∣ (k0_mult14 v678).toNat) ∧
  (∀ a, (k0_off27 v678) a + S520x256.size a ≤ S8192x256.size a)
theorem k0_mult14_dvd : ∀ (v678 : BitVec 32) (k0_hw14 : k0_chk14 v678), 8 ∣ (k0_mult14 v678).toNat := fun v678 k0_hw14 => k0_hw14.1
theorem k0_off27_inb : ∀ (v678 : BitVec 32) (k0_hw14 : k0_chk14 v678), ∀ a, (k0_off27 v678) a + S520x256.size a ≤ S8192x256.size a := fun v678 k0_hw14 => k0_hw14.2

def k0_off28 (i : grid0.Coords) : Fin 2 → Nat :=
  let arg0 : BitVec 32 := BitVec.ofNat 32 (i 0).val
  let v724 : Index := Scalar.indexCast arg0
  let c5_349 : Index := 5#32
  ![v724.toNat, 5]
def k0_mult15 (v729 : BitVec 32) : BitVec 32 :=
  let c8_i32_358 : BitVec 32 := 8#32
  let c0_i32_352 : BitVec 32 := 0#32
  let v731 : BitVec 1 := Scalar.cmpi .sgt v729 c0_i32_352
  let v732 : BitVec 32 := Scalar.extui v731
  let c0_i32_353 : BitVec 32 := 0#32
  let v733 : BitVec 1 := Scalar.cmpi .slt v729 c0_i32_353
  let v734 : BitVec 32 := Scalar.extui v733
  let v735 : BitVec 32 := Scalar.subi v732 v734
  let c8_i32_351 : BitVec 32 := 8#32
  let c0_i32_354 : BitVec 32 := 0#32
  let v736 : BitVec 1 := Scalar.cmpi .sgt c8_i32_351 c0_i32_354
  let v737 : BitVec 32 := Scalar.extui v736
  let c0_i32_355 : BitVec 32 := 0#32
  let v738 : BitVec 1 := Scalar.cmpi .slt c8_i32_351 c0_i32_355
  let v739 : BitVec 32 := Scalar.extui v738
  let v740 : BitVec 32 := Scalar.subi v737 v739
  let v741 : BitVec 1 := Scalar.cmpi .ne v735 v740
  let v742 : BitVec 32 := Scalar.remsi v729 c8_i32_351
  let c0_i32_356 : BitVec 32 := 0#32
  let v743 : BitVec 1 := Scalar.cmpi .ne v742 c0_i32_356
  let v744 : BitVec 1 := Scalar.andi v741 v743
  let v730 : BitVec 32 := Scalar.divsi v729 c8_i32_351
  let c1_i32_357 : BitVec 32 := 1#32
  let v745 : BitVec 32 := Scalar.subi v730 c1_i32_357
  let v746 : BitVec 32 := Scalar.select v744 v745 v730
  let v747 : BitVec 32 := Scalar.muli c8_i32_358 v746
  v747

def k0_off29 (v729 : BitVec 32) : Fin 2 → Nat :=
  let c8_i32_358 : BitVec 32 := 8#32
  let c0_i32_352 : BitVec 32 := 0#32
  let v731 : BitVec 1 := Scalar.cmpi .sgt v729 c0_i32_352
  let v732 : BitVec 32 := Scalar.extui v731
  let c0_i32_353 : BitVec 32 := 0#32
  let v733 : BitVec 1 := Scalar.cmpi .slt v729 c0_i32_353
  let v734 : BitVec 32 := Scalar.extui v733
  let v735 : BitVec 32 := Scalar.subi v732 v734
  let c8_i32_351 : BitVec 32 := 8#32
  let c0_i32_354 : BitVec 32 := 0#32
  let v736 : BitVec 1 := Scalar.cmpi .sgt c8_i32_351 c0_i32_354
  let v737 : BitVec 32 := Scalar.extui v736
  let c0_i32_355 : BitVec 32 := 0#32
  let v738 : BitVec 1 := Scalar.cmpi .slt c8_i32_351 c0_i32_355
  let v739 : BitVec 32 := Scalar.extui v738
  let v740 : BitVec 32 := Scalar.subi v737 v739
  let v741 : BitVec 1 := Scalar.cmpi .ne v735 v740
  let v742 : BitVec 32 := Scalar.remsi v729 c8_i32_351
  let c0_i32_356 : BitVec 32 := 0#32
  let v743 : BitVec 1 := Scalar.cmpi .ne v742 c0_i32_356
  let v744 : BitVec 1 := Scalar.andi v741 v743
  let v730 : BitVec 32 := Scalar.divsi v729 c8_i32_351
  let c1_i32_357 : BitVec 32 := 1#32
  let v745 : BitVec 32 := Scalar.subi v730 c1_i32_357
  let v746 : BitVec 32 := Scalar.select v744 v745 v730
  let v747 : BitVec 32 := Scalar.muli c8_i32_358 v746
  let v748 : BitVec 32 := v747
  let c512_i32_365 : BitVec 32 := 512#32
  let v759 : BitVec 32 := Scalar.addi v748 c512_i32_365
  let v760 : Index := Scalar.indexCast v759
  let c0_366 : Index := 0#32
  ![v760.toNat, 0]

def k0_chk15 (v729 : BitVec 32) : Prop :=
  (8 ∣ (k0_mult15 v729).toNat) ∧
  (∀ a, (k0_off29 v729) a + S520x256.size a ≤ S8192x256.size a)
theorem k0_mult15_dvd : ∀ (v729 : BitVec 32) (k0_hw15 : k0_chk15 v729), 8 ∣ (k0_mult15 v729).toNat := fun v729 k0_hw15 => k0_hw15.1
theorem k0_off29_inb : ∀ (v729 : BitVec 32) (k0_hw15 : k0_chk15 v729), ∀ a, (k0_off29 v729) a + S520x256.size a ≤ S8192x256.size a := fun v729 k0_hw15 => k0_hw15.2

def k0_off30 (i : grid0.Coords) : Fin 2 → Nat :=
  let arg0 : BitVec 32 := BitVec.ofNat 32 (i 0).val
  let v775 : Index := Scalar.indexCast arg0
  let c6_374 : Index := 6#32
  ![v775.toNat, 6]
def k0_mult16 (v780 : BitVec 32) : BitVec 32 :=
  let c8_i32_383 : BitVec 32 := 8#32
  let c0_i32_377 : BitVec 32 := 0#32
  let v782 : BitVec 1 := Scalar.cmpi .sgt v780 c0_i32_377
  let v783 : BitVec 32 := Scalar.extui v782
  let c0_i32_378 : BitVec 32 := 0#32
  let v784 : BitVec 1 := Scalar.cmpi .slt v780 c0_i32_378
  let v785 : BitVec 32 := Scalar.extui v784
  let v786 : BitVec 32 := Scalar.subi v783 v785
  let c8_i32_376 : BitVec 32 := 8#32
  let c0_i32_379 : BitVec 32 := 0#32
  let v787 : BitVec 1 := Scalar.cmpi .sgt c8_i32_376 c0_i32_379
  let v788 : BitVec 32 := Scalar.extui v787
  let c0_i32_380 : BitVec 32 := 0#32
  let v789 : BitVec 1 := Scalar.cmpi .slt c8_i32_376 c0_i32_380
  let v790 : BitVec 32 := Scalar.extui v789
  let v791 : BitVec 32 := Scalar.subi v788 v790
  let v792 : BitVec 1 := Scalar.cmpi .ne v786 v791
  let v793 : BitVec 32 := Scalar.remsi v780 c8_i32_376
  let c0_i32_381 : BitVec 32 := 0#32
  let v794 : BitVec 1 := Scalar.cmpi .ne v793 c0_i32_381
  let v795 : BitVec 1 := Scalar.andi v792 v794
  let v781 : BitVec 32 := Scalar.divsi v780 c8_i32_376
  let c1_i32_382 : BitVec 32 := 1#32
  let v796 : BitVec 32 := Scalar.subi v781 c1_i32_382
  let v797 : BitVec 32 := Scalar.select v795 v796 v781
  let v798 : BitVec 32 := Scalar.muli c8_i32_383 v797
  v798

def k0_off31 (v780 : BitVec 32) : Fin 2 → Nat :=
  let c8_i32_383 : BitVec 32 := 8#32
  let c0_i32_377 : BitVec 32 := 0#32
  let v782 : BitVec 1 := Scalar.cmpi .sgt v780 c0_i32_377
  let v783 : BitVec 32 := Scalar.extui v782
  let c0_i32_378 : BitVec 32 := 0#32
  let v784 : BitVec 1 := Scalar.cmpi .slt v780 c0_i32_378
  let v785 : BitVec 32 := Scalar.extui v784
  let v786 : BitVec 32 := Scalar.subi v783 v785
  let c8_i32_376 : BitVec 32 := 8#32
  let c0_i32_379 : BitVec 32 := 0#32
  let v787 : BitVec 1 := Scalar.cmpi .sgt c8_i32_376 c0_i32_379
  let v788 : BitVec 32 := Scalar.extui v787
  let c0_i32_380 : BitVec 32 := 0#32
  let v789 : BitVec 1 := Scalar.cmpi .slt c8_i32_376 c0_i32_380
  let v790 : BitVec 32 := Scalar.extui v789
  let v791 : BitVec 32 := Scalar.subi v788 v790
  let v792 : BitVec 1 := Scalar.cmpi .ne v786 v791
  let v793 : BitVec 32 := Scalar.remsi v780 c8_i32_376
  let c0_i32_381 : BitVec 32 := 0#32
  let v794 : BitVec 1 := Scalar.cmpi .ne v793 c0_i32_381
  let v795 : BitVec 1 := Scalar.andi v792 v794
  let v781 : BitVec 32 := Scalar.divsi v780 c8_i32_376
  let c1_i32_382 : BitVec 32 := 1#32
  let v796 : BitVec 32 := Scalar.subi v781 c1_i32_382
  let v797 : BitVec 32 := Scalar.select v795 v796 v781
  let v798 : BitVec 32 := Scalar.muli c8_i32_383 v797
  let v799 : BitVec 32 := v798
  let c512_i32_390 : BitVec 32 := 512#32
  let v810 : BitVec 32 := Scalar.addi v799 c512_i32_390
  let v811 : Index := Scalar.indexCast v810
  let c0_391 : Index := 0#32
  ![v811.toNat, 0]

def k0_chk16 (v780 : BitVec 32) : Prop :=
  (8 ∣ (k0_mult16 v780).toNat) ∧
  (∀ a, (k0_off31 v780) a + S520x256.size a ≤ S8192x256.size a)
theorem k0_mult16_dvd : ∀ (v780 : BitVec 32) (k0_hw16 : k0_chk16 v780), 8 ∣ (k0_mult16 v780).toNat := fun v780 k0_hw16 => k0_hw16.1
theorem k0_off31_inb : ∀ (v780 : BitVec 32) (k0_hw16 : k0_chk16 v780), ∀ a, (k0_off31 v780) a + S520x256.size a ≤ S8192x256.size a := fun v780 k0_hw16 => k0_hw16.2

def k0_off32 (i : grid0.Coords) : Fin 2 → Nat :=
  let arg0 : BitVec 32 := BitVec.ofNat 32 (i 0).val
  let v826 : Index := Scalar.indexCast arg0
  let c7_399 : Index := 7#32
  ![v826.toNat, 7]
def k0_mult17 (v835 : BitVec 32) : BitVec 32 :=
  let c8_i32_411 : BitVec 32 := 8#32
  let c0_i32_405 : BitVec 32 := 0#32
  let v837 : BitVec 1 := Scalar.cmpi .sgt v835 c0_i32_405
  let v838 : BitVec 32 := Scalar.extui v837
  let c0_i32_406 : BitVec 32 := 0#32
  let v839 : BitVec 1 := Scalar.cmpi .slt v835 c0_i32_406
  let v840 : BitVec 32 := Scalar.extui v839
  let v841 : BitVec 32 := Scalar.subi v838 v840
  let c8_i32_404 : BitVec 32 := 8#32
  let c0_i32_407 : BitVec 32 := 0#32
  let v842 : BitVec 1 := Scalar.cmpi .sgt c8_i32_404 c0_i32_407
  let v843 : BitVec 32 := Scalar.extui v842
  let c0_i32_408 : BitVec 32 := 0#32
  let v844 : BitVec 1 := Scalar.cmpi .slt c8_i32_404 c0_i32_408
  let v845 : BitVec 32 := Scalar.extui v844
  let v846 : BitVec 32 := Scalar.subi v843 v845
  let v847 : BitVec 1 := Scalar.cmpi .ne v841 v846
  let v848 : BitVec 32 := Scalar.remsi v835 c8_i32_404
  let c0_i32_409 : BitVec 32 := 0#32
  let v849 : BitVec 1 := Scalar.cmpi .ne v848 c0_i32_409
  let v850 : BitVec 1 := Scalar.andi v847 v849
  let v836 : BitVec 32 := Scalar.divsi v835 c8_i32_404
  let c1_i32_410 : BitVec 32 := 1#32
  let v851 : BitVec 32 := Scalar.subi v836 c1_i32_410
  let v852 : BitVec 32 := Scalar.select v850 v851 v836
  let v853 : BitVec 32 := Scalar.muli c8_i32_411 v852
  v853

def k0_off33 (v835 : BitVec 32) : Fin 2 → Nat :=
  let c8_i32_411 : BitVec 32 := 8#32
  let c0_i32_405 : BitVec 32 := 0#32
  let v837 : BitVec 1 := Scalar.cmpi .sgt v835 c0_i32_405
  let v838 : BitVec 32 := Scalar.extui v837
  let c0_i32_406 : BitVec 32 := 0#32
  let v839 : BitVec 1 := Scalar.cmpi .slt v835 c0_i32_406
  let v840 : BitVec 32 := Scalar.extui v839
  let v841 : BitVec 32 := Scalar.subi v838 v840
  let c8_i32_404 : BitVec 32 := 8#32
  let c0_i32_407 : BitVec 32 := 0#32
  let v842 : BitVec 1 := Scalar.cmpi .sgt c8_i32_404 c0_i32_407
  let v843 : BitVec 32 := Scalar.extui v842
  let c0_i32_408 : BitVec 32 := 0#32
  let v844 : BitVec 1 := Scalar.cmpi .slt c8_i32_404 c0_i32_408
  let v845 : BitVec 32 := Scalar.extui v844
  let v846 : BitVec 32 := Scalar.subi v843 v845
  let v847 : BitVec 1 := Scalar.cmpi .ne v841 v846
  let v848 : BitVec 32 := Scalar.remsi v835 c8_i32_404
  let c0_i32_409 : BitVec 32 := 0#32
  let v849 : BitVec 1 := Scalar.cmpi .ne v848 c0_i32_409
  let v850 : BitVec 1 := Scalar.andi v847 v849
  let v836 : BitVec 32 := Scalar.divsi v835 c8_i32_404
  let c1_i32_410 : BitVec 32 := 1#32
  let v851 : BitVec 32 := Scalar.subi v836 c1_i32_410
  let v852 : BitVec 32 := Scalar.select v850 v851 v836
  let v853 : BitVec 32 := Scalar.muli c8_i32_411 v852
  let v854 : BitVec 32 := v853
  let c1024_i32 : BitVec 32 := 1024#32
  let v865 : BitVec 32 := Scalar.addi v854 c1024_i32
  let v866 : Index := Scalar.indexCast v865
  let c0_418 : Index := 0#32
  ![v866.toNat, 0]

def k0_chk17 (v835 : BitVec 32) : Prop :=
  (8 ∣ (k0_mult17 v835).toNat) ∧
  (∀ a, (k0_off33 v835) a + S520x256.size a ≤ S8192x256.size a)
theorem k0_mult17_dvd : ∀ (v835 : BitVec 32) (k0_hw17 : k0_chk17 v835), 8 ∣ (k0_mult17 v835).toNat := fun v835 k0_hw17 => k0_hw17.1
theorem k0_off33_inb : ∀ (v835 : BitVec 32) (k0_hw17 : k0_chk17 v835), ∀ a, (k0_off33 v835) a + S520x256.size a ≤ S8192x256.size a := fun v835 k0_hw17 => k0_hw17.2

def k0_off34 (i : grid0.Coords) : Fin 2 → Nat :=
  let arg0 : BitVec 32 := BitVec.ofNat 32 (i 0).val
  let v881 : Index := Scalar.indexCast arg0
  let c0_426 : Index := 0#32
  ![v881.toNat, 0]
def k0_mult18 (v886 : BitVec 32) : BitVec 32 :=
  let c8_i32_435 : BitVec 32 := 8#32
  let c0_i32_429 : BitVec 32 := 0#32
  let v888 : BitVec 1 := Scalar.cmpi .sgt v886 c0_i32_429
  let v889 : BitVec 32 := Scalar.extui v888
  let c0_i32_430 : BitVec 32 := 0#32
  let v890 : BitVec 1 := Scalar.cmpi .slt v886 c0_i32_430
  let v891 : BitVec 32 := Scalar.extui v890
  let v892 : BitVec 32 := Scalar.subi v889 v891
  let c8_i32_428 : BitVec 32 := 8#32
  let c0_i32_431 : BitVec 32 := 0#32
  let v893 : BitVec 1 := Scalar.cmpi .sgt c8_i32_428 c0_i32_431
  let v894 : BitVec 32 := Scalar.extui v893
  let c0_i32_432 : BitVec 32 := 0#32
  let v895 : BitVec 1 := Scalar.cmpi .slt c8_i32_428 c0_i32_432
  let v896 : BitVec 32 := Scalar.extui v895
  let v897 : BitVec 32 := Scalar.subi v894 v896
  let v898 : BitVec 1 := Scalar.cmpi .ne v892 v897
  let v899 : BitVec 32 := Scalar.remsi v886 c8_i32_428
  let c0_i32_433 : BitVec 32 := 0#32
  let v900 : BitVec 1 := Scalar.cmpi .ne v899 c0_i32_433
  let v901 : BitVec 1 := Scalar.andi v898 v900
  let v887 : BitVec 32 := Scalar.divsi v886 c8_i32_428
  let c1_i32_434 : BitVec 32 := 1#32
  let v902 : BitVec 32 := Scalar.subi v887 c1_i32_434
  let v903 : BitVec 32 := Scalar.select v901 v902 v887
  let v904 : BitVec 32 := Scalar.muli c8_i32_435 v903
  v904

def k0_off35 (v886 : BitVec 32) : Fin 2 → Nat :=
  let c8_i32_435 : BitVec 32 := 8#32
  let c0_i32_429 : BitVec 32 := 0#32
  let v888 : BitVec 1 := Scalar.cmpi .sgt v886 c0_i32_429
  let v889 : BitVec 32 := Scalar.extui v888
  let c0_i32_430 : BitVec 32 := 0#32
  let v890 : BitVec 1 := Scalar.cmpi .slt v886 c0_i32_430
  let v891 : BitVec 32 := Scalar.extui v890
  let v892 : BitVec 32 := Scalar.subi v889 v891
  let c8_i32_428 : BitVec 32 := 8#32
  let c0_i32_431 : BitVec 32 := 0#32
  let v893 : BitVec 1 := Scalar.cmpi .sgt c8_i32_428 c0_i32_431
  let v894 : BitVec 32 := Scalar.extui v893
  let c0_i32_432 : BitVec 32 := 0#32
  let v895 : BitVec 1 := Scalar.cmpi .slt c8_i32_428 c0_i32_432
  let v896 : BitVec 32 := Scalar.extui v895
  let v897 : BitVec 32 := Scalar.subi v894 v896
  let v898 : BitVec 1 := Scalar.cmpi .ne v892 v897
  let v899 : BitVec 32 := Scalar.remsi v886 c8_i32_428
  let c0_i32_433 : BitVec 32 := 0#32
  let v900 : BitVec 1 := Scalar.cmpi .ne v899 c0_i32_433
  let v901 : BitVec 1 := Scalar.andi v898 v900
  let v887 : BitVec 32 := Scalar.divsi v886 c8_i32_428
  let c1_i32_434 : BitVec 32 := 1#32
  let v902 : BitVec 32 := Scalar.subi v887 c1_i32_434
  let v903 : BitVec 32 := Scalar.select v901 v902 v887
  let v904 : BitVec 32 := Scalar.muli c8_i32_435 v903
  let v905 : BitVec 32 := v904
  let c1024_i32_442 : BitVec 32 := 1024#32
  let v916 : BitVec 32 := Scalar.addi v905 c1024_i32_442
  let v917 : Index := Scalar.indexCast v916
  let c0_443 : Index := 0#32
  ![v917.toNat, 0]

def k0_chk18 (v886 : BitVec 32) : Prop :=
  (8 ∣ (k0_mult18 v886).toNat) ∧
  (∀ a, (k0_off35 v886) a + S520x256.size a ≤ S8192x256.size a)
theorem k0_mult18_dvd : ∀ (v886 : BitVec 32) (k0_hw18 : k0_chk18 v886), 8 ∣ (k0_mult18 v886).toNat := fun v886 k0_hw18 => k0_hw18.1
theorem k0_off35_inb : ∀ (v886 : BitVec 32) (k0_hw18 : k0_chk18 v886), ∀ a, (k0_off35 v886) a + S520x256.size a ≤ S8192x256.size a := fun v886 k0_hw18 => k0_hw18.2

def k0_off36 (i : grid0.Coords) : Fin 2 → Nat :=
  let arg0 : BitVec 32 := BitVec.ofNat 32 (i 0).val
  let v932 : Index := Scalar.indexCast arg0
  let c1_451 : Index := 1#32
  ![v932.toNat, 1]
def k0_mult19 (v937 : BitVec 32) : BitVec 32 :=
  let c8_i32_460 : BitVec 32 := 8#32
  let c0_i32_454 : BitVec 32 := 0#32
  let v939 : BitVec 1 := Scalar.cmpi .sgt v937 c0_i32_454
  let v940 : BitVec 32 := Scalar.extui v939
  let c0_i32_455 : BitVec 32 := 0#32
  let v941 : BitVec 1 := Scalar.cmpi .slt v937 c0_i32_455
  let v942 : BitVec 32 := Scalar.extui v941
  let v943 : BitVec 32 := Scalar.subi v940 v942
  let c8_i32_453 : BitVec 32 := 8#32
  let c0_i32_456 : BitVec 32 := 0#32
  let v944 : BitVec 1 := Scalar.cmpi .sgt c8_i32_453 c0_i32_456
  let v945 : BitVec 32 := Scalar.extui v944
  let c0_i32_457 : BitVec 32 := 0#32
  let v946 : BitVec 1 := Scalar.cmpi .slt c8_i32_453 c0_i32_457
  let v947 : BitVec 32 := Scalar.extui v946
  let v948 : BitVec 32 := Scalar.subi v945 v947
  let v949 : BitVec 1 := Scalar.cmpi .ne v943 v948
  let v950 : BitVec 32 := Scalar.remsi v937 c8_i32_453
  let c0_i32_458 : BitVec 32 := 0#32
  let v951 : BitVec 1 := Scalar.cmpi .ne v950 c0_i32_458
  let v952 : BitVec 1 := Scalar.andi v949 v951
  let v938 : BitVec 32 := Scalar.divsi v937 c8_i32_453
  let c1_i32_459 : BitVec 32 := 1#32
  let v953 : BitVec 32 := Scalar.subi v938 c1_i32_459
  let v954 : BitVec 32 := Scalar.select v952 v953 v938
  let v955 : BitVec 32 := Scalar.muli c8_i32_460 v954
  v955

def k0_off37 (v937 : BitVec 32) : Fin 2 → Nat :=
  let c8_i32_460 : BitVec 32 := 8#32
  let c0_i32_454 : BitVec 32 := 0#32
  let v939 : BitVec 1 := Scalar.cmpi .sgt v937 c0_i32_454
  let v940 : BitVec 32 := Scalar.extui v939
  let c0_i32_455 : BitVec 32 := 0#32
  let v941 : BitVec 1 := Scalar.cmpi .slt v937 c0_i32_455
  let v942 : BitVec 32 := Scalar.extui v941
  let v943 : BitVec 32 := Scalar.subi v940 v942
  let c8_i32_453 : BitVec 32 := 8#32
  let c0_i32_456 : BitVec 32 := 0#32
  let v944 : BitVec 1 := Scalar.cmpi .sgt c8_i32_453 c0_i32_456
  let v945 : BitVec 32 := Scalar.extui v944
  let c0_i32_457 : BitVec 32 := 0#32
  let v946 : BitVec 1 := Scalar.cmpi .slt c8_i32_453 c0_i32_457
  let v947 : BitVec 32 := Scalar.extui v946
  let v948 : BitVec 32 := Scalar.subi v945 v947
  let v949 : BitVec 1 := Scalar.cmpi .ne v943 v948
  let v950 : BitVec 32 := Scalar.remsi v937 c8_i32_453
  let c0_i32_458 : BitVec 32 := 0#32
  let v951 : BitVec 1 := Scalar.cmpi .ne v950 c0_i32_458
  let v952 : BitVec 1 := Scalar.andi v949 v951
  let v938 : BitVec 32 := Scalar.divsi v937 c8_i32_453
  let c1_i32_459 : BitVec 32 := 1#32
  let v953 : BitVec 32 := Scalar.subi v938 c1_i32_459
  let v954 : BitVec 32 := Scalar.select v952 v953 v938
  let v955 : BitVec 32 := Scalar.muli c8_i32_460 v954
  let v956 : BitVec 32 := v955
  let c1024_i32_467 : BitVec 32 := 1024#32
  let v967 : BitVec 32 := Scalar.addi v956 c1024_i32_467
  let v968 : Index := Scalar.indexCast v967
  let c0_468 : Index := 0#32
  ![v968.toNat, 0]

def k0_chk19 (v937 : BitVec 32) : Prop :=
  (8 ∣ (k0_mult19 v937).toNat) ∧
  (∀ a, (k0_off37 v937) a + S520x256.size a ≤ S8192x256.size a)
theorem k0_mult19_dvd : ∀ (v937 : BitVec 32) (k0_hw19 : k0_chk19 v937), 8 ∣ (k0_mult19 v937).toNat := fun v937 k0_hw19 => k0_hw19.1
theorem k0_off37_inb : ∀ (v937 : BitVec 32) (k0_hw19 : k0_chk19 v937), ∀ a, (k0_off37 v937) a + S520x256.size a ≤ S8192x256.size a := fun v937 k0_hw19 => k0_hw19.2

def k0_off38 (i : grid0.Coords) : Fin 2 → Nat :=
  let arg0 : BitVec 32 := BitVec.ofNat 32 (i 0).val
  let v983 : Index := Scalar.indexCast arg0
  let c2_476 : Index := 2#32
  ![v983.toNat, 2]
def k0_mult20 (v988 : BitVec 32) : BitVec 32 :=
  let c8_i32_485 : BitVec 32 := 8#32
  let c0_i32_479 : BitVec 32 := 0#32
  let v990 : BitVec 1 := Scalar.cmpi .sgt v988 c0_i32_479
  let v991 : BitVec 32 := Scalar.extui v990
  let c0_i32_480 : BitVec 32 := 0#32
  let v992 : BitVec 1 := Scalar.cmpi .slt v988 c0_i32_480
  let v993 : BitVec 32 := Scalar.extui v992
  let v994 : BitVec 32 := Scalar.subi v991 v993
  let c8_i32_478 : BitVec 32 := 8#32
  let c0_i32_481 : BitVec 32 := 0#32
  let v995 : BitVec 1 := Scalar.cmpi .sgt c8_i32_478 c0_i32_481
  let v996 : BitVec 32 := Scalar.extui v995
  let c0_i32_482 : BitVec 32 := 0#32
  let v997 : BitVec 1 := Scalar.cmpi .slt c8_i32_478 c0_i32_482
  let v998 : BitVec 32 := Scalar.extui v997
  let v999 : BitVec 32 := Scalar.subi v996 v998
  let v1000 : BitVec 1 := Scalar.cmpi .ne v994 v999
  let v1001 : BitVec 32 := Scalar.remsi v988 c8_i32_478
  let c0_i32_483 : BitVec 32 := 0#32
  let v1002 : BitVec 1 := Scalar.cmpi .ne v1001 c0_i32_483
  let v1003 : BitVec 1 := Scalar.andi v1000 v1002
  let v989 : BitVec 32 := Scalar.divsi v988 c8_i32_478
  let c1_i32_484 : BitVec 32 := 1#32
  let v1004 : BitVec 32 := Scalar.subi v989 c1_i32_484
  let v1005 : BitVec 32 := Scalar.select v1003 v1004 v989
  let v1006 : BitVec 32 := Scalar.muli c8_i32_485 v1005
  v1006

def k0_off39 (v988 : BitVec 32) : Fin 2 → Nat :=
  let c8_i32_485 : BitVec 32 := 8#32
  let c0_i32_479 : BitVec 32 := 0#32
  let v990 : BitVec 1 := Scalar.cmpi .sgt v988 c0_i32_479
  let v991 : BitVec 32 := Scalar.extui v990
  let c0_i32_480 : BitVec 32 := 0#32
  let v992 : BitVec 1 := Scalar.cmpi .slt v988 c0_i32_480
  let v993 : BitVec 32 := Scalar.extui v992
  let v994 : BitVec 32 := Scalar.subi v991 v993
  let c8_i32_478 : BitVec 32 := 8#32
  let c0_i32_481 : BitVec 32 := 0#32
  let v995 : BitVec 1 := Scalar.cmpi .sgt c8_i32_478 c0_i32_481
  let v996 : BitVec 32 := Scalar.extui v995
  let c0_i32_482 : BitVec 32 := 0#32
  let v997 : BitVec 1 := Scalar.cmpi .slt c8_i32_478 c0_i32_482
  let v998 : BitVec 32 := Scalar.extui v997
  let v999 : BitVec 32 := Scalar.subi v996 v998
  let v1000 : BitVec 1 := Scalar.cmpi .ne v994 v999
  let v1001 : BitVec 32 := Scalar.remsi v988 c8_i32_478
  let c0_i32_483 : BitVec 32 := 0#32
  let v1002 : BitVec 1 := Scalar.cmpi .ne v1001 c0_i32_483
  let v1003 : BitVec 1 := Scalar.andi v1000 v1002
  let v989 : BitVec 32 := Scalar.divsi v988 c8_i32_478
  let c1_i32_484 : BitVec 32 := 1#32
  let v1004 : BitVec 32 := Scalar.subi v989 c1_i32_484
  let v1005 : BitVec 32 := Scalar.select v1003 v1004 v989
  let v1006 : BitVec 32 := Scalar.muli c8_i32_485 v1005
  let v1007 : BitVec 32 := v1006
  let c1024_i32_492 : BitVec 32 := 1024#32
  let v1018 : BitVec 32 := Scalar.addi v1007 c1024_i32_492
  let v1019 : Index := Scalar.indexCast v1018
  let c0_493 : Index := 0#32
  ![v1019.toNat, 0]

def k0_chk20 (v988 : BitVec 32) : Prop :=
  (8 ∣ (k0_mult20 v988).toNat) ∧
  (∀ a, (k0_off39 v988) a + S520x256.size a ≤ S8192x256.size a)
theorem k0_mult20_dvd : ∀ (v988 : BitVec 32) (k0_hw20 : k0_chk20 v988), 8 ∣ (k0_mult20 v988).toNat := fun v988 k0_hw20 => k0_hw20.1
theorem k0_off39_inb : ∀ (v988 : BitVec 32) (k0_hw20 : k0_chk20 v988), ∀ a, (k0_off39 v988) a + S520x256.size a ≤ S8192x256.size a := fun v988 k0_hw20 => k0_hw20.2

def k0_off40 (i : grid0.Coords) : Fin 2 → Nat :=
  let arg0 : BitVec 32 := BitVec.ofNat 32 (i 0).val
  let v1034 : Index := Scalar.indexCast arg0
  let c3_501 : Index := 3#32
  ![v1034.toNat, 3]
def k0_mult21 (v1039 : BitVec 32) : BitVec 32 :=
  let c8_i32_510 : BitVec 32 := 8#32
  let c0_i32_504 : BitVec 32 := 0#32
  let v1041 : BitVec 1 := Scalar.cmpi .sgt v1039 c0_i32_504
  let v1042 : BitVec 32 := Scalar.extui v1041
  let c0_i32_505 : BitVec 32 := 0#32
  let v1043 : BitVec 1 := Scalar.cmpi .slt v1039 c0_i32_505
  let v1044 : BitVec 32 := Scalar.extui v1043
  let v1045 : BitVec 32 := Scalar.subi v1042 v1044
  let c8_i32_503 : BitVec 32 := 8#32
  let c0_i32_506 : BitVec 32 := 0#32
  let v1046 : BitVec 1 := Scalar.cmpi .sgt c8_i32_503 c0_i32_506
  let v1047 : BitVec 32 := Scalar.extui v1046
  let c0_i32_507 : BitVec 32 := 0#32
  let v1048 : BitVec 1 := Scalar.cmpi .slt c8_i32_503 c0_i32_507
  let v1049 : BitVec 32 := Scalar.extui v1048
  let v1050 : BitVec 32 := Scalar.subi v1047 v1049
  let v1051 : BitVec 1 := Scalar.cmpi .ne v1045 v1050
  let v1052 : BitVec 32 := Scalar.remsi v1039 c8_i32_503
  let c0_i32_508 : BitVec 32 := 0#32
  let v1053 : BitVec 1 := Scalar.cmpi .ne v1052 c0_i32_508
  let v1054 : BitVec 1 := Scalar.andi v1051 v1053
  let v1040 : BitVec 32 := Scalar.divsi v1039 c8_i32_503
  let c1_i32_509 : BitVec 32 := 1#32
  let v1055 : BitVec 32 := Scalar.subi v1040 c1_i32_509
  let v1056 : BitVec 32 := Scalar.select v1054 v1055 v1040
  let v1057 : BitVec 32 := Scalar.muli c8_i32_510 v1056
  v1057

def k0_off41 (v1039 : BitVec 32) : Fin 2 → Nat :=
  let c8_i32_510 : BitVec 32 := 8#32
  let c0_i32_504 : BitVec 32 := 0#32
  let v1041 : BitVec 1 := Scalar.cmpi .sgt v1039 c0_i32_504
  let v1042 : BitVec 32 := Scalar.extui v1041
  let c0_i32_505 : BitVec 32 := 0#32
  let v1043 : BitVec 1 := Scalar.cmpi .slt v1039 c0_i32_505
  let v1044 : BitVec 32 := Scalar.extui v1043
  let v1045 : BitVec 32 := Scalar.subi v1042 v1044
  let c8_i32_503 : BitVec 32 := 8#32
  let c0_i32_506 : BitVec 32 := 0#32
  let v1046 : BitVec 1 := Scalar.cmpi .sgt c8_i32_503 c0_i32_506
  let v1047 : BitVec 32 := Scalar.extui v1046
  let c0_i32_507 : BitVec 32 := 0#32
  let v1048 : BitVec 1 := Scalar.cmpi .slt c8_i32_503 c0_i32_507
  let v1049 : BitVec 32 := Scalar.extui v1048
  let v1050 : BitVec 32 := Scalar.subi v1047 v1049
  let v1051 : BitVec 1 := Scalar.cmpi .ne v1045 v1050
  let v1052 : BitVec 32 := Scalar.remsi v1039 c8_i32_503
  let c0_i32_508 : BitVec 32 := 0#32
  let v1053 : BitVec 1 := Scalar.cmpi .ne v1052 c0_i32_508
  let v1054 : BitVec 1 := Scalar.andi v1051 v1053
  let v1040 : BitVec 32 := Scalar.divsi v1039 c8_i32_503
  let c1_i32_509 : BitVec 32 := 1#32
  let v1055 : BitVec 32 := Scalar.subi v1040 c1_i32_509
  let v1056 : BitVec 32 := Scalar.select v1054 v1055 v1040
  let v1057 : BitVec 32 := Scalar.muli c8_i32_510 v1056
  let v1058 : BitVec 32 := v1057
  let c1024_i32_517 : BitVec 32 := 1024#32
  let v1069 : BitVec 32 := Scalar.addi v1058 c1024_i32_517
  let v1070 : Index := Scalar.indexCast v1069
  let c0_518 : Index := 0#32
  ![v1070.toNat, 0]

def k0_chk21 (v1039 : BitVec 32) : Prop :=
  (8 ∣ (k0_mult21 v1039).toNat) ∧
  (∀ a, (k0_off41 v1039) a + S520x256.size a ≤ S8192x256.size a)
theorem k0_mult21_dvd : ∀ (v1039 : BitVec 32) (k0_hw21 : k0_chk21 v1039), 8 ∣ (k0_mult21 v1039).toNat := fun v1039 k0_hw21 => k0_hw21.1
theorem k0_off41_inb : ∀ (v1039 : BitVec 32) (k0_hw21 : k0_chk21 v1039), ∀ a, (k0_off41 v1039) a + S520x256.size a ≤ S8192x256.size a := fun v1039 k0_hw21 => k0_hw21.2

def k0_off42 (i : grid0.Coords) : Fin 2 → Nat :=
  let arg0 : BitVec 32 := BitVec.ofNat 32 (i 0).val
  let v1085 : Index := Scalar.indexCast arg0
  let c4_526 : Index := 4#32
  ![v1085.toNat, 4]
def k0_mult22 (v1090 : BitVec 32) : BitVec 32 :=
  let c8_i32_535 : BitVec 32 := 8#32
  let c0_i32_529 : BitVec 32 := 0#32
  let v1092 : BitVec 1 := Scalar.cmpi .sgt v1090 c0_i32_529
  let v1093 : BitVec 32 := Scalar.extui v1092
  let c0_i32_530 : BitVec 32 := 0#32
  let v1094 : BitVec 1 := Scalar.cmpi .slt v1090 c0_i32_530
  let v1095 : BitVec 32 := Scalar.extui v1094
  let v1096 : BitVec 32 := Scalar.subi v1093 v1095
  let c8_i32_528 : BitVec 32 := 8#32
  let c0_i32_531 : BitVec 32 := 0#32
  let v1097 : BitVec 1 := Scalar.cmpi .sgt c8_i32_528 c0_i32_531
  let v1098 : BitVec 32 := Scalar.extui v1097
  let c0_i32_532 : BitVec 32 := 0#32
  let v1099 : BitVec 1 := Scalar.cmpi .slt c8_i32_528 c0_i32_532
  let v1100 : BitVec 32 := Scalar.extui v1099
  let v1101 : BitVec 32 := Scalar.subi v1098 v1100
  let v1102 : BitVec 1 := Scalar.cmpi .ne v1096 v1101
  let v1103 : BitVec 32 := Scalar.remsi v1090 c8_i32_528
  let c0_i32_533 : BitVec 32 := 0#32
  let v1104 : BitVec 1 := Scalar.cmpi .ne v1103 c0_i32_533
  let v1105 : BitVec 1 := Scalar.andi v1102 v1104
  let v1091 : BitVec 32 := Scalar.divsi v1090 c8_i32_528
  let c1_i32_534 : BitVec 32 := 1#32
  let v1106 : BitVec 32 := Scalar.subi v1091 c1_i32_534
  let v1107 : BitVec 32 := Scalar.select v1105 v1106 v1091
  let v1108 : BitVec 32 := Scalar.muli c8_i32_535 v1107
  v1108

def k0_off43 (v1090 : BitVec 32) : Fin 2 → Nat :=
  let c8_i32_535 : BitVec 32 := 8#32
  let c0_i32_529 : BitVec 32 := 0#32
  let v1092 : BitVec 1 := Scalar.cmpi .sgt v1090 c0_i32_529
  let v1093 : BitVec 32 := Scalar.extui v1092
  let c0_i32_530 : BitVec 32 := 0#32
  let v1094 : BitVec 1 := Scalar.cmpi .slt v1090 c0_i32_530
  let v1095 : BitVec 32 := Scalar.extui v1094
  let v1096 : BitVec 32 := Scalar.subi v1093 v1095
  let c8_i32_528 : BitVec 32 := 8#32
  let c0_i32_531 : BitVec 32 := 0#32
  let v1097 : BitVec 1 := Scalar.cmpi .sgt c8_i32_528 c0_i32_531
  let v1098 : BitVec 32 := Scalar.extui v1097
  let c0_i32_532 : BitVec 32 := 0#32
  let v1099 : BitVec 1 := Scalar.cmpi .slt c8_i32_528 c0_i32_532
  let v1100 : BitVec 32 := Scalar.extui v1099
  let v1101 : BitVec 32 := Scalar.subi v1098 v1100
  let v1102 : BitVec 1 := Scalar.cmpi .ne v1096 v1101
  let v1103 : BitVec 32 := Scalar.remsi v1090 c8_i32_528
  let c0_i32_533 : BitVec 32 := 0#32
  let v1104 : BitVec 1 := Scalar.cmpi .ne v1103 c0_i32_533
  let v1105 : BitVec 1 := Scalar.andi v1102 v1104
  let v1091 : BitVec 32 := Scalar.divsi v1090 c8_i32_528
  let c1_i32_534 : BitVec 32 := 1#32
  let v1106 : BitVec 32 := Scalar.subi v1091 c1_i32_534
  let v1107 : BitVec 32 := Scalar.select v1105 v1106 v1091
  let v1108 : BitVec 32 := Scalar.muli c8_i32_535 v1107
  let v1109 : BitVec 32 := v1108
  let c1024_i32_542 : BitVec 32 := 1024#32
  let v1120 : BitVec 32 := Scalar.addi v1109 c1024_i32_542
  let v1121 : Index := Scalar.indexCast v1120
  let c0_543 : Index := 0#32
  ![v1121.toNat, 0]

def k0_chk22 (v1090 : BitVec 32) : Prop :=
  (8 ∣ (k0_mult22 v1090).toNat) ∧
  (∀ a, (k0_off43 v1090) a + S520x256.size a ≤ S8192x256.size a)
theorem k0_mult22_dvd : ∀ (v1090 : BitVec 32) (k0_hw22 : k0_chk22 v1090), 8 ∣ (k0_mult22 v1090).toNat := fun v1090 k0_hw22 => k0_hw22.1
theorem k0_off43_inb : ∀ (v1090 : BitVec 32) (k0_hw22 : k0_chk22 v1090), ∀ a, (k0_off43 v1090) a + S520x256.size a ≤ S8192x256.size a := fun v1090 k0_hw22 => k0_hw22.2

def k0_off44 (i : grid0.Coords) : Fin 2 → Nat :=
  let arg0 : BitVec 32 := BitVec.ofNat 32 (i 0).val
  let v1136 : Index := Scalar.indexCast arg0
  let c5_551 : Index := 5#32
  ![v1136.toNat, 5]
def k0_mult23 (v1141 : BitVec 32) : BitVec 32 :=
  let c8_i32_560 : BitVec 32 := 8#32
  let c0_i32_554 : BitVec 32 := 0#32
  let v1143 : BitVec 1 := Scalar.cmpi .sgt v1141 c0_i32_554
  let v1144 : BitVec 32 := Scalar.extui v1143
  let c0_i32_555 : BitVec 32 := 0#32
  let v1145 : BitVec 1 := Scalar.cmpi .slt v1141 c0_i32_555
  let v1146 : BitVec 32 := Scalar.extui v1145
  let v1147 : BitVec 32 := Scalar.subi v1144 v1146
  let c8_i32_553 : BitVec 32 := 8#32
  let c0_i32_556 : BitVec 32 := 0#32
  let v1148 : BitVec 1 := Scalar.cmpi .sgt c8_i32_553 c0_i32_556
  let v1149 : BitVec 32 := Scalar.extui v1148
  let c0_i32_557 : BitVec 32 := 0#32
  let v1150 : BitVec 1 := Scalar.cmpi .slt c8_i32_553 c0_i32_557
  let v1151 : BitVec 32 := Scalar.extui v1150
  let v1152 : BitVec 32 := Scalar.subi v1149 v1151
  let v1153 : BitVec 1 := Scalar.cmpi .ne v1147 v1152
  let v1154 : BitVec 32 := Scalar.remsi v1141 c8_i32_553
  let c0_i32_558 : BitVec 32 := 0#32
  let v1155 : BitVec 1 := Scalar.cmpi .ne v1154 c0_i32_558
  let v1156 : BitVec 1 := Scalar.andi v1153 v1155
  let v1142 : BitVec 32 := Scalar.divsi v1141 c8_i32_553
  let c1_i32_559 : BitVec 32 := 1#32
  let v1157 : BitVec 32 := Scalar.subi v1142 c1_i32_559
  let v1158 : BitVec 32 := Scalar.select v1156 v1157 v1142
  let v1159 : BitVec 32 := Scalar.muli c8_i32_560 v1158
  v1159

def k0_off45 (v1141 : BitVec 32) : Fin 2 → Nat :=
  let c8_i32_560 : BitVec 32 := 8#32
  let c0_i32_554 : BitVec 32 := 0#32
  let v1143 : BitVec 1 := Scalar.cmpi .sgt v1141 c0_i32_554
  let v1144 : BitVec 32 := Scalar.extui v1143
  let c0_i32_555 : BitVec 32 := 0#32
  let v1145 : BitVec 1 := Scalar.cmpi .slt v1141 c0_i32_555
  let v1146 : BitVec 32 := Scalar.extui v1145
  let v1147 : BitVec 32 := Scalar.subi v1144 v1146
  let c8_i32_553 : BitVec 32 := 8#32
  let c0_i32_556 : BitVec 32 := 0#32
  let v1148 : BitVec 1 := Scalar.cmpi .sgt c8_i32_553 c0_i32_556
  let v1149 : BitVec 32 := Scalar.extui v1148
  let c0_i32_557 : BitVec 32 := 0#32
  let v1150 : BitVec 1 := Scalar.cmpi .slt c8_i32_553 c0_i32_557
  let v1151 : BitVec 32 := Scalar.extui v1150
  let v1152 : BitVec 32 := Scalar.subi v1149 v1151
  let v1153 : BitVec 1 := Scalar.cmpi .ne v1147 v1152
  let v1154 : BitVec 32 := Scalar.remsi v1141 c8_i32_553
  let c0_i32_558 : BitVec 32 := 0#32
  let v1155 : BitVec 1 := Scalar.cmpi .ne v1154 c0_i32_558
  let v1156 : BitVec 1 := Scalar.andi v1153 v1155
  let v1142 : BitVec 32 := Scalar.divsi v1141 c8_i32_553
  let c1_i32_559 : BitVec 32 := 1#32
  let v1157 : BitVec 32 := Scalar.subi v1142 c1_i32_559
  let v1158 : BitVec 32 := Scalar.select v1156 v1157 v1142
  let v1159 : BitVec 32 := Scalar.muli c8_i32_560 v1158
  let v1160 : BitVec 32 := v1159
  let c1024_i32_567 : BitVec 32 := 1024#32
  let v1171 : BitVec 32 := Scalar.addi v1160 c1024_i32_567
  let v1172 : Index := Scalar.indexCast v1171
  let c0_568 : Index := 0#32
  ![v1172.toNat, 0]

def k0_chk23 (v1141 : BitVec 32) : Prop :=
  (8 ∣ (k0_mult23 v1141).toNat) ∧
  (∀ a, (k0_off45 v1141) a + S520x256.size a ≤ S8192x256.size a)
theorem k0_mult23_dvd : ∀ (v1141 : BitVec 32) (k0_hw23 : k0_chk23 v1141), 8 ∣ (k0_mult23 v1141).toNat := fun v1141 k0_hw23 => k0_hw23.1
theorem k0_off45_inb : ∀ (v1141 : BitVec 32) (k0_hw23 : k0_chk23 v1141), ∀ a, (k0_off45 v1141) a + S520x256.size a ≤ S8192x256.size a := fun v1141 k0_hw23 => k0_hw23.2

def k0_off46 (i : grid0.Coords) : Fin 2 → Nat :=
  let arg0 : BitVec 32 := BitVec.ofNat 32 (i 0).val
  let v1187 : Index := Scalar.indexCast arg0
  let c6_576 : Index := 6#32
  ![v1187.toNat, 6]
def k0_mult24 (v1192 : BitVec 32) : BitVec 32 :=
  let c8_i32_585 : BitVec 32 := 8#32
  let c0_i32_579 : BitVec 32 := 0#32
  let v1194 : BitVec 1 := Scalar.cmpi .sgt v1192 c0_i32_579
  let v1195 : BitVec 32 := Scalar.extui v1194
  let c0_i32_580 : BitVec 32 := 0#32
  let v1196 : BitVec 1 := Scalar.cmpi .slt v1192 c0_i32_580
  let v1197 : BitVec 32 := Scalar.extui v1196
  let v1198 : BitVec 32 := Scalar.subi v1195 v1197
  let c8_i32_578 : BitVec 32 := 8#32
  let c0_i32_581 : BitVec 32 := 0#32
  let v1199 : BitVec 1 := Scalar.cmpi .sgt c8_i32_578 c0_i32_581
  let v1200 : BitVec 32 := Scalar.extui v1199
  let c0_i32_582 : BitVec 32 := 0#32
  let v1201 : BitVec 1 := Scalar.cmpi .slt c8_i32_578 c0_i32_582
  let v1202 : BitVec 32 := Scalar.extui v1201
  let v1203 : BitVec 32 := Scalar.subi v1200 v1202
  let v1204 : BitVec 1 := Scalar.cmpi .ne v1198 v1203
  let v1205 : BitVec 32 := Scalar.remsi v1192 c8_i32_578
  let c0_i32_583 : BitVec 32 := 0#32
  let v1206 : BitVec 1 := Scalar.cmpi .ne v1205 c0_i32_583
  let v1207 : BitVec 1 := Scalar.andi v1204 v1206
  let v1193 : BitVec 32 := Scalar.divsi v1192 c8_i32_578
  let c1_i32_584 : BitVec 32 := 1#32
  let v1208 : BitVec 32 := Scalar.subi v1193 c1_i32_584
  let v1209 : BitVec 32 := Scalar.select v1207 v1208 v1193
  let v1210 : BitVec 32 := Scalar.muli c8_i32_585 v1209
  v1210

def k0_off47 (v1192 : BitVec 32) : Fin 2 → Nat :=
  let c8_i32_585 : BitVec 32 := 8#32
  let c0_i32_579 : BitVec 32 := 0#32
  let v1194 : BitVec 1 := Scalar.cmpi .sgt v1192 c0_i32_579
  let v1195 : BitVec 32 := Scalar.extui v1194
  let c0_i32_580 : BitVec 32 := 0#32
  let v1196 : BitVec 1 := Scalar.cmpi .slt v1192 c0_i32_580
  let v1197 : BitVec 32 := Scalar.extui v1196
  let v1198 : BitVec 32 := Scalar.subi v1195 v1197
  let c8_i32_578 : BitVec 32 := 8#32
  let c0_i32_581 : BitVec 32 := 0#32
  let v1199 : BitVec 1 := Scalar.cmpi .sgt c8_i32_578 c0_i32_581
  let v1200 : BitVec 32 := Scalar.extui v1199
  let c0_i32_582 : BitVec 32 := 0#32
  let v1201 : BitVec 1 := Scalar.cmpi .slt c8_i32_578 c0_i32_582
  let v1202 : BitVec 32 := Scalar.extui v1201
  let v1203 : BitVec 32 := Scalar.subi v1200 v1202
  let v1204 : BitVec 1 := Scalar.cmpi .ne v1198 v1203
  let v1205 : BitVec 32 := Scalar.remsi v1192 c8_i32_578
  let c0_i32_583 : BitVec 32 := 0#32
  let v1206 : BitVec 1 := Scalar.cmpi .ne v1205 c0_i32_583
  let v1207 : BitVec 1 := Scalar.andi v1204 v1206
  let v1193 : BitVec 32 := Scalar.divsi v1192 c8_i32_578
  let c1_i32_584 : BitVec 32 := 1#32
  let v1208 : BitVec 32 := Scalar.subi v1193 c1_i32_584
  let v1209 : BitVec 32 := Scalar.select v1207 v1208 v1193
  let v1210 : BitVec 32 := Scalar.muli c8_i32_585 v1209
  let v1211 : BitVec 32 := v1210
  let c1024_i32_592 : BitVec 32 := 1024#32
  let v1222 : BitVec 32 := Scalar.addi v1211 c1024_i32_592
  let v1223 : Index := Scalar.indexCast v1222
  let c0_593 : Index := 0#32
  ![v1223.toNat, 0]

def k0_chk24 (v1192 : BitVec 32) : Prop :=
  (8 ∣ (k0_mult24 v1192).toNat) ∧
  (∀ a, (k0_off47 v1192) a + S520x256.size a ≤ S8192x256.size a)
theorem k0_mult24_dvd : ∀ (v1192 : BitVec 32) (k0_hw24 : k0_chk24 v1192), 8 ∣ (k0_mult24 v1192).toNat := fun v1192 k0_hw24 => k0_hw24.1
theorem k0_off47_inb : ∀ (v1192 : BitVec 32) (k0_hw24 : k0_chk24 v1192), ∀ a, (k0_off47 v1192) a + S520x256.size a ≤ S8192x256.size a := fun v1192 k0_hw24 => k0_hw24.2

def k0_off48 (i : grid0.Coords) : Fin 2 → Nat :=
  let arg0 : BitVec 32 := BitVec.ofNat 32 (i 0).val
  let v1238 : Index := Scalar.indexCast arg0
  let c7_601 : Index := 7#32
  ![v1238.toNat, 7]
def k0_mult25 (v1247 : BitVec 32) : BitVec 32 :=
  let c8_i32_613 : BitVec 32 := 8#32
  let c0_i32_607 : BitVec 32 := 0#32
  let v1249 : BitVec 1 := Scalar.cmpi .sgt v1247 c0_i32_607
  let v1250 : BitVec 32 := Scalar.extui v1249
  let c0_i32_608 : BitVec 32 := 0#32
  let v1251 : BitVec 1 := Scalar.cmpi .slt v1247 c0_i32_608
  let v1252 : BitVec 32 := Scalar.extui v1251
  let v1253 : BitVec 32 := Scalar.subi v1250 v1252
  let c8_i32_606 : BitVec 32 := 8#32
  let c0_i32_609 : BitVec 32 := 0#32
  let v1254 : BitVec 1 := Scalar.cmpi .sgt c8_i32_606 c0_i32_609
  let v1255 : BitVec 32 := Scalar.extui v1254
  let c0_i32_610 : BitVec 32 := 0#32
  let v1256 : BitVec 1 := Scalar.cmpi .slt c8_i32_606 c0_i32_610
  let v1257 : BitVec 32 := Scalar.extui v1256
  let v1258 : BitVec 32 := Scalar.subi v1255 v1257
  let v1259 : BitVec 1 := Scalar.cmpi .ne v1253 v1258
  let v1260 : BitVec 32 := Scalar.remsi v1247 c8_i32_606
  let c0_i32_611 : BitVec 32 := 0#32
  let v1261 : BitVec 1 := Scalar.cmpi .ne v1260 c0_i32_611
  let v1262 : BitVec 1 := Scalar.andi v1259 v1261
  let v1248 : BitVec 32 := Scalar.divsi v1247 c8_i32_606
  let c1_i32_612 : BitVec 32 := 1#32
  let v1263 : BitVec 32 := Scalar.subi v1248 c1_i32_612
  let v1264 : BitVec 32 := Scalar.select v1262 v1263 v1248
  let v1265 : BitVec 32 := Scalar.muli c8_i32_613 v1264
  v1265

def k0_off49 (v1247 : BitVec 32) : Fin 2 → Nat :=
  let c8_i32_613 : BitVec 32 := 8#32
  let c0_i32_607 : BitVec 32 := 0#32
  let v1249 : BitVec 1 := Scalar.cmpi .sgt v1247 c0_i32_607
  let v1250 : BitVec 32 := Scalar.extui v1249
  let c0_i32_608 : BitVec 32 := 0#32
  let v1251 : BitVec 1 := Scalar.cmpi .slt v1247 c0_i32_608
  let v1252 : BitVec 32 := Scalar.extui v1251
  let v1253 : BitVec 32 := Scalar.subi v1250 v1252
  let c8_i32_606 : BitVec 32 := 8#32
  let c0_i32_609 : BitVec 32 := 0#32
  let v1254 : BitVec 1 := Scalar.cmpi .sgt c8_i32_606 c0_i32_609
  let v1255 : BitVec 32 := Scalar.extui v1254
  let c0_i32_610 : BitVec 32 := 0#32
  let v1256 : BitVec 1 := Scalar.cmpi .slt c8_i32_606 c0_i32_610
  let v1257 : BitVec 32 := Scalar.extui v1256
  let v1258 : BitVec 32 := Scalar.subi v1255 v1257
  let v1259 : BitVec 1 := Scalar.cmpi .ne v1253 v1258
  let v1260 : BitVec 32 := Scalar.remsi v1247 c8_i32_606
  let c0_i32_611 : BitVec 32 := 0#32
  let v1261 : BitVec 1 := Scalar.cmpi .ne v1260 c0_i32_611
  let v1262 : BitVec 1 := Scalar.andi v1259 v1261
  let v1248 : BitVec 32 := Scalar.divsi v1247 c8_i32_606
  let c1_i32_612 : BitVec 32 := 1#32
  let v1263 : BitVec 32 := Scalar.subi v1248 c1_i32_612
  let v1264 : BitVec 32 := Scalar.select v1262 v1263 v1248
  let v1265 : BitVec 32 := Scalar.muli c8_i32_613 v1264
  let v1266 : BitVec 32 := v1265
  let c1536_i32 : BitVec 32 := 1536#32
  let v1277 : BitVec 32 := Scalar.addi v1266 c1536_i32
  let v1278 : Index := Scalar.indexCast v1277
  let c0_620 : Index := 0#32
  ![v1278.toNat, 0]

def k0_chk25 (v1247 : BitVec 32) : Prop :=
  (8 ∣ (k0_mult25 v1247).toNat) ∧
  (∀ a, (k0_off49 v1247) a + S520x256.size a ≤ S8192x256.size a)
theorem k0_mult25_dvd : ∀ (v1247 : BitVec 32) (k0_hw25 : k0_chk25 v1247), 8 ∣ (k0_mult25 v1247).toNat := fun v1247 k0_hw25 => k0_hw25.1
theorem k0_off49_inb : ∀ (v1247 : BitVec 32) (k0_hw25 : k0_chk25 v1247), ∀ a, (k0_off49 v1247) a + S520x256.size a ≤ S8192x256.size a := fun v1247 k0_hw25 => k0_hw25.2

def k0_off50 (i : grid0.Coords) : Fin 2 → Nat :=
  let arg0 : BitVec 32 := BitVec.ofNat 32 (i 0).val
  let v1293 : Index := Scalar.indexCast arg0
  let c0_628 : Index := 0#32
  ![v1293.toNat, 0]
def k0_mult26 (v1298 : BitVec 32) : BitVec 32 :=
  let c8_i32_637 : BitVec 32 := 8#32
  let c0_i32_631 : BitVec 32 := 0#32
  let v1300 : BitVec 1 := Scalar.cmpi .sgt v1298 c0_i32_631
  let v1301 : BitVec 32 := Scalar.extui v1300
  let c0_i32_632 : BitVec 32 := 0#32
  let v1302 : BitVec 1 := Scalar.cmpi .slt v1298 c0_i32_632
  let v1303 : BitVec 32 := Scalar.extui v1302
  let v1304 : BitVec 32 := Scalar.subi v1301 v1303
  let c8_i32_630 : BitVec 32 := 8#32
  let c0_i32_633 : BitVec 32 := 0#32
  let v1305 : BitVec 1 := Scalar.cmpi .sgt c8_i32_630 c0_i32_633
  let v1306 : BitVec 32 := Scalar.extui v1305
  let c0_i32_634 : BitVec 32 := 0#32
  let v1307 : BitVec 1 := Scalar.cmpi .slt c8_i32_630 c0_i32_634
  let v1308 : BitVec 32 := Scalar.extui v1307
  let v1309 : BitVec 32 := Scalar.subi v1306 v1308
  let v1310 : BitVec 1 := Scalar.cmpi .ne v1304 v1309
  let v1311 : BitVec 32 := Scalar.remsi v1298 c8_i32_630
  let c0_i32_635 : BitVec 32 := 0#32
  let v1312 : BitVec 1 := Scalar.cmpi .ne v1311 c0_i32_635
  let v1313 : BitVec 1 := Scalar.andi v1310 v1312
  let v1299 : BitVec 32 := Scalar.divsi v1298 c8_i32_630
  let c1_i32_636 : BitVec 32 := 1#32
  let v1314 : BitVec 32 := Scalar.subi v1299 c1_i32_636
  let v1315 : BitVec 32 := Scalar.select v1313 v1314 v1299
  let v1316 : BitVec 32 := Scalar.muli c8_i32_637 v1315
  v1316

def k0_off51 (v1298 : BitVec 32) : Fin 2 → Nat :=
  let c8_i32_637 : BitVec 32 := 8#32
  let c0_i32_631 : BitVec 32 := 0#32
  let v1300 : BitVec 1 := Scalar.cmpi .sgt v1298 c0_i32_631
  let v1301 : BitVec 32 := Scalar.extui v1300
  let c0_i32_632 : BitVec 32 := 0#32
  let v1302 : BitVec 1 := Scalar.cmpi .slt v1298 c0_i32_632
  let v1303 : BitVec 32 := Scalar.extui v1302
  let v1304 : BitVec 32 := Scalar.subi v1301 v1303
  let c8_i32_630 : BitVec 32 := 8#32
  let c0_i32_633 : BitVec 32 := 0#32
  let v1305 : BitVec 1 := Scalar.cmpi .sgt c8_i32_630 c0_i32_633
  let v1306 : BitVec 32 := Scalar.extui v1305
  let c0_i32_634 : BitVec 32 := 0#32
  let v1307 : BitVec 1 := Scalar.cmpi .slt c8_i32_630 c0_i32_634
  let v1308 : BitVec 32 := Scalar.extui v1307
  let v1309 : BitVec 32 := Scalar.subi v1306 v1308
  let v1310 : BitVec 1 := Scalar.cmpi .ne v1304 v1309
  let v1311 : BitVec 32 := Scalar.remsi v1298 c8_i32_630
  let c0_i32_635 : BitVec 32 := 0#32
  let v1312 : BitVec 1 := Scalar.cmpi .ne v1311 c0_i32_635
  let v1313 : BitVec 1 := Scalar.andi v1310 v1312
  let v1299 : BitVec 32 := Scalar.divsi v1298 c8_i32_630
  let c1_i32_636 : BitVec 32 := 1#32
  let v1314 : BitVec 32 := Scalar.subi v1299 c1_i32_636
  let v1315 : BitVec 32 := Scalar.select v1313 v1314 v1299
  let v1316 : BitVec 32 := Scalar.muli c8_i32_637 v1315
  let v1317 : BitVec 32 := v1316
  let c1536_i32_644 : BitVec 32 := 1536#32
  let v1328 : BitVec 32 := Scalar.addi v1317 c1536_i32_644
  let v1329 : Index := Scalar.indexCast v1328
  let c0_645 : Index := 0#32
  ![v1329.toNat, 0]

def k0_chk26 (v1298 : BitVec 32) : Prop :=
  (8 ∣ (k0_mult26 v1298).toNat) ∧
  (∀ a, (k0_off51 v1298) a + S520x256.size a ≤ S8192x256.size a)
theorem k0_mult26_dvd : ∀ (v1298 : BitVec 32) (k0_hw26 : k0_chk26 v1298), 8 ∣ (k0_mult26 v1298).toNat := fun v1298 k0_hw26 => k0_hw26.1
theorem k0_off51_inb : ∀ (v1298 : BitVec 32) (k0_hw26 : k0_chk26 v1298), ∀ a, (k0_off51 v1298) a + S520x256.size a ≤ S8192x256.size a := fun v1298 k0_hw26 => k0_hw26.2

def k0_off52 (i : grid0.Coords) : Fin 2 → Nat :=
  let arg0 : BitVec 32 := BitVec.ofNat 32 (i 0).val
  let v1344 : Index := Scalar.indexCast arg0
  let c1_653 : Index := 1#32
  ![v1344.toNat, 1]
def k0_mult27 (v1349 : BitVec 32) : BitVec 32 :=
  let c8_i32_662 : BitVec 32 := 8#32
  let c0_i32_656 : BitVec 32 := 0#32
  let v1351 : BitVec 1 := Scalar.cmpi .sgt v1349 c0_i32_656
  let v1352 : BitVec 32 := Scalar.extui v1351
  let c0_i32_657 : BitVec 32 := 0#32
  let v1353 : BitVec 1 := Scalar.cmpi .slt v1349 c0_i32_657
  let v1354 : BitVec 32 := Scalar.extui v1353
  let v1355 : BitVec 32 := Scalar.subi v1352 v1354
  let c8_i32_655 : BitVec 32 := 8#32
  let c0_i32_658 : BitVec 32 := 0#32
  let v1356 : BitVec 1 := Scalar.cmpi .sgt c8_i32_655 c0_i32_658
  let v1357 : BitVec 32 := Scalar.extui v1356
  let c0_i32_659 : BitVec 32 := 0#32
  let v1358 : BitVec 1 := Scalar.cmpi .slt c8_i32_655 c0_i32_659
  let v1359 : BitVec 32 := Scalar.extui v1358
  let v1360 : BitVec 32 := Scalar.subi v1357 v1359
  let v1361 : BitVec 1 := Scalar.cmpi .ne v1355 v1360
  let v1362 : BitVec 32 := Scalar.remsi v1349 c8_i32_655
  let c0_i32_660 : BitVec 32 := 0#32
  let v1363 : BitVec 1 := Scalar.cmpi .ne v1362 c0_i32_660
  let v1364 : BitVec 1 := Scalar.andi v1361 v1363
  let v1350 : BitVec 32 := Scalar.divsi v1349 c8_i32_655
  let c1_i32_661 : BitVec 32 := 1#32
  let v1365 : BitVec 32 := Scalar.subi v1350 c1_i32_661
  let v1366 : BitVec 32 := Scalar.select v1364 v1365 v1350
  let v1367 : BitVec 32 := Scalar.muli c8_i32_662 v1366
  v1367

def k0_off53 (v1349 : BitVec 32) : Fin 2 → Nat :=
  let c8_i32_662 : BitVec 32 := 8#32
  let c0_i32_656 : BitVec 32 := 0#32
  let v1351 : BitVec 1 := Scalar.cmpi .sgt v1349 c0_i32_656
  let v1352 : BitVec 32 := Scalar.extui v1351
  let c0_i32_657 : BitVec 32 := 0#32
  let v1353 : BitVec 1 := Scalar.cmpi .slt v1349 c0_i32_657
  let v1354 : BitVec 32 := Scalar.extui v1353
  let v1355 : BitVec 32 := Scalar.subi v1352 v1354
  let c8_i32_655 : BitVec 32 := 8#32
  let c0_i32_658 : BitVec 32 := 0#32
  let v1356 : BitVec 1 := Scalar.cmpi .sgt c8_i32_655 c0_i32_658
  let v1357 : BitVec 32 := Scalar.extui v1356
  let c0_i32_659 : BitVec 32 := 0#32
  let v1358 : BitVec 1 := Scalar.cmpi .slt c8_i32_655 c0_i32_659
  let v1359 : BitVec 32 := Scalar.extui v1358
  let v1360 : BitVec 32 := Scalar.subi v1357 v1359
  let v1361 : BitVec 1 := Scalar.cmpi .ne v1355 v1360
  let v1362 : BitVec 32 := Scalar.remsi v1349 c8_i32_655
  let c0_i32_660 : BitVec 32 := 0#32
  let v1363 : BitVec 1 := Scalar.cmpi .ne v1362 c0_i32_660
  let v1364 : BitVec 1 := Scalar.andi v1361 v1363
  let v1350 : BitVec 32 := Scalar.divsi v1349 c8_i32_655
  let c1_i32_661 : BitVec 32 := 1#32
  let v1365 : BitVec 32 := Scalar.subi v1350 c1_i32_661
  let v1366 : BitVec 32 := Scalar.select v1364 v1365 v1350
  let v1367 : BitVec 32 := Scalar.muli c8_i32_662 v1366
  let v1368 : BitVec 32 := v1367
  let c1536_i32_669 : BitVec 32 := 1536#32
  let v1379 : BitVec 32 := Scalar.addi v1368 c1536_i32_669
  let v1380 : Index := Scalar.indexCast v1379
  let c0_670 : Index := 0#32
  ![v1380.toNat, 0]

def k0_chk27 (v1349 : BitVec 32) : Prop :=
  (8 ∣ (k0_mult27 v1349).toNat) ∧
  (∀ a, (k0_off53 v1349) a + S520x256.size a ≤ S8192x256.size a)
theorem k0_mult27_dvd : ∀ (v1349 : BitVec 32) (k0_hw27 : k0_chk27 v1349), 8 ∣ (k0_mult27 v1349).toNat := fun v1349 k0_hw27 => k0_hw27.1
theorem k0_off53_inb : ∀ (v1349 : BitVec 32) (k0_hw27 : k0_chk27 v1349), ∀ a, (k0_off53 v1349) a + S520x256.size a ≤ S8192x256.size a := fun v1349 k0_hw27 => k0_hw27.2

def k0_off54 (i : grid0.Coords) : Fin 2 → Nat :=
  let arg0 : BitVec 32 := BitVec.ofNat 32 (i 0).val
  let v1395 : Index := Scalar.indexCast arg0
  let c2_678 : Index := 2#32
  ![v1395.toNat, 2]
def k0_mult28 (v1400 : BitVec 32) : BitVec 32 :=
  let c8_i32_687 : BitVec 32 := 8#32
  let c0_i32_681 : BitVec 32 := 0#32
  let v1402 : BitVec 1 := Scalar.cmpi .sgt v1400 c0_i32_681
  let v1403 : BitVec 32 := Scalar.extui v1402
  let c0_i32_682 : BitVec 32 := 0#32
  let v1404 : BitVec 1 := Scalar.cmpi .slt v1400 c0_i32_682
  let v1405 : BitVec 32 := Scalar.extui v1404
  let v1406 : BitVec 32 := Scalar.subi v1403 v1405
  let c8_i32_680 : BitVec 32 := 8#32
  let c0_i32_683 : BitVec 32 := 0#32
  let v1407 : BitVec 1 := Scalar.cmpi .sgt c8_i32_680 c0_i32_683
  let v1408 : BitVec 32 := Scalar.extui v1407
  let c0_i32_684 : BitVec 32 := 0#32
  let v1409 : BitVec 1 := Scalar.cmpi .slt c8_i32_680 c0_i32_684
  let v1410 : BitVec 32 := Scalar.extui v1409
  let v1411 : BitVec 32 := Scalar.subi v1408 v1410
  let v1412 : BitVec 1 := Scalar.cmpi .ne v1406 v1411
  let v1413 : BitVec 32 := Scalar.remsi v1400 c8_i32_680
  let c0_i32_685 : BitVec 32 := 0#32
  let v1414 : BitVec 1 := Scalar.cmpi .ne v1413 c0_i32_685
  let v1415 : BitVec 1 := Scalar.andi v1412 v1414
  let v1401 : BitVec 32 := Scalar.divsi v1400 c8_i32_680
  let c1_i32_686 : BitVec 32 := 1#32
  let v1416 : BitVec 32 := Scalar.subi v1401 c1_i32_686
  let v1417 : BitVec 32 := Scalar.select v1415 v1416 v1401
  let v1418 : BitVec 32 := Scalar.muli c8_i32_687 v1417
  v1418

def k0_off55 (v1400 : BitVec 32) : Fin 2 → Nat :=
  let c8_i32_687 : BitVec 32 := 8#32
  let c0_i32_681 : BitVec 32 := 0#32
  let v1402 : BitVec 1 := Scalar.cmpi .sgt v1400 c0_i32_681
  let v1403 : BitVec 32 := Scalar.extui v1402
  let c0_i32_682 : BitVec 32 := 0#32
  let v1404 : BitVec 1 := Scalar.cmpi .slt v1400 c0_i32_682
  let v1405 : BitVec 32 := Scalar.extui v1404
  let v1406 : BitVec 32 := Scalar.subi v1403 v1405
  let c8_i32_680 : BitVec 32 := 8#32
  let c0_i32_683 : BitVec 32 := 0#32
  let v1407 : BitVec 1 := Scalar.cmpi .sgt c8_i32_680 c0_i32_683
  let v1408 : BitVec 32 := Scalar.extui v1407
  let c0_i32_684 : BitVec 32 := 0#32
  let v1409 : BitVec 1 := Scalar.cmpi .slt c8_i32_680 c0_i32_684
  let v1410 : BitVec 32 := Scalar.extui v1409
  let v1411 : BitVec 32 := Scalar.subi v1408 v1410
  let v1412 : BitVec 1 := Scalar.cmpi .ne v1406 v1411
  let v1413 : BitVec 32 := Scalar.remsi v1400 c8_i32_680
  let c0_i32_685 : BitVec 32 := 0#32
  let v1414 : BitVec 1 := Scalar.cmpi .ne v1413 c0_i32_685
  let v1415 : BitVec 1 := Scalar.andi v1412 v1414
  let v1401 : BitVec 32 := Scalar.divsi v1400 c8_i32_680
  let c1_i32_686 : BitVec 32 := 1#32
  let v1416 : BitVec 32 := Scalar.subi v1401 c1_i32_686
  let v1417 : BitVec 32 := Scalar.select v1415 v1416 v1401
  let v1418 : BitVec 32 := Scalar.muli c8_i32_687 v1417
  let v1419 : BitVec 32 := v1418
  let c1536_i32_694 : BitVec 32 := 1536#32
  let v1430 : BitVec 32 := Scalar.addi v1419 c1536_i32_694
  let v1431 : Index := Scalar.indexCast v1430
  let c0_695 : Index := 0#32
  ![v1431.toNat, 0]

def k0_chk28 (v1400 : BitVec 32) : Prop :=
  (8 ∣ (k0_mult28 v1400).toNat) ∧
  (∀ a, (k0_off55 v1400) a + S520x256.size a ≤ S8192x256.size a)
theorem k0_mult28_dvd : ∀ (v1400 : BitVec 32) (k0_hw28 : k0_chk28 v1400), 8 ∣ (k0_mult28 v1400).toNat := fun v1400 k0_hw28 => k0_hw28.1
theorem k0_off55_inb : ∀ (v1400 : BitVec 32) (k0_hw28 : k0_chk28 v1400), ∀ a, (k0_off55 v1400) a + S520x256.size a ≤ S8192x256.size a := fun v1400 k0_hw28 => k0_hw28.2

def k0_off56 (i : grid0.Coords) : Fin 2 → Nat :=
  let arg0 : BitVec 32 := BitVec.ofNat 32 (i 0).val
  let v1446 : Index := Scalar.indexCast arg0
  let c3_703 : Index := 3#32
  ![v1446.toNat, 3]
def k0_mult29 (v1451 : BitVec 32) : BitVec 32 :=
  let c8_i32_712 : BitVec 32 := 8#32
  let c0_i32_706 : BitVec 32 := 0#32
  let v1453 : BitVec 1 := Scalar.cmpi .sgt v1451 c0_i32_706
  let v1454 : BitVec 32 := Scalar.extui v1453
  let c0_i32_707 : BitVec 32 := 0#32
  let v1455 : BitVec 1 := Scalar.cmpi .slt v1451 c0_i32_707
  let v1456 : BitVec 32 := Scalar.extui v1455
  let v1457 : BitVec 32 := Scalar.subi v1454 v1456
  let c8_i32_705 : BitVec 32 := 8#32
  let c0_i32_708 : BitVec 32 := 0#32
  let v1458 : BitVec 1 := Scalar.cmpi .sgt c8_i32_705 c0_i32_708
  let v1459 : BitVec 32 := Scalar.extui v1458
  let c0_i32_709 : BitVec 32 := 0#32
  let v1460 : BitVec 1 := Scalar.cmpi .slt c8_i32_705 c0_i32_709
  let v1461 : BitVec 32 := Scalar.extui v1460
  let v1462 : BitVec 32 := Scalar.subi v1459 v1461
  let v1463 : BitVec 1 := Scalar.cmpi .ne v1457 v1462
  let v1464 : BitVec 32 := Scalar.remsi v1451 c8_i32_705
  let c0_i32_710 : BitVec 32 := 0#32
  let v1465 : BitVec 1 := Scalar.cmpi .ne v1464 c0_i32_710
  let v1466 : BitVec 1 := Scalar.andi v1463 v1465
  let v1452 : BitVec 32 := Scalar.divsi v1451 c8_i32_705
  let c1_i32_711 : BitVec 32 := 1#32
  let v1467 : BitVec 32 := Scalar.subi v1452 c1_i32_711
  let v1468 : BitVec 32 := Scalar.select v1466 v1467 v1452
  let v1469 : BitVec 32 := Scalar.muli c8_i32_712 v1468
  v1469

def k0_off57 (v1451 : BitVec 32) : Fin 2 → Nat :=
  let c8_i32_712 : BitVec 32 := 8#32
  let c0_i32_706 : BitVec 32 := 0#32
  let v1453 : BitVec 1 := Scalar.cmpi .sgt v1451 c0_i32_706
  let v1454 : BitVec 32 := Scalar.extui v1453
  let c0_i32_707 : BitVec 32 := 0#32
  let v1455 : BitVec 1 := Scalar.cmpi .slt v1451 c0_i32_707
  let v1456 : BitVec 32 := Scalar.extui v1455
  let v1457 : BitVec 32 := Scalar.subi v1454 v1456
  let c8_i32_705 : BitVec 32 := 8#32
  let c0_i32_708 : BitVec 32 := 0#32
  let v1458 : BitVec 1 := Scalar.cmpi .sgt c8_i32_705 c0_i32_708
  let v1459 : BitVec 32 := Scalar.extui v1458
  let c0_i32_709 : BitVec 32 := 0#32
  let v1460 : BitVec 1 := Scalar.cmpi .slt c8_i32_705 c0_i32_709
  let v1461 : BitVec 32 := Scalar.extui v1460
  let v1462 : BitVec 32 := Scalar.subi v1459 v1461
  let v1463 : BitVec 1 := Scalar.cmpi .ne v1457 v1462
  let v1464 : BitVec 32 := Scalar.remsi v1451 c8_i32_705
  let c0_i32_710 : BitVec 32 := 0#32
  let v1465 : BitVec 1 := Scalar.cmpi .ne v1464 c0_i32_710
  let v1466 : BitVec 1 := Scalar.andi v1463 v1465
  let v1452 : BitVec 32 := Scalar.divsi v1451 c8_i32_705
  let c1_i32_711 : BitVec 32 := 1#32
  let v1467 : BitVec 32 := Scalar.subi v1452 c1_i32_711
  let v1468 : BitVec 32 := Scalar.select v1466 v1467 v1452
  let v1469 : BitVec 32 := Scalar.muli c8_i32_712 v1468
  let v1470 : BitVec 32 := v1469
  let c1536_i32_719 : BitVec 32 := 1536#32
  let v1481 : BitVec 32 := Scalar.addi v1470 c1536_i32_719
  let v1482 : Index := Scalar.indexCast v1481
  let c0_720 : Index := 0#32
  ![v1482.toNat, 0]

def k0_chk29 (v1451 : BitVec 32) : Prop :=
  (8 ∣ (k0_mult29 v1451).toNat) ∧
  (∀ a, (k0_off57 v1451) a + S520x256.size a ≤ S8192x256.size a)
theorem k0_mult29_dvd : ∀ (v1451 : BitVec 32) (k0_hw29 : k0_chk29 v1451), 8 ∣ (k0_mult29 v1451).toNat := fun v1451 k0_hw29 => k0_hw29.1
theorem k0_off57_inb : ∀ (v1451 : BitVec 32) (k0_hw29 : k0_chk29 v1451), ∀ a, (k0_off57 v1451) a + S520x256.size a ≤ S8192x256.size a := fun v1451 k0_hw29 => k0_hw29.2

def k0_off58 (i : grid0.Coords) : Fin 2 → Nat :=
  let arg0 : BitVec 32 := BitVec.ofNat 32 (i 0).val
  let v1497 : Index := Scalar.indexCast arg0
  let c4_728 : Index := 4#32
  ![v1497.toNat, 4]
def k0_mult30 (v1502 : BitVec 32) : BitVec 32 :=
  let c8_i32_737 : BitVec 32 := 8#32
  let c0_i32_731 : BitVec 32 := 0#32
  let v1504 : BitVec 1 := Scalar.cmpi .sgt v1502 c0_i32_731
  let v1505 : BitVec 32 := Scalar.extui v1504
  let c0_i32_732 : BitVec 32 := 0#32
  let v1506 : BitVec 1 := Scalar.cmpi .slt v1502 c0_i32_732
  let v1507 : BitVec 32 := Scalar.extui v1506
  let v1508 : BitVec 32 := Scalar.subi v1505 v1507
  let c8_i32_730 : BitVec 32 := 8#32
  let c0_i32_733 : BitVec 32 := 0#32
  let v1509 : BitVec 1 := Scalar.cmpi .sgt c8_i32_730 c0_i32_733
  let v1510 : BitVec 32 := Scalar.extui v1509
  let c0_i32_734 : BitVec 32 := 0#32
  let v1511 : BitVec 1 := Scalar.cmpi .slt c8_i32_730 c0_i32_734
  let v1512 : BitVec 32 := Scalar.extui v1511
  let v1513 : BitVec 32 := Scalar.subi v1510 v1512
  let v1514 : BitVec 1 := Scalar.cmpi .ne v1508 v1513
  let v1515 : BitVec 32 := Scalar.remsi v1502 c8_i32_730
  let c0_i32_735 : BitVec 32 := 0#32
  let v1516 : BitVec 1 := Scalar.cmpi .ne v1515 c0_i32_735
  let v1517 : BitVec 1 := Scalar.andi v1514 v1516
  let v1503 : BitVec 32 := Scalar.divsi v1502 c8_i32_730
  let c1_i32_736 : BitVec 32 := 1#32
  let v1518 : BitVec 32 := Scalar.subi v1503 c1_i32_736
  let v1519 : BitVec 32 := Scalar.select v1517 v1518 v1503
  let v1520 : BitVec 32 := Scalar.muli c8_i32_737 v1519
  v1520

def k0_off59 (v1502 : BitVec 32) : Fin 2 → Nat :=
  let c8_i32_737 : BitVec 32 := 8#32
  let c0_i32_731 : BitVec 32 := 0#32
  let v1504 : BitVec 1 := Scalar.cmpi .sgt v1502 c0_i32_731
  let v1505 : BitVec 32 := Scalar.extui v1504
  let c0_i32_732 : BitVec 32 := 0#32
  let v1506 : BitVec 1 := Scalar.cmpi .slt v1502 c0_i32_732
  let v1507 : BitVec 32 := Scalar.extui v1506
  let v1508 : BitVec 32 := Scalar.subi v1505 v1507
  let c8_i32_730 : BitVec 32 := 8#32
  let c0_i32_733 : BitVec 32 := 0#32
  let v1509 : BitVec 1 := Scalar.cmpi .sgt c8_i32_730 c0_i32_733
  let v1510 : BitVec 32 := Scalar.extui v1509
  let c0_i32_734 : BitVec 32 := 0#32
  let v1511 : BitVec 1 := Scalar.cmpi .slt c8_i32_730 c0_i32_734
  let v1512 : BitVec 32 := Scalar.extui v1511
  let v1513 : BitVec 32 := Scalar.subi v1510 v1512
  let v1514 : BitVec 1 := Scalar.cmpi .ne v1508 v1513
  let v1515 : BitVec 32 := Scalar.remsi v1502 c8_i32_730
  let c0_i32_735 : BitVec 32 := 0#32
  let v1516 : BitVec 1 := Scalar.cmpi .ne v1515 c0_i32_735
  let v1517 : BitVec 1 := Scalar.andi v1514 v1516
  let v1503 : BitVec 32 := Scalar.divsi v1502 c8_i32_730
  let c1_i32_736 : BitVec 32 := 1#32
  let v1518 : BitVec 32 := Scalar.subi v1503 c1_i32_736
  let v1519 : BitVec 32 := Scalar.select v1517 v1518 v1503
  let v1520 : BitVec 32 := Scalar.muli c8_i32_737 v1519
  let v1521 : BitVec 32 := v1520
  let c1536_i32_744 : BitVec 32 := 1536#32
  let v1532 : BitVec 32 := Scalar.addi v1521 c1536_i32_744
  let v1533 : Index := Scalar.indexCast v1532
  let c0_745 : Index := 0#32
  ![v1533.toNat, 0]

def k0_chk30 (v1502 : BitVec 32) : Prop :=
  (8 ∣ (k0_mult30 v1502).toNat) ∧
  (∀ a, (k0_off59 v1502) a + S520x256.size a ≤ S8192x256.size a)
theorem k0_mult30_dvd : ∀ (v1502 : BitVec 32) (k0_hw30 : k0_chk30 v1502), 8 ∣ (k0_mult30 v1502).toNat := fun v1502 k0_hw30 => k0_hw30.1
theorem k0_off59_inb : ∀ (v1502 : BitVec 32) (k0_hw30 : k0_chk30 v1502), ∀ a, (k0_off59 v1502) a + S520x256.size a ≤ S8192x256.size a := fun v1502 k0_hw30 => k0_hw30.2

def k0_off60 (i : grid0.Coords) : Fin 2 → Nat :=
  let arg0 : BitVec 32 := BitVec.ofNat 32 (i 0).val
  let v1548 : Index := Scalar.indexCast arg0
  let c5_753 : Index := 5#32
  ![v1548.toNat, 5]
def k0_mult31 (v1553 : BitVec 32) : BitVec 32 :=
  let c8_i32_762 : BitVec 32 := 8#32
  let c0_i32_756 : BitVec 32 := 0#32
  let v1555 : BitVec 1 := Scalar.cmpi .sgt v1553 c0_i32_756
  let v1556 : BitVec 32 := Scalar.extui v1555
  let c0_i32_757 : BitVec 32 := 0#32
  let v1557 : BitVec 1 := Scalar.cmpi .slt v1553 c0_i32_757
  let v1558 : BitVec 32 := Scalar.extui v1557
  let v1559 : BitVec 32 := Scalar.subi v1556 v1558
  let c8_i32_755 : BitVec 32 := 8#32
  let c0_i32_758 : BitVec 32 := 0#32
  let v1560 : BitVec 1 := Scalar.cmpi .sgt c8_i32_755 c0_i32_758
  let v1561 : BitVec 32 := Scalar.extui v1560
  let c0_i32_759 : BitVec 32 := 0#32
  let v1562 : BitVec 1 := Scalar.cmpi .slt c8_i32_755 c0_i32_759
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_755
  let c0_i32_760 : BitVec 32 := 0#32
  let v1567 : BitVec 1 := Scalar.cmpi .ne v1566 c0_i32_760
  let v1568 : BitVec 1 := Scalar.andi v1565 v1567
  let v1554 : BitVec 32 := Scalar.divsi v1553 c8_i32_755
  let c1_i32_761 : BitVec 32 := 1#32
  let v1569 : BitVec 32 := Scalar.subi v1554 c1_i32_761
  let v1570 : BitVec 32 := Scalar.select v1568 v1569 v1554
  let v1571 : BitVec 32 := Scalar.muli c8_i32_762 v1570
  v1571

def k0_off61 (v1553 : BitVec 32) : Fin 2 → Nat :=
  let c8_i32_762 : BitVec 32 := 8#32
  let c0_i32_756 : BitVec 32 := 0#32
  let v1555 : BitVec 1 := Scalar.cmpi .sgt v1553 c0_i32_756
  let v1556 : BitVec 32 := Scalar.extui v1555
  let c0_i32_757 : BitVec 32 := 0#32
  let v1557 : BitVec 1 := Scalar.cmpi .slt v1553 c0_i32_757
  let v1558 : BitVec 32 := Scalar.extui v1557
  let v1559 : BitVec 32 := Scalar.subi v1556 v1558
  let c8_i32_755 : BitVec 32 := 8#32
  let c0_i32_758 : BitVec 32 := 0#32
  let v1560 : BitVec 1 := Scalar.cmpi .sgt c8_i32_755 c0_i32_758
  let v1561 : BitVec 32 := Scalar.extui v1560
  let c0_i32_759 : BitVec 32 := 0#32
  let v1562 : BitVec 1 := Scalar.cmpi .slt c8_i32_755 c0_i32_759
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_755
  let c0_i32_760 : BitVec 32 := 0#32
  let v1567 : BitVec 1 := Scalar.cmpi .ne v1566 c0_i32_760
  let v1568 : BitVec 1 := Scalar.andi v1565 v1567
  let v1554 : BitVec 32 := Scalar.divsi v1553 c8_i32_755
  let c1_i32_761 : BitVec 32 := 1#32
  let v1569 : BitVec 32 := Scalar.subi v1554 c1_i32_761
  let v1570 : BitVec 32 := Scalar.select v1568 v1569 v1554
  let v1571 : BitVec 32 := Scalar.muli c8_i32_762 v1570
  let v1572 : BitVec 32 := v1571
  let c1536_i32_769 : BitVec 32 := 1536#32
  let v1583 : BitVec 32 := Scalar.addi v1572 c1536_i32_769
  let v1584 : Index := Scalar.indexCast v1583
  let c0_770 : Index := 0#32
  ![v1584.toNat, 0]

def k0_chk31 (v1553 : BitVec 32) : Prop :=
  (8 ∣ (k0_mult31 v1553).toNat) ∧
  (∀ a, (k0_off61 v1553) a + S520x256.size a ≤ S8192x256.size a)
theorem k0_mult31_dvd : ∀ (v1553 : BitVec 32) (k0_hw31 : k0_chk31 v1553), 8 ∣ (k0_mult31 v1553).toNat := fun v1553 k0_hw31 => k0_hw31.1
theorem k0_off61_inb : ∀ (v1553 : BitVec 32) (k0_hw31 : k0_chk31 v1553), ∀ a, (k0_off61 v1553) a + S520x256.size a ≤ S8192x256.size a := fun v1553 k0_hw31 => k0_hw31.2

def k0_off62 (i : grid0.Coords) : Fin 2 → Nat :=
  let arg0 : BitVec 32 := BitVec.ofNat 32 (i 0).val
  let v1599 : Index := Scalar.indexCast arg0
  let c6_778 : Index := 6#32
  ![v1599.toNat, 6]
def k0_mult32 (v1604 : BitVec 32) : BitVec 32 :=
  let c8_i32_787 : BitVec 32 := 8#32
  let c0_i32_781 : BitVec 32 := 0#32
  let v1606 : BitVec 1 := Scalar.cmpi .sgt v1604 c0_i32_781
  let v1607 : BitVec 32 := Scalar.extui v1606
  let c0_i32_782 : BitVec 32 := 0#32
  let v1608 : BitVec 1 := Scalar.cmpi .slt v1604 c0_i32_782
  let v1609 : BitVec 32 := Scalar.extui v1608
  let v1610 : BitVec 32 := Scalar.subi v1607 v1609
  let c8_i32_780 : BitVec 32 := 8#32
  let c0_i32_783 : BitVec 32 := 0#32
  let v1611 : BitVec 1 := Scalar.cmpi .sgt c8_i32_780 c0_i32_783
  let v1612 : BitVec 32 := Scalar.extui v1611
  let c0_i32_784 : BitVec 32 := 0#32
  let v1613 : BitVec 1 := Scalar.cmpi .slt c8_i32_780 c0_i32_784
  let v1614 : BitVec 32 := Scalar.extui v1613
  let v1615 : BitVec 32 := Scalar.subi v1612 v1614
  let v1616 : BitVec 1 := Scalar.cmpi .ne v1610 v1615
  let v1617 : BitVec 32 := Scalar.remsi v1604 c8_i32_780
  let c0_i32_785 : BitVec 32 := 0#32
  let v1618 : BitVec 1 := Scalar.cmpi .ne v1617 c0_i32_785
  let v1619 : BitVec 1 := Scalar.andi v1616 v1618
  let v1605 : BitVec 32 := Scalar.divsi v1604 c8_i32_780
  let c1_i32_786 : BitVec 32 := 1#32
  let v1620 : BitVec 32 := Scalar.subi v1605 c1_i32_786
  let v1621 : BitVec 32 := Scalar.select v1619 v1620 v1605
  let v1622 : BitVec 32 := Scalar.muli c8_i32_787 v1621
  v1622

def k0_off63 (v1604 : BitVec 32) : Fin 2 → Nat :=
  let c8_i32_787 : BitVec 32 := 8#32
  let c0_i32_781 : BitVec 32 := 0#32
  let v1606 : BitVec 1 := Scalar.cmpi .sgt v1604 c0_i32_781
  let v1607 : BitVec 32 := Scalar.extui v1606
  let c0_i32_782 : BitVec 32 := 0#32
  let v1608 : BitVec 1 := Scalar.cmpi .slt v1604 c0_i32_782
  let v1609 : BitVec 32 := Scalar.extui v1608
  let v1610 : BitVec 32 := Scalar.subi v1607 v1609
  let c8_i32_780 : BitVec 32 := 8#32
  let c0_i32_783 : BitVec 32 := 0#32
  let v1611 : BitVec 1 := Scalar.cmpi .sgt c8_i32_780 c0_i32_783
  let v1612 : BitVec 32 := Scalar.extui v1611
  let c0_i32_784 : BitVec 32 := 0#32
  let v1613 : BitVec 1 := Scalar.cmpi .slt c8_i32_780 c0_i32_784
  let v1614 : BitVec 32 := Scalar.extui v1613
  let v1615 : BitVec 32 := Scalar.subi v1612 v1614
  let v1616 : BitVec 1 := Scalar.cmpi .ne v1610 v1615
  let v1617 : BitVec 32 := Scalar.remsi v1604 c8_i32_780
  let c0_i32_785 : BitVec 32 := 0#32
  let v1618 : BitVec 1 := Scalar.cmpi .ne v1617 c0_i32_785
  let v1619 : BitVec 1 := Scalar.andi v1616 v1618
  let v1605 : BitVec 32 := Scalar.divsi v1604 c8_i32_780
  let c1_i32_786 : BitVec 32 := 1#32
  let v1620 : BitVec 32 := Scalar.subi v1605 c1_i32_786
  let v1621 : BitVec 32 := Scalar.select v1619 v1620 v1605
  let v1622 : BitVec 32 := Scalar.muli c8_i32_787 v1621
  let v1623 : BitVec 32 := v1622
  let c1536_i32_794 : BitVec 32 := 1536#32
  let v1634 : BitVec 32 := Scalar.addi v1623 c1536_i32_794
  let v1635 : Index := Scalar.indexCast v1634
  let c0_795 : Index := 0#32
  ![v1635.toNat, 0]

def k0_chk32 (v1604 : BitVec 32) : Prop :=
  (8 ∣ (k0_mult32 v1604).toNat) ∧
  (∀ a, (k0_off63 v1604) a + S520x256.size a ≤ S8192x256.size a)
theorem k0_mult32_dvd : ∀ (v1604 : BitVec 32) (k0_hw32 : k0_chk32 v1604), 8 ∣ (k0_mult32 v1604).toNat := fun v1604 k0_hw32 => k0_hw32.1
theorem k0_off63_inb : ∀ (v1604 : BitVec 32) (k0_hw32 : k0_chk32 v1604), ∀ a, (k0_off63 v1604) a + S520x256.size a ≤ S8192x256.size a := fun v1604 k0_hw32 => k0_hw32.2

def k0_off64 (i : grid0.Coords) : Fin 2 → Nat :=
  let arg0 : BitVec 32 := BitVec.ofNat 32 (i 0).val
  let v1650 : Index := Scalar.indexCast arg0
  let c7_803 : Index := 7#32
  ![v1650.toNat, 7]
def k0_mult33 (v1659 : BitVec 32) : BitVec 32 :=
  let c8_i32_815 : BitVec 32 := 8#32
  let c0_i32_809 : BitVec 32 := 0#32
  let v1661 : BitVec 1 := Scalar.cmpi .sgt v1659 c0_i32_809
  let v1662 : BitVec 32 := Scalar.extui v1661
  let c0_i32_810 : BitVec 32 := 0#32
  let v1663 : BitVec 1 := Scalar.cmpi .slt v1659 c0_i32_810
  let v1664 : BitVec 32 := Scalar.extui v1663
  let v1665 : BitVec 32 := Scalar.subi v1662 v1664
  let c8_i32_808 : BitVec 32 := 8#32
  let c0_i32_811 : BitVec 32 := 0#32
  let v1666 : BitVec 1 := Scalar.cmpi .sgt c8_i32_808 c0_i32_811
  let v1667 : BitVec 32 := Scalar.extui v1666
  let c0_i32_812 : BitVec 32 := 0#32
  let v1668 : BitVec 1 := Scalar.cmpi .slt c8_i32_808 c0_i32_812
  let v1669 : BitVec 32 := Scalar.extui v1668
  let v1670 : BitVec 32 := Scalar.subi v1667 v1669
  let v1671 : BitVec 1 := Scalar.cmpi .ne v1665 v1670
  let v1672 : BitVec 32 := Scalar.remsi v1659 c8_i32_808
  let c0_i32_813 : BitVec 32 := 0#32
  let v1673 : BitVec 1 := Scalar.cmpi .ne v1672 c0_i32_813
  let v1674 : BitVec 1 := Scalar.andi v1671 v1673
  let v1660 : BitVec 32 := Scalar.divsi v1659 c8_i32_808
  let c1_i32_814 : BitVec 32 := 1#32
  let v1675 : BitVec 32 := Scalar.subi v1660 c1_i32_814
  let v1676 : BitVec 32 := Scalar.select v1674 v1675 v1660
  let v1677 : BitVec 32 := Scalar.muli c8_i32_815 v1676
  v1677

def k0_off65 (v1659 : BitVec 32) : Fin 2 → Nat :=
  let c8_i32_815 : BitVec 32 := 8#32
  let c0_i32_809 : BitVec 32 := 0#32
  let v1661 : BitVec 1 := Scalar.cmpi .sgt v1659 c0_i32_809
  let v1662 : BitVec 32 := Scalar.extui v1661
  let c0_i32_810 : BitVec 32 := 0#32
  let v1663 : BitVec 1 := Scalar.cmpi .slt v1659 c0_i32_810
  let v1664 : BitVec 32 := Scalar.extui v1663
  let v1665 : BitVec 32 := Scalar.subi v1662 v1664
  let c8_i32_808 : BitVec 32 := 8#32
  let c0_i32_811 : BitVec 32 := 0#32
  let v1666 : BitVec 1 := Scalar.cmpi .sgt c8_i32_808 c0_i32_811
  let v1667 : BitVec 32 := Scalar.extui v1666
  let c0_i32_812 : BitVec 32 := 0#32
  let v1668 : BitVec 1 := Scalar.cmpi .slt c8_i32_808 c0_i32_812
  let v1669 : BitVec 32 := Scalar.extui v1668
  let v1670 : BitVec 32 := Scalar.subi v1667 v1669
  let v1671 : BitVec 1 := Scalar.cmpi .ne v1665 v1670
  let v1672 : BitVec 32 := Scalar.remsi v1659 c8_i32_808
  let c0_i32_813 : BitVec 32 := 0#32
  let v1673 : BitVec 1 := Scalar.cmpi .ne v1672 c0_i32_813
  let v1674 : BitVec 1 := Scalar.andi v1671 v1673
  let v1660 : BitVec 32 := Scalar.divsi v1659 c8_i32_808
  let c1_i32_814 : BitVec 32 := 1#32
  let v1675 : BitVec 32 := Scalar.subi v1660 c1_i32_814
  let v1676 : BitVec 32 := Scalar.select v1674 v1675 v1660
  let v1677 : BitVec 32 := Scalar.muli c8_i32_815 v1676
  let v1678 : BitVec 32 := v1677
  let c2048_i32 : BitVec 32 := 2048#32
  let v1689 : BitVec 32 := Scalar.addi v1678 c2048_i32
  let v1690 : Index := Scalar.indexCast v1689
  let c0_822 : Index := 0#32
  ![v1690.toNat, 0]

def k0_chk33 (v1659 : BitVec 32) : Prop :=
  (8 ∣ (k0_mult33 v1659).toNat) ∧
  (∀ a, (k0_off65 v1659) a + S520x256.size a ≤ S8192x256.size a)
theorem k0_mult33_dvd : ∀ (v1659 : BitVec 32) (k0_hw33 : k0_chk33 v1659), 8 ∣ (k0_mult33 v1659).toNat := fun v1659 k0_hw33 => k0_hw33.1
theorem k0_off65_inb : ∀ (v1659 : BitVec 32) (k0_hw33 : k0_chk33 v1659), ∀ a, (k0_off65 v1659) a + S520x256.size a ≤ S8192x256.size a := fun v1659 k0_hw33 => k0_hw33.2

def k0_off66 (i : grid0.Coords) : Fin 2 → Nat :=
  let arg0 : BitVec 32 := BitVec.ofNat 32 (i 0).val
  let v1705 : Index := Scalar.indexCast arg0
  let c0_830 : Index := 0#32
  ![v1705.toNat, 0]
def k0_mult34 (v1710 : BitVec 32) : BitVec 32 :=
  let c8_i32_839 : BitVec 32 := 8#32
  let c0_i32_833 : BitVec 32 := 0#32
  let v1712 : BitVec 1 := Scalar.cmpi .sgt v1710 c0_i32_833
  let v1713 : BitVec 32 := Scalar.extui v1712
  let c0_i32_834 : BitVec 32 := 0#32
  let v1714 : BitVec 1 := Scalar.cmpi .slt v1710 c0_i32_834
  let v1715 : BitVec 32 := Scalar.extui v1714
  let v1716 : BitVec 32 := Scalar.subi v1713 v1715
  let c8_i32_832 : BitVec 32 := 8#32
  let c0_i32_835 : BitVec 32 := 0#32
  let v1717 : BitVec 1 := Scalar.cmpi .sgt c8_i32_832 c0_i32_835
  let v1718 : BitVec 32 := Scalar.extui v1717
  let c0_i32_836 : BitVec 32 := 0#32
  let v1719 : BitVec 1 := Scalar.cmpi .slt c8_i32_832 c0_i32_836
  let v1720 : BitVec 32 := Scalar.extui v1719
  let v1721 : BitVec 32 := Scalar.subi v1718 v1720
  let v1722 : BitVec 1 := Scalar.cmpi .ne v1716 v1721
  let v1723 : BitVec 32 := Scalar.remsi v1710 c8_i32_832
  let c0_i32_837 : BitVec 32 := 0#32
  let v1724 : BitVec 1 := Scalar.cmpi .ne v1723 c0_i32_837
  let v1725 : BitVec 1 := Scalar.andi v1722 v1724
  let v1711 : BitVec 32 := Scalar.divsi v1710 c8_i32_832
  let c1_i32_838 : BitVec 32 := 1#32
  let v1726 : BitVec 32 := Scalar.subi v1711 c1_i32_838
  let v1727 : BitVec 32 := Scalar.select v1725 v1726 v1711
  let v1728 : BitVec 32 := Scalar.muli c8_i32_839 v1727
  v1728

def k0_off67 (v1710 : BitVec 32) : Fin 2 → Nat :=
  let c8_i32_839 : BitVec 32 := 8#32
  let c0_i32_833 : BitVec 32 := 0#32
  let v1712 : BitVec 1 := Scalar.cmpi .sgt v1710 c0_i32_833
  let v1713 : BitVec 32 := Scalar.extui v1712
  let c0_i32_834 : BitVec 32 := 0#32
  let v1714 : BitVec 1 := Scalar.cmpi .slt v1710 c0_i32_834
  let v1715 : BitVec 32 := Scalar.extui v1714
  let v1716 : BitVec 32 := Scalar.subi v1713 v1715
  let c8_i32_832 : BitVec 32 := 8#32
  let c0_i32_835 : BitVec 32 := 0#32
  let v1717 : BitVec 1 := Scalar.cmpi .sgt c8_i32_832 c0_i32_835
  let v1718 : BitVec 32 := Scalar.extui v1717
  let c0_i32_836 : BitVec 32 := 0#32
  let v1719 : BitVec 1 := Scalar.cmpi .slt c8_i32_832 c0_i32_836
  let v1720 : BitVec 32 := Scalar.extui v1719
  let v1721 : BitVec 32 := Scalar.subi v1718 v1720
  let v1722 : BitVec 1 := Scalar.cmpi .ne v1716 v1721
  let v1723 : BitVec 32 := Scalar.remsi v1710 c8_i32_832
  let c0_i32_837 : BitVec 32 := 0#32
  let v1724 : BitVec 1 := Scalar.cmpi .ne v1723 c0_i32_837
  let v1725 : BitVec 1 := Scalar.andi v1722 v1724
  let v1711 : BitVec 32 := Scalar.divsi v1710 c8_i32_832
  let c1_i32_838 : BitVec 32 := 1#32
  let v1726 : BitVec 32 := Scalar.subi v1711 c1_i32_838
  let v1727 : BitVec 32 := Scalar.select v1725 v1726 v1711
  let v1728 : BitVec 32 := Scalar.muli c8_i32_839 v1727
  let v1729 : BitVec 32 := v1728
  let c2048_i32_846 : BitVec 32 := 2048#32
  let v1740 : BitVec 32 := Scalar.addi v1729 c2048_i32_846
  let v1741 : Index := Scalar.indexCast v1740
  let c0_847 : Index := 0#32
  ![v1741.toNat, 0]

def k0_chk34 (v1710 : BitVec 32) : Prop :=
  (8 ∣ (k0_mult34 v1710).toNat) ∧
  (∀ a, (k0_off67 v1710) a + S520x256.size a ≤ S8192x256.size a)
theorem k0_mult34_dvd : ∀ (v1710 : BitVec 32) (k0_hw34 : k0_chk34 v1710), 8 ∣ (k0_mult34 v1710).toNat := fun v1710 k0_hw34 => k0_hw34.1
theorem k0_off67_inb : ∀ (v1710 : BitVec 32) (k0_hw34 : k0_chk34 v1710), ∀ a, (k0_off67 v1710) a + S520x256.size a ≤ S8192x256.size a := fun v1710 k0_hw34 => k0_hw34.2

def k0_off68 (i : grid0.Coords) : Fin 2 → Nat :=
  let arg0 : BitVec 32 := BitVec.ofNat 32 (i 0).val
  let v1756 : Index := Scalar.indexCast arg0
  let c1_855 : Index := 1#32
  ![v1756.toNat, 1]
def k0_mult35 (v1761 : BitVec 32) : BitVec 32 :=
  let c8_i32_864 : BitVec 32 := 8#32
  let c0_i32_858 : BitVec 32 := 0#32
  let v1763 : BitVec 1 := Scalar.cmpi .sgt v1761 c0_i32_858
  let v1764 : BitVec 32 := Scalar.extui v1763
  let c0_i32_859 : BitVec 32 := 0#32
  let v1765 : BitVec 1 := Scalar.cmpi .slt v1761 c0_i32_859
  let v1766 : BitVec 32 := Scalar.extui v1765
  let v1767 : BitVec 32 := Scalar.subi v1764 v1766
  let c8_i32_857 : BitVec 32 := 8#32
  let c0_i32_860 : BitVec 32 := 0#32
  let v1768 : BitVec 1 := Scalar.cmpi .sgt c8_i32_857 c0_i32_860
  let v1769 : BitVec 32 := Scalar.extui v1768
  let c0_i32_861 : BitVec 32 := 0#32
  let v1770 : BitVec 1 := Scalar.cmpi .slt c8_i32_857 c0_i32_861
  let v1771 : BitVec 32 := Scalar.extui v1770
  let v1772 : BitVec 32 := Scalar.subi v1769 v1771
  let v1773 : BitVec 1 := Scalar.cmpi .ne v1767 v1772
  let v1774 : BitVec 32 := Scalar.remsi v1761 c8_i32_857
  let c0_i32_862 : BitVec 32 := 0#32
  let v1775 : BitVec 1 := Scalar.cmpi .ne v1774 c0_i32_862
  let v1776 : BitVec 1 := Scalar.andi v1773 v1775
  let v1762 : BitVec 32 := Scalar.divsi v1761 c8_i32_857
  let c1_i32_863 : BitVec 32 := 1#32
  let v1777 : BitVec 32 := Scalar.subi v1762 c1_i32_863
  let v1778 : BitVec 32 := Scalar.select v1776 v1777 v1762
  let v1779 : BitVec 32 := Scalar.muli c8_i32_864 v1778
  v1779

def k0_off69 (v1761 : BitVec 32) : Fin 2 → Nat :=
  let c8_i32_864 : BitVec 32 := 8#32
  let c0_i32_858 : BitVec 32 := 0#32
  let v1763 : BitVec 1 := Scalar.cmpi .sgt v1761 c0_i32_858
  let v1764 : BitVec 32 := Scalar.extui v1763
  let c0_i32_859 : BitVec 32 := 0#32
  let v1765 : BitVec 1 := Scalar.cmpi .slt v1761 c0_i32_859
  let v1766 : BitVec 32 := Scalar.extui v1765
  let v1767 : BitVec 32 := Scalar.subi v1764 v1766
  let c8_i32_857 : BitVec 32 := 8#32
  let c0_i32_860 : BitVec 32 := 0#32
  let v1768 : BitVec 1 := Scalar.cmpi .sgt c8_i32_857 c0_i32_860
  let v1769 : BitVec 32 := Scalar.extui v1768
  let c0_i32_861 : BitVec 32 := 0#32
  let v1770 : BitVec 1 := Scalar.cmpi .slt c8_i32_857 c0_i32_861
  let v1771 : BitVec 32 := Scalar.extui v1770
  let v1772 : BitVec 32 := Scalar.subi v1769 v1771
  let v1773 : BitVec 1 := Scalar.cmpi .ne v1767 v1772
  let v1774 : BitVec 32 := Scalar.remsi v1761 c8_i32_857
  let c0_i32_862 : BitVec 32 := 0#32
  let v1775 : BitVec 1 := Scalar.cmpi .ne v1774 c0_i32_862
  let v1776 : BitVec 1 := Scalar.andi v1773 v1775
  let v1762 : BitVec 32 := Scalar.divsi v1761 c8_i32_857
  let c1_i32_863 : BitVec 32 := 1#32
  let v1777 : BitVec 32 := Scalar.subi v1762 c1_i32_863
  let v1778 : BitVec 32 := Scalar.select v1776 v1777 v1762
  let v1779 : BitVec 32 := Scalar.muli c8_i32_864 v1778
  let v1780 : BitVec 32 := v1779
  let c2048_i32_871 : BitVec 32 := 2048#32
  let v1791 : BitVec 32 := Scalar.addi v1780 c2048_i32_871
  let v1792 : Index := Scalar.indexCast v1791
  let c0_872 : Index := 0#32
  ![v1792.toNat, 0]

def k0_chk35 (v1761 : BitVec 32) : Prop :=
  (8 ∣ (k0_mult35 v1761).toNat) ∧
  (∀ a, (k0_off69 v1761) a + S520x256.size a ≤ S8192x256.size a)
theorem k0_mult35_dvd : ∀ (v1761 : BitVec 32) (k0_hw35 : k0_chk35 v1761), 8 ∣ (k0_mult35 v1761).toNat := fun v1761 k0_hw35 => k0_hw35.1
theorem k0_off69_inb : ∀ (v1761 : BitVec 32) (k0_hw35 : k0_chk35 v1761), ∀ a, (k0_off69 v1761) a + S520x256.size a ≤ S8192x256.size a := fun v1761 k0_hw35 => k0_hw35.2

def k0_off70 (i : grid0.Coords) : Fin 2 → Nat :=
  let arg0 : BitVec 32 := BitVec.ofNat 32 (i 0).val
  let v1807 : Index := Scalar.indexCast arg0
  let c2_880 : Index := 2#32
  ![v1807.toNat, 2]
def k0_mult36 (v1812 : BitVec 32) : BitVec 32 :=
  let c8_i32_889 : BitVec 32 := 8#32
  let c0_i32_883 : BitVec 32 := 0#32
  let v1814 : BitVec 1 := Scalar.cmpi .sgt v1812 c0_i32_883
  let v1815 : BitVec 32 := Scalar.extui v1814
  let c0_i32_884 : BitVec 32 := 0#32
  let v1816 : BitVec 1 := Scalar.cmpi .slt v1812 c0_i32_884
  let v1817 : BitVec 32 := Scalar.extui v1816
  let v1818 : BitVec 32 := Scalar.subi v1815 v1817
  let c8_i32_882 : BitVec 32 := 8#32
  let c0_i32_885 : BitVec 32 := 0#32
  let v1819 : BitVec 1 := Scalar.cmpi .sgt c8_i32_882 c0_i32_885
  let v1820 : BitVec 32 := Scalar.extui v1819
  let c0_i32_886 : BitVec 32 := 0#32
  let v1821 : BitVec 1 := Scalar.cmpi .slt c8_i32_882 c0_i32_886
  let v1822 : BitVec 32 := Scalar.extui v1821
  let v1823 : BitVec 32 := Scalar.subi v1820 v1822
  let v1824 : BitVec 1 := Scalar.cmpi .ne v1818 v1823
  let v1825 : BitVec 32 := Scalar.remsi v1812 c8_i32_882
  let c0_i32_887 : BitVec 32 := 0#32
  let v1826 : BitVec 1 := Scalar.cmpi .ne v1825 c0_i32_887
  let v1827 : BitVec 1 := Scalar.andi v1824 v1826
  let v1813 : BitVec 32 := Scalar.divsi v1812 c8_i32_882
  let c1_i32_888 : BitVec 32 := 1#32
  let v1828 : BitVec 32 := Scalar.subi v1813 c1_i32_888
  let v1829 : BitVec 32 := Scalar.select v1827 v1828 v1813
  let v1830 : BitVec 32 := Scalar.muli c8_i32_889 v1829
  v1830

def k0_off71 (v1812 : BitVec 32) : Fin 2 → Nat :=
  let c8_i32_889 : BitVec 32 := 8#32
  let c0_i32_883 : BitVec 32 := 0#32
  let v1814 : BitVec 1 := Scalar.cmpi .sgt v1812 c0_i32_883
  let v1815 : BitVec 32 := Scalar.extui v1814
  let c0_i32_884 : BitVec 32 := 0#32
  let v1816 : BitVec 1 := Scalar.cmpi .slt v1812 c0_i32_884
  let v1817 : BitVec 32 := Scalar.extui v1816
  let v1818 : BitVec 32 := Scalar.subi v1815 v1817
  let c8_i32_882 : BitVec 32 := 8#32
  let c0_i32_885 : BitVec 32 := 0#32
  let v1819 : BitVec 1 := Scalar.cmpi .sgt c8_i32_882 c0_i32_885
  let v1820 : BitVec 32 := Scalar.extui v1819
  let c0_i32_886 : BitVec 32 := 0#32
  let v1821 : BitVec 1 := Scalar.cmpi .slt c8_i32_882 c0_i32_886
  let v1822 : BitVec 32 := Scalar.extui v1821
  let v1823 : BitVec 32 := Scalar.subi v1820 v1822
  let v1824 : BitVec 1 := Scalar.cmpi .ne v1818 v1823
  let v1825 : BitVec 32 := Scalar.remsi v1812 c8_i32_882
  let c0_i32_887 : BitVec 32 := 0#32
  let v1826 : BitVec 1 := Scalar.cmpi .ne v1825 c0_i32_887
  let v1827 : BitVec 1 := Scalar.andi v1824 v1826
  let v1813 : BitVec 32 := Scalar.divsi v1812 c8_i32_882
  let c1_i32_888 : BitVec 32 := 1#32
  let v1828 : BitVec 32 := Scalar.subi v1813 c1_i32_888
  let v1829 : BitVec 32 := Scalar.select v1827 v1828 v1813
  let v1830 : BitVec 32 := Scalar.muli c8_i32_889 v1829
  let v1831 : BitVec 32 := v1830
  let c2048_i32_896 : BitVec 32 := 2048#32
  let v1842 : BitVec 32 := Scalar.addi v1831 c2048_i32_896
  let v1843 : Index := Scalar.indexCast v1842
  let c0_897 : Index := 0#32
  ![v1843.toNat, 0]

def k0_chk36 (v1812 : BitVec 32) : Prop :=
  (8 ∣ (k0_mult36 v1812).toNat) ∧
  (∀ a, (k0_off71 v1812) a + S520x256.size a ≤ S8192x256.size a)
theorem k0_mult36_dvd : ∀ (v1812 : BitVec 32) (k0_hw36 : k0_chk36 v1812), 8 ∣ (k0_mult36 v1812).toNat := fun v1812 k0_hw36 => k0_hw36.1
theorem k0_off71_inb : ∀ (v1812 : BitVec 32) (k0_hw36 : k0_chk36 v1812), ∀ a, (k0_off71 v1812) a + S520x256.size a ≤ S8192x256.size a := fun v1812 k0_hw36 => k0_hw36.2

def k0_off72 (i : grid0.Coords) : Fin 2 → Nat :=
  let arg0 : BitVec 32 := BitVec.ofNat 32 (i 0).val
  let v1858 : Index := Scalar.indexCast arg0
  let c3_905 : Index := 3#32
  ![v1858.toNat, 3]
def k0_mult37 (v1863 : BitVec 32) : BitVec 32 :=
  let c8_i32_914 : BitVec 32 := 8#32
  let c0_i32_908 : BitVec 32 := 0#32
  let v1865 : BitVec 1 := Scalar.cmpi .sgt v1863 c0_i32_908
  let v1866 : BitVec 32 := Scalar.extui v1865
  let c0_i32_909 : BitVec 32 := 0#32
  let v1867 : BitVec 1 := Scalar.cmpi .slt v1863 c0_i32_909
  let v1868 : BitVec 32 := Scalar.extui v1867
  let v1869 : BitVec 32 := Scalar.subi v1866 v1868
  let c8_i32_907 : BitVec 32 := 8#32
  let c0_i32_910 : BitVec 32 := 0#32
  let v1870 : BitVec 1 := Scalar.cmpi .sgt c8_i32_907 c0_i32_910
  let v1871 : BitVec 32 := Scalar.extui v1870
  let c0_i32_911 : BitVec 32 := 0#32
  let v1872 : BitVec 1 := Scalar.cmpi .slt c8_i32_907 c0_i32_911
  let v1873 : BitVec 32 := Scalar.extui v1872
  let v1874 : BitVec 32 := Scalar.subi v1871 v1873
  let v1875 : BitVec 1 := Scalar.cmpi .ne v1869 v1874
  let v1876 : BitVec 32 := Scalar.remsi v1863 c8_i32_907
  let c0_i32_912 : BitVec 32 := 0#32
  let v1877 : BitVec 1 := Scalar.cmpi .ne v1876 c0_i32_912
  let v1878 : BitVec 1 := Scalar.andi v1875 v1877
  let v1864 : BitVec 32 := Scalar.divsi v1863 c8_i32_907
  let c1_i32_913 : BitVec 32 := 1#32
  let v1879 : BitVec 32 := Scalar.subi v1864 c1_i32_913
  let v1880 : BitVec 32 := Scalar.select v1878 v1879 v1864
  let v1881 : BitVec 32 := Scalar.muli c8_i32_914 v1880
  v1881

def k0_off73 (v1863 : BitVec 32) : Fin 2 → Nat :=
  let c8_i32_914 : BitVec 32 := 8#32
  let c0_i32_908 : BitVec 32 := 0#32
  let v1865 : BitVec 1 := Scalar.cmpi .sgt v1863 c0_i32_908
  let v1866 : BitVec 32 := Scalar.extui v1865
  let c0_i32_909 : BitVec 32 := 0#32
  let v1867 : BitVec 1 := Scalar.cmpi .slt v1863 c0_i32_909
  let v1868 : BitVec 32 := Scalar.extui v1867
  let v1869 : BitVec 32 := Scalar.subi v1866 v1868
  let c8_i32_907 : BitVec 32 := 8#32
  let c0_i32_910 : BitVec 32 := 0#32
  let v1870 : BitVec 1 := Scalar.cmpi .sgt c8_i32_907 c0_i32_910
  let v1871 : BitVec 32 := Scalar.extui v1870
  let c0_i32_911 : BitVec 32 := 0#32
  let v1872 : BitVec 1 := Scalar.cmpi .slt c8_i32_907 c0_i32_911
  let v1873 : BitVec 32 := Scalar.extui v1872
  let v1874 : BitVec 32 := Scalar.subi v1871 v1873
  let v1875 : BitVec 1 := Scalar.cmpi .ne v1869 v1874
  let v1876 : BitVec 32 := Scalar.remsi v1863 c8_i32_907
  let c0_i32_912 : BitVec 32 := 0#32
  let v1877 : BitVec 1 := Scalar.cmpi .ne v1876 c0_i32_912
  let v1878 : BitVec 1 := Scalar.andi v1875 v1877
  let v1864 : BitVec 32 := Scalar.divsi v1863 c8_i32_907
  let c1_i32_913 : BitVec 32 := 1#32
  let v1879 : BitVec 32 := Scalar.subi v1864 c1_i32_913
  let v1880 : BitVec 32 := Scalar.select v1878 v1879 v1864
  let v1881 : BitVec 32 := Scalar.muli c8_i32_914 v1880
  let v1882 : BitVec 32 := v1881
  let c2048_i32_921 : BitVec 32 := 2048#32
  let v1893 : BitVec 32 := Scalar.addi v1882 c2048_i32_921
  let v1894 : Index := Scalar.indexCast v1893
  let c0_922 : Index := 0#32
  ![v1894.toNat, 0]

def k0_chk37 (v1863 : BitVec 32) : Prop :=
  (8 ∣ (k0_mult37 v1863).toNat) ∧
  (∀ a, (k0_off73 v1863) a + S520x256.size a ≤ S8192x256.size a)
theorem k0_mult37_dvd : ∀ (v1863 : BitVec 32) (k0_hw37 : k0_chk37 v1863), 8 ∣ (k0_mult37 v1863).toNat := fun v1863 k0_hw37 => k0_hw37.1
theorem k0_off73_inb : ∀ (v1863 : BitVec 32) (k0_hw37 : k0_chk37 v1863), ∀ a, (k0_off73 v1863) a + S520x256.size a ≤ S8192x256.size a := fun v1863 k0_hw37 => k0_hw37.2

def k0_off74 (i : grid0.Coords) : Fin 2 → Nat :=
  let arg0 : BitVec 32 := BitVec.ofNat 32 (i 0).val
  let v1909 : Index := Scalar.indexCast arg0
  let c4_930 : Index := 4#32
  ![v1909.toNat, 4]
def k0_mult38 (v1914 : BitVec 32) : BitVec 32 :=
  let c8_i32_939 : BitVec 32 := 8#32
  let c0_i32_933 : BitVec 32 := 0#32
  let v1916 : BitVec 1 := Scalar.cmpi .sgt v1914 c0_i32_933
  let v1917 : BitVec 32 := Scalar.extui v1916
  let c0_i32_934 : BitVec 32 := 0#32
  let v1918 : BitVec 1 := Scalar.cmpi .slt v1914 c0_i32_934
  let v1919 : BitVec 32 := Scalar.extui v1918
  let v1920 : BitVec 32 := Scalar.subi v1917 v1919
  let c8_i32_932 : BitVec 32 := 8#32
  let c0_i32_935 : BitVec 32 := 0#32
  let v1921 : BitVec 1 := Scalar.cmpi .sgt c8_i32_932 c0_i32_935
  let v1922 : BitVec 32 := Scalar.extui v1921
  let c0_i32_936 : BitVec 32 := 0#32
  let v1923 : BitVec 1 := Scalar.cmpi .slt c8_i32_932 c0_i32_936
  let v1924 : BitVec 32 := Scalar.extui v1923
  let v1925 : BitVec 32 := Scalar.subi v1922 v1924
  let v1926 : BitVec 1 := Scalar.cmpi .ne v1920 v1925
  let v1927 : BitVec 32 := Scalar.remsi v1914 c8_i32_932
  let c0_i32_937 : BitVec 32 := 0#32
  let v1928 : BitVec 1 := Scalar.cmpi .ne v1927 c0_i32_937
  let v1929 : BitVec 1 := Scalar.andi v1926 v1928
  let v1915 : BitVec 32 := Scalar.divsi v1914 c8_i32_932
  let c1_i32_938 : BitVec 32 := 1#32
  let v1930 : BitVec 32 := Scalar.subi v1915 c1_i32_938
  let v1931 : BitVec 32 := Scalar.select v1929 v1930 v1915
  let v1932 : BitVec 32 := Scalar.muli c8_i32_939 v1931
  v1932

def k0_off75 (v1914 : BitVec 32) : Fin 2 → Nat :=
  let c8_i32_939 : BitVec 32 := 8#32
  let c0_i32_933 : BitVec 32 := 0#32
  let v1916 : BitVec 1 := Scalar.cmpi .sgt v1914 c0_i32_933
  let v1917 : BitVec 32 := Scalar.extui v1916
  let c0_i32_934 : BitVec 32 := 0#32
  let v1918 : BitVec 1 := Scalar.cmpi .slt v1914 c0_i32_934
  let v1919 : BitVec 32 := Scalar.extui v1918
  let v1920 : BitVec 32 := Scalar.subi v1917 v1919
  let c8_i32_932 : BitVec 32 := 8#32
  let c0_i32_935 : BitVec 32 := 0#32
  let v1921 : BitVec 1 := Scalar.cmpi .sgt c8_i32_932 c0_i32_935
  let v1922 : BitVec 32 := Scalar.extui v1921
  let c0_i32_936 : BitVec 32 := 0#32
  let v1923 : BitVec 1 := Scalar.cmpi .slt c8_i32_932 c0_i32_936
  let v1924 : BitVec 32 := Scalar.extui v1923
  let v1925 : BitVec 32 := Scalar.subi v1922 v1924
  let v1926 : BitVec 1 := Scalar.cmpi .ne v1920 v1925
  let v1927 : BitVec 32 := Scalar.remsi v1914 c8_i32_932
  let c0_i32_937 : BitVec 32 := 0#32
  let v1928 : BitVec 1 := Scalar.cmpi .ne v1927 c0_i32_937
  let v1929 : BitVec 1 := Scalar.andi v1926 v1928
  let v1915 : BitVec 32 := Scalar.divsi v1914 c8_i32_932
  let c1_i32_938 : BitVec 32 := 1#32
  let v1930 : BitVec 32 := Scalar.subi v1915 c1_i32_938
  let v1931 : BitVec 32 := Scalar.select v1929 v1930 v1915
  let v1932 : BitVec 32 := Scalar.muli c8_i32_939 v1931
  let v1933 : BitVec 32 := v1932
  let c2048_i32_946 : BitVec 32 := 2048#32
  let v1944 : BitVec 32 := Scalar.addi v1933 c2048_i32_946
  let v1945 : Index := Scalar.indexCast v1944
  let c0_947 : Index := 0#32
  ![v1945.toNat, 0]

def k0_chk38 (v1914 : BitVec 32) : Prop :=
  (8 ∣ (k0_mult38 v1914).toNat) ∧
  (∀ a, (k0_off75 v1914) a + S520x256.size a ≤ S8192x256.size a)
theorem k0_mult38_dvd : ∀ (v1914 : BitVec 32) (k0_hw38 : k0_chk38 v1914), 8 ∣ (k0_mult38 v1914).toNat := fun v1914 k0_hw38 => k0_hw38.1
theorem k0_off75_inb : ∀ (v1914 : BitVec 32) (k0_hw38 : k0_chk38 v1914), ∀ a, (k0_off75 v1914) a + S520x256.size a ≤ S8192x256.size a := fun v1914 k0_hw38 => k0_hw38.2

def k0_off76 (i : grid0.Coords) : Fin 2 → Nat :=
  let arg0 : BitVec 32 := BitVec.ofNat 32 (i 0).val
  let v1960 : Index := Scalar.indexCast arg0
  let c5_955 : Index := 5#32
  ![v1960.toNat, 5]
def k0_mult39 (v1965 : BitVec 32) : BitVec 32 :=
  let c8_i32_964 : BitVec 32 := 8#32
  let c0_i32_958 : BitVec 32 := 0#32
  let v1967 : BitVec 1 := Scalar.cmpi .sgt v1965 c0_i32_958
  let v1968 : BitVec 32 := Scalar.extui v1967
  let c0_i32_959 : BitVec 32 := 0#32
  let v1969 : BitVec 1 := Scalar.cmpi .slt v1965 c0_i32_959
  let v1970 : BitVec 32 := Scalar.extui v1969
  let v1971 : BitVec 32 := Scalar.subi v1968 v1970
  let c8_i32_957 : BitVec 32 := 8#32
  let c0_i32_960 : BitVec 32 := 0#32
  let v1972 : BitVec 1 := Scalar.cmpi .sgt c8_i32_957 c0_i32_960
  let v1973 : BitVec 32 := Scalar.extui v1972
  let c0_i32_961 : BitVec 32 := 0#32
  let v1974 : BitVec 1 := Scalar.cmpi .slt c8_i32_957 c0_i32_961
  let v1975 : BitVec 32 := Scalar.extui v1974
  let v1976 : BitVec 32 := Scalar.subi v1973 v1975
  let v1977 : BitVec 1 := Scalar.cmpi .ne v1971 v1976
  let v1978 : BitVec 32 := Scalar.remsi v1965 c8_i32_957
  let c0_i32_962 : BitVec 32 := 0#32
  let v1979 : BitVec 1 := Scalar.cmpi .ne v1978 c0_i32_962
  let v1980 : BitVec 1 := Scalar.andi v1977 v1979
  let v1966 : BitVec 32 := Scalar.divsi v1965 c8_i32_957
  let c1_i32_963 : BitVec 32 := 1#32
  let v1981 : BitVec 32 := Scalar.subi v1966 c1_i32_963
  let v1982 : BitVec 32 := Scalar.select v1980 v1981 v1966
  let v1983 : BitVec 32 := Scalar.muli c8_i32_964 v1982
  v1983

def k0_off77 (v1965 : BitVec 32) : Fin 2 → Nat :=
  let c8_i32_964 : BitVec 32 := 8#32
  let c0_i32_958 : BitVec 32 := 0#32
  let v1967 : BitVec 1 := Scalar.cmpi .sgt v1965 c0_i32_958
  let v1968 : BitVec 32 := Scalar.extui v1967
  let c0_i32_959 : BitVec 32 := 0#32
  let v1969 : BitVec 1 := Scalar.cmpi .slt v1965 c0_i32_959
  let v1970 : BitVec 32 := Scalar.extui v1969
  let v1971 : BitVec 32 := Scalar.subi v1968 v1970
  let c8_i32_957 : BitVec 32 := 8#32
  let c0_i32_960 : BitVec 32 := 0#32
  let v1972 : BitVec 1 := Scalar.cmpi .sgt c8_i32_957 c0_i32_960
  let v1973 : BitVec 32 := Scalar.extui v1972
  let c0_i32_961 : BitVec 32 := 0#32
  let v1974 : BitVec 1 := Scalar.cmpi .slt c8_i32_957 c0_i32_961
  let v1975 : BitVec 32 := Scalar.extui v1974
  let v1976 : BitVec 32 := Scalar.subi v1973 v1975
  let v1977 : BitVec 1 := Scalar.cmpi .ne v1971 v1976
  let v1978 : BitVec 32 := Scalar.remsi v1965 c8_i32_957
  let c0_i32_962 : BitVec 32 := 0#32
  let v1979 : BitVec 1 := Scalar.cmpi .ne v1978 c0_i32_962
  let v1980 : BitVec 1 := Scalar.andi v1977 v1979
  let v1966 : BitVec 32 := Scalar.divsi v1965 c8_i32_957
  let c1_i32_963 : BitVec 32 := 1#32
  let v1981 : BitVec 32 := Scalar.subi v1966 c1_i32_963
  let v1982 : BitVec 32 := Scalar.select v1980 v1981 v1966
  let v1983 : BitVec 32 := Scalar.muli c8_i32_964 v1982
  let v1984 : BitVec 32 := v1983
  let c2048_i32_971 : BitVec 32 := 2048#32
  let v1995 : BitVec 32 := Scalar.addi v1984 c2048_i32_971
  let v1996 : Index := Scalar.indexCast v1995
  let c0_972 : Index := 0#32
  ![v1996.toNat, 0]

def k0_chk39 (v1965 : BitVec 32) : Prop :=
  (8 ∣ (k0_mult39 v1965).toNat) ∧
  (∀ a, (k0_off77 v1965) a + S520x256.size a ≤ S8192x256.size a)
theorem k0_mult39_dvd : ∀ (v1965 : BitVec 32) (k0_hw39 : k0_chk39 v1965), 8 ∣ (k0_mult39 v1965).toNat := fun v1965 k0_hw39 => k0_hw39.1
theorem k0_off77_inb : ∀ (v1965 : BitVec 32) (k0_hw39 : k0_chk39 v1965), ∀ a, (k0_off77 v1965) a + S520x256.size a ≤ S8192x256.size a := fun v1965 k0_hw39 => k0_hw39.2

def k0_off78 (i : grid0.Coords) : Fin 2 → Nat :=
  let arg0 : BitVec 32 := BitVec.ofNat 32 (i 0).val
  let v2011 : Index := Scalar.indexCast arg0
  let c6_980 : Index := 6#32
  ![v2011.toNat, 6]
def k0_mult40 (v2016 : BitVec 32) : BitVec 32 :=
  let c8_i32_989 : BitVec 32 := 8#32
  let c0_i32_983 : BitVec 32 := 0#32
  let v2018 : BitVec 1 := Scalar.cmpi .sgt v2016 c0_i32_983
  let v2019 : BitVec 32 := Scalar.extui v2018
  let c0_i32_984 : BitVec 32 := 0#32
  let v2020 : BitVec 1 := Scalar.cmpi .slt v2016 c0_i32_984
  let v2021 : BitVec 32 := Scalar.extui v2020
  let v2022 : BitVec 32 := Scalar.subi v2019 v2021
  let c8_i32_982 : BitVec 32 := 8#32
  let c0_i32_985 : BitVec 32 := 0#32
  let v2023 : BitVec 1 := Scalar.cmpi .sgt c8_i32_982 c0_i32_985
  let v2024 : BitVec 32 := Scalar.extui v2023
  let c0_i32_986 : BitVec 32 := 0#32
  let v2025 : BitVec 1 := Scalar.cmpi .slt c8_i32_982 c0_i32_986
  let v2026 : BitVec 32 := Scalar.extui v2025
  let v2027 : BitVec 32 := Scalar.subi v2024 v2026
  let v2028 : BitVec 1 := Scalar.cmpi .ne v2022 v2027
  let v2029 : BitVec 32 := Scalar.remsi v2016 c8_i32_982
  let c0_i32_987 : BitVec 32 := 0#32
  let v2030 : BitVec 1 := Scalar.cmpi .ne v2029 c0_i32_987
  let v2031 : BitVec 1 := Scalar.andi v2028 v2030
  let v2017 : BitVec 32 := Scalar.divsi v2016 c8_i32_982
  let c1_i32_988 : BitVec 32 := 1#32
  let v2032 : BitVec 32 := Scalar.subi v2017 c1_i32_988
  let v2033 : BitVec 32 := Scalar.select v2031 v2032 v2017
  let v2034 : BitVec 32 := Scalar.muli c8_i32_989 v2033
  v2034

def k0_off79 (v2016 : BitVec 32) : Fin 2 → Nat :=
  let c8_i32_989 : BitVec 32 := 8#32
  let c0_i32_983 : BitVec 32 := 0#32
  let v2018 : BitVec 1 := Scalar.cmpi .sgt v2016 c0_i32_983
  let v2019 : BitVec 32 := Scalar.extui v2018
  let c0_i32_984 : BitVec 32 := 0#32
  let v2020 : BitVec 1 := Scalar.cmpi .slt v2016 c0_i32_984
  let v2021 : BitVec 32 := Scalar.extui v2020
  let v2022 : BitVec 32 := Scalar.subi v2019 v2021
  let c8_i32_982 : BitVec 32 := 8#32
  let c0_i32_985 : BitVec 32 := 0#32
  let v2023 : BitVec 1 := Scalar.cmpi .sgt c8_i32_982 c0_i32_985
  let v2024 : BitVec 32 := Scalar.extui v2023
  let c0_i32_986 : BitVec 32 := 0#32
  let v2025 : BitVec 1 := Scalar.cmpi .slt c8_i32_982 c0_i32_986
  let v2026 : BitVec 32 := Scalar.extui v2025
  let v2027 : BitVec 32 := Scalar.subi v2024 v2026
  let v2028 : BitVec 1 := Scalar.cmpi .ne v2022 v2027
  let v2029 : BitVec 32 := Scalar.remsi v2016 c8_i32_982
  let c0_i32_987 : BitVec 32 := 0#32
  let v2030 : BitVec 1 := Scalar.cmpi .ne v2029 c0_i32_987
  let v2031 : BitVec 1 := Scalar.andi v2028 v2030
  let v2017 : BitVec 32 := Scalar.divsi v2016 c8_i32_982
  let c1_i32_988 : BitVec 32 := 1#32
  let v2032 : BitVec 32 := Scalar.subi v2017 c1_i32_988
  let v2033 : BitVec 32 := Scalar.select v2031 v2032 v2017
  let v2034 : BitVec 32 := Scalar.muli c8_i32_989 v2033
  let v2035 : BitVec 32 := v2034
  let c2048_i32_996 : BitVec 32 := 2048#32
  let v2046 : BitVec 32 := Scalar.addi v2035 c2048_i32_996
  let v2047 : Index := Scalar.indexCast v2046
  let c0_997 : Index := 0#32
  ![v2047.toNat, 0]

def k0_chk40 (v2016 : BitVec 32) : Prop :=
  (8 ∣ (k0_mult40 v2016).toNat) ∧
  (∀ a, (k0_off79 v2016) a + S520x256.size a ≤ S8192x256.size a)
theorem k0_mult40_dvd : ∀ (v2016 : BitVec 32) (k0_hw40 : k0_chk40 v2016), 8 ∣ (k0_mult40 v2016).toNat := fun v2016 k0_hw40 => k0_hw40.1
theorem k0_off79_inb : ∀ (v2016 : BitVec 32) (k0_hw40 : k0_chk40 v2016), ∀ a, (k0_off79 v2016) a + S520x256.size a ≤ S8192x256.size a := fun v2016 k0_hw40 => k0_hw40.2

def k0_off80 (i : grid0.Coords) : Fin 2 → Nat :=
  let arg0 : BitVec 32 := BitVec.ofNat 32 (i 0).val
  let v2062 : Index := Scalar.indexCast arg0
  let c7_1005 : Index := 7#32
  ![v2062.toNat, 7]
def k0_mult41 (v2071 : BitVec 32) : BitVec 32 :=
  let c8_i32_1017 : BitVec 32 := 8#32
  let c0_i32_1011 : BitVec 32 := 0#32
  let v2073 : BitVec 1 := Scalar.cmpi .sgt v2071 c0_i32_1011
  let v2074 : BitVec 32 := Scalar.extui v2073
  let c0_i32_1012 : BitVec 32 := 0#32
  let v2075 : BitVec 1 := Scalar.cmpi .slt v2071 c0_i32_1012
  let v2076 : BitVec 32 := Scalar.extui v2075
  let v2077 : BitVec 32 := Scalar.subi v2074 v2076
  let c8_i32_1010 : BitVec 32 := 8#32
  let c0_i32_1013 : BitVec 32 := 0#32
  let v2078 : BitVec 1 := Scalar.cmpi .sgt c8_i32_1010 c0_i32_1013
  let v2079 : BitVec 32 := Scalar.extui v2078
  let c0_i32_1014 : BitVec 32 := 0#32
  let v2080 : BitVec 1 := Scalar.cmpi .slt c8_i32_1010 c0_i32_1014
  let v2081 : BitVec 32 := Scalar.extui v2080
  let v2082 : BitVec 32 := Scalar.subi v2079 v2081
  let v2083 : BitVec 1 := Scalar.cmpi .ne v2077 v2082
  let v2084 : BitVec 32 := Scalar.remsi v2071 c8_i32_1010
  let c0_i32_1015 : BitVec 32 := 0#32
  let v2085 : BitVec 1 := Scalar.cmpi .ne v2084 c0_i32_1015
  let v2086 : BitVec 1 := Scalar.andi v2083 v2085
  let v2072 : BitVec 32 := Scalar.divsi v2071 c8_i32_1010
  let c1_i32_1016 : BitVec 32 := 1#32
  let v2087 : BitVec 32 := Scalar.subi v2072 c1_i32_1016
  let v2088 : BitVec 32 := Scalar.select v2086 v2087 v2072
  let v2089 : BitVec 32 := Scalar.muli c8_i32_1017 v2088
  v2089

def k0_off81 (v2071 : BitVec 32) : Fin 2 → Nat :=
  let c8_i32_1017 : BitVec 32 := 8#32
  let c0_i32_1011 : BitVec 32 := 0#32
  let v2073 : BitVec 1 := Scalar.cmpi .sgt v2071 c0_i32_1011
  let v2074 : BitVec 32 := Scalar.extui v2073
  let c0_i32_1012 : BitVec 32 := 0#32
  let v2075 : BitVec 1 := Scalar.cmpi .slt v2071 c0_i32_1012
  let v2076 : BitVec 32 := Scalar.extui v2075
  let v2077 : BitVec 32 := Scalar.subi v2074 v2076
  let c8_i32_1010 : BitVec 32 := 8#32
  let c0_i32_1013 : BitVec 32 := 0#32
  let v2078 : BitVec 1 := Scalar.cmpi .sgt c8_i32_1010 c0_i32_1013
  let v2079 : BitVec 32 := Scalar.extui v2078
  let c0_i32_1014 : BitVec 32 := 0#32
  let v2080 : BitVec 1 := Scalar.cmpi .slt c8_i32_1010 c0_i32_1014
  let v2081 : BitVec 32 := Scalar.extui v2080
  let v2082 : BitVec 32 := Scalar.subi v2079 v2081
  let v2083 : BitVec 1 := Scalar.cmpi .ne v2077 v2082
  let v2084 : BitVec 32 := Scalar.remsi v2071 c8_i32_1010
  let c0_i32_1015 : BitVec 32 := 0#32
  let v2085 : BitVec 1 := Scalar.cmpi .ne v2084 c0_i32_1015
  let v2086 : BitVec 1 := Scalar.andi v2083 v2085
  let v2072 : BitVec 32 := Scalar.divsi v2071 c8_i32_1010
  let c1_i32_1016 : BitVec 32 := 1#32
  let v2087 : BitVec 32 := Scalar.subi v2072 c1_i32_1016
  let v2088 : BitVec 32 := Scalar.select v2086 v2087 v2072
  let v2089 : BitVec 32 := Scalar.muli c8_i32_1017 v2088
  let v2090 : BitVec 32 := v2089
  let c2560_i32 : BitVec 32 := 2560#32
  let v2101 : BitVec 32 := Scalar.addi v2090 c2560_i32
  let v2102 : Index := Scalar.indexCast v2101
  let c0_1024 : Index := 0#32
  ![v2102.toNat, 0]

def k0_chk41 (v2071 : BitVec 32) : Prop :=
  (8 ∣ (k0_mult41 v2071).toNat) ∧
  (∀ a, (k0_off81 v2071) a + S520x256.size a ≤ S8192x256.size a)
theorem k0_mult41_dvd : ∀ (v2071 : BitVec 32) (k0_hw41 : k0_chk41 v2071), 8 ∣ (k0_mult41 v2071).toNat := fun v2071 k0_hw41 => k0_hw41.1
theorem k0_off81_inb : ∀ (v2071 : BitVec 32) (k0_hw41 : k0_chk41 v2071), ∀ a, (k0_off81 v2071) a + S520x256.size a ≤ S8192x256.size a := fun v2071 k0_hw41 => k0_hw41.2

def k0_off82 (i : grid0.Coords) : Fin 2 → Nat :=
  let arg0 : BitVec 32 := BitVec.ofNat 32 (i 0).val
  let v2117 : Index := Scalar.indexCast arg0
  let c0_1032 : Index := 0#32
  ![v2117.toNat, 0]
def k0_mult42 (v2122 : BitVec 32) : BitVec 32 :=
  let c8_i32_1041 : BitVec 32 := 8#32
  let c0_i32_1035 : BitVec 32 := 0#32
  let v2124 : BitVec 1 := Scalar.cmpi .sgt v2122 c0_i32_1035
  let v2125 : BitVec 32 := Scalar.extui v2124
  let c0_i32_1036 : BitVec 32 := 0#32
  let v2126 : BitVec 1 := Scalar.cmpi .slt v2122 c0_i32_1036
  let v2127 : BitVec 32 := Scalar.extui v2126
  let v2128 : BitVec 32 := Scalar.subi v2125 v2127
  let c8_i32_1034 : BitVec 32 := 8#32
  let c0_i32_1037 : BitVec 32 := 0#32
  let v2129 : BitVec 1 := Scalar.cmpi .sgt c8_i32_1034 c0_i32_1037
  let v2130 : BitVec 32 := Scalar.extui v2129
  let c0_i32_1038 : BitVec 32 := 0#32
  let v2131 : BitVec 1 := Scalar.cmpi .slt c8_i32_1034 c0_i32_1038
  let v2132 : BitVec 32 := Scalar.extui v2131
  let v2133 : BitVec 32 := Scalar.subi v2130 v2132
  let v2134 : BitVec 1 := Scalar.cmpi .ne v2128 v2133
  let v2135 : BitVec 32 := Scalar.remsi v2122 c8_i32_1034
  let c0_i32_1039 : BitVec 32 := 0#32
  let v2136 : BitVec 1 := Scalar.cmpi .ne v2135 c0_i32_1039
  let v2137 : BitVec 1 := Scalar.andi v2134 v2136
  let v2123 : BitVec 32 := Scalar.divsi v2122 c8_i32_1034
  let c1_i32_1040 : BitVec 32 := 1#32
  let v2138 : BitVec 32 := Scalar.subi v2123 c1_i32_1040
  let v2139 : BitVec 32 := Scalar.select v2137 v2138 v2123
  let v2140 : BitVec 32 := Scalar.muli c8_i32_1041 v2139
  v2140

def k0_off83 (v2122 : BitVec 32) : Fin 2 → Nat :=
  let c8_i32_1041 : BitVec 32 := 8#32
  let c0_i32_1035 : BitVec 32 := 0#32
  let v2124 : BitVec 1 := Scalar.cmpi .sgt v2122 c0_i32_1035
  let v2125 : BitVec 32 := Scalar.extui v2124
  let c0_i32_1036 : BitVec 32 := 0#32
  let v2126 : BitVec 1 := Scalar.cmpi .slt v2122 c0_i32_1036
  let v2127 : BitVec 32 := Scalar.extui v2126
  let v2128 : BitVec 32 := Scalar.subi v2125 v2127
  let c8_i32_1034 : BitVec 32 := 8#32
  let c0_i32_1037 : BitVec 32 := 0#32
  let v2129 : BitVec 1 := Scalar.cmpi .sgt c8_i32_1034 c0_i32_1037
  let v2130 : BitVec 32 := Scalar.extui v2129
  let c0_i32_1038 : BitVec 32 := 0#32
  let v2131 : BitVec 1 := Scalar.cmpi .slt c8_i32_1034 c0_i32_1038
  let v2132 : BitVec 32 := Scalar.extui v2131
  let v2133 : BitVec 32 := Scalar.subi v2130 v2132
  let v2134 : BitVec 1 := Scalar.cmpi .ne v2128 v2133
  let v2135 : BitVec 32 := Scalar.remsi v2122 c8_i32_1034
  let c0_i32_1039 : BitVec 32 := 0#32
  let v2136 : BitVec 1 := Scalar.cmpi .ne v2135 c0_i32_1039
  let v2137 : BitVec 1 := Scalar.andi v2134 v2136
  let v2123 : BitVec 32 := Scalar.divsi v2122 c8_i32_1034
  let c1_i32_1040 : BitVec 32 := 1#32
  let v2138 : BitVec 32 := Scalar.subi v2123 c1_i32_1040
  let v2139 : BitVec 32 := Scalar.select v2137 v2138 v2123
  let v2140 : BitVec 32 := Scalar.muli c8_i32_1041 v2139
  let v2141 : BitVec 32 := v2140
  let c2560_i32_1048 : BitVec 32 := 2560#32
  let v2152 : BitVec 32 := Scalar.addi v2141 c2560_i32_1048
  let v2153 : Index := Scalar.indexCast v2152
  let c0_1049 : Index := 0#32
  ![v2153.toNat, 0]

def k0_chk42 (v2122 : BitVec 32) : Prop :=
  (8 ∣ (k0_mult42 v2122).toNat) ∧
  (∀ a, (k0_off83 v2122) a + S520x256.size a ≤ S8192x256.size a)
theorem k0_mult42_dvd : ∀ (v2122 : BitVec 32) (k0_hw42 : k0_chk42 v2122), 8 ∣ (k0_mult42 v2122).toNat := fun v2122 k0_hw42 => k0_hw42.1
theorem k0_off83_inb : ∀ (v2122 : BitVec 32) (k0_hw42 : k0_chk42 v2122), ∀ a, (k0_off83 v2122) a + S520x256.size a ≤ S8192x256.size a := fun v2122 k0_hw42 => k0_hw42.2

def k0_off84 (i : grid0.Coords) : Fin 2 → Nat :=
  let arg0 : BitVec 32 := BitVec.ofNat 32 (i 0).val
  let v2168 : Index := Scalar.indexCast arg0
  let c1_1057 : Index := 1#32
  ![v2168.toNat, 1]
def k0_mult43 (v2173 : BitVec 32) : BitVec 32 :=
  let c8_i32_1066 : BitVec 32 := 8#32
  let c0_i32_1060 : BitVec 32 := 0#32
  let v2175 : BitVec 1 := Scalar.cmpi .sgt v2173 c0_i32_1060
  let v2176 : BitVec 32 := Scalar.extui v2175
  let c0_i32_1061 : BitVec 32 := 0#32
  let v2177 : BitVec 1 := Scalar.cmpi .slt v2173 c0_i32_1061
  let v2178 : BitVec 32 := Scalar.extui v2177
  let v2179 : BitVec 32 := Scalar.subi v2176 v2178
  let c8_i32_1059 : BitVec 32 := 8#32
  let c0_i32_1062 : BitVec 32 := 0#32
  let v2180 : BitVec 1 := Scalar.cmpi .sgt c8_i32_1059 c0_i32_1062
  let v2181 : BitVec 32 := Scalar.extui v2180
  let c0_i32_1063 : BitVec 32 := 0#32
  let v2182 : BitVec 1 := Scalar.cmpi .slt c8_i32_1059 c0_i32_1063
  let v2183 : BitVec 32 := Scalar.extui v2182
  let v2184 : BitVec 32 := Scalar.subi v2181 v2183
  let v2185 : BitVec 1 := Scalar.cmpi .ne v2179 v2184
  let v2186 : BitVec 32 := Scalar.remsi v2173 c8_i32_1059
  let c0_i32_1064 : BitVec 32 := 0#32
  let v2187 : BitVec 1 := Scalar.cmpi .ne v2186 c0_i32_1064
  let v2188 : BitVec 1 := Scalar.andi v2185 v2187
  let v2174 : BitVec 32 := Scalar.divsi v2173 c8_i32_1059
  let c1_i32_1065 : BitVec 32 := 1#32
  let v2189 : BitVec 32 := Scalar.subi v2174 c1_i32_1065
  let v2190 : BitVec 32 := Scalar.select v2188 v2189 v2174
  let v2191 : BitVec 32 := Scalar.muli c8_i32_1066 v2190
  v2191

def k0_off85 (v2173 : BitVec 32) : Fin 2 → Nat :=
  let c8_i32_1066 : BitVec 32 := 8#32
  let c0_i32_1060 : BitVec 32 := 0#32
  let v2175 : BitVec 1 := Scalar.cmpi .sgt v2173 c0_i32_1060
  let v2176 : BitVec 32 := Scalar.extui v2175
  let c0_i32_1061 : BitVec 32 := 0#32
  let v2177 : BitVec 1 := Scalar.cmpi .slt v2173 c0_i32_1061
  let v2178 : BitVec 32 := Scalar.extui v2177
  let v2179 : BitVec 32 := Scalar.subi v2176 v2178
  let c8_i32_1059 : BitVec 32 := 8#32
  let c0_i32_1062 : BitVec 32 := 0#32
  let v2180 : BitVec 1 := Scalar.cmpi .sgt c8_i32_1059 c0_i32_1062
  let v2181 : BitVec 32 := Scalar.extui v2180
  let c0_i32_1063 : BitVec 32 := 0#32
  let v2182 : BitVec 1 := Scalar.cmpi .slt c8_i32_1059 c0_i32_1063
  let v2183 : BitVec 32 := Scalar.extui v2182
  let v2184 : BitVec 32 := Scalar.subi v2181 v2183
  let v2185 : BitVec 1 := Scalar.cmpi .ne v2179 v2184
  let v2186 : BitVec 32 := Scalar.remsi v2173 c8_i32_1059
  let c0_i32_1064 : BitVec 32 := 0#32
  let v2187 : BitVec 1 := Scalar.cmpi .ne v2186 c0_i32_1064
  let v2188 : BitVec 1 := Scalar.andi v2185 v2187
  let v2174 : BitVec 32 := Scalar.divsi v2173 c8_i32_1059
  let c1_i32_1065 : BitVec 32 := 1#32
  let v2189 : BitVec 32 := Scalar.subi v2174 c1_i32_1065
  let v2190 : BitVec 32 := Scalar.select v2188 v2189 v2174
  let v2191 : BitVec 32 := Scalar.muli c8_i32_1066 v2190
  let v2192 : BitVec 32 := v2191
  let c2560_i32_1073 : BitVec 32 := 2560#32
  let v2203 : BitVec 32 := Scalar.addi v2192 c2560_i32_1073
  let v2204 : Index := Scalar.indexCast v2203
  let c0_1074 : Index := 0#32
  ![v2204.toNat, 0]

def k0_chk43 (v2173 : BitVec 32) : Prop :=
  (8 ∣ (k0_mult43 v2173).toNat) ∧
  (∀ a, (k0_off85 v2173) a + S520x256.size a ≤ S8192x256.size a)
theorem k0_mult43_dvd : ∀ (v2173 : BitVec 32) (k0_hw43 : k0_chk43 v2173), 8 ∣ (k0_mult43 v2173).toNat := fun v2173 k0_hw43 => k0_hw43.1
theorem k0_off85_inb : ∀ (v2173 : BitVec 32) (k0_hw43 : k0_chk43 v2173), ∀ a, (k0_off85 v2173) a + S520x256.size a ≤ S8192x256.size a := fun v2173 k0_hw43 => k0_hw43.2

def k0_off86 (i : grid0.Coords) : Fin 2 → Nat :=
  let arg0 : BitVec 32 := BitVec.ofNat 32 (i 0).val
  let v2219 : Index := Scalar.indexCast arg0
  let c2_1082 : Index := 2#32
  ![v2219.toNat, 2]
def k0_mult44 (v2224 : BitVec 32) : BitVec 32 :=
  let c8_i32_1091 : BitVec 32 := 8#32
  let c0_i32_1085 : BitVec 32 := 0#32
  let v2226 : BitVec 1 := Scalar.cmpi .sgt v2224 c0_i32_1085
  let v2227 : BitVec 32 := Scalar.extui v2226
  let c0_i32_1086 : BitVec 32 := 0#32
  let v2228 : BitVec 1 := Scalar.cmpi .slt v2224 c0_i32_1086
  let v2229 : BitVec 32 := Scalar.extui v2228
  let v2230 : BitVec 32 := Scalar.subi v2227 v2229
  let c8_i32_1084 : BitVec 32 := 8#32
  let c0_i32_1087 : BitVec 32 := 0#32
  let v2231 : BitVec 1 := Scalar.cmpi .sgt c8_i32_1084 c0_i32_1087
  let v2232 : BitVec 32 := Scalar.extui v2231
  let c0_i32_1088 : BitVec 32 := 0#32
  let v2233 : BitVec 1 := Scalar.cmpi .slt c8_i32_1084 c0_i32_1088
  let v2234 : BitVec 32 := Scalar.extui v2233
  let v2235 : BitVec 32 := Scalar.subi v2232 v2234
  let v2236 : BitVec 1 := Scalar.cmpi .ne v2230 v2235
  let v2237 : BitVec 32 := Scalar.remsi v2224 c8_i32_1084
  let c0_i32_1089 : BitVec 32 := 0#32
  let v2238 : BitVec 1 := Scalar.cmpi .ne v2237 c0_i32_1089
  let v2239 : BitVec 1 := Scalar.andi v2236 v2238
  let v2225 : BitVec 32 := Scalar.divsi v2224 c8_i32_1084
  let c1_i32_1090 : BitVec 32 := 1#32
  let v2240 : BitVec 32 := Scalar.subi v2225 c1_i32_1090
  let v2241 : BitVec 32 := Scalar.select v2239 v2240 v2225
  let v2242 : BitVec 32 := Scalar.muli c8_i32_1091 v2241
  v2242

def k0_off87 (v2224 : BitVec 32) : Fin 2 → Nat :=
  let c8_i32_1091 : BitVec 32 := 8#32
  let c0_i32_1085 : BitVec 32 := 0#32
  let v2226 : BitVec 1 := Scalar.cmpi .sgt v2224 c0_i32_1085
  let v2227 : BitVec 32 := Scalar.extui v2226
  let c0_i32_1086 : BitVec 32 := 0#32
  let v2228 : BitVec 1 := Scalar.cmpi .slt v2224 c0_i32_1086
  let v2229 : BitVec 32 := Scalar.extui v2228
  let v2230 : BitVec 32 := Scalar.subi v2227 v2229
  let c8_i32_1084 : BitVec 32 := 8#32
  let c0_i32_1087 : BitVec 32 := 0#32
  let v2231 : BitVec 1 := Scalar.cmpi .sgt c8_i32_1084 c0_i32_1087
  let v2232 : BitVec 32 := Scalar.extui v2231
  let c0_i32_1088 : BitVec 32 := 0#32
  let v2233 : BitVec 1 := Scalar.cmpi .slt c8_i32_1084 c0_i32_1088
  let v2234 : BitVec 32 := Scalar.extui v2233
  let v2235 : BitVec 32 := Scalar.subi v2232 v2234
  let v2236 : BitVec 1 := Scalar.cmpi .ne v2230 v2235
  let v2237 : BitVec 32 := Scalar.remsi v2224 c8_i32_1084
  let c0_i32_1089 : BitVec 32 := 0#32
  let v2238 : BitVec 1 := Scalar.cmpi .ne v2237 c0_i32_1089
  let v2239 : BitVec 1 := Scalar.andi v2236 v2238
  let v2225 : BitVec 32 := Scalar.divsi v2224 c8_i32_1084
  let c1_i32_1090 : BitVec 32 := 1#32
  let v2240 : BitVec 32 := Scalar.subi v2225 c1_i32_1090
  let v2241 : BitVec 32 := Scalar.select v2239 v2240 v2225
  let v2242 : BitVec 32 := Scalar.muli c8_i32_1091 v2241
  let v2243 : BitVec 32 := v2242
  let c2560_i32_1098 : BitVec 32 := 2560#32
  let v2254 : BitVec 32 := Scalar.addi v2243 c2560_i32_1098
  let v2255 : Index := Scalar.indexCast v2254
  let c0_1099 : Index := 0#32
  ![v2255.toNat, 0]

def k0_chk44 (v2224 : BitVec 32) : Prop :=
  (8 ∣ (k0_mult44 v2224).toNat) ∧
  (∀ a, (k0_off87 v2224) a + S520x256.size a ≤ S8192x256.size a)
theorem k0_mult44_dvd : ∀ (v2224 : BitVec 32) (k0_hw44 : k0_chk44 v2224), 8 ∣ (k0_mult44 v2224).toNat := fun v2224 k0_hw44 => k0_hw44.1
theorem k0_off87_inb : ∀ (v2224 : BitVec 32) (k0_hw44 : k0_chk44 v2224), ∀ a, (k0_off87 v2224) a + S520x256.size a ≤ S8192x256.size a := fun v2224 k0_hw44 => k0_hw44.2

def k0_off88 (i : grid0.Coords) : Fin 2 → Nat :=
  let arg0 : BitVec 32 := BitVec.ofNat 32 (i 0).val
  let v2270 : Index := Scalar.indexCast arg0
  let c3_1107 : Index := 3#32
  ![v2270.toNat, 3]
def k0_mult45 (v2275 : BitVec 32) : BitVec 32 :=
  let c8_i32_1116 : BitVec 32 := 8#32
  let c0_i32_1110 : BitVec 32 := 0#32
  let v2277 : BitVec 1 := Scalar.cmpi .sgt v2275 c0_i32_1110
  let v2278 : BitVec 32 := Scalar.extui v2277
  let c0_i32_1111 : BitVec 32 := 0#32
  let v2279 : BitVec 1 := Scalar.cmpi .slt v2275 c0_i32_1111
  let v2280 : BitVec 32 := Scalar.extui v2279
  let v2281 : BitVec 32 := Scalar.subi v2278 v2280
  let c8_i32_1109 : BitVec 32 := 8#32
  let c0_i32_1112 : BitVec 32 := 0#32
  let v2282 : BitVec 1 := Scalar.cmpi .sgt c8_i32_1109 c0_i32_1112
  let v2283 : BitVec 32 := Scalar.extui v2282
  let c0_i32_1113 : BitVec 32 := 0#32
  let v2284 : BitVec 1 := Scalar.cmpi .slt c8_i32_1109 c0_i32_1113
  let v2285 : BitVec 32 := Scalar.extui v2284
  let v2286 : BitVec 32 := Scalar.subi v2283 v2285
  let v2287 : BitVec 1 := Scalar.cmpi .ne v2281 v2286
  let v2288 : BitVec 32 := Scalar.remsi v2275 c8_i32_1109
  let c0_i32_1114 : BitVec 32 := 0#32
  let v2289 : BitVec 1 := Scalar.cmpi .ne v2288 c0_i32_1114
  let v2290 : BitVec 1 := Scalar.andi v2287 v2289
  let v2276 : BitVec 32 := Scalar.divsi v2275 c8_i32_1109
  let c1_i32_1115 : BitVec 32 := 1#32
  let v2291 : BitVec 32 := Scalar.subi v2276 c1_i32_1115
  let v2292 : BitVec 32 := Scalar.select v2290 v2291 v2276
  let v2293 : BitVec 32 := Scalar.muli c8_i32_1116 v2292
  v2293

def k0_off89 (v2275 : BitVec 32) : Fin 2 → Nat :=
  let c8_i32_1116 : BitVec 32 := 8#32
  let c0_i32_1110 : BitVec 32 := 0#32
  let v2277 : BitVec 1 := Scalar.cmpi .sgt v2275 c0_i32_1110
  let v2278 : BitVec 32 := Scalar.extui v2277
  let c0_i32_1111 : BitVec 32 := 0#32
  let v2279 : BitVec 1 := Scalar.cmpi .slt v2275 c0_i32_1111
  let v2280 : BitVec 32 := Scalar.extui v2279
  let v2281 : BitVec 32 := Scalar.subi v2278 v2280
  let c8_i32_1109 : BitVec 32 := 8#32
  let c0_i32_1112 : BitVec 32 := 0#32
  let v2282 : BitVec 1 := Scalar.cmpi .sgt c8_i32_1109 c0_i32_1112
  let v2283 : BitVec 32 := Scalar.extui v2282
  let c0_i32_1113 : BitVec 32 := 0#32
  let v2284 : BitVec 1 := Scalar.cmpi .slt c8_i32_1109 c0_i32_1113
  let v2285 : BitVec 32 := Scalar.extui v2284
  let v2286 : BitVec 32 := Scalar.subi v2283 v2285
  let v2287 : BitVec 1 := Scalar.cmpi .ne v2281 v2286
  let v2288 : BitVec 32 := Scalar.remsi v2275 c8_i32_1109
  let c0_i32_1114 : BitVec 32 := 0#32
  let v2289 : BitVec 1 := Scalar.cmpi .ne v2288 c0_i32_1114
  let v2290 : BitVec 1 := Scalar.andi v2287 v2289
  let v2276 : BitVec 32 := Scalar.divsi v2275 c8_i32_1109
  let c1_i32_1115 : BitVec 32 := 1#32
  let v2291 : BitVec 32 := Scalar.subi v2276 c1_i32_1115
  let v2292 : BitVec 32 := Scalar.select v2290 v2291 v2276
  let v2293 : BitVec 32 := Scalar.muli c8_i32_1116 v2292
  let v2294 : BitVec 32 := v2293
  let c2560_i32_1123 : BitVec 32 := 2560#32
  let v2305 : BitVec 32 := Scalar.addi v2294 c2560_i32_1123
  let v2306 : Index := Scalar.indexCast v2305
  let c0_1124 : Index := 0#32
  ![v2306.toNat, 0]

def k0_chk45 (v2275 : BitVec 32) : Prop :=
  (8 ∣ (k0_mult45 v2275).toNat) ∧
  (∀ a, (k0_off89 v2275) a + S520x256.size a ≤ S8192x256.size a)
theorem k0_mult45_dvd : ∀ (v2275 : BitVec 32) (k0_hw45 : k0_chk45 v2275), 8 ∣ (k0_mult45 v2275).toNat := fun v2275 k0_hw45 => k0_hw45.1
theorem k0_off89_inb : ∀ (v2275 : BitVec 32) (k0_hw45 : k0_chk45 v2275), ∀ a, (k0_off89 v2275) a + S520x256.size a ≤ S8192x256.size a := fun v2275 k0_hw45 => k0_hw45.2

def k0_off90 (i : grid0.Coords) : Fin 2 → Nat :=
  let arg0 : BitVec 32 := BitVec.ofNat 32 (i 0).val
  let v2321 : Index := Scalar.indexCast arg0
  let c4_1132 : Index := 4#32
  ![v2321.toNat, 4]
def k0_mult46 (v2326 : BitVec 32) : BitVec 32 :=
  let c8_i32_1141 : BitVec 32 := 8#32
  let c0_i32_1135 : BitVec 32 := 0#32
  let v2328 : BitVec 1 := Scalar.cmpi .sgt v2326 c0_i32_1135
  let v2329 : BitVec 32 := Scalar.extui v2328
  let c0_i32_1136 : BitVec 32 := 0#32
  let v2330 : BitVec 1 := Scalar.cmpi .slt v2326 c0_i32_1136
  let v2331 : BitVec 32 := Scalar.extui v2330
  let v2332 : BitVec 32 := Scalar.subi v2329 v2331
  let c8_i32_1134 : BitVec 32 := 8#32
  let c0_i32_1137 : BitVec 32 := 0#32
  let v2333 : BitVec 1 := Scalar.cmpi .sgt c8_i32_1134 c0_i32_1137
  let v2334 : BitVec 32 := Scalar.extui v2333
  let c0_i32_1138 : BitVec 32 := 0#32
  let v2335 : BitVec 1 := Scalar.cmpi .slt c8_i32_1134 c0_i32_1138
  let v2336 : BitVec 32 := Scalar.extui v2335
  let v2337 : BitVec 32 := Scalar.subi v2334 v2336
  let v2338 : BitVec 1 := Scalar.cmpi .ne v2332 v2337
  let v2339 : BitVec 32 := Scalar.remsi v2326 c8_i32_1134
  let c0_i32_1139 : BitVec 32 := 0#32
  let v2340 : BitVec 1 := Scalar.cmpi .ne v2339 c0_i32_1139
  let v2341 : BitVec 1 := Scalar.andi v2338 v2340
  let v2327 : BitVec 32 := Scalar.divsi v2326 c8_i32_1134
  let c1_i32_1140 : BitVec 32 := 1#32
  let v2342 : BitVec 32 := Scalar.subi v2327 c1_i32_1140
  let v2343 : BitVec 32 := Scalar.select v2341 v2342 v2327
  let v2344 : BitVec 32 := Scalar.muli c8_i32_1141 v2343
  v2344

def k0_off91 (v2326 : BitVec 32) : Fin 2 → Nat :=
  let c8_i32_1141 : BitVec 32 := 8#32
  let c0_i32_1135 : BitVec 32 := 0#32
  let v2328 : BitVec 1 := Scalar.cmpi .sgt v2326 c0_i32_1135
  let v2329 : BitVec 32 := Scalar.extui v2328
  let c0_i32_1136 : BitVec 32 := 0#32
  let v2330 : BitVec 1 := Scalar.cmpi .slt v2326 c0_i32_1136
  let v2331 : BitVec 32 := Scalar.extui v2330
  let v2332 : BitVec 32 := Scalar.subi v2329 v2331
  let c8_i32_1134 : BitVec 32 := 8#32
  let c0_i32_1137 : BitVec 32 := 0#32
  let v2333 : BitVec 1 := Scalar.cmpi .sgt c8_i32_1134 c0_i32_1137
  let v2334 : BitVec 32 := Scalar.extui v2333
  let c0_i32_1138 : BitVec 32 := 0#32
  let v2335 : BitVec 1 := Scalar.cmpi .slt c8_i32_1134 c0_i32_1138
  let v2336 : BitVec 32 := Scalar.extui v2335
  let v2337 : BitVec 32 := Scalar.subi v2334 v2336
  let v2338 : BitVec 1 := Scalar.cmpi .ne v2332 v2337
  let v2339 : BitVec 32 := Scalar.remsi v2326 c8_i32_1134
  let c0_i32_1139 : BitVec 32 := 0#32
  let v2340 : BitVec 1 := Scalar.cmpi .ne v2339 c0_i32_1139
  let v2341 : BitVec 1 := Scalar.andi v2338 v2340
  let v2327 : BitVec 32 := Scalar.divsi v2326 c8_i32_1134
  let c1_i32_1140 : BitVec 32 := 1#32
  let v2342 : BitVec 32 := Scalar.subi v2327 c1_i32_1140
  let v2343 : BitVec 32 := Scalar.select v2341 v2342 v2327
  let v2344 : BitVec 32 := Scalar.muli c8_i32_1141 v2343
  let v2345 : BitVec 32 := v2344
  let c2560_i32_1148 : BitVec 32 := 2560#32
  let v2356 : BitVec 32 := Scalar.addi v2345 c2560_i32_1148
  let v2357 : Index := Scalar.indexCast v2356
  let c0_1149 : Index := 0#32
  ![v2357.toNat, 0]

def k0_chk46 (v2326 : BitVec 32) : Prop :=
  (8 ∣ (k0_mult46 v2326).toNat) ∧
  (∀ a, (k0_off91 v2326) a + S520x256.size a ≤ S8192x256.size a)
theorem k0_mult46_dvd : ∀ (v2326 : BitVec 32) (k0_hw46 : k0_chk46 v2326), 8 ∣ (k0_mult46 v2326).toNat := fun v2326 k0_hw46 => k0_hw46.1
theorem k0_off91_inb : ∀ (v2326 : BitVec 32) (k0_hw46 : k0_chk46 v2326), ∀ a, (k0_off91 v2326) a + S520x256.size a ≤ S8192x256.size a := fun v2326 k0_hw46 => k0_hw46.2

def k0_off92 (i : grid0.Coords) : Fin 2 → Nat :=
  let arg0 : BitVec 32 := BitVec.ofNat 32 (i 0).val
  let v2372 : Index := Scalar.indexCast arg0
  let c5_1157 : Index := 5#32
  ![v2372.toNat, 5]
def k0_mult47 (v2377 : BitVec 32) : BitVec 32 :=
  let c8_i32_1166 : BitVec 32 := 8#32
  let c0_i32_1160 : BitVec 32 := 0#32
  let v2379 : BitVec 1 := Scalar.cmpi .sgt v2377 c0_i32_1160
  let v2380 : BitVec 32 := Scalar.extui v2379
  let c0_i32_1161 : BitVec 32 := 0#32
  let v2381 : BitVec 1 := Scalar.cmpi .slt v2377 c0_i32_1161
  let v2382 : BitVec 32 := Scalar.extui v2381
  let v2383 : BitVec 32 := Scalar.subi v2380 v2382
  let c8_i32_1159 : BitVec 32 := 8#32
  let c0_i32_1162 : BitVec 32 := 0#32
  let v2384 : BitVec 1 := Scalar.cmpi .sgt c8_i32_1159 c0_i32_1162
  let v2385 : BitVec 32 := Scalar.extui v2384
  let c0_i32_1163 : BitVec 32 := 0#32
  let v2386 : BitVec 1 := Scalar.cmpi .slt c8_i32_1159 c0_i32_1163
  let v2387 : BitVec 32 := Scalar.extui v2386
  let v2388 : BitVec 32 := Scalar.subi v2385 v2387
  let v2389 : BitVec 1 := Scalar.cmpi .ne v2383 v2388
  let v2390 : BitVec 32 := Scalar.remsi v2377 c8_i32_1159
  let c0_i32_1164 : BitVec 32 := 0#32
  let v2391 : BitVec 1 := Scalar.cmpi .ne v2390 c0_i32_1164
  let v2392 : BitVec 1 := Scalar.andi v2389 v2391
  let v2378 : BitVec 32 := Scalar.divsi v2377 c8_i32_1159
  let c1_i32_1165 : BitVec 32 := 1#32
  let v2393 : BitVec 32 := Scalar.subi v2378 c1_i32_1165
  let v2394 : BitVec 32 := Scalar.select v2392 v2393 v2378
  let v2395 : BitVec 32 := Scalar.muli c8_i32_1166 v2394
  v2395

def k0_off93 (v2377 : BitVec 32) : Fin 2 → Nat :=
  let c8_i32_1166 : BitVec 32 := 8#32
  let c0_i32_1160 : BitVec 32 := 0#32
  let v2379 : BitVec 1 := Scalar.cmpi .sgt v2377 c0_i32_1160
  let v2380 : BitVec 32 := Scalar.extui v2379
  let c0_i32_1161 : BitVec 32 := 0#32
  let v2381 : BitVec 1 := Scalar.cmpi .slt v2377 c0_i32_1161
  let v2382 : BitVec 32 := Scalar.extui v2381
  let v2383 : BitVec 32 := Scalar.subi v2380 v2382
  let c8_i32_1159 : BitVec 32 := 8#32
  let c0_i32_1162 : BitVec 32 := 0#32
  let v2384 : BitVec 1 := Scalar.cmpi .sgt c8_i32_1159 c0_i32_1162
  let v2385 : BitVec 32 := Scalar.extui v2384
  let c0_i32_1163 : BitVec 32 := 0#32
  let v2386 : BitVec 1 := Scalar.cmpi .slt c8_i32_1159 c0_i32_1163
  let v2387 : BitVec 32 := Scalar.extui v2386
  let v2388 : BitVec 32 := Scalar.subi v2385 v2387
  let v2389 : BitVec 1 := Scalar.cmpi .ne v2383 v2388
  let v2390 : BitVec 32 := Scalar.remsi v2377 c8_i32_1159
  let c0_i32_1164 : BitVec 32 := 0#32
  let v2391 : BitVec 1 := Scalar.cmpi .ne v2390 c0_i32_1164
  let v2392 : BitVec 1 := Scalar.andi v2389 v2391
  let v2378 : BitVec 32 := Scalar.divsi v2377 c8_i32_1159
  let c1_i32_1165 : BitVec 32 := 1#32
  let v2393 : BitVec 32 := Scalar.subi v2378 c1_i32_1165
  let v2394 : BitVec 32 := Scalar.select v2392 v2393 v2378
  let v2395 : BitVec 32 := Scalar.muli c8_i32_1166 v2394
  let v2396 : BitVec 32 := v2395
  let c2560_i32_1173 : BitVec 32 := 2560#32
  let v2407 : BitVec 32 := Scalar.addi v2396 c2560_i32_1173
  let v2408 : Index := Scalar.indexCast v2407
  let c0_1174 : Index := 0#32
  ![v2408.toNat, 0]

def k0_chk47 (v2377 : BitVec 32) : Prop :=
  (8 ∣ (k0_mult47 v2377).toNat) ∧
  (∀ a, (k0_off93 v2377) a + S520x256.size a ≤ S8192x256.size a)
theorem k0_mult47_dvd : ∀ (v2377 : BitVec 32) (k0_hw47 : k0_chk47 v2377), 8 ∣ (k0_mult47 v2377).toNat := fun v2377 k0_hw47 => k0_hw47.1
theorem k0_off93_inb : ∀ (v2377 : BitVec 32) (k0_hw47 : k0_chk47 v2377), ∀ a, (k0_off93 v2377) a + S520x256.size a ≤ S8192x256.size a := fun v2377 k0_hw47 => k0_hw47.2

def k0_off94 (i : grid0.Coords) : Fin 2 → Nat :=
  let arg0 : BitVec 32 := BitVec.ofNat 32 (i 0).val
  let v2423 : Index := Scalar.indexCast arg0
  let c6_1182 : Index := 6#32
  ![v2423.toNat, 6]
def k0_mult48 (v2428 : BitVec 32) : BitVec 32 :=
  let c8_i32_1191 : BitVec 32 := 8#32
  let c0_i32_1185 : BitVec 32 := 0#32
  let v2430 : BitVec 1 := Scalar.cmpi .sgt v2428 c0_i32_1185
  let v2431 : BitVec 32 := Scalar.extui v2430
  let c0_i32_1186 : BitVec 32 := 0#32
  let v2432 : BitVec 1 := Scalar.cmpi .slt v2428 c0_i32_1186
  let v2433 : BitVec 32 := Scalar.extui v2432
  let v2434 : BitVec 32 := Scalar.subi v2431 v2433
  let c8_i32_1184 : BitVec 32 := 8#32
  let c0_i32_1187 : BitVec 32 := 0#32
  let v2435 : BitVec 1 := Scalar.cmpi .sgt c8_i32_1184 c0_i32_1187
  let v2436 : BitVec 32 := Scalar.extui v2435
  let c0_i32_1188 : BitVec 32 := 0#32
  let v2437 : BitVec 1 := Scalar.cmpi .slt c8_i32_1184 c0_i32_1188
  let v2438 : BitVec 32 := Scalar.extui v2437
  let v2439 : BitVec 32 := Scalar.subi v2436 v2438
  let v2440 : BitVec 1 := Scalar.cmpi .ne v2434 v2439
  let v2441 : BitVec 32 := Scalar.remsi v2428 c8_i32_1184
  let c0_i32_1189 : BitVec 32 := 0#32
  let v2442 : BitVec 1 := Scalar.cmpi .ne v2441 c0_i32_1189
  let v2443 : BitVec 1 := Scalar.andi v2440 v2442
  let v2429 : BitVec 32 := Scalar.divsi v2428 c8_i32_1184
  let c1_i32_1190 : BitVec 32 := 1#32
  let v2444 : BitVec 32 := Scalar.subi v2429 c1_i32_1190
  let v2445 : BitVec 32 := Scalar.select v2443 v2444 v2429
  let v2446 : BitVec 32 := Scalar.muli c8_i32_1191 v2445
  v2446

def k0_off95 (v2428 : BitVec 32) : Fin 2 → Nat :=
  let c8_i32_1191 : BitVec 32 := 8#32
  let c0_i32_1185 : BitVec 32 := 0#32
  let v2430 : BitVec 1 := Scalar.cmpi .sgt v2428 c0_i32_1185
  let v2431 : BitVec 32 := Scalar.extui v2430
  let c0_i32_1186 : BitVec 32 := 0#32
  let v2432 : BitVec 1 := Scalar.cmpi .slt v2428 c0_i32_1186
  let v2433 : BitVec 32 := Scalar.extui v2432
  let v2434 : BitVec 32 := Scalar.subi v2431 v2433
  let c8_i32_1184 : BitVec 32 := 8#32
  let c0_i32_1187 : BitVec 32 := 0#32
  let v2435 : BitVec 1 := Scalar.cmpi .sgt c8_i32_1184 c0_i32_1187
  let v2436 : BitVec 32 := Scalar.extui v2435
  let c0_i32_1188 : BitVec 32 := 0#32
  let v2437 : BitVec 1 := Scalar.cmpi .slt c8_i32_1184 c0_i32_1188
  let v2438 : BitVec 32 := Scalar.extui v2437
  let v2439 : BitVec 32 := Scalar.subi v2436 v2438
  let v2440 : BitVec 1 := Scalar.cmpi .ne v2434 v2439
  let v2441 : BitVec 32 := Scalar.remsi v2428 c8_i32_1184
  let c0_i32_1189 : BitVec 32 := 0#32
  let v2442 : BitVec 1 := Scalar.cmpi .ne v2441 c0_i32_1189
  let v2443 : BitVec 1 := Scalar.andi v2440 v2442
  let v2429 : BitVec 32 := Scalar.divsi v2428 c8_i32_1184
  let c1_i32_1190 : BitVec 32 := 1#32
  let v2444 : BitVec 32 := Scalar.subi v2429 c1_i32_1190
  let v2445 : BitVec 32 := Scalar.select v2443 v2444 v2429
  let v2446 : BitVec 32 := Scalar.muli c8_i32_1191 v2445
  let v2447 : BitVec 32 := v2446
  let c2560_i32_1198 : BitVec 32 := 2560#32
  let v2458 : BitVec 32 := Scalar.addi v2447 c2560_i32_1198
  let v2459 : Index := Scalar.indexCast v2458
  let c0_1199 : Index := 0#32
  ![v2459.toNat, 0]

def k0_chk48 (v2428 : BitVec 32) : Prop :=
  (8 ∣ (k0_mult48 v2428).toNat) ∧
  (∀ a, (k0_off95 v2428) a + S520x256.size a ≤ S8192x256.size a)
theorem k0_mult48_dvd : ∀ (v2428 : BitVec 32) (k0_hw48 : k0_chk48 v2428), 8 ∣ (k0_mult48 v2428).toNat := fun v2428 k0_hw48 => k0_hw48.1
theorem k0_off95_inb : ∀ (v2428 : BitVec 32) (k0_hw48 : k0_chk48 v2428), ∀ a, (k0_off95 v2428) a + S520x256.size a ≤ S8192x256.size a := fun v2428 k0_hw48 => k0_hw48.2

def k0_off96 (i : grid0.Coords) : Fin 2 → Nat :=
  let arg0 : BitVec 32 := BitVec.ofNat 32 (i 0).val
  let v2474 : Index := Scalar.indexCast arg0
  let c7_1207 : Index := 7#32
  ![v2474.toNat, 7]
def k0_mult49 (v2483 : BitVec 32) : BitVec 32 :=
  let c8_i32_1219 : BitVec 32 := 8#32
  let c0_i32_1213 : BitVec 32 := 0#32
  let v2485 : BitVec 1 := Scalar.cmpi .sgt v2483 c0_i32_1213
  let v2486 : BitVec 32 := Scalar.extui v2485
  let c0_i32_1214 : BitVec 32 := 0#32
  let v2487 : BitVec 1 := Scalar.cmpi .slt v2483 c0_i32_1214
  let v2488 : BitVec 32 := Scalar.extui v2487
  let v2489 : BitVec 32 := Scalar.subi v2486 v2488
  let c8_i32_1212 : BitVec 32 := 8#32
  let c0_i32_1215 : BitVec 32 := 0#32
  let v2490 : BitVec 1 := Scalar.cmpi .sgt c8_i32_1212 c0_i32_1215
  let v2491 : BitVec 32 := Scalar.extui v2490
  let c0_i32_1216 : BitVec 32 := 0#32
  let v2492 : BitVec 1 := Scalar.cmpi .slt c8_i32_1212 c0_i32_1216
  let v2493 : BitVec 32 := Scalar.extui v2492
  let v2494 : BitVec 32 := Scalar.subi v2491 v2493
  let v2495 : BitVec 1 := Scalar.cmpi .ne v2489 v2494
  let v2496 : BitVec 32 := Scalar.remsi v2483 c8_i32_1212
  let c0_i32_1217 : BitVec 32 := 0#32
  let v2497 : BitVec 1 := Scalar.cmpi .ne v2496 c0_i32_1217
  let v2498 : BitVec 1 := Scalar.andi v2495 v2497
  let v2484 : BitVec 32 := Scalar.divsi v2483 c8_i32_1212
  let c1_i32_1218 : BitVec 32 := 1#32
  let v2499 : BitVec 32 := Scalar.subi v2484 c1_i32_1218
  let v2500 : BitVec 32 := Scalar.select v2498 v2499 v2484
  let v2501 : BitVec 32 := Scalar.muli c8_i32_1219 v2500
  v2501

def k0_off97 (v2483 : BitVec 32) : Fin 2 → Nat :=
  let c8_i32_1219 : BitVec 32 := 8#32
  let c0_i32_1213 : BitVec 32 := 0#32
  let v2485 : BitVec 1 := Scalar.cmpi .sgt v2483 c0_i32_1213
  let v2486 : BitVec 32 := Scalar.extui v2485
  let c0_i32_1214 : BitVec 32 := 0#32
  let v2487 : BitVec 1 := Scalar.cmpi .slt v2483 c0_i32_1214
  let v2488 : BitVec 32 := Scalar.extui v2487
  let v2489 : BitVec 32 := Scalar.subi v2486 v2488
  let c8_i32_1212 : BitVec 32 := 8#32
  let c0_i32_1215 : BitVec 32 := 0#32
  let v2490 : BitVec 1 := Scalar.cmpi .sgt c8_i32_1212 c0_i32_1215
  let v2491 : BitVec 32 := Scalar.extui v2490
  let c0_i32_1216 : BitVec 32 := 0#32
  let v2492 : BitVec 1 := Scalar.cmpi .slt c8_i32_1212 c0_i32_1216
  let v2493 : BitVec 32 := Scalar.extui v2492
  let v2494 : BitVec 32 := Scalar.subi v2491 v2493
  let v2495 : BitVec 1 := Scalar.cmpi .ne v2489 v2494
  let v2496 : BitVec 32 := Scalar.remsi v2483 c8_i32_1212
  let c0_i32_1217 : BitVec 32 := 0#32
  let v2497 : BitVec 1 := Scalar.cmpi .ne v2496 c0_i32_1217
  let v2498 : BitVec 1 := Scalar.andi v2495 v2497
  let v2484 : BitVec 32 := Scalar.divsi v2483 c8_i32_1212
  let c1_i32_1218 : BitVec 32 := 1#32
  let v2499 : BitVec 32 := Scalar.subi v2484 c1_i32_1218
  let v2500 : BitVec 32 := Scalar.select v2498 v2499 v2484
  let v2501 : BitVec 32 := Scalar.muli c8_i32_1219 v2500
  let v2502 : BitVec 32 := v2501
  let c3072_i32 : BitVec 32 := 3072#32
  let v2513 : BitVec 32 := Scalar.addi v2502 c3072_i32
  let v2514 : Index := Scalar.indexCast v2513
  let c0_1226 : Index := 0#32
  ![v2514.toNat, 0]

def k0_chk49 (v2483 : BitVec 32) : Prop :=
  (8 ∣ (k0_mult49 v2483).toNat) ∧
  (∀ a, (k0_off97 v2483) a + S520x256.size a ≤ S8192x256.size a)
theorem k0_mult49_dvd : ∀ (v2483 : BitVec 32) (k0_hw49 : k0_chk49 v2483), 8 ∣ (k0_mult49 v2483).toNat := fun v2483 k0_hw49 => k0_hw49.1
theorem k0_off97_inb : ∀ (v2483 : BitVec 32) (k0_hw49 : k0_chk49 v2483), ∀ a, (k0_off97 v2483) a + S520x256.size a ≤ S8192x256.size a := fun v2483 k0_hw49 => k0_hw49.2

def k0_off98 (i : grid0.Coords) : Fin 2 → Nat :=
  let arg0 : BitVec 32 := BitVec.ofNat 32 (i 0).val
  let v2529 : Index := Scalar.indexCast arg0
  let c0_1234 : Index := 0#32
  ![v2529.toNat, 0]
def k0_mult50 (v2534 : BitVec 32) : BitVec 32 :=
  let c8_i32_1243 : BitVec 32 := 8#32
  let c0_i32_1237 : BitVec 32 := 0#32
  let v2536 : BitVec 1 := Scalar.cmpi .sgt v2534 c0_i32_1237
  let v2537 : BitVec 32 := Scalar.extui v2536
  let c0_i32_1238 : BitVec 32 := 0#32
  let v2538 : BitVec 1 := Scalar.cmpi .slt v2534 c0_i32_1238
  let v2539 : BitVec 32 := Scalar.extui v2538
  let v2540 : BitVec 32 := Scalar.subi v2537 v2539
  let c8_i32_1236 : BitVec 32 := 8#32
  let c0_i32_1239 : BitVec 32 := 0#32
  let v2541 : BitVec 1 := Scalar.cmpi .sgt c8_i32_1236 c0_i32_1239
  let v2542 : BitVec 32 := Scalar.extui v2541
  let c0_i32_1240 : BitVec 32 := 0#32
  let v2543 : BitVec 1 := Scalar.cmpi .slt c8_i32_1236 c0_i32_1240
  let v2544 : BitVec 32 := Scalar.extui v2543
  let v2545 : BitVec 32 := Scalar.subi v2542 v2544
  let v2546 : BitVec 1 := Scalar.cmpi .ne v2540 v2545
  let v2547 : BitVec 32 := Scalar.remsi v2534 c8_i32_1236
  let c0_i32_1241 : BitVec 32 := 0#32
  let v2548 : BitVec 1 := Scalar.cmpi .ne v2547 c0_i32_1241
  let v2549 : BitVec 1 := Scalar.andi v2546 v2548
  let v2535 : BitVec 32 := Scalar.divsi v2534 c8_i32_1236
  let c1_i32_1242 : BitVec 32 := 1#32
  let v2550 : BitVec 32 := Scalar.subi v2535 c1_i32_1242
  let v2551 : BitVec 32 := Scalar.select v2549 v2550 v2535
  let v2552 : BitVec 32 := Scalar.muli c8_i32_1243 v2551
  v2552

def k0_off99 (v2534 : BitVec 32) : Fin 2 → Nat :=
  let c8_i32_1243 : BitVec 32 := 8#32
  let c0_i32_1237 : BitVec 32 := 0#32
  let v2536 : BitVec 1 := Scalar.cmpi .sgt v2534 c0_i32_1237
  let v2537 : BitVec 32 := Scalar.extui v2536
  let c0_i32_1238 : BitVec 32 := 0#32
  let v2538 : BitVec 1 := Scalar.cmpi .slt v2534 c0_i32_1238
  let v2539 : BitVec 32 := Scalar.extui v2538
  let v2540 : BitVec 32 := Scalar.subi v2537 v2539
  let c8_i32_1236 : BitVec 32 := 8#32
  let c0_i32_1239 : BitVec 32 := 0#32
  let v2541 : BitVec 1 := Scalar.cmpi .sgt c8_i32_1236 c0_i32_1239
  let v2542 : BitVec 32 := Scalar.extui v2541
  let c0_i32_1240 : BitVec 32 := 0#32
  let v2543 : BitVec 1 := Scalar.cmpi .slt c8_i32_1236 c0_i32_1240
  let v2544 : BitVec 32 := Scalar.extui v2543
  let v2545 : BitVec 32 := Scalar.subi v2542 v2544
  let v2546 : BitVec 1 := Scalar.cmpi .ne v2540 v2545
  let v2547 : BitVec 32 := Scalar.remsi v2534 c8_i32_1236
  let c0_i32_1241 : BitVec 32 := 0#32
  let v2548 : BitVec 1 := Scalar.cmpi .ne v2547 c0_i32_1241
  let v2549 : BitVec 1 := Scalar.andi v2546 v2548
  let v2535 : BitVec 32 := Scalar.divsi v2534 c8_i32_1236
  let c1_i32_1242 : BitVec 32 := 1#32
  let v2550 : BitVec 32 := Scalar.subi v2535 c1_i32_1242
  let v2551 : BitVec 32 := Scalar.select v2549 v2550 v2535
  let v2552 : BitVec 32 := Scalar.muli c8_i32_1243 v2551
  let v2553 : BitVec 32 := v2552
  let c3072_i32_1250 : BitVec 32 := 3072#32
  let v2564 : BitVec 32 := Scalar.addi v2553 c3072_i32_1250
  let v2565 : Index := Scalar.indexCast v2564
  let c0_1251 : Index := 0#32
  ![v2565.toNat, 0]

def k0_chk50 (v2534 : BitVec 32) : Prop :=
  (8 ∣ (k0_mult50 v2534).toNat) ∧
  (∀ a, (k0_off99 v2534) a + S520x256.size a ≤ S8192x256.size a)
theorem k0_mult50_dvd : ∀ (v2534 : BitVec 32) (k0_hw50 : k0_chk50 v2534), 8 ∣ (k0_mult50 v2534).toNat := fun v2534 k0_hw50 => k0_hw50.1
theorem k0_off99_inb : ∀ (v2534 : BitVec 32) (k0_hw50 : k0_chk50 v2534), ∀ a, (k0_off99 v2534) a + S520x256.size a ≤ S8192x256.size a := fun v2534 k0_hw50 => k0_hw50.2

def k0_off100 (i : grid0.Coords) : Fin 2 → Nat :=
  let arg0 : BitVec 32 := BitVec.ofNat 32 (i 0).val
  let v2580 : Index := Scalar.indexCast arg0
  let c1_1259 : Index := 1#32
  ![v2580.toNat, 1]
def k0_mult51 (v2585 : BitVec 32) : BitVec 32 :=
  let c8_i32_1268 : BitVec 32 := 8#32
  let c0_i32_1262 : BitVec 32 := 0#32
  let v2587 : BitVec 1 := Scalar.cmpi .sgt v2585 c0_i32_1262
  let v2588 : BitVec 32 := Scalar.extui v2587
  let c0_i32_1263 : BitVec 32 := 0#32
  let v2589 : BitVec 1 := Scalar.cmpi .slt v2585 c0_i32_1263
  let v2590 : BitVec 32 := Scalar.extui v2589
  let v2591 : BitVec 32 := Scalar.subi v2588 v2590
  let c8_i32_1261 : BitVec 32 := 8#32
  let c0_i32_1264 : BitVec 32 := 0#32
  let v2592 : BitVec 1 := Scalar.cmpi .sgt c8_i32_1261 c0_i32_1264
  let v2593 : BitVec 32 := Scalar.extui v2592
  let c0_i32_1265 : BitVec 32 := 0#32
  let v2594 : BitVec 1 := Scalar.cmpi .slt c8_i32_1261 c0_i32_1265
  let v2595 : BitVec 32 := Scalar.extui v2594
  let v2596 : BitVec 32 := Scalar.subi v2593 v2595
  let v2597 : BitVec 1 := Scalar.cmpi .ne v2591 v2596
  let v2598 : BitVec 32 := Scalar.remsi v2585 c8_i32_1261
  let c0_i32_1266 : BitVec 32 := 0#32
  let v2599 : BitVec 1 := Scalar.cmpi .ne v2598 c0_i32_1266
  let v2600 : BitVec 1 := Scalar.andi v2597 v2599
  let v2586 : BitVec 32 := Scalar.divsi v2585 c8_i32_1261
  let c1_i32_1267 : BitVec 32 := 1#32
  let v2601 : BitVec 32 := Scalar.subi v2586 c1_i32_1267
  let v2602 : BitVec 32 := Scalar.select v2600 v2601 v2586
  let v2603 : BitVec 32 := Scalar.muli c8_i32_1268 v2602
  v2603

def k0_off101 (v2585 : BitVec 32) : Fin 2 → Nat :=
  let c8_i32_1268 : BitVec 32 := 8#32
  let c0_i32_1262 : BitVec 32 := 0#32
  let v2587 : BitVec 1 := Scalar.cmpi .sgt v2585 c0_i32_1262
  let v2588 : BitVec 32 := Scalar.extui v2587
  let c0_i32_1263 : BitVec 32 := 0#32
  let v2589 : BitVec 1 := Scalar.cmpi .slt v2585 c0_i32_1263
  let v2590 : BitVec 32 := Scalar.extui v2589
  let v2591 : BitVec 32 := Scalar.subi v2588 v2590
  let c8_i32_1261 : BitVec 32 := 8#32
  let c0_i32_1264 : BitVec 32 := 0#32
  let v2592 : BitVec 1 := Scalar.cmpi .sgt c8_i32_1261 c0_i32_1264
  let v2593 : BitVec 32 := Scalar.extui v2592
  let c0_i32_1265 : BitVec 32 := 0#32
  let v2594 : BitVec 1 := Scalar.cmpi .slt c8_i32_1261 c0_i32_1265
  let v2595 : BitVec 32 := Scalar.extui v2594
  let v2596 : BitVec 32 := Scalar.subi v2593 v2595
  let v2597 : BitVec 1 := Scalar.cmpi .ne v2591 v2596
  let v2598 : BitVec 32 := Scalar.remsi v2585 c8_i32_1261
  let c0_i32_1266 : BitVec 32 := 0#32
  let v2599 : BitVec 1 := Scalar.cmpi .ne v2598 c0_i32_1266
  let v2600 : BitVec 1 := Scalar.andi v2597 v2599
  let v2586 : BitVec 32 := Scalar.divsi v2585 c8_i32_1261
  let c1_i32_1267 : BitVec 32 := 1#32
  let v2601 : BitVec 32 := Scalar.subi v2586 c1_i32_1267
  let v2602 : BitVec 32 := Scalar.select v2600 v2601 v2586
  let v2603 : BitVec 32 := Scalar.muli c8_i32_1268 v2602
  let v2604 : BitVec 32 := v2603
  let c3072_i32_1275 : BitVec 32 := 3072#32
  let v2615 : BitVec 32 := Scalar.addi v2604 c3072_i32_1275
  let v2616 : Index := Scalar.indexCast v2615
  let c0_1276 : Index := 0#32
  ![v2616.toNat, 0]

def k0_chk51 (v2585 : BitVec 32) : Prop :=
  (8 ∣ (k0_mult51 v2585).toNat) ∧
  (∀ a, (k0_off101 v2585) a + S520x256.size a ≤ S8192x256.size a)
theorem k0_mult51_dvd : ∀ (v2585 : BitVec 32) (k0_hw51 : k0_chk51 v2585), 8 ∣ (k0_mult51 v2585).toNat := fun v2585 k0_hw51 => k0_hw51.1
theorem k0_off101_inb : ∀ (v2585 : BitVec 32) (k0_hw51 : k0_chk51 v2585), ∀ a, (k0_off101 v2585) a + S520x256.size a ≤ S8192x256.size a := fun v2585 k0_hw51 => k0_hw51.2

def k0_off102 (i : grid0.Coords) : Fin 2 → Nat :=
  let arg0 : BitVec 32 := BitVec.ofNat 32 (i 0).val
  let v2631 : Index := Scalar.indexCast arg0
  let c2_1284 : Index := 2#32
  ![v2631.toNat, 2]
def k0_mult52 (v2636 : BitVec 32) : BitVec 32 :=
  let c8_i32_1293 : BitVec 32 := 8#32
  let c0_i32_1287 : BitVec 32 := 0#32
  let v2638 : BitVec 1 := Scalar.cmpi .sgt v2636 c0_i32_1287
  let v2639 : BitVec 32 := Scalar.extui v2638
  let c0_i32_1288 : BitVec 32 := 0#32
  let v2640 : BitVec 1 := Scalar.cmpi .slt v2636 c0_i32_1288
  let v2641 : BitVec 32 := Scalar.extui v2640
  let v2642 : BitVec 32 := Scalar.subi v2639 v2641
  let c8_i32_1286 : BitVec 32 := 8#32
  let c0_i32_1289 : BitVec 32 := 0#32
  let v2643 : BitVec 1 := Scalar.cmpi .sgt c8_i32_1286 c0_i32_1289
  let v2644 : BitVec 32 := Scalar.extui v2643
  let c0_i32_1290 : BitVec 32 := 0#32
  let v2645 : BitVec 1 := Scalar.cmpi .slt c8_i32_1286 c0_i32_1290
  let v2646 : BitVec 32 := Scalar.extui v2645
  let v2647 : BitVec 32 := Scalar.subi v2644 v2646
  let v2648 : BitVec 1 := Scalar.cmpi .ne v2642 v2647
  let v2649 : BitVec 32 := Scalar.remsi v2636 c8_i32_1286
  let c0_i32_1291 : BitVec 32 := 0#32
  let v2650 : BitVec 1 := Scalar.cmpi .ne v2649 c0_i32_1291
  let v2651 : BitVec 1 := Scalar.andi v2648 v2650
  let v2637 : BitVec 32 := Scalar.divsi v2636 c8_i32_1286
  let c1_i32_1292 : BitVec 32 := 1#32
  let v2652 : BitVec 32 := Scalar.subi v2637 c1_i32_1292
  let v2653 : BitVec 32 := Scalar.select v2651 v2652 v2637
  let v2654 : BitVec 32 := Scalar.muli c8_i32_1293 v2653
  v2654

def k0_off103 (v2636 : BitVec 32) : Fin 2 → Nat :=
  let c8_i32_1293 : BitVec 32 := 8#32
  let c0_i32_1287 : BitVec 32 := 0#32
  let v2638 : BitVec 1 := Scalar.cmpi .sgt v2636 c0_i32_1287
  let v2639 : BitVec 32 := Scalar.extui v2638
  let c0_i32_1288 : BitVec 32 := 0#32
  let v2640 : BitVec 1 := Scalar.cmpi .slt v2636 c0_i32_1288
  let v2641 : BitVec 32 := Scalar.extui v2640
  let v2642 : BitVec 32 := Scalar.subi v2639 v2641
  let c8_i32_1286 : BitVec 32 := 8#32
  let c0_i32_1289 : BitVec 32 := 0#32
  let v2643 : BitVec 1 := Scalar.cmpi .sgt c8_i32_1286 c0_i32_1289
  let v2644 : BitVec 32 := Scalar.extui v2643
  let c0_i32_1290 : BitVec 32 := 0#32
  let v2645 : BitVec 1 := Scalar.cmpi .slt c8_i32_1286 c0_i32_1290
  let v2646 : BitVec 32 := Scalar.extui v2645
  let v2647 : BitVec 32 := Scalar.subi v2644 v2646
  let v2648 : BitVec 1 := Scalar.cmpi .ne v2642 v2647
  let v2649 : BitVec 32 := Scalar.remsi v2636 c8_i32_1286
  let c0_i32_1291 : BitVec 32 := 0#32
  let v2650 : BitVec 1 := Scalar.cmpi .ne v2649 c0_i32_1291
  let v2651 : BitVec 1 := Scalar.andi v2648 v2650
  let v2637 : BitVec 32 := Scalar.divsi v2636 c8_i32_1286
  let c1_i32_1292 : BitVec 32 := 1#32
  let v2652 : BitVec 32 := Scalar.subi v2637 c1_i32_1292
  let v2653 : BitVec 32 := Scalar.select v2651 v2652 v2637
  let v2654 : BitVec 32 := Scalar.muli c8_i32_1293 v2653
  let v2655 : BitVec 32 := v2654
  let c3072_i32_1300 : BitVec 32 := 3072#32
  let v2666 : BitVec 32 := Scalar.addi v2655 c3072_i32_1300
  let v2667 : Index := Scalar.indexCast v2666
  let c0_1301 : Index := 0#32
  ![v2667.toNat, 0]

def k0_chk52 (v2636 : BitVec 32) : Prop :=
  (8 ∣ (k0_mult52 v2636).toNat) ∧
  (∀ a, (k0_off103 v2636) a + S520x256.size a ≤ S8192x256.size a)
theorem k0_mult52_dvd : ∀ (v2636 : BitVec 32) (k0_hw52 : k0_chk52 v2636), 8 ∣ (k0_mult52 v2636).toNat := fun v2636 k0_hw52 => k0_hw52.1
theorem k0_off103_inb : ∀ (v2636 : BitVec 32) (k0_hw52 : k0_chk52 v2636), ∀ a, (k0_off103 v2636) a + S520x256.size a ≤ S8192x256.size a := fun v2636 k0_hw52 => k0_hw52.2

def k0_off104 (i : grid0.Coords) : Fin 2 → Nat :=
  let arg0 : BitVec 32 := BitVec.ofNat 32 (i 0).val
  let v2682 : Index := Scalar.indexCast arg0
  let c3_1309 : Index := 3#32
  ![v2682.toNat, 3]
def k0_mult53 (v2687 : BitVec 32) : BitVec 32 :=
  let c8_i32_1318 : BitVec 32 := 8#32
  let c0_i32_1312 : BitVec 32 := 0#32
  let v2689 : BitVec 1 := Scalar.cmpi .sgt v2687 c0_i32_1312
  let v2690 : BitVec 32 := Scalar.extui v2689
  let c0_i32_1313 : BitVec 32 := 0#32
  let v2691 : BitVec 1 := Scalar.cmpi .slt v2687 c0_i32_1313
  let v2692 : BitVec 32 := Scalar.extui v2691
  let v2693 : BitVec 32 := Scalar.subi v2690 v2692
  let c8_i32_1311 : BitVec 32 := 8#32
  let c0_i32_1314 : BitVec 32 := 0#32
  let v2694 : BitVec 1 := Scalar.cmpi .sgt c8_i32_1311 c0_i32_1314
  let v2695 : BitVec 32 := Scalar.extui v2694
  let c0_i32_1315 : BitVec 32 := 0#32
  let v2696 : BitVec 1 := Scalar.cmpi .slt c8_i32_1311 c0_i32_1315
  let v2697 : BitVec 32 := Scalar.extui v2696
  let v2698 : BitVec 32 := Scalar.subi v2695 v2697
  let v2699 : BitVec 1 := Scalar.cmpi .ne v2693 v2698
  let v2700 : BitVec 32 := Scalar.remsi v2687 c8_i32_1311
  let c0_i32_1316 : BitVec 32 := 0#32
  let v2701 : BitVec 1 := Scalar.cmpi .ne v2700 c0_i32_1316
  let v2702 : BitVec 1 := Scalar.andi v2699 v2701
  let v2688 : BitVec 32 := Scalar.divsi v2687 c8_i32_1311
  let c1_i32_1317 : BitVec 32 := 1#32
  let v2703 : BitVec 32 := Scalar.subi v2688 c1_i32_1317
  let v2704 : BitVec 32 := Scalar.select v2702 v2703 v2688
  let v2705 : BitVec 32 := Scalar.muli c8_i32_1318 v2704
  v2705

def k0_off105 (v2687 : BitVec 32) : Fin 2 → Nat :=
  let c8_i32_1318 : BitVec 32 := 8#32
  let c0_i32_1312 : BitVec 32 := 0#32
  let v2689 : BitVec 1 := Scalar.cmpi .sgt v2687 c0_i32_1312
  let v2690 : BitVec 32 := Scalar.extui v2689
  let c0_i32_1313 : BitVec 32 := 0#32
  let v2691 : BitVec 1 := Scalar.cmpi .slt v2687 c0_i32_1313
  let v2692 : BitVec 32 := Scalar.extui v2691
  let v2693 : BitVec 32 := Scalar.subi v2690 v2692
  let c8_i32_1311 : BitVec 32 := 8#32
  let c0_i32_1314 : BitVec 32 := 0#32
  let v2694 : BitVec 1 := Scalar.cmpi .sgt c8_i32_1311 c0_i32_1314
  let v2695 : BitVec 32 := Scalar.extui v2694
  let c0_i32_1315 : BitVec 32 := 0#32
  let v2696 : BitVec 1 := Scalar.cmpi .slt c8_i32_1311 c0_i32_1315
  let v2697 : BitVec 32 := Scalar.extui v2696
  let v2698 : BitVec 32 := Scalar.subi v2695 v2697
  let v2699 : BitVec 1 := Scalar.cmpi .ne v2693 v2698
  let v2700 : BitVec 32 := Scalar.remsi v2687 c8_i32_1311
  let c0_i32_1316 : BitVec 32 := 0#32
  let v2701 : BitVec 1 := Scalar.cmpi .ne v2700 c0_i32_1316
  let v2702 : BitVec 1 := Scalar.andi v2699 v2701
  let v2688 : BitVec 32 := Scalar.divsi v2687 c8_i32_1311
  let c1_i32_1317 : BitVec 32 := 1#32
  let v2703 : BitVec 32 := Scalar.subi v2688 c1_i32_1317
  let v2704 : BitVec 32 := Scalar.select v2702 v2703 v2688
  let v2705 : BitVec 32 := Scalar.muli c8_i32_1318 v2704
  let v2706 : BitVec 32 := v2705
  let c3072_i32_1325 : BitVec 32 := 3072#32
  let v2717 : BitVec 32 := Scalar.addi v2706 c3072_i32_1325
  let v2718 : Index := Scalar.indexCast v2717
  let c0_1326 : Index := 0#32
  ![v2718.toNat, 0]

def k0_chk53 (v2687 : BitVec 32) : Prop :=
  (8 ∣ (k0_mult53 v2687).toNat) ∧
  (∀ a, (k0_off105 v2687) a + S520x256.size a ≤ S8192x256.size a)
theorem k0_mult53_dvd : ∀ (v2687 : BitVec 32) (k0_hw53 : k0_chk53 v2687), 8 ∣ (k0_mult53 v2687).toNat := fun v2687 k0_hw53 => k0_hw53.1
theorem k0_off105_inb : ∀ (v2687 : BitVec 32) (k0_hw53 : k0_chk53 v2687), ∀ a, (k0_off105 v2687) a + S520x256.size a ≤ S8192x256.size a := fun v2687 k0_hw53 => k0_hw53.2

def k0_off106 (i : grid0.Coords) : Fin 2 → Nat :=
  let arg0 : BitVec 32 := BitVec.ofNat 32 (i 0).val
  let v2733 : Index := Scalar.indexCast arg0
  let c4_1334 : Index := 4#32
  ![v2733.toNat, 4]
def k0_mult54 (v2738 : BitVec 32) : BitVec 32 :=
  let c8_i32_1343 : BitVec 32 := 8#32
  let c0_i32_1337 : BitVec 32 := 0#32
  let v2740 : BitVec 1 := Scalar.cmpi .sgt v2738 c0_i32_1337
  let v2741 : BitVec 32 := Scalar.extui v2740
  let c0_i32_1338 : BitVec 32 := 0#32
  let v2742 : BitVec 1 := Scalar.cmpi .slt v2738 c0_i32_1338
  let v2743 : BitVec 32 := Scalar.extui v2742
  let v2744 : BitVec 32 := Scalar.subi v2741 v2743
  let c8_i32_1336 : BitVec 32 := 8#32
  let c0_i32_1339 : BitVec 32 := 0#32
  let v2745 : BitVec 1 := Scalar.cmpi .sgt c8_i32_1336 c0_i32_1339
  let v2746 : BitVec 32 := Scalar.extui v2745
  let c0_i32_1340 : BitVec 32 := 0#32
  let v2747 : BitVec 1 := Scalar.cmpi .slt c8_i32_1336 c0_i32_1340
  let v2748 : BitVec 32 := Scalar.extui v2747
  let v2749 : BitVec 32 := Scalar.subi v2746 v2748
  let v2750 : BitVec 1 := Scalar.cmpi .ne v2744 v2749
  let v2751 : BitVec 32 := Scalar.remsi v2738 c8_i32_1336
  let c0_i32_1341 : BitVec 32 := 0#32
  let v2752 : BitVec 1 := Scalar.cmpi .ne v2751 c0_i32_1341
  let v2753 : BitVec 1 := Scalar.andi v2750 v2752
  let v2739 : BitVec 32 := Scalar.divsi v2738 c8_i32_1336
  let c1_i32_1342 : BitVec 32 := 1#32
  let v2754 : BitVec 32 := Scalar.subi v2739 c1_i32_1342
  let v2755 : BitVec 32 := Scalar.select v2753 v2754 v2739
  let v2756 : BitVec 32 := Scalar.muli c8_i32_1343 v2755
  v2756

def k0_off107 (v2738 : BitVec 32) : Fin 2 → Nat :=
  let c8_i32_1343 : BitVec 32 := 8#32
  let c0_i32_1337 : BitVec 32 := 0#32
  let v2740 : BitVec 1 := Scalar.cmpi .sgt v2738 c0_i32_1337
  let v2741 : BitVec 32 := Scalar.extui v2740
  let c0_i32_1338 : BitVec 32 := 0#32
  let v2742 : BitVec 1 := Scalar.cmpi .slt v2738 c0_i32_1338
  let v2743 : BitVec 32 := Scalar.extui v2742
  let v2744 : BitVec 32 := Scalar.subi v2741 v2743
  let c8_i32_1336 : BitVec 32 := 8#32
  let c0_i32_1339 : BitVec 32 := 0#32
  let v2745 : BitVec 1 := Scalar.cmpi .sgt c8_i32_1336 c0_i32_1339
  let v2746 : BitVec 32 := Scalar.extui v2745
  let c0_i32_1340 : BitVec 32 := 0#32
  let v2747 : BitVec 1 := Scalar.cmpi .slt c8_i32_1336 c0_i32_1340
  let v2748 : BitVec 32 := Scalar.extui v2747
  let v2749 : BitVec 32 := Scalar.subi v2746 v2748
  let v2750 : BitVec 1 := Scalar.cmpi .ne v2744 v2749
  let v2751 : BitVec 32 := Scalar.remsi v2738 c8_i32_1336
  let c0_i32_1341 : BitVec 32 := 0#32
  let v2752 : BitVec 1 := Scalar.cmpi .ne v2751 c0_i32_1341
  let v2753 : BitVec 1 := Scalar.andi v2750 v2752
  let v2739 : BitVec 32 := Scalar.divsi v2738 c8_i32_1336
  let c1_i32_1342 : BitVec 32 := 1#32
  let v2754 : BitVec 32 := Scalar.subi v2739 c1_i32_1342
  let v2755 : BitVec 32 := Scalar.select v2753 v2754 v2739
  let v2756 : BitVec 32 := Scalar.muli c8_i32_1343 v2755
  let v2757 : BitVec 32 := v2756
  let c3072_i32_1350 : BitVec 32 := 3072#32
  let v2768 : BitVec 32 := Scalar.addi v2757 c3072_i32_1350
  let v2769 : Index := Scalar.indexCast v2768
  let c0_1351 : Index := 0#32
  ![v2769.toNat, 0]

def k0_chk54 (v2738 : BitVec 32) : Prop :=
  (8 ∣ (k0_mult54 v2738).toNat) ∧
  (∀ a, (k0_off107 v2738) a + S520x256.size a ≤ S8192x256.size a)
theorem k0_mult54_dvd : ∀ (v2738 : BitVec 32) (k0_hw54 : k0_chk54 v2738), 8 ∣ (k0_mult54 v2738).toNat := fun v2738 k0_hw54 => k0_hw54.1
theorem k0_off107_inb : ∀ (v2738 : BitVec 32) (k0_hw54 : k0_chk54 v2738), ∀ a, (k0_off107 v2738) a + S520x256.size a ≤ S8192x256.size a := fun v2738 k0_hw54 => k0_hw54.2

def k0_off108 (i : grid0.Coords) : Fin 2 → Nat :=
  let arg0 : BitVec 32 := BitVec.ofNat 32 (i 0).val
  let v2784 : Index := Scalar.indexCast arg0
  let c5_1359 : Index := 5#32
  ![v2784.toNat, 5]
def k0_mult55 (v2789 : BitVec 32) : BitVec 32 :=
  let c8_i32_1368 : BitVec 32 := 8#32
  let c0_i32_1362 : BitVec 32 := 0#32
  let v2791 : BitVec 1 := Scalar.cmpi .sgt v2789 c0_i32_1362
  let v2792 : BitVec 32 := Scalar.extui v2791
  let c0_i32_1363 : BitVec 32 := 0#32
  let v2793 : BitVec 1 := Scalar.cmpi .slt v2789 c0_i32_1363
  let v2794 : BitVec 32 := Scalar.extui v2793
  let v2795 : BitVec 32 := Scalar.subi v2792 v2794
  let c8_i32_1361 : BitVec 32 := 8#32
  let c0_i32_1364 : BitVec 32 := 0#32
  let v2796 : BitVec 1 := Scalar.cmpi .sgt c8_i32_1361 c0_i32_1364
  let v2797 : BitVec 32 := Scalar.extui v2796
  let c0_i32_1365 : BitVec 32 := 0#32
  let v2798 : BitVec 1 := Scalar.cmpi .slt c8_i32_1361 c0_i32_1365
  let v2799 : BitVec 32 := Scalar.extui v2798
  let v2800 : BitVec 32 := Scalar.subi v2797 v2799
  let v2801 : BitVec 1 := Scalar.cmpi .ne v2795 v2800
  let v2802 : BitVec 32 := Scalar.remsi v2789 c8_i32_1361
  let c0_i32_1366 : BitVec 32 := 0#32
  let v2803 : BitVec 1 := Scalar.cmpi .ne v2802 c0_i32_1366
  let v2804 : BitVec 1 := Scalar.andi v2801 v2803
  let v2790 : BitVec 32 := Scalar.divsi v2789 c8_i32_1361
  let c1_i32_1367 : BitVec 32 := 1#32
  let v2805 : BitVec 32 := Scalar.subi v2790 c1_i32_1367
  let v2806 : BitVec 32 := Scalar.select v2804 v2805 v2790
  let v2807 : BitVec 32 := Scalar.muli c8_i32_1368 v2806
  v2807

def k0_off109 (v2789 : BitVec 32) : Fin 2 → Nat :=
  let c8_i32_1368 : BitVec 32 := 8#32
  let c0_i32_1362 : BitVec 32 := 0#32
  let v2791 : BitVec 1 := Scalar.cmpi .sgt v2789 c0_i32_1362
  let v2792 : BitVec 32 := Scalar.extui v2791
  let c0_i32_1363 : BitVec 32 := 0#32
  let v2793 : BitVec 1 := Scalar.cmpi .slt v2789 c0_i32_1363
  let v2794 : BitVec 32 := Scalar.extui v2793
  let v2795 : BitVec 32 := Scalar.subi v2792 v2794
  let c8_i32_1361 : BitVec 32 := 8#32
  let c0_i32_1364 : BitVec 32 := 0#32
  let v2796 : BitVec 1 := Scalar.cmpi .sgt c8_i32_1361 c0_i32_1364
  let v2797 : BitVec 32 := Scalar.extui v2796
  let c0_i32_1365 : BitVec 32 := 0#32
  let v2798 : BitVec 1 := Scalar.cmpi .slt c8_i32_1361 c0_i32_1365
  let v2799 : BitVec 32 := Scalar.extui v2798
  let v2800 : BitVec 32 := Scalar.subi v2797 v2799
  let v2801 : BitVec 1 := Scalar.cmpi .ne v2795 v2800
  let v2802 : BitVec 32 := Scalar.remsi v2789 c8_i32_1361
  let c0_i32_1366 : BitVec 32 := 0#32
  let v2803 : BitVec 1 := Scalar.cmpi .ne v2802 c0_i32_1366
  let v2804 : BitVec 1 := Scalar.andi v2801 v2803
  let v2790 : BitVec 32 := Scalar.divsi v2789 c8_i32_1361
  let c1_i32_1367 : BitVec 32 := 1#32
  let v2805 : BitVec 32 := Scalar.subi v2790 c1_i32_1367
  let v2806 : BitVec 32 := Scalar.select v2804 v2805 v2790
  let v2807 : BitVec 32 := Scalar.muli c8_i32_1368 v2806
  let v2808 : BitVec 32 := v2807
  let c3072_i32_1375 : BitVec 32 := 3072#32
  let v2819 : BitVec 32 := Scalar.addi v2808 c3072_i32_1375
  let v2820 : Index := Scalar.indexCast v2819
  let c0_1376 : Index := 0#32
  ![v2820.toNat, 0]

def k0_chk55 (v2789 : BitVec 32) : Prop :=
  (8 ∣ (k0_mult55 v2789).toNat) ∧
  (∀ a, (k0_off109 v2789) a + S520x256.size a ≤ S8192x256.size a)
theorem k0_mult55_dvd : ∀ (v2789 : BitVec 32) (k0_hw55 : k0_chk55 v2789), 8 ∣ (k0_mult55 v2789).toNat := fun v2789 k0_hw55 => k0_hw55.1
theorem k0_off109_inb : ∀ (v2789 : BitVec 32) (k0_hw55 : k0_chk55 v2789), ∀ a, (k0_off109 v2789) a + S520x256.size a ≤ S8192x256.size a := fun v2789 k0_hw55 => k0_hw55.2

def k0_off110 (i : grid0.Coords) : Fin 2 → Nat :=
  let arg0 : BitVec 32 := BitVec.ofNat 32 (i 0).val
  let v2835 : Index := Scalar.indexCast arg0
  let c6_1384 : Index := 6#32
  ![v2835.toNat, 6]
def k0_mult56 (v2840 : BitVec 32) : BitVec 32 :=
  let c8_i32_1393 : BitVec 32 := 8#32
  let c0_i32_1387 : BitVec 32 := 0#32
  let v2842 : BitVec 1 := Scalar.cmpi .sgt v2840 c0_i32_1387
  let v2843 : BitVec 32 := Scalar.extui v2842
  let c0_i32_1388 : BitVec 32 := 0#32
  let v2844 : BitVec 1 := Scalar.cmpi .slt v2840 c0_i32_1388
  let v2845 : BitVec 32 := Scalar.extui v2844
  let v2846 : BitVec 32 := Scalar.subi v2843 v2845
  let c8_i32_1386 : BitVec 32 := 8#32
  let c0_i32_1389 : BitVec 32 := 0#32
  let v2847 : BitVec 1 := Scalar.cmpi .sgt c8_i32_1386 c0_i32_1389
  let v2848 : BitVec 32 := Scalar.extui v2847
  let c0_i32_1390 : BitVec 32 := 0#32
  let v2849 : BitVec 1 := Scalar.cmpi .slt c8_i32_1386 c0_i32_1390
  let v2850 : BitVec 32 := Scalar.extui v2849
  let v2851 : BitVec 32 := Scalar.subi v2848 v2850
  let v2852 : BitVec 1 := Scalar.cmpi .ne v2846 v2851
  let v2853 : BitVec 32 := Scalar.remsi v2840 c8_i32_1386
  let c0_i32_1391 : BitVec 32 := 0#32
  let v2854 : BitVec 1 := Scalar.cmpi .ne v2853 c0_i32_1391
  let v2855 : BitVec 1 := Scalar.andi v2852 v2854
  let v2841 : BitVec 32 := Scalar.divsi v2840 c8_i32_1386
  let c1_i32_1392 : BitVec 32 := 1#32
  let v2856 : BitVec 32 := Scalar.subi v2841 c1_i32_1392
  let v2857 : BitVec 32 := Scalar.select v2855 v2856 v2841
  let v2858 : BitVec 32 := Scalar.muli c8_i32_1393 v2857
  v2858

def k0_off111 (v2840 : BitVec 32) : Fin 2 → Nat :=
  let c8_i32_1393 : BitVec 32 := 8#32
  let c0_i32_1387 : BitVec 32 := 0#32
  let v2842 : BitVec 1 := Scalar.cmpi .sgt v2840 c0_i32_1387
  let v2843 : BitVec 32 := Scalar.extui v2842
  let c0_i32_1388 : BitVec 32 := 0#32
  let v2844 : BitVec 1 := Scalar.cmpi .slt v2840 c0_i32_1388
  let v2845 : BitVec 32 := Scalar.extui v2844
  let v2846 : BitVec 32 := Scalar.subi v2843 v2845
  let c8_i32_1386 : BitVec 32 := 8#32
  let c0_i32_1389 : BitVec 32 := 0#32
  let v2847 : BitVec 1 := Scalar.cmpi .sgt c8_i32_1386 c0_i32_1389
  let v2848 : BitVec 32 := Scalar.extui v2847
  let c0_i32_1390 : BitVec 32 := 0#32
  let v2849 : BitVec 1 := Scalar.cmpi .slt c8_i32_1386 c0_i32_1390
  let v2850 : BitVec 32 := Scalar.extui v2849
  let v2851 : BitVec 32 := Scalar.subi v2848 v2850
  let v2852 : BitVec 1 := Scalar.cmpi .ne v2846 v2851
  let v2853 : BitVec 32 := Scalar.remsi v2840 c8_i32_1386
  let c0_i32_1391 : BitVec 32 := 0#32
  let v2854 : BitVec 1 := Scalar.cmpi .ne v2853 c0_i32_1391
  let v2855 : BitVec 1 := Scalar.andi v2852 v2854
  let v2841 : BitVec 32 := Scalar.divsi v2840 c8_i32_1386
  let c1_i32_1392 : BitVec 32 := 1#32
  let v2856 : BitVec 32 := Scalar.subi v2841 c1_i32_1392
  let v2857 : BitVec 32 := Scalar.select v2855 v2856 v2841
  let v2858 : BitVec 32 := Scalar.muli c8_i32_1393 v2857
  let v2859 : BitVec 32 := v2858
  let c3072_i32_1400 : BitVec 32 := 3072#32
  let v2870 : BitVec 32 := Scalar.addi v2859 c3072_i32_1400
  let v2871 : Index := Scalar.indexCast v2870
  let c0_1401 : Index := 0#32
  ![v2871.toNat, 0]

def k0_chk56 (v2840 : BitVec 32) : Prop :=
  (8 ∣ (k0_mult56 v2840).toNat) ∧
  (∀ a, (k0_off111 v2840) a + S520x256.size a ≤ S8192x256.size a)
theorem k0_mult56_dvd : ∀ (v2840 : BitVec 32) (k0_hw56 : k0_chk56 v2840), 8 ∣ (k0_mult56 v2840).toNat := fun v2840 k0_hw56 => k0_hw56.1
theorem k0_off111_inb : ∀ (v2840 : BitVec 32) (k0_hw56 : k0_chk56 v2840), ∀ a, (k0_off111 v2840) a + S520x256.size a ≤ S8192x256.size a := fun v2840 k0_hw56 => k0_hw56.2

def k0_off112 (i : grid0.Coords) : Fin 2 → Nat :=
  let arg0 : BitVec 32 := BitVec.ofNat 32 (i 0).val
  let v2886 : Index := Scalar.indexCast arg0
  let c7_1409 : Index := 7#32
  ![v2886.toNat, 7]
def k0_mult57 (v2895 : BitVec 32) : BitVec 32 :=
  let c8_i32_1421 : BitVec 32 := 8#32
  let c0_i32_1415 : BitVec 32 := 0#32
  let v2897 : BitVec 1 := Scalar.cmpi .sgt v2895 c0_i32_1415
  let v2898 : BitVec 32 := Scalar.extui v2897
  let c0_i32_1416 : BitVec 32 := 0#32
  let v2899 : BitVec 1 := Scalar.cmpi .slt v2895 c0_i32_1416
  let v2900 : BitVec 32 := Scalar.extui v2899
  let v2901 : BitVec 32 := Scalar.subi v2898 v2900
  let c8_i32_1414 : BitVec 32 := 8#32
  let c0_i32_1417 : BitVec 32 := 0#32
  let v2902 : BitVec 1 := Scalar.cmpi .sgt c8_i32_1414 c0_i32_1417
  let v2903 : BitVec 32 := Scalar.extui v2902
  let c0_i32_1418 : BitVec 32 := 0#32
  let v2904 : BitVec 1 := Scalar.cmpi .slt c8_i32_1414 c0_i32_1418
  let v2905 : BitVec 32 := Scalar.extui v2904
  let v2906 : BitVec 32 := Scalar.subi v2903 v2905
  let v2907 : BitVec 1 := Scalar.cmpi .ne v2901 v2906
  let v2908 : BitVec 32 := Scalar.remsi v2895 c8_i32_1414
  let c0_i32_1419 : BitVec 32 := 0#32
  let v2909 : BitVec 1 := Scalar.cmpi .ne v2908 c0_i32_1419
  let v2910 : BitVec 1 := Scalar.andi v2907 v2909
  let v2896 : BitVec 32 := Scalar.divsi v2895 c8_i32_1414
  let c1_i32_1420 : BitVec 32 := 1#32
  let v2911 : BitVec 32 := Scalar.subi v2896 c1_i32_1420
  let v2912 : BitVec 32 := Scalar.select v2910 v2911 v2896
  let v2913 : BitVec 32 := Scalar.muli c8_i32_1421 v2912
  v2913

def k0_off113 (v2895 : BitVec 32) : Fin 2 → Nat :=
  let c8_i32_1421 : BitVec 32 := 8#32
  let c0_i32_1415 : BitVec 32 := 0#32
  let v2897 : BitVec 1 := Scalar.cmpi .sgt v2895 c0_i32_1415
  let v2898 : BitVec 32 := Scalar.extui v2897
  let c0_i32_1416 : BitVec 32 := 0#32
  let v2899 : BitVec 1 := Scalar.cmpi .slt v2895 c0_i32_1416
  let v2900 : BitVec 32 := Scalar.extui v2899
  let v2901 : BitVec 32 := Scalar.subi v2898 v2900
  let c8_i32_1414 : BitVec 32 := 8#32
  let c0_i32_1417 : BitVec 32 := 0#32
  let v2902 : BitVec 1 := Scalar.cmpi .sgt c8_i32_1414 c0_i32_1417
  let v2903 : BitVec 32 := Scalar.extui v2902
  let c0_i32_1418 : BitVec 32 := 0#32
  let v2904 : BitVec 1 := Scalar.cmpi .slt c8_i32_1414 c0_i32_1418
  let v2905 : BitVec 32 := Scalar.extui v2904
  let v2906 : BitVec 32 := Scalar.subi v2903 v2905
  let v2907 : BitVec 1 := Scalar.cmpi .ne v2901 v2906
  let v2908 : BitVec 32 := Scalar.remsi v2895 c8_i32_1414
  let c0_i32_1419 : BitVec 32 := 0#32
  let v2909 : BitVec 1 := Scalar.cmpi .ne v2908 c0_i32_1419
  let v2910 : BitVec 1 := Scalar.andi v2907 v2909
  let v2896 : BitVec 32 := Scalar.divsi v2895 c8_i32_1414
  let c1_i32_1420 : BitVec 32 := 1#32
  let v2911 : BitVec 32 := Scalar.subi v2896 c1_i32_1420
  let v2912 : BitVec 32 := Scalar.select v2910 v2911 v2896
  let v2913 : BitVec 32 := Scalar.muli c8_i32_1421 v2912
  let v2914 : BitVec 32 := v2913
  let c3584_i32 : BitVec 32 := 3584#32
  let v2925 : BitVec 32 := Scalar.addi v2914 c3584_i32
  let v2926 : Index := Scalar.indexCast v2925
  let c0_1428 : Index := 0#32
  ![v2926.toNat, 0]

def k0_chk57 (v2895 : BitVec 32) : Prop :=
  (8 ∣ (k0_mult57 v2895).toNat) ∧
  (∀ a, (k0_off113 v2895) a + S520x256.size a ≤ S8192x256.size a)
theorem k0_mult57_dvd : ∀ (v2895 : BitVec 32) (k0_hw57 : k0_chk57 v2895), 8 ∣ (k0_mult57 v2895).toNat := fun v2895 k0_hw57 => k0_hw57.1
theorem k0_off113_inb : ∀ (v2895 : BitVec 32) (k0_hw57 : k0_chk57 v2895), ∀ a, (k0_off113 v2895) a + S520x256.size a ≤ S8192x256.size a := fun v2895 k0_hw57 => k0_hw57.2

def k0_off114 (i : grid0.Coords) : Fin 2 → Nat :=
  let arg0 : BitVec 32 := BitVec.ofNat 32 (i 0).val
  let v2941 : Index := Scalar.indexCast arg0
  let c0_1436 : Index := 0#32
  ![v2941.toNat, 0]
def k0_mult58 (v2946 : BitVec 32) : BitVec 32 :=
  let c8_i32_1445 : BitVec 32 := 8#32
  let c0_i32_1439 : BitVec 32 := 0#32
  let v2948 : BitVec 1 := Scalar.cmpi .sgt v2946 c0_i32_1439
  let v2949 : BitVec 32 := Scalar.extui v2948
  let c0_i32_1440 : BitVec 32 := 0#32
  let v2950 : BitVec 1 := Scalar.cmpi .slt v2946 c0_i32_1440
  let v2951 : BitVec 32 := Scalar.extui v2950
  let v2952 : BitVec 32 := Scalar.subi v2949 v2951
  let c8_i32_1438 : BitVec 32 := 8#32
  let c0_i32_1441 : BitVec 32 := 0#32
  let v2953 : BitVec 1 := Scalar.cmpi .sgt c8_i32_1438 c0_i32_1441
  let v2954 : BitVec 32 := Scalar.extui v2953
  let c0_i32_1442 : BitVec 32 := 0#32
  let v2955 : BitVec 1 := Scalar.cmpi .slt c8_i32_1438 c0_i32_1442
  let v2956 : BitVec 32 := Scalar.extui v2955
  let v2957 : BitVec 32 := Scalar.subi v2954 v2956
  let v2958 : BitVec 1 := Scalar.cmpi .ne v2952 v2957
  let v2959 : BitVec 32 := Scalar.remsi v2946 c8_i32_1438
  let c0_i32_1443 : BitVec 32 := 0#32
  let v2960 : BitVec 1 := Scalar.cmpi .ne v2959 c0_i32_1443
  let v2961 : BitVec 1 := Scalar.andi v2958 v2960
  let v2947 : BitVec 32 := Scalar.divsi v2946 c8_i32_1438
  let c1_i32_1444 : BitVec 32 := 1#32
  let v2962 : BitVec 32 := Scalar.subi v2947 c1_i32_1444
  let v2963 : BitVec 32 := Scalar.select v2961 v2962 v2947
  let v2964 : BitVec 32 := Scalar.muli c8_i32_1445 v2963
  v2964

def k0_off115 (v2946 : BitVec 32) : Fin 2 → Nat :=
  let c8_i32_1445 : BitVec 32 := 8#32
  let c0_i32_1439 : BitVec 32 := 0#32
  let v2948 : BitVec 1 := Scalar.cmpi .sgt v2946 c0_i32_1439
  let v2949 : BitVec 32 := Scalar.extui v2948
  let c0_i32_1440 : BitVec 32 := 0#32
  let v2950 : BitVec 1 := Scalar.cmpi .slt v2946 c0_i32_1440
  let v2951 : BitVec 32 := Scalar.extui v2950
  let v2952 : BitVec 32 := Scalar.subi v2949 v2951
  let c8_i32_1438 : BitVec 32 := 8#32
  let c0_i32_1441 : BitVec 32 := 0#32
  let v2953 : BitVec 1 := Scalar.cmpi .sgt c8_i32_1438 c0_i32_1441
  let v2954 : BitVec 32 := Scalar.extui v2953
  let c0_i32_1442 : BitVec 32 := 0#32
  let v2955 : BitVec 1 := Scalar.cmpi .slt c8_i32_1438 c0_i32_1442
  let v2956 : BitVec 32 := Scalar.extui v2955
  let v2957 : BitVec 32 := Scalar.subi v2954 v2956
  let v2958 : BitVec 1 := Scalar.cmpi .ne v2952 v2957
  let v2959 : BitVec 32 := Scalar.remsi v2946 c8_i32_1438
  let c0_i32_1443 : BitVec 32 := 0#32
  let v2960 : BitVec 1 := Scalar.cmpi .ne v2959 c0_i32_1443
  let v2961 : BitVec 1 := Scalar.andi v2958 v2960
  let v2947 : BitVec 32 := Scalar.divsi v2946 c8_i32_1438
  let c1_i32_1444 : BitVec 32 := 1#32
  let v2962 : BitVec 32 := Scalar.subi v2947 c1_i32_1444
  let v2963 : BitVec 32 := Scalar.select v2961 v2962 v2947
  let v2964 : BitVec 32 := Scalar.muli c8_i32_1445 v2963
  let v2965 : BitVec 32 := v2964
  let c3584_i32_1452 : BitVec 32 := 3584#32
  let v2976 : BitVec 32 := Scalar.addi v2965 c3584_i32_1452
  let v2977 : Index := Scalar.indexCast v2976
  let c0_1453 : Index := 0#32
  ![v2977.toNat, 0]

def k0_chk58 (v2946 : BitVec 32) : Prop :=
  (8 ∣ (k0_mult58 v2946).toNat) ∧
  (∀ a, (k0_off115 v2946) a + S520x256.size a ≤ S8192x256.size a)
theorem k0_mult58_dvd : ∀ (v2946 : BitVec 32) (k0_hw58 : k0_chk58 v2946), 8 ∣ (k0_mult58 v2946).toNat := fun v2946 k0_hw58 => k0_hw58.1
theorem k0_off115_inb : ∀ (v2946 : BitVec 32) (k0_hw58 : k0_chk58 v2946), ∀ a, (k0_off115 v2946) a + S520x256.size a ≤ S8192x256.size a := fun v2946 k0_hw58 => k0_hw58.2

def k0_off116 (i : grid0.Coords) : Fin 2 → Nat :=
  let arg0 : BitVec 32 := BitVec.ofNat 32 (i 0).val
  let v2992 : Index := Scalar.indexCast arg0
  let c1_1461 : Index := 1#32
  ![v2992.toNat, 1]
def k0_mult59 (v2997 : BitVec 32) : BitVec 32 :=
  let c8_i32_1470 : BitVec 32 := 8#32
  let c0_i32_1464 : BitVec 32 := 0#32
  let v2999 : BitVec 1 := Scalar.cmpi .sgt v2997 c0_i32_1464
  let v3000 : BitVec 32 := Scalar.extui v2999
  let c0_i32_1465 : BitVec 32 := 0#32
  let v3001 : BitVec 1 := Scalar.cmpi .slt v2997 c0_i32_1465
  let v3002 : BitVec 32 := Scalar.extui v3001
  let v3003 : BitVec 32 := Scalar.subi v3000 v3002
  let c8_i32_1463 : BitVec 32 := 8#32
  let c0_i32_1466 : BitVec 32 := 0#32
  let v3004 : BitVec 1 := Scalar.cmpi .sgt c8_i32_1463 c0_i32_1466
  let v3005 : BitVec 32 := Scalar.extui v3004
  let c0_i32_1467 : BitVec 32 := 0#32
  let v3006 : BitVec 1 := Scalar.cmpi .slt c8_i32_1463 c0_i32_1467
  let v3007 : BitVec 32 := Scalar.extui v3006
  let v3008 : BitVec 32 := Scalar.subi v3005 v3007
  let v3009 : BitVec 1 := Scalar.cmpi .ne v3003 v3008
  let v3010 : BitVec 32 := Scalar.remsi v2997 c8_i32_1463
  let c0_i32_1468 : BitVec 32 := 0#32
  let v3011 : BitVec 1 := Scalar.cmpi .ne v3010 c0_i32_1468
  let v3012 : BitVec 1 := Scalar.andi v3009 v3011
  let v2998 : BitVec 32 := Scalar.divsi v2997 c8_i32_1463
  let c1_i32_1469 : BitVec 32 := 1#32
  let v3013 : BitVec 32 := Scalar.subi v2998 c1_i32_1469
  let v3014 : BitVec 32 := Scalar.select v3012 v3013 v2998
  let v3015 : BitVec 32 := Scalar.muli c8_i32_1470 v3014
  v3015

def k0_off117 (v2997 : BitVec 32) : Fin 2 → Nat :=
  let c8_i32_1470 : BitVec 32 := 8#32
  let c0_i32_1464 : BitVec 32 := 0#32
  let v2999 : BitVec 1 := Scalar.cmpi .sgt v2997 c0_i32_1464
  let v3000 : BitVec 32 := Scalar.extui v2999
  let c0_i32_1465 : BitVec 32 := 0#32
  let v3001 : BitVec 1 := Scalar.cmpi .slt v2997 c0_i32_1465
  let v3002 : BitVec 32 := Scalar.extui v3001
  let v3003 : BitVec 32 := Scalar.subi v3000 v3002
  let c8_i32_1463 : BitVec 32 := 8#32
  let c0_i32_1466 : BitVec 32 := 0#32
  let v3004 : BitVec 1 := Scalar.cmpi .sgt c8_i32_1463 c0_i32_1466
  let v3005 : BitVec 32 := Scalar.extui v3004
  let c0_i32_1467 : BitVec 32 := 0#32
  let v3006 : BitVec 1 := Scalar.cmpi .slt c8_i32_1463 c0_i32_1467
  let v3007 : BitVec 32 := Scalar.extui v3006
  let v3008 : BitVec 32 := Scalar.subi v3005 v3007
  let v3009 : BitVec 1 := Scalar.cmpi .ne v3003 v3008
  let v3010 : BitVec 32 := Scalar.remsi v2997 c8_i32_1463
  let c0_i32_1468 : BitVec 32 := 0#32
  let v3011 : BitVec 1 := Scalar.cmpi .ne v3010 c0_i32_1468
  let v3012 : BitVec 1 := Scalar.andi v3009 v3011
  let v2998 : BitVec 32 := Scalar.divsi v2997 c8_i32_1463
  let c1_i32_1469 : BitVec 32 := 1#32
  let v3013 : BitVec 32 := Scalar.subi v2998 c1_i32_1469
  let v3014 : BitVec 32 := Scalar.select v3012 v3013 v2998
  let v3015 : BitVec 32 := Scalar.muli c8_i32_1470 v3014
  let v3016 : BitVec 32 := v3015
  let c3584_i32_1477 : BitVec 32 := 3584#32
  let v3027 : BitVec 32 := Scalar.addi v3016 c3584_i32_1477
  let v3028 : Index := Scalar.indexCast v3027
  let c0_1478 : Index := 0#32
  ![v3028.toNat, 0]

def k0_chk59 (v2997 : BitVec 32) : Prop :=
  (8 ∣ (k0_mult59 v2997).toNat) ∧
  (∀ a, (k0_off117 v2997) a + S520x256.size a ≤ S8192x256.size a)
theorem k0_mult59_dvd : ∀ (v2997 : BitVec 32) (k0_hw59 : k0_chk59 v2997), 8 ∣ (k0_mult59 v2997).toNat := fun v2997 k0_hw59 => k0_hw59.1
theorem k0_off117_inb : ∀ (v2997 : BitVec 32) (k0_hw59 : k0_chk59 v2997), ∀ a, (k0_off117 v2997) a + S520x256.size a ≤ S8192x256.size a := fun v2997 k0_hw59 => k0_hw59.2

def k0_off118 (i : grid0.Coords) : Fin 2 → Nat :=
  let arg0 : BitVec 32 := BitVec.ofNat 32 (i 0).val
  let v3043 : Index := Scalar.indexCast arg0
  let c2_1486 : Index := 2#32
  ![v3043.toNat, 2]
def k0_mult60 (v3048 : BitVec 32) : BitVec 32 :=
  let c8_i32_1495 : BitVec 32 := 8#32
  let c0_i32_1489 : BitVec 32 := 0#32
  let v3050 : BitVec 1 := Scalar.cmpi .sgt v3048 c0_i32_1489
  let v3051 : BitVec 32 := Scalar.extui v3050
  let c0_i32_1490 : BitVec 32 := 0#32
  let v3052 : BitVec 1 := Scalar.cmpi .slt v3048 c0_i32_1490
  let v3053 : BitVec 32 := Scalar.extui v3052
  let v3054 : BitVec 32 := Scalar.subi v3051 v3053
  let c8_i32_1488 : BitVec 32 := 8#32
  let c0_i32_1491 : BitVec 32 := 0#32
  let v3055 : BitVec 1 := Scalar.cmpi .sgt c8_i32_1488 c0_i32_1491
  let v3056 : BitVec 32 := Scalar.extui v3055
  let c0_i32_1492 : BitVec 32 := 0#32
  let v3057 : BitVec 1 := Scalar.cmpi .slt c8_i32_1488 c0_i32_1492
  let v3058 : BitVec 32 := Scalar.extui v3057
  let v3059 : BitVec 32 := Scalar.subi v3056 v3058
  let v3060 : BitVec 1 := Scalar.cmpi .ne v3054 v3059
  let v3061 : BitVec 32 := Scalar.remsi v3048 c8_i32_1488
  let c0_i32_1493 : BitVec 32 := 0#32
  let v3062 : BitVec 1 := Scalar.cmpi .ne v3061 c0_i32_1493
  let v3063 : BitVec 1 := Scalar.andi v3060 v3062
  let v3049 : BitVec 32 := Scalar.divsi v3048 c8_i32_1488
  let c1_i32_1494 : BitVec 32 := 1#32
  let v3064 : BitVec 32 := Scalar.subi v3049 c1_i32_1494
  let v3065 : BitVec 32 := Scalar.select v3063 v3064 v3049
  let v3066 : BitVec 32 := Scalar.muli c8_i32_1495 v3065
  v3066

def k0_off119 (v3048 : BitVec 32) : Fin 2 → Nat :=
  let c8_i32_1495 : BitVec 32 := 8#32
  let c0_i32_1489 : BitVec 32 := 0#32
  let v3050 : BitVec 1 := Scalar.cmpi .sgt v3048 c0_i32_1489
  let v3051 : BitVec 32 := Scalar.extui v3050
  let c0_i32_1490 : BitVec 32 := 0#32
  let v3052 : BitVec 1 := Scalar.cmpi .slt v3048 c0_i32_1490
  let v3053 : BitVec 32 := Scalar.extui v3052
  let v3054 : BitVec 32 := Scalar.subi v3051 v3053
  let c8_i32_1488 : BitVec 32 := 8#32
  let c0_i32_1491 : BitVec 32 := 0#32
  let v3055 : BitVec 1 := Scalar.cmpi .sgt c8_i32_1488 c0_i32_1491
  let v3056 : BitVec 32 := Scalar.extui v3055
  let c0_i32_1492 : BitVec 32 := 0#32
  let v3057 : BitVec 1 := Scalar.cmpi .slt c8_i32_1488 c0_i32_1492
  let v3058 : BitVec 32 := Scalar.extui v3057
  let v3059 : BitVec 32 := Scalar.subi v3056 v3058
  let v3060 : BitVec 1 := Scalar.cmpi .ne v3054 v3059
  let v3061 : BitVec 32 := Scalar.remsi v3048 c8_i32_1488
  let c0_i32_1493 : BitVec 32 := 0#32
  let v3062 : BitVec 1 := Scalar.cmpi .ne v3061 c0_i32_1493
  let v3063 : BitVec 1 := Scalar.andi v3060 v3062
  let v3049 : BitVec 32 := Scalar.divsi v3048 c8_i32_1488
  let c1_i32_1494 : BitVec 32 := 1#32
  let v3064 : BitVec 32 := Scalar.subi v3049 c1_i32_1494
  let v3065 : BitVec 32 := Scalar.select v3063 v3064 v3049
  let v3066 : BitVec 32 := Scalar.muli c8_i32_1495 v3065
  let v3067 : BitVec 32 := v3066
  let c3584_i32_1502 : BitVec 32 := 3584#32
  let v3078 : BitVec 32 := Scalar.addi v3067 c3584_i32_1502
  let v3079 : Index := Scalar.indexCast v3078
  let c0_1503 : Index := 0#32
  ![v3079.toNat, 0]

def k0_chk60 (v3048 : BitVec 32) : Prop :=
  (8 ∣ (k0_mult60 v3048).toNat) ∧
  (∀ a, (k0_off119 v3048) a + S520x256.size a ≤ S8192x256.size a)
theorem k0_mult60_dvd : ∀ (v3048 : BitVec 32) (k0_hw60 : k0_chk60 v3048), 8 ∣ (k0_mult60 v3048).toNat := fun v3048 k0_hw60 => k0_hw60.1
theorem k0_off119_inb : ∀ (v3048 : BitVec 32) (k0_hw60 : k0_chk60 v3048), ∀ a, (k0_off119 v3048) a + S520x256.size a ≤ S8192x256.size a := fun v3048 k0_hw60 => k0_hw60.2

def k0_off120 (i : grid0.Coords) : Fin 2 → Nat :=
  let arg0 : BitVec 32 := BitVec.ofNat 32 (i 0).val
  let v3094 : Index := Scalar.indexCast arg0
  let c3_1511 : Index := 3#32
  ![v3094.toNat, 3]
def k0_mult61 (v3099 : BitVec 32) : BitVec 32 :=
  let c8_i32_1520 : BitVec 32 := 8#32
  let c0_i32_1514 : BitVec 32 := 0#32
  let v3101 : BitVec 1 := Scalar.cmpi .sgt v3099 c0_i32_1514
  let v3102 : BitVec 32 := Scalar.extui v3101
  let c0_i32_1515 : BitVec 32 := 0#32
  let v3103 : BitVec 1 := Scalar.cmpi .slt v3099 c0_i32_1515
  let v3104 : BitVec 32 := Scalar.extui v3103
  let v3105 : BitVec 32 := Scalar.subi v3102 v3104
  let c8_i32_1513 : BitVec 32 := 8#32
  let c0_i32_1516 : BitVec 32 := 0#32
  let v3106 : BitVec 1 := Scalar.cmpi .sgt c8_i32_1513 c0_i32_1516
  let v3107 : BitVec 32 := Scalar.extui v3106
  let c0_i32_1517 : BitVec 32 := 0#32
  let v3108 : BitVec 1 := Scalar.cmpi .slt c8_i32_1513 c0_i32_1517
  let v3109 : BitVec 32 := Scalar.extui v3108
  let v3110 : BitVec 32 := Scalar.subi v3107 v3109
  let v3111 : BitVec 1 := Scalar.cmpi .ne v3105 v3110
  let v3112 : BitVec 32 := Scalar.remsi v3099 c8_i32_1513
  let c0_i32_1518 : BitVec 32 := 0#32
  let v3113 : BitVec 1 := Scalar.cmpi .ne v3112 c0_i32_1518
  let v3114 : BitVec 1 := Scalar.andi v3111 v3113
  let v3100 : BitVec 32 := Scalar.divsi v3099 c8_i32_1513
  let c1_i32_1519 : BitVec 32 := 1#32
  let v3115 : BitVec 32 := Scalar.subi v3100 c1_i32_1519
  let v3116 : BitVec 32 := Scalar.select v3114 v3115 v3100
  let v3117 : BitVec 32 := Scalar.muli c8_i32_1520 v3116
  v3117

def k0_off121 (v3099 : BitVec 32) : Fin 2 → Nat :=
  let c8_i32_1520 : BitVec 32 := 8#32
  let c0_i32_1514 : BitVec 32 := 0#32
  let v3101 : BitVec 1 := Scalar.cmpi .sgt v3099 c0_i32_1514
  let v3102 : BitVec 32 := Scalar.extui v3101
  let c0_i32_1515 : BitVec 32 := 0#32
  let v3103 : BitVec 1 := Scalar.cmpi .slt v3099 c0_i32_1515
  let v3104 : BitVec 32 := Scalar.extui v3103
  let v3105 : BitVec 32 := Scalar.subi v3102 v3104
  let c8_i32_1513 : BitVec 32 := 8#32
  let c0_i32_1516 : BitVec 32 := 0#32
  let v3106 : BitVec 1 := Scalar.cmpi .sgt c8_i32_1513 c0_i32_1516
  let v3107 : BitVec 32 := Scalar.extui v3106
  let c0_i32_1517 : BitVec 32 := 0#32
  let v3108 : BitVec 1 := Scalar.cmpi .slt c8_i32_1513 c0_i32_1517
  let v3109 : BitVec 32 := Scalar.extui v3108
  let v3110 : BitVec 32 := Scalar.subi v3107 v3109
  let v3111 : BitVec 1 := Scalar.cmpi .ne v3105 v3110
  let v3112 : BitVec 32 := Scalar.remsi v3099 c8_i32_1513
  let c0_i32_1518 : BitVec 32 := 0#32
  let v3113 : BitVec 1 := Scalar.cmpi .ne v3112 c0_i32_1518
  let v3114 : BitVec 1 := Scalar.andi v3111 v3113
  let v3100 : BitVec 32 := Scalar.divsi v3099 c8_i32_1513
  let c1_i32_1519 : BitVec 32 := 1#32
  let v3115 : BitVec 32 := Scalar.subi v3100 c1_i32_1519
  let v3116 : BitVec 32 := Scalar.select v3114 v3115 v3100
  let v3117 : BitVec 32 := Scalar.muli c8_i32_1520 v3116
  let v3118 : BitVec 32 := v3117
  let c3584_i32_1527 : BitVec 32 := 3584#32
  let v3129 : BitVec 32 := Scalar.addi v3118 c3584_i32_1527
  let v3130 : Index := Scalar.indexCast v3129
  let c0_1528 : Index := 0#32
  ![v3130.toNat, 0]

def k0_chk61 (v3099 : BitVec 32) : Prop :=
  (8 ∣ (k0_mult61 v3099).toNat) ∧
  (∀ a, (k0_off121 v3099) a + S520x256.size a ≤ S8192x256.size a)
theorem k0_mult61_dvd : ∀ (v3099 : BitVec 32) (k0_hw61 : k0_chk61 v3099), 8 ∣ (k0_mult61 v3099).toNat := fun v3099 k0_hw61 => k0_hw61.1
theorem k0_off121_inb : ∀ (v3099 : BitVec 32) (k0_hw61 : k0_chk61 v3099), ∀ a, (k0_off121 v3099) a + S520x256.size a ≤ S8192x256.size a := fun v3099 k0_hw61 => k0_hw61.2

def k0_off122 (i : grid0.Coords) : Fin 2 → Nat :=
  let arg0 : BitVec 32 := BitVec.ofNat 32 (i 0).val
  let v3145 : Index := Scalar.indexCast arg0
  let c4_1536 : Index := 4#32
  ![v3145.toNat, 4]
def k0_mult62 (v3150 : BitVec 32) : BitVec 32 :=
  let c8_i32_1545 : BitVec 32 := 8#32
  let c0_i32_1539 : BitVec 32 := 0#32
  let v3152 : BitVec 1 := Scalar.cmpi .sgt v3150 c0_i32_1539
  let v3153 : BitVec 32 := Scalar.extui v3152
  let c0_i32_1540 : BitVec 32 := 0#32
  let v3154 : BitVec 1 := Scalar.cmpi .slt v3150 c0_i32_1540
  let v3155 : BitVec 32 := Scalar.extui v3154
  let v3156 : BitVec 32 := Scalar.subi v3153 v3155
  let c8_i32_1538 : BitVec 32 := 8#32
  let c0_i32_1541 : BitVec 32 := 0#32
  let v3157 : BitVec 1 := Scalar.cmpi .sgt c8_i32_1538 c0_i32_1541
  let v3158 : BitVec 32 := Scalar.extui v3157
  let c0_i32_1542 : BitVec 32 := 0#32
  let v3159 : BitVec 1 := Scalar.cmpi .slt c8_i32_1538 c0_i32_1542
  let v3160 : BitVec 32 := Scalar.extui v3159
  let v3161 : BitVec 32 := Scalar.subi v3158 v3160
  let v3162 : BitVec 1 := Scalar.cmpi .ne v3156 v3161
  let v3163 : BitVec 32 := Scalar.remsi v3150 c8_i32_1538
  let c0_i32_1543 : BitVec 32 := 0#32
  let v3164 : BitVec 1 := Scalar.cmpi .ne v3163 c0_i32_1543
  let v3165 : BitVec 1 := Scalar.andi v3162 v3164
  let v3151 : BitVec 32 := Scalar.divsi v3150 c8_i32_1538
  let c1_i32_1544 : BitVec 32 := 1#32
  let v3166 : BitVec 32 := Scalar.subi v3151 c1_i32_1544
  let v3167 : BitVec 32 := Scalar.select v3165 v3166 v3151
  let v3168 : BitVec 32 := Scalar.muli c8_i32_1545 v3167
  v3168

def k0_off123 (v3150 : BitVec 32) : Fin 2 → Nat :=
  let c8_i32_1545 : BitVec 32 := 8#32
  let c0_i32_1539 : BitVec 32 := 0#32
  let v3152 : BitVec 1 := Scalar.cmpi .sgt v3150 c0_i32_1539
  let v3153 : BitVec 32 := Scalar.extui v3152
  let c0_i32_1540 : BitVec 32 := 0#32
  let v3154 : BitVec 1 := Scalar.cmpi .slt v3150 c0_i32_1540
  let v3155 : BitVec 32 := Scalar.extui v3154
  let v3156 : BitVec 32 := Scalar.subi v3153 v3155
  let c8_i32_1538 : BitVec 32 := 8#32
  let c0_i32_1541 : BitVec 32 := 0#32
  let v3157 : BitVec 1 := Scalar.cmpi .sgt c8_i32_1538 c0_i32_1541
  let v3158 : BitVec 32 := Scalar.extui v3157
  let c0_i32_1542 : BitVec 32 := 0#32
  let v3159 : BitVec 1 := Scalar.cmpi .slt c8_i32_1538 c0_i32_1542
  let v3160 : BitVec 32 := Scalar.extui v3159
  let v3161 : BitVec 32 := Scalar.subi v3158 v3160
  let v3162 : BitVec 1 := Scalar.cmpi .ne v3156 v3161
  let v3163 : BitVec 32 := Scalar.remsi v3150 c8_i32_1538
  let c0_i32_1543 : BitVec 32 := 0#32
  let v3164 : BitVec 1 := Scalar.cmpi .ne v3163 c0_i32_1543
  let v3165 : BitVec 1 := Scalar.andi v3162 v3164
  let v3151 : BitVec 32 := Scalar.divsi v3150 c8_i32_1538
  let c1_i32_1544 : BitVec 32 := 1#32
  let v3166 : BitVec 32 := Scalar.subi v3151 c1_i32_1544
  let v3167 : BitVec 32 := Scalar.select v3165 v3166 v3151
  let v3168 : BitVec 32 := Scalar.muli c8_i32_1545 v3167
  let v3169 : BitVec 32 := v3168
  let c3584_i32_1552 : BitVec 32 := 3584#32
  let v3180 : BitVec 32 := Scalar.addi v3169 c3584_i32_1552
  let v3181 : Index := Scalar.indexCast v3180
  let c0_1553 : Index := 0#32
  ![v3181.toNat, 0]

def k0_chk62 (v3150 : BitVec 32) : Prop :=
  (8 ∣ (k0_mult62 v3150).toNat) ∧
  (∀ a, (k0_off123 v3150) a + S520x256.size a ≤ S8192x256.size a)
theorem k0_mult62_dvd : ∀ (v3150 : BitVec 32) (k0_hw62 : k0_chk62 v3150), 8 ∣ (k0_mult62 v3150).toNat := fun v3150 k0_hw62 => k0_hw62.1
theorem k0_off123_inb : ∀ (v3150 : BitVec 32) (k0_hw62 : k0_chk62 v3150), ∀ a, (k0_off123 v3150) a + S520x256.size a ≤ S8192x256.size a := fun v3150 k0_hw62 => k0_hw62.2

def k0_off124 (i : grid0.Coords) : Fin 2 → Nat :=
  let arg0 : BitVec 32 := BitVec.ofNat 32 (i 0).val
  let v3196 : Index := Scalar.indexCast arg0
  let c5_1561 : Index := 5#32
  ![v3196.toNat, 5]
def k0_mult63 (v3201 : BitVec 32) : BitVec 32 :=
  let c8_i32_1570 : BitVec 32 := 8#32
  let c0_i32_1564 : BitVec 32 := 0#32
  let v3203 : BitVec 1 := Scalar.cmpi .sgt v3201 c0_i32_1564
  let v3204 : BitVec 32 := Scalar.extui v3203
  let c0_i32_1565 : BitVec 32 := 0#32
  let v3205 : BitVec 1 := Scalar.cmpi .slt v3201 c0_i32_1565
  let v3206 : BitVec 32 := Scalar.extui v3205
  let v3207 : BitVec 32 := Scalar.subi v3204 v3206
  let c8_i32_1563 : BitVec 32 := 8#32
  let c0_i32_1566 : BitVec 32 := 0#32
  let v3208 : BitVec 1 := Scalar.cmpi .sgt c8_i32_1563 c0_i32_1566
  let v3209 : BitVec 32 := Scalar.extui v3208
  let c0_i32_1567 : BitVec 32 := 0#32
  let v3210 : BitVec 1 := Scalar.cmpi .slt c8_i32_1563 c0_i32_1567
  let v3211 : BitVec 32 := Scalar.extui v3210
  let v3212 : BitVec 32 := Scalar.subi v3209 v3211
  let v3213 : BitVec 1 := Scalar.cmpi .ne v3207 v3212
  let v3214 : BitVec 32 := Scalar.remsi v3201 c8_i32_1563
  let c0_i32_1568 : BitVec 32 := 0#32
  let v3215 : BitVec 1 := Scalar.cmpi .ne v3214 c0_i32_1568
  let v3216 : BitVec 1 := Scalar.andi v3213 v3215
  let v3202 : BitVec 32 := Scalar.divsi v3201 c8_i32_1563
  let c1_i32_1569 : BitVec 32 := 1#32
  let v3217 : BitVec 32 := Scalar.subi v3202 c1_i32_1569
  let v3218 : BitVec 32 := Scalar.select v3216 v3217 v3202
  let v3219 : BitVec 32 := Scalar.muli c8_i32_1570 v3218
  v3219

def k0_off125 (v3201 : BitVec 32) : Fin 2 → Nat :=
  let c8_i32_1570 : BitVec 32 := 8#32
  let c0_i32_1564 : BitVec 32 := 0#32
  let v3203 : BitVec 1 := Scalar.cmpi .sgt v3201 c0_i32_1564
  let v3204 : BitVec 32 := Scalar.extui v3203
  let c0_i32_1565 : BitVec 32 := 0#32
  let v3205 : BitVec 1 := Scalar.cmpi .slt v3201 c0_i32_1565
  let v3206 : BitVec 32 := Scalar.extui v3205
  let v3207 : BitVec 32 := Scalar.subi v3204 v3206
  let c8_i32_1563 : BitVec 32 := 8#32
  let c0_i32_1566 : BitVec 32 := 0#32
  let v3208 : BitVec 1 := Scalar.cmpi .sgt c8_i32_1563 c0_i32_1566
  let v3209 : BitVec 32 := Scalar.extui v3208
  let c0_i32_1567 : BitVec 32 := 0#32
  let v3210 : BitVec 1 := Scalar.cmpi .slt c8_i32_1563 c0_i32_1567
  let v3211 : BitVec 32 := Scalar.extui v3210
  let v3212 : BitVec 32 := Scalar.subi v3209 v3211
  let v3213 : BitVec 1 := Scalar.cmpi .ne v3207 v3212
  let v3214 : BitVec 32 := Scalar.remsi v3201 c8_i32_1563
  let c0_i32_1568 : BitVec 32 := 0#32
  let v3215 : BitVec 1 := Scalar.cmpi .ne v3214 c0_i32_1568
  let v3216 : BitVec 1 := Scalar.andi v3213 v3215
  let v3202 : BitVec 32 := Scalar.divsi v3201 c8_i32_1563
  let c1_i32_1569 : BitVec 32 := 1#32
  let v3217 : BitVec 32 := Scalar.subi v3202 c1_i32_1569
  let v3218 : BitVec 32 := Scalar.select v3216 v3217 v3202
  let v3219 : BitVec 32 := Scalar.muli c8_i32_1570 v3218
  let v3220 : BitVec 32 := v3219
  let c3584_i32_1577 : BitVec 32 := 3584#32
  let v3231 : BitVec 32 := Scalar.addi v3220 c3584_i32_1577
  let v3232 : Index := Scalar.indexCast v3231
  let c0_1578 : Index := 0#32
  ![v3232.toNat, 0]

def k0_chk63 (v3201 : BitVec 32) : Prop :=
  (8 ∣ (k0_mult63 v3201).toNat) ∧
  (∀ a, (k0_off125 v3201) a + S520x256.size a ≤ S8192x256.size a)
theorem k0_mult63_dvd : ∀ (v3201 : BitVec 32) (k0_hw63 : k0_chk63 v3201), 8 ∣ (k0_mult63 v3201).toNat := fun v3201 k0_hw63 => k0_hw63.1
theorem k0_off125_inb : ∀ (v3201 : BitVec 32) (k0_hw63 : k0_chk63 v3201), ∀ a, (k0_off125 v3201) a + S520x256.size a ≤ S8192x256.size a := fun v3201 k0_hw63 => k0_hw63.2

def k0_off126 (i : grid0.Coords) : Fin 2 → Nat :=
  let arg0 : BitVec 32 := BitVec.ofNat 32 (i 0).val
  let v3247 : Index := Scalar.indexCast arg0
  let c6_1586 : Index := 6#32
  ![v3247.toNat, 6]
def k0_mult64 (v3252 : BitVec 32) : BitVec 32 :=
  let c8_i32_1595 : BitVec 32 := 8#32
  let c0_i32_1589 : BitVec 32 := 0#32
  let v3254 : BitVec 1 := Scalar.cmpi .sgt v3252 c0_i32_1589
  let v3255 : BitVec 32 := Scalar.extui v3254
  let c0_i32_1590 : BitVec 32 := 0#32
  let v3256 : BitVec 1 := Scalar.cmpi .slt v3252 c0_i32_1590
  let v3257 : BitVec 32 := Scalar.extui v3256
  let v3258 : BitVec 32 := Scalar.subi v3255 v3257
  let c8_i32_1588 : BitVec 32 := 8#32
  let c0_i32_1591 : BitVec 32 := 0#32
  let v3259 : BitVec 1 := Scalar.cmpi .sgt c8_i32_1588 c0_i32_1591
  let v3260 : BitVec 32 := Scalar.extui v3259
  let c0_i32_1592 : BitVec 32 := 0#32
  let v3261 : BitVec 1 := Scalar.cmpi .slt c8_i32_1588 c0_i32_1592
  let v3262 : BitVec 32 := Scalar.extui v3261
  let v3263 : BitVec 32 := Scalar.subi v3260 v3262
  let v3264 : BitVec 1 := Scalar.cmpi .ne v3258 v3263
  let v3265 : BitVec 32 := Scalar.remsi v3252 c8_i32_1588
  let c0_i32_1593 : BitVec 32 := 0#32
  let v3266 : BitVec 1 := Scalar.cmpi .ne v3265 c0_i32_1593
  let v3267 : BitVec 1 := Scalar.andi v3264 v3266
  let v3253 : BitVec 32 := Scalar.divsi v3252 c8_i32_1588
  let c1_i32_1594 : BitVec 32 := 1#32
  let v3268 : BitVec 32 := Scalar.subi v3253 c1_i32_1594
  let v3269 : BitVec 32 := Scalar.select v3267 v3268 v3253
  let v3270 : BitVec 32 := Scalar.muli c8_i32_1595 v3269
  v3270

def k0_off127 (v3252 : BitVec 32) : Fin 2 → Nat :=
  let c8_i32_1595 : BitVec 32 := 8#32
  let c0_i32_1589 : BitVec 32 := 0#32
  let v3254 : BitVec 1 := Scalar.cmpi .sgt v3252 c0_i32_1589
  let v3255 : BitVec 32 := Scalar.extui v3254
  let c0_i32_1590 : BitVec 32 := 0#32
  let v3256 : BitVec 1 := Scalar.cmpi .slt v3252 c0_i32_1590
  let v3257 : BitVec 32 := Scalar.extui v3256
  let v3258 : BitVec 32 := Scalar.subi v3255 v3257
  let c8_i32_1588 : BitVec 32 := 8#32
  let c0_i32_1591 : BitVec 32 := 0#32
  let v3259 : BitVec 1 := Scalar.cmpi .sgt c8_i32_1588 c0_i32_1591
  let v3260 : BitVec 32 := Scalar.extui v3259
  let c0_i32_1592 : BitVec 32 := 0#32
  let v3261 : BitVec 1 := Scalar.cmpi .slt c8_i32_1588 c0_i32_1592
  let v3262 : BitVec 32 := Scalar.extui v3261
  let v3263 : BitVec 32 := Scalar.subi v3260 v3262
  let v3264 : BitVec 1 := Scalar.cmpi .ne v3258 v3263
  let v3265 : BitVec 32 := Scalar.remsi v3252 c8_i32_1588
  let c0_i32_1593 : BitVec 32 := 0#32
  let v3266 : BitVec 1 := Scalar.cmpi .ne v3265 c0_i32_1593
  let v3267 : BitVec 1 := Scalar.andi v3264 v3266
  let v3253 : BitVec 32 := Scalar.divsi v3252 c8_i32_1588
  let c1_i32_1594 : BitVec 32 := 1#32
  let v3268 : BitVec 32 := Scalar.subi v3253 c1_i32_1594
  let v3269 : BitVec 32 := Scalar.select v3267 v3268 v3253
  let v3270 : BitVec 32 := Scalar.muli c8_i32_1595 v3269
  let v3271 : BitVec 32 := v3270
  let c3584_i32_1602 : BitVec 32 := 3584#32
  let v3282 : BitVec 32 := Scalar.addi v3271 c3584_i32_1602
  let v3283 : Index := Scalar.indexCast v3282
  let c0_1603 : Index := 0#32
  ![v3283.toNat, 0]

def k0_chk64 (v3252 : BitVec 32) : Prop :=
  (8 ∣ (k0_mult64 v3252).toNat) ∧
  (∀ a, (k0_off127 v3252) a + S520x256.size a ≤ S8192x256.size a)
theorem k0_mult64_dvd : ∀ (v3252 : BitVec 32) (k0_hw64 : k0_chk64 v3252), 8 ∣ (k0_mult64 v3252).toNat := fun v3252 k0_hw64 => k0_hw64.1
theorem k0_off127_inb : ∀ (v3252 : BitVec 32) (k0_hw64 : k0_chk64 v3252), ∀ a, (k0_off127 v3252) a + S520x256.size a ≤ S8192x256.size a := fun v3252 k0_hw64 => k0_hw64.2

def k0_off128 (i : grid0.Coords) : Fin 2 → Nat :=
  let arg0 : BitVec 32 := BitVec.ofNat 32 (i 0).val
  let v3298 : Index := Scalar.indexCast arg0
  let c7_1611 : Index := 7#32
  ![v3298.toNat, 7]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AggRefIdeal.lean ====
abbrev S1x8 : Shape := ⟨2, ![1, 8]⟩
abbrev S4x8 : Shape := ⟨2, ![4, 8]⟩
abbrev S4x4096x16x64 : Shape := ⟨4, ![4, 4096, 16, 64]⟩
abbrev S8 : Shape := ⟨1, ![8]⟩
abbrev S4x16x64x4096 : Shape := ⟨4, ![4, 16, 64, 4096]⟩
abbrev S_ : Shape := ⟨0, ![]⟩
abbrev S4096 : Shape := ⟨1, ![4096]⟩
abbrev S1 : Shape := ⟨1, ![1]⟩
abbrev S4096x1 : Shape := ⟨2, ![4096, 1]⟩
abbrev S4x1 : Shape := ⟨2, ![4, 1]⟩
abbrev S4 : Shape := ⟨1, ![4]⟩
abbrev S4x1x1x1 : Shape := ⟨4, ![4, 1, 1, 1]⟩
abbrev S4x4096x1024 : Shape := ⟨3, ![4, 4096, 1024]⟩

abbrev nBuf : Space → Nat
  | .hbm => 282
  | .vmem => 0
  | .smem => 0
  | _ => 0

abbrev hbmTy0_0 (i : Nat) : BufTy := match i % 128 with
  | 0 => ⟨S1x8, .i32⟩
  | 1 => ⟨S4x8, .f32⟩
  | 2 => ⟨S4x4096x16x64, .f32⟩
  | 3 => ⟨S8, .i32⟩
  | 4 => ⟨S4x16x64x4096, .f32⟩
  | 5 => ⟨S_, .f32⟩
  | 6 => ⟨S4x16x64x4096, .f32⟩
  | 7 => ⟨S4096, .i32⟩
  | 8 => ⟨S1, .i32⟩
  | 9 => ⟨S_, .i32⟩
  | 10 => ⟨S4096, .i32⟩
  | 11 => ⟨S4096, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i1⟩
  | 26 => ⟨S_, .i32⟩
  | 27 => ⟨S_, .i1⟩
  | 28 => ⟨S4096, .i1⟩
  | 29 => ⟨S4096, .i1⟩
  | 30 => ⟨S4096, .i1⟩
  | 31 => ⟨S4096, .i32⟩
  | 32 => ⟨S4096, .i32⟩
  | 33 => ⟨S4096, .i32⟩
  | 34 => ⟨S4096x1, .i32⟩
  | 35 => ⟨S4x16x64x4096, .f32⟩
  | 36 => ⟨S4x1, .f32⟩
  | 37 => ⟨S4, .f32⟩
  | 38 => ⟨S4x1x1x1, .f32⟩
  | 39 => ⟨S4x16x64x4096, .f32⟩
  | 40 => ⟨S4x16x64x4096, .f32⟩
  | 41 => ⟨S4x16x64x4096, .f32⟩
  | 42 => ⟨S1, .i32⟩
  | 43 => ⟨S_, .i32⟩
  | 44 => ⟨S4096, .i32⟩
  | 45 => ⟨S4096, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i1⟩
  | 60 => ⟨S_, .i32⟩
  | 61 => ⟨S_, .i1⟩
  | 62 => ⟨S4096, .i1⟩
  | 63 => ⟨S4096, .i1⟩
  | 64 => ⟨S4096, .i1⟩
  | 65 => ⟨S4096, .i32⟩
  | 66 => ⟨S4096, .i32⟩
  | 67 => ⟨S4096, .i32⟩
  | 68 => ⟨S4096x1, .i32⟩
  | 69 => ⟨S4x16x64x4096, .f32⟩
  | 70 => ⟨S4x1, .f32⟩
  | 71 => ⟨S4, .f32⟩
  | 72 => ⟨S4x1x1x1, .f32⟩
  | 73 => ⟨S4x16x64x4096, .f32⟩
  | 74 => ⟨S4x16x64x4096, .f32⟩
  | 75 => ⟨S4x16x64x4096, .f32⟩
  | 76 => ⟨S1, .i32⟩
  | 77 => ⟨S_, .i32⟩
  | 78 => ⟨S4096, .i32⟩
  | 79 => ⟨S4096, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S4096, .i32⟩
  | 87 => ⟨S4096, .i32⟩
  | 88 => ⟨S_, .i32⟩
  | 89 => ⟨S4096, .i32⟩
  | 90 => ⟨S4096, .i1⟩
  | 91 => ⟨S_, .i32⟩
  | 92 => ⟨S4096, .i32⟩
  | 93 => ⟨S4096, .i1⟩
  | 94 => ⟨S_, .i32⟩
  | 95 => ⟨S_, .i1⟩
  | 96 => ⟨S4096, .i1⟩
  | 97 => ⟨S4096, .i1⟩
  | 98 => ⟨S4096, .i1⟩
  | 99 => ⟨S4096, .i32⟩
  | 100 => ⟨S4096, .i32⟩
  | 101 => ⟨S4096, .i32⟩
  | 102 => ⟨S4096x1, .i32⟩
  | 103 => ⟨S4x16x64x4096, .f32⟩
  | 104 => ⟨S4x1, .f32⟩
  | 105 => ⟨S4, .f32⟩
  | 106 => ⟨S4x1x1x1, .f32⟩
  | 107 => ⟨S4x16x64x4096, .f32⟩
  | 108 => ⟨S4x16x64x4096, .f32⟩
  | 109 => ⟨S4x16x64x4096, .f32⟩
  | 110 => ⟨S1, .i32⟩
  | 111 => ⟨S_, .i32⟩
  | 112 => ⟨S4096, .i32⟩
  | 113 => ⟨S4096, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i1⟩
  | 125 => ⟨S_, .i32⟩
  | 126 => ⟨S4096, .i32⟩
  | 127 => ⟨S4096, .i1⟩
  | _ => ⟨S1x8, .i32⟩

abbrev hbmTy0_1 (i : Nat) : BufTy := match i % 128 with
  | 0 => ⟨S_, .i32⟩
  | 1 => ⟨S_, .i1⟩
  | 2 => ⟨S4096, .i1⟩
  | 3 => ⟨S4096, .i1⟩
  | 4 => ⟨S4096, .i1⟩
  | 5 => ⟨S4096, .i32⟩
  | 6 => ⟨S4096, .i32⟩
  | 7 => ⟨S4096, .i32⟩
  | 8 => ⟨S4096x1, .i32⟩
  | 9 => ⟨S4x16x64x4096, .f32⟩
  | 10 => ⟨S4x1, .f32⟩
  | 11 => ⟨S4, .f32⟩
  | 12 => ⟨S4x1x1x1, .f32⟩
  | 13 => ⟨S4x16x64x4096, .f32⟩
  | 14 => ⟨S4x16x64x4096, .f32⟩
  | 15 => ⟨S4x16x64x4096, .f32⟩
  | 16 => ⟨S1, .i32⟩
  | 17 => ⟨S_, .i32⟩
  | 18 => ⟨S4096, .i32⟩
  | 19 => ⟨S4096, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i1⟩
  | 31 => ⟨S_, .i32⟩
  | 32 => ⟨S4096, .i32⟩
  | 33 => ⟨S4096, .i1⟩
  | 34 => ⟨S_, .i32⟩
  | 35 => ⟨S_, .i1⟩
  | 36 => ⟨S4096, .i1⟩
  | 37 => ⟨S4096, .i1⟩
  | 38 => ⟨S4096, .i1⟩
  | 39 => ⟨S4096, .i32⟩
  | 40 => ⟨S4096, .i32⟩
  | 41 => ⟨S4096, .i32⟩
  | 42 => ⟨S4096x1, .i32⟩
  | 43 => ⟨S4x16x64x4096, .f32⟩
  | 44 => ⟨S4x1, .f32⟩
  | 45 => ⟨S4, .f32⟩
  | 46 => ⟨S4x1x1x1, .f32⟩
  | 47 => ⟨S4x16x64x4096, .f32⟩
  | 48 => ⟨S4x16x64x4096, .f32⟩
  | 49 => ⟨S4x16x64x4096, .f32⟩
  | 50 => ⟨S1, .i32⟩
  | 51 => ⟨S_, .i32⟩
  | 52 => ⟨S4096, .i32⟩
  | 53 => ⟨S4096, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i1⟩
  | 68 => ⟨S_, .i32⟩
  | 69 => ⟨S_, .i1⟩
  | 70 => ⟨S4096, .i1⟩
  | 71 => ⟨S4096, .i1⟩
  | 72 => ⟨S4096, .i1⟩
  | 73 => ⟨S4096, .i32⟩
  | 74 => ⟨S4096, .i32⟩
  | 75 => ⟨S4096, .i32⟩
  | 76 => ⟨S4096x1, .i32⟩
  | 77 => ⟨S4x16x64x4096, .f32⟩
  | 78 => ⟨S4x1, .f32⟩
  | 79 => ⟨S4, .f32⟩
  | 80 => ⟨S4x1x1x1, .f32⟩
  | 81 => ⟨S4x16x64x4096, .f32⟩
  | 82 => ⟨S4x16x64x4096, .f32⟩
  | 83 => ⟨S4x16x64x4096, .f32⟩
  | 84 => ⟨S1, .i32⟩
  | 85 => ⟨S_, .i32⟩
  | 86 => ⟨S4096, .i32⟩
  | 87 => ⟨S4096, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i1⟩
  | 99 => ⟨S_, .i32⟩
  | 100 => ⟨S4096, .i32⟩
  | 101 => ⟨S4096, .i1⟩
  | 102 => ⟨S_, .i32⟩
  | 103 => ⟨S_, .i1⟩
  | 104 => ⟨S4096, .i1⟩
  | 105 => ⟨S4096, .i1⟩
  | 106 => ⟨S4096, .i1⟩
  | 107 => ⟨S4096, .i32⟩
  | 108 => ⟨S4096, .i32⟩
  | 109 => ⟨S4096, .i32⟩
  | 110 => ⟨S4096x1, .i32⟩
  | 111 => ⟨S4x16x64x4096, .f32⟩
  | 112 => ⟨S4x1, .f32⟩
  | 113 => ⟨S4, .f32⟩
  | 114 => ⟨S4x1x1x1, .f32⟩
  | 115 => ⟨S4x16x64x4096, .f32⟩
  | 116 => ⟨S4x16x64x4096, .f32⟩
  | 117 => ⟨S4x16x64x4096, .f32⟩
  | 118 => ⟨S1, .i32⟩
  | 119 => ⟨S_, .i32⟩
  | 120 => ⟨S4096, .i32⟩
  | 121 => ⟨S4096, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S1x8, .i32⟩

abbrev hbmTy0_2 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i1⟩
  | 8 => ⟨S_, .i32⟩
  | 9 => ⟨S_, .i1⟩
  | 10 => ⟨S4096, .i1⟩
  | 11 => ⟨S4096, .i1⟩
  | 12 => ⟨S4096, .i1⟩
  | 13 => ⟨S4096, .i32⟩
  | 14 => ⟨S4096, .i32⟩
  | 15 => ⟨S4096, .i32⟩
  | 16 => ⟨S4096x1, .i32⟩
  | 17 => ⟨S4x16x64x4096, .f32⟩
  | 18 => ⟨S4x1, .f32⟩
  | 19 => ⟨S4, .f32⟩
  | 20 => ⟨S4x1x1x1, .f32⟩
  | 21 => ⟨S4x16x64x4096, .f32⟩
  | 22 => ⟨S4x16x64x4096, .f32⟩
  | 23 => ⟨S4x16x64x4096, .f32⟩
  | 24 => ⟨S4x4096x16x64, .f32⟩
  | 25 => ⟨S4x4096x1024, .f32⟩
  | _ => ⟨S1x8, .i32⟩

abbrev hbmTy (i : Nat) : BufTy := match i / 128 with
  | 0 => hbmTy0_0 i
  | 1 => hbmTy0_1 i
  | 2 => hbmTy0_2 i
  | _ => ⟨S1x8, .i32⟩

abbrev bufTy : (tb : Table) → Fin (tcTables nBuf tb) → BufTy
  | .hbm, ⟨i, _⟩ => hbmTy i
  | _, _ => ⟨S1x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v8 : Ref sig .tc := ⟨.hbm, 33, rfl⟩
abbrev main_call1_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_0 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v20 : Ref sig .tc := ⟨.hbm, 67, rfl⟩
abbrev main_call3_v0 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c_1 : Ref sig .tc := ⟨.hbm, 80, rfl⟩
abbrev main_call4_v0 : Ref sig .tc := ⟨.hbm, 81, rfl⟩
abbrev main_call4_c : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_c_1 : Ref sig .tc := ⟨.hbm, 88, rfl⟩
abbrev main_call4_v5 : Ref sig .tc := ⟨.hbm, 89, rfl⟩
abbrev main_call4_v6 : Ref sig .tc := ⟨.hbm, 90, rfl⟩
abbrev main_call4_c_2 : Ref sig .tc := ⟨.hbm, 91, rfl⟩
abbrev main_call4_v7 : Ref sig .tc := ⟨.hbm, 92, rfl⟩
abbrev main_call4_v8 : Ref sig .tc := ⟨.hbm, 93, rfl⟩
abbrev main_call4_c_3 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_v12 : Ref sig .tc := ⟨.hbm, 98, rfl⟩
abbrev main_call4_v13 : Ref sig .tc := ⟨.hbm, 99, rfl⟩
abbrev main_call4_v14 : Ref sig .tc := ⟨.hbm, 100, rfl⟩
abbrev main_v32 : Ref sig .tc := ⟨.hbm, 101, rfl⟩
abbrev main_call5_v0 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_c_2 : Ref sig .tc := ⟨.hbm, 114, rfl⟩
abbrev main_call6_v0 : Ref sig .tc := ⟨.hbm, 115, rfl⟩
abbrev main_call6_c : Ref sig .tc := ⟨.hbm, 116, rfl⟩
abbrev main_call6_v1 : Ref sig .tc := ⟨.hbm, 117, rfl⟩
abbrev main_call6_c_0 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_c_1 : Ref sig .tc := ⟨.hbm, 122, rfl⟩
abbrev main_call6_v5 : Ref sig .tc := ⟨.hbm, 123, rfl⟩
abbrev main_call6_v6 : Ref sig .tc := ⟨.hbm, 124, rfl⟩
abbrev main_call6_c_2 : Ref sig .tc := ⟨.hbm, 125, rfl⟩
abbrev main_call6_v7 : Ref sig .tc := ⟨.hbm, 126, rfl⟩
abbrev main_call6_v8 : Ref sig .tc := ⟨.hbm, 127, rfl⟩
abbrev main_call6_c_3 : Ref sig .tc := ⟨.hbm, 128, rfl⟩
abbrev main_call6_v9 : Ref sig .tc := ⟨.hbm, 129, rfl⟩
abbrev main_call6_v10 : Ref sig .tc := ⟨.hbm, 130, rfl⟩
abbrev main_call6_v11 : Ref sig .tc := ⟨.hbm, 131, rfl⟩
abbrev main_call6_v12 : Ref sig .tc := ⟨.hbm, 132, rfl⟩
abbrev main_call6_v13 : Ref sig .tc := ⟨.hbm, 133, rfl⟩
abbrev main_call6_v14 : Ref sig .tc := ⟨.hbm, 134, rfl⟩
abbrev main_v44 : Ref sig .tc := ⟨.hbm, 135, rfl⟩
abbrev main_call7_v0 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_c_3 : Ref sig .tc := ⟨.hbm, 148, rfl⟩
abbrev main_call8_v0 : Ref sig .tc := ⟨.hbm, 149, rfl⟩
abbrev main_call8_c : Ref sig .tc := ⟨.hbm, 150, rfl⟩
abbrev main_call8_v1 : Ref sig .tc := ⟨.hbm, 151, rfl⟩
abbrev main_call8_c_0 : Ref sig .tc := ⟨.hbm, 152, rfl⟩
abbrev main_call8_v2 : Ref sig .tc := ⟨.hbm, 153, rfl⟩
abbrev main_call8_v3 : Ref sig .tc := ⟨.hbm, 154, rfl⟩
abbrev main_call8_v4 : Ref sig .tc := ⟨.hbm, 155, rfl⟩
abbrev main_call8_c_1 : Ref sig .tc := ⟨.hbm, 156, rfl⟩
abbrev main_call8_v5 : Ref sig .tc := ⟨.hbm, 157, rfl⟩
abbrev main_call8_v6 : Ref sig .tc := ⟨.hbm, 158, rfl⟩
abbrev main_call8_c_2 : Ref sig .tc := ⟨.hbm, 159, rfl⟩
abbrev main_call8_v7 : Ref sig .tc := ⟨.hbm, 160, rfl⟩
abbrev main_call8_v8 : Ref sig .tc := ⟨.hbm, 161, rfl⟩
abbrev main_call8_c_3 : Ref sig .tc := ⟨.hbm, 162, rfl⟩
abbrev main_call8_v9 : Ref sig .tc := ⟨.hbm, 163, rfl⟩
abbrev main_call8_v10 : Ref sig .tc := ⟨.hbm, 164, rfl⟩
abbrev main_call8_v11 : Ref sig .tc := ⟨.hbm, 165, rfl⟩
abbrev main_call8_v12 : Ref sig .tc := ⟨.hbm, 166, rfl⟩
abbrev main_call8_v13 : Ref sig .tc := ⟨.hbm, 167, rfl⟩
abbrev main_call8_v14 : Ref sig .tc := ⟨.hbm, 168, rfl⟩
abbrev main_v56 : Ref sig .tc := ⟨.hbm, 169, rfl⟩
abbrev main_call9_v0 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_c_4 : Ref sig .tc := ⟨.hbm, 182, rfl⟩
abbrev main_call10_v0 : Ref sig .tc := ⟨.hbm, 183, rfl⟩
abbrev main_call10_c : Ref sig .tc := ⟨.hbm, 184, rfl⟩
abbrev main_call10_v1 : Ref sig .tc := ⟨.hbm, 185, rfl⟩
abbrev main_call10_c_0 : Ref sig .tc := ⟨.hbm, 186, rfl⟩
abbrev main_call10_v2 : Ref sig .tc := ⟨.hbm, 187, rfl⟩
abbrev main_call10_v3 : Ref sig .tc := ⟨.hbm, 188, rfl⟩
abbrev main_call10_v4 : Ref sig .tc := ⟨.hbm, 189, rfl⟩
abbrev main_call10_c_1 : Ref sig .tc := ⟨.hbm, 190, rfl⟩
abbrev main_call10_v5 : Ref sig .tc := ⟨.hbm, 191, rfl⟩
abbrev main_call10_v6 : Ref sig .tc := ⟨.hbm, 192, rfl⟩
abbrev main_call10_c_2 : Ref sig .tc := ⟨.hbm, 193, rfl⟩
abbrev main_call10_v7 : Ref sig .tc := ⟨.hbm, 194, rfl⟩
abbrev main_call10_v8 : Ref sig .tc := ⟨.hbm, 195, rfl⟩
abbrev main_call10_c_3 : Ref sig .tc := ⟨.hbm, 196, rfl⟩
abbrev main_call10_v9 : Ref sig .tc := ⟨.hbm, 197, rfl⟩
abbrev main_call10_v10 : Ref sig .tc := ⟨.hbm, 198, rfl⟩
abbrev main_call10_v11 : Ref sig .tc := ⟨.hbm, 199, rfl⟩
abbrev main_call10_v12 : Ref sig .tc := ⟨.hbm, 200, rfl⟩
abbrev main_call10_v13 : Ref sig .tc := ⟨.hbm, 201, rfl⟩
abbrev main_call10_v14 : Ref sig .tc := ⟨.hbm, 202, rfl⟩
abbrev main_v68 : Ref sig .tc := ⟨.hbm, 203, rfl⟩
abbrev main_call11_v0 : Ref sig .tc := ⟨.hbm, 204, rfl⟩
abbrev main_v69 : Ref sig .tc := ⟨.hbm, 205, rfl⟩
abbrev main_v70 : Ref sig .tc := ⟨.hbm, 206, rfl⟩
abbrev main_v71 : Ref sig .tc := ⟨.hbm, 207, rfl⟩
abbrev main_v72 : Ref sig .tc := ⟨.hbm, 208, rfl⟩
abbrev main_v73 : Ref sig .tc := ⟨.hbm, 209, rfl⟩
abbrev main_v74 : Ref sig .tc := ⟨.hbm, 210, rfl⟩
abbrev main_v75 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_c_5 : Ref sig .tc := ⟨.hbm, 216, rfl⟩
abbrev main_call12_v0 : Ref sig .tc := ⟨.hbm, 217, rfl⟩
abbrev main_call12_c : Ref sig .tc := ⟨.hbm, 218, rfl⟩
abbrev main_call12_v1 : Ref sig .tc := ⟨.hbm, 219, rfl⟩
abbrev main_call12_c_0 : Ref sig .tc := ⟨.hbm, 220, rfl⟩
abbrev main_call12_v2 : Ref sig .tc := ⟨.hbm, 221, rfl⟩
abbrev main_call12_v3 : Ref sig .tc := ⟨.hbm, 222, rfl⟩
abbrev main_call12_v4 : Ref sig .tc := ⟨.hbm, 223, rfl⟩
abbrev main_call12_c_1 : Ref sig .tc := ⟨.hbm, 224, rfl⟩
abbrev main_call12_v5 : Ref sig .tc := ⟨.hbm, 225, rfl⟩
abbrev main_call12_v6 : Ref sig .tc := ⟨.hbm, 226, rfl⟩
abbrev main_call12_c_2 : Ref sig .tc := ⟨.hbm, 227, rfl⟩
abbrev main_call12_v7 : Ref sig .tc := ⟨.hbm, 228, rfl⟩
abbrev main_call12_v8 : Ref sig .tc := ⟨.hbm, 229, rfl⟩
abbrev main_call12_c_3 : Ref sig .tc := ⟨.hbm, 230, rfl⟩
abbrev main_call12_v9 : Ref sig .tc := ⟨.hbm, 231, rfl⟩
abbrev main_call12_v10 : Ref sig .tc := ⟨.hbm, 232, rfl⟩
abbrev main_call12_v11 : Ref sig .tc := ⟨.hbm, 233, rfl⟩
abbrev main_call12_v12 : Ref sig .tc := ⟨.hbm, 234, rfl⟩
abbrev main_call12_v13 : Ref sig .tc := ⟨.hbm, 235, rfl⟩
abbrev main_call12_v14 : Ref sig .tc := ⟨.hbm, 236, rfl⟩
abbrev main_v80 : Ref sig .tc := ⟨.hbm, 237, rfl⟩
abbrev main_call13_v0 : Ref sig .tc := ⟨.hbm, 238, rfl⟩
abbrev main_v81 : Ref sig .tc := ⟨.hbm, 239, rfl⟩
abbrev main_v82 : Ref sig .tc := ⟨.hbm, 240, rfl⟩
abbrev main_v83 : Ref sig .tc := ⟨.hbm, 241, rfl⟩
abbrev main_v84 : Ref sig .tc := ⟨.hbm, 242, rfl⟩
abbrev main_v85 : Ref sig .tc := ⟨.hbm, 243, rfl⟩
abbrev main_v86 : Ref sig .tc := ⟨.hbm, 244, rfl⟩
abbrev main_v87 : Ref sig .tc := ⟨.hbm, 245, rfl⟩
abbrev main_v88 : Ref sig .tc := ⟨.hbm, 246, rfl⟩
abbrev main_v89 : Ref sig .tc := ⟨.hbm, 247, rfl⟩
abbrev main_v90 : Ref sig .tc := ⟨.hbm, 248, rfl⟩
abbrev main_v91 : Ref sig .tc := ⟨.hbm, 249, rfl⟩
abbrev main_c_6 : Ref sig .tc := ⟨.hbm, 250, rfl⟩
abbrev main_call14_v0 : Ref sig .tc := ⟨.hbm, 251, rfl⟩
abbrev main_call14_c : Ref sig .tc := ⟨.hbm, 252, rfl⟩
abbrev main_call14_v1 : Ref sig .tc := ⟨.hbm, 253, rfl⟩
abbrev main_call14_c_0 : Ref sig .tc := ⟨.hbm, 254, rfl⟩
abbrev main_call14_v2 : Ref sig .tc := ⟨.hbm, 255, rfl⟩
abbrev main_call14_v3 : Ref sig .tc := ⟨.hbm, 256, rfl⟩
abbrev main_call14_v4 : Ref sig .tc := ⟨.hbm, 257, rfl⟩
abbrev main_call14_c_1 : Ref sig .tc := ⟨.hbm, 258, rfl⟩
abbrev main_call14_v5 : Ref sig .tc := ⟨.hbm, 259, rfl⟩
abbrev main_call14_v6 : Ref sig .tc := ⟨.hbm, 260, rfl⟩
abbrev main_call14_c_2 : Ref sig .tc := ⟨.hbm, 261, rfl⟩
abbrev main_call14_v7 : Ref sig .tc := ⟨.hbm, 262, rfl⟩
abbrev main_call14_v8 : Ref sig .tc := ⟨.hbm, 263, rfl⟩
abbrev main_call14_c_3 : Ref sig .tc := ⟨.hbm, 264, rfl⟩
abbrev main_call14_v9 : Ref sig .tc := ⟨.hbm, 265, rfl⟩
abbrev main_call14_v10 : Ref sig .tc := ⟨.hbm, 266, rfl⟩
abbrev main_call14_v11 : Ref sig .tc := ⟨.hbm, 267, rfl⟩
abbrev main_call14_v12 : Ref sig .tc := ⟨.hbm, 268, rfl⟩
abbrev main_call14_v13 : Ref sig .tc := ⟨.hbm, 269, rfl⟩
abbrev main_call14_v14 : Ref sig .tc := ⟨.hbm, 270, rfl⟩
abbrev main_v92 : Ref sig .tc := ⟨.hbm, 271, rfl⟩
abbrev main_call15_v0 : Ref sig .tc := ⟨.hbm, 272, rfl⟩
abbrev main_v93 : Ref sig .tc := ⟨.hbm, 273, rfl⟩
abbrev main_v94 : Ref sig .tc := ⟨.hbm, 274, rfl⟩
abbrev main_v95 : Ref sig .tc := ⟨.hbm, 275, rfl⟩
abbrev main_v96 : Ref sig .tc := ⟨.hbm, 276, rfl⟩
abbrev main_v97 : Ref sig .tc := ⟨.hbm, 277, rfl⟩
abbrev main_v98 : Ref sig .tc := ⟨.hbm, 278, rfl⟩
abbrev main_v99 : Ref sig .tc := ⟨.hbm, 279, rfl⟩
abbrev main_v100 : Ref sig .tc := ⟨.hbm, 280, rfl⟩
abbrev main_v101 : Ref sig .tc := ⟨.hbm, 281, rfl⟩

abbrev nD : Nat := 1
abbrev τ : Topo := Topo.v7x

variable {F : FTy → Type} [FloatOps F]
-- ==== Proof.Agg.Words.lean ====
/- The index words of the delayed sum: a delay `v` below 4096 is taken apart as `8 · (v / 8) + v % 8`, the first part the
   row at which a tile is read, the second the rows by which the tile is then rotated up. -/
module

public import Idealize.ShloMosaic.Lib.WordArith
public import Idealize.ShloMosaic.Lib.ValueIdx
public import Idealize.ShloMosaic.Lib.KernelVsHost

@[expose] public section

namespace Cert.Roll

open Idealize.ShloMosaic

/-- The quotient by 8 rounded down, as the kernel computes it on signed words: the truncated quotient, less one where the
    signs differ and the remainder is not zero. -/
def quot8 (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 8#32 0#32)) (Scalar.extui (Scalar.cmpi .slt 8#32 0#32))))
      (Scalar.cmpi .ne (Scalar.remsi v 8#32) 0#32))
    (Scalar.subi (Scalar.divsi v 8#32) 1#32) (Scalar.divsi v 8#32)

/-- The remainder by `m` with the divisor's sign, as the kernel computes it (`m = 0` is replaced by 1). -/
def floorMod (v m : BitVec 32) : BitVec 32 :=
  let d : BitVec 32 := Scalar.select (Scalar.cmpi .eq m 0#32) 1#32 m
  let r : BitVec 32 := Scalar.remsi v d
  Scalar.select
    (Scalar.andi (Scalar.xori (Scalar.cmpi .slt r 0#32) (Scalar.cmpi .slt d 0#32)) (Scalar.cmpi .ne r 0#32))
    (Scalar.addi r d) r

/-- The first row of the delay's tile number `t`. -/
def rowWord (v t : BitVec 32) : BitVec 32 := Scalar.addi (Scalar.muli 8#32 (quot8 v)) t

/-- The amount by which the tile is rotated: 520 less the delay's remainder by 8, around 520. -/
def turnWord (v : BitVec 32) : BitVec 32 := floorMod (Scalar.subi 520#32 (floorMod v 8#32)) 520#32

/-- The rounded quotient of every delay. -/
theorem quot8_all : ∀ n : Fin 4096, quot8 (BitVec.ofNat 32 n.val) = BitVec.ofNat 32 (n.val / 8) := by decide +kernel

/-- The rotation of every delay. -/
theorem turn_all : ∀ n : Fin 4096, (turnWord (BitVec.ofNat 32 n.val)).toNat = (520 - n.val % 8) % 520 := by decide +kernel

/-- The row at which the tile of a delay below 4096 starts. -/
theorem rowWord_toNat (v : BitVec 32) (h : v.toNat < 4096) (t : Nat) (ht : t < 8) :
    (rowWord v (BitVec.ofNat 32 (512 * t))).toNat = v.toNat / 8 * 8 + 512 * t := by
  have e := quot8_all ⟨v.toNat, h⟩
  rw [BitVec.ofNat_toNat, BitVec.setWidth_eq] at e
  unfold rowWord
  rw [e]
  show ((8#32 * BitVec.ofNat 32 (v.toNat / 8)) + BitVec.ofNat 32 (512 * t)).toNat = _
  rw [BitVec.toNat_add, BitVec.toNat_mul, BitVec.toNat_ofNat, BitVec.toNat_ofNat, BitVec.toNat_ofNat]
  omega

/-- The amount by which the tile of a delay below 4096 is rotated. -/
theorem turnWord_toNat (v : BitVec 32) (h : v.toNat < 4096) : (turnWord v).toNat = (520 - v.toNat % 8) % 520 := by
  have e := turn_all ⟨v.toNat, h⟩
  rwa [BitVec.ofNat_toNat, BitVec.setWidth_eq] at e

end Cert.Roll
-- ==== Proof.Agg.Tile.lean ====
/- One step of the delayed sum on one tile: 520 rows of the twice written values are read from a row that is a multiple
   of 8, rotated up by the rest of the delay, cut to 512 rows, scaled and added. -/
module

public import proofs.«01_k».proof.Proof.Agg.Words
public import Idealize.ShloMosaic.Lib.Pipeline.ValueKit.Tiles
public import Idealize.ShloMosaic.Lib.Ring
public import Idealize.ShloMosaic.Lib.WholeRead

@[expose] public section

noncomputable section

namespace Cert.Roll

open Idealize.ShloMosaic Idealize.ShloMosaic.ValueIdx

variable {F : FTy → Type} [FloatOps F]

/-- The circular shift of a channel's position `l` by the delay `n`. -/
def around (l n : Nat) : Fin 4096 := ⟨(l + n) % 4096, Nat.mod_lt _ (by decide)⟩

/-- The sum so far plus one delay's rotated tile times its weight, in the kernel's operations. -/
def addTurn (hr : (⟨2, ![520, 256]⟩ : Shape).Rotates 0 none) (hs : (⟨2, ![520, 256]⟩ : Shape).Slices ![0, 0] ⟨2, ![512, 256]⟩)
    (acc : FVec F ⟨2, ![512, 256]⟩ .f32) (tile : FVec F ⟨2, ![520, 256]⟩ .f32) (v : BitVec 32) (w : F .f32) :
    FVec F ⟨2, ![512, 256]⟩ .f32 :=
  addf acc (mulf (extractStridedSlice ⟨2, ![512, 256]⟩ ![0, 0] (dynamicRotate 0 (turnWord v) none tile hr) hs)
    (broadcast ⟨2, ![512, 256]⟩ w))

/-- That sum at a row and a channel, where the tile holds the channel's values from row `v / 8 · 8 + o` on, around the end:
    the value added is the one at position `o + r` shifted by the delay. -/
theorem addTurn_apply (hr : (⟨2, ![520, 256]⟩ : Shape).Rotates 0 none)
    (hs : (⟨2, ![520, 256]⟩ : Shape).Slices ![0, 0] ⟨2, ![512, 256]⟩) (acc : FVec F ⟨2, ![512, 256]⟩ .f32)
    (tile : FVec F ⟨2, ![520, 256]⟩ .f32) (v : BitVec 32) (w : F .f32) (hv : v.toNat < 4096) (o : Nat)
    (x : Fin 4096 → Fin 256 → F .f32)
    (ht : ∀ j : (⟨2, ![520, 256]⟩ : Shape).Idx, tile j = x (around (v.toNat / 8 * 8 + o) (j 0).val) (j 1))
    (r : Fin 512) (ch : Fin 256) :
    addTurn hr hs acc tile v w (ix2 r ch)
      = FloatOps.addf (acc (ix2 r ch)) (FloatOps.mulf (x (around (o + r.val) v.toNat) ch) w) := by
  have hrl := r.isLt
  show FloatOps.addf (acc (ix2 r ch)) (FloatOps.mulf (extractStridedSlice ⟨2, ![512, 256]⟩ ![0, 0]
    (dynamicRotate 0 (turnWord v) none tile hr) hs (ix2 r ch)) w) = _
  rw [extractStridedSlice_apply ![0, 0] _ hs (ix2 r ch) (ix2 (⟨r.val, by omega⟩ : Fin 520) ch) (by
    intro a; match a with
      | ⟨0, _⟩ => show r.val = 0 + r.val; omega
      | ⟨1, _⟩ => show ch.val = 0 + ch.val; omega)]
  rw [dynamicRotate_apply 0 (turnWord v) tile hr _ (ix2 (⟨r.val + v.toNat % 8, by omega⟩ : Fin 520) ch) (by
    intro b; match b with
      | ⟨0, _⟩ =>
        show r.val + v.toNat % 8 = (r.val + 520 - (turnWord v).toNat % 520) % 520
        rw [turnWord_toNat v hv]; omega
      | ⟨1, _⟩ => rfl)]
  rw [ht]
  refine congrArg (fun z => FloatOps.addf (acc (ix2 r ch)) (FloatOps.mulf (x z ch) w)) (Fin.ext ?_)
  show (v.toNat / 8 * 8 + o + (r.val + v.toNat % 8)) % 4096 = (o + r.val + v.toNat) % 4096
  congr 1; omega

/-- A tile of 520 rows read out of the values written twice, one copy after the other: row `j` from row `off` on is the
    value at `off + j`, around the end. -/
theorem tile_apply [∀ e, Nonempty (Elt F e)] {sig : RefSig} {κ : Kind} {sp : Space} (v : View sig κ sp ⟨2, ![8192, 256]⟩ .f32)
    (f : v.ty.Contents (Elt F)) (w w' : (⟨2, ![4096, 256]⟩ : Shape).Idx → F .f32) (x : Fin 4096 → Fin 256 → F .f32)
    (hw : ∀ r ch, w (ix2 r ch) = x r ch) (hw' : ∀ r ch, w' (ix2 r ch) = x r ch)
    (inb : ∀ a, (![4096, 0] : Fin 2 → Nat) a + (⟨2, ![4096, 256]⟩ : Shape).size a ≤ (⟨2, ![8192, 256]⟩ : Shape).size a)
    (inb' : ∀ a, (![0, 0] : Fin 2 → Nat) a + (⟨2, ![4096, 256]⟩ : Shape).size a ≤ (⟨2, ![8192, 256]⟩ : Shape).size a)
    (off : Fin 2 → Nat) (h1 : off 1 = 0)
    (hoff : ∀ a, off a + (⟨2, ![520, 256]⟩ : Shape).size a ≤ (⟨2, ![8192, 256]⟩ : Shape).size a)
    (j : (⟨2, ![520, 256]⟩ : Shape).Idx) :
    View.readAt (Elt F) v (Rect.unit (s := ⟨2, ![8192, 256]⟩) off (⟨2, ![520, 256]⟩ : Shape).size hoff).toLoadRect
      (v.writes (Elt F) f [⟨Rect.unit (s := ⟨2, ![8192, 256]⟩) ![4096, 0] (⟨2, ![4096, 256]⟩ : Shape).size inb, w⟩,
        ⟨Rect.unit (s := ⟨2, ![8192, 256]⟩) ![0, 0] (⟨2, ![4096, 256]⟩ : Shape).size inb', w'⟩]) j
      = x (around (off 0) (j 0).val) (j 1) := by
  have hj : (j 0).val < 520 := (j 0).isLt
  have hj1 : (j 1).val < 256 := (j 1).isLt
  have ho : off 0 + 520 ≤ 8192 := hoff 0
  refine (congrFun (View.read_writes_eq_canon v f _ (View.cover_of_tiledL _ (![4096, 256] : Fin 2 → Nat) rfl)) _).trans ?_
  have e : ((Rect.unit (s := ⟨2, ![8192, 256]⟩) off (⟨2, ![520, 256]⟩ : Shape).size hoff).toLoadRect.idx j)
      = ix2 (⟨off 0 + (j 0).val, by omega⟩ : Fin 8192) (⟨(j 1).val, hj1⟩ : Fin 256) := by
    funext a
    match a with
    | ⟨0, _⟩ => exact Fin.ext (show off 0 + 1 * (j 0).val = off 0 + (j 0).val by omega)
    | ⟨1, _⟩ => exact Fin.ext (show off 1 + 1 * (j 1).val = (j 1).val by omega)
  show View.canon _ ((Rect.unit (s := ⟨2, ![8192, 256]⟩) off (⟨2, ![520, 256]⟩ : Shape).size hoff).toLoadRect.idx j) = _
  rw [e]
  refine View.canon_eq_of_allAt _ _ _
    (View.cover_of_tiledL (Val := Elt F) (s := ⟨2, ![8192, 256]⟩) (e := .f32) _ (![4096, 256] : Fin 2 → Nat) rfl _) ?_
  refine View.allAt_cons_unit _ _ _ _ _ ?_ (View.allAt_cons_unit _ _ _ _ _ ?_ (View.allAt_nil _ _))
  · intro y hy
    have a0 : off 0 + (j 0).val = 4096 + (y 0).val := hy 0
    have a1 : (j 1).val = 0 + (y 1).val := hy 1
    have hy0 : (y 0).val < 4096 := (y 0).isLt
    rw [eq_ix2 y]
    refine (hw _ _).trans (congrArg₂ x (Fin.ext ?_) (Fin.ext ?_))
    · show (y 0).val = (off 0 + (j 0).val) % 4096; omega
    · show (y 1).val = (j 1).val; omega
  · intro y hy
    have a0 : off 0 + (j 0).val = 0 + (y 0).val := hy 0
    have a1 : (j 1).val = 0 + (y 1).val := hy 1
    have hy0 : (y 0).val < 4096 := (y 0).isLt
    rw [eq_ix2 y]
    refine (hw' _ _).trans (congrArg₂ x (Fin.ext ?_) (Fin.ext ?_))
    · show (y 0).val = (off 0 + (j 0).val) % 4096; omega
    · show (y 1).val = (j 1).val; omega

/-! ## The eight steps of a tile -/

section Steps
variable [∀ e, Nonempty (Elt F e)] {sig : RefSig}

/-- The k-th delay, as the kernel reads it from its staged list. -/
abbrev wordAt (a2 : Memref sig .tc .smem ⟨1, ![8]⟩ .i32) (h2 : a2.IsWhole) (x0 : Vec F ⟨1, ![8]⟩ .i32) (k : Nat)
    (hk : ∀ a, (![k] : Fin 1 → Nat) a + (⟨1, ![1]⟩ : Shape).size a ≤ (⟨1, ![8]⟩ : Shape).size a) : BitVec 32 :=
  a2.view.readAt (Elt F) (Rect.unit (s := ⟨1, ![8]⟩) ![k] (⟨1, ![1]⟩ : Shape).size hk).toLoadRect (h2.unread x0)
    (Shape.Idx.first (s := ⟨1, ![1]⟩) Nat.one_pos)

/-- The staged delay read is the list's entry. -/
theorem wordAt_eq (a2 : Memref sig .tc .smem ⟨1, ![8]⟩ .i32) (h2 : a2.IsWhole) (x0 : Vec F ⟨1, ![8]⟩ .i32) (k : Nat)
    (hk : ∀ a, (![k] : Fin 1 → Nat) a + (⟨1, ![1]⟩ : Shape).size a ≤ (⟨1, ![8]⟩ : Shape).size a) (hk8 : k < 8) :
    wordAt a2 h2 x0 k hk = x0 (ix1 (⟨k, hk8⟩ : Fin 8)) := by
  refine (h2.readAt_unread x0 _ _).trans (congrArg x0 (funext fun a => ?_))
  match a with
  | ⟨0, _⟩ => exact Fin.ext (show k + 1 * 0 = k by omega)

/-- The k-th weight of batch entry `b`, as the kernel reads it from its staged table. -/
abbrev weightAt (a3 : Memref sig .tc .smem ⟨2, ![4, 8]⟩ .f32) (h3 : a3.IsWhole) (x1 : Vec F ⟨2, ![4, 8]⟩ .f32) (b k : Nat)
    (hk : ∀ a, (![(Scalar.indexCast (BitVec.ofNat 32 b)).toNat, k] : Fin 2 → Nat) a + (⟨2, ![1, 1]⟩ : Shape).size a
      ≤ (⟨2, ![4, 8]⟩ : Shape).size a) : F .f32 :=
  a3.view.readAt (Elt F) (Rect.unit (s := ⟨2, ![4, 8]⟩) ![(Scalar.indexCast (BitVec.ofNat 32 b)).toNat, k]
    (⟨2, ![1, 1]⟩ : Shape).size hk).toLoadRect (h3.unread x1) (Shape.Idx.first (s := ⟨2, ![1, 1]⟩) Nat.one_pos)

/-- The staged weight read is the table's entry. -/
theorem weightAt_eq (a3 : Memref sig .tc .smem ⟨2, ![4, 8]⟩ .f32) (h3 : a3.IsWhole) (x1 : Vec F ⟨2, ![4, 8]⟩ .f32) (b k : Nat)
    (hk : ∀ a, (![(Scalar.indexCast (BitVec.ofNat 32 b)).toNat, k] : Fin 2 → Nat) a + (⟨2, ![1, 1]⟩ : Shape).size a
      ≤ (⟨2, ![4, 8]⟩ : Shape).size a) (hb : b < 4) (hk8 : k < 8) :
    weightAt a3 h3 x1 b k hk = x1 (ix2 (⟨b, hb⟩ : Fin 4) (⟨k, hk8⟩ : Fin 8)) := by
  refine (h3.readAt_unread x1 _ _).trans (congrArg x1 (funext fun a => ?_))
  match a with
  | ⟨0, _⟩ =>
    refine Fin.ext ?_
    show (BitVec.ofNat 32 b).toNat + 1 * 0 = b
    rw [BitVec.toNat_ofNat]; omega
  | ⟨1, _⟩ => exact Fin.ext (show k + 1 * 0 = k by omega)

/-- The tile of 520 rows for a delay, as the kernel reads it from the values written twice. -/
abbrev tileAt (hc : (⟨3, ![1, 4096, 256]⟩ : Shape).ShapeCasts ⟨2, ![4096, 256]⟩)
    (hcc : (⟨2, ![4096, 256]⟩ : Shape).ShapeCasts ⟨2, ![4096, 256]⟩)
    (a4 : Memref sig .tc .vmem ⟨3, ![1, 4096, 256]⟩ .f32) (h4 : a4.IsWhole) (a6 : Memref sig .tc .vmem ⟨2, ![8192, 256]⟩ .f32)
    (x2 : Vec F ⟨3, ![1, 4096, 256]⟩ .f32)
    (i4 : ∀ a, (![0, 0, 0] : Fin 3 → Nat) a + (⟨3, ![1, 4096, 256]⟩ : Shape).size a ≤ (⟨3, ![1, 4096, 256]⟩ : Shape).size a)
    (inb : ∀ a, (![4096, 0] : Fin 2 → Nat) a + (⟨2, ![4096, 256]⟩ : Shape).size a ≤ (⟨2, ![8192, 256]⟩ : Shape).size a)
    (inb' : ∀ a, (![0, 0] : Fin 2 → Nat) a + (⟨2, ![4096, 256]⟩ : Shape).size a ≤ (⟨2, ![8192, 256]⟩ : Shape).size a)
    (v t : BitVec 32)
    (hoff : ∀ a, (![(Scalar.indexCast (rowWord v t)).toNat, 0] : Fin 2 → Nat) a + (⟨2, ![520, 256]⟩ : Shape).size a
      ≤ (⟨2, ![8192, 256]⟩ : Shape).size a) : FVec F ⟨2, ![520, 256]⟩ .f32 :=
  View.readAt (Elt F) a6.view (Rect.unit (s := ⟨2, ![8192, 256]⟩) ![(Scalar.indexCast (rowWord v t)).toNat, 0]
      (⟨2, ![520, 256]⟩ : Shape).size hoff).toLoadRect
    (a6.view.writes (Elt F) a6.view.junk
      [⟨Rect.unit (s := ⟨2, ![8192, 256]⟩) ![4096, 0] (⟨2, ![4096, 256]⟩ : Shape).size inb,
        shapeCast ⟨2, ![4096, 256]⟩ (shapeCast ⟨2, ![4096, 256]⟩ (View.readAt (Elt F) a4.view
          (Rect.unit (s := ⟨3, ![1, 4096, 256]⟩) ![0, 0, 0] (⟨3, ![1, 4096, 256]⟩ : Shape).size i4).toLoadRect (h4.unread x2)) hc) hcc⟩,
       ⟨Rect.unit (s := ⟨2, ![8192, 256]⟩) ![0, 0] (⟨2, ![4096, 256]⟩ : Shape).size inb',
        shapeCast ⟨2, ![4096, 256]⟩ (shapeCast ⟨2, ![4096, 256]⟩ (View.readAt (Elt F) a4.view
          (Rect.unit (s := ⟨3, ![1, 4096, 256]⟩) ![0, 0, 0] (⟨3, ![1, 4096, 256]⟩ : Shape).size i4).toLoadRect (h4.unread x2)) hc) hcc⟩])

/-- Row `j` of that tile is the block's value at the tile's first row plus `j`, around the end. -/
theorem tileAt_apply (hc : (⟨3, ![1, 4096, 256]⟩ : Shape).ShapeCasts ⟨2, ![4096, 256]⟩)
    (hcc : (⟨2, ![4096, 256]⟩ : Shape).ShapeCasts ⟨2, ![4096, 256]⟩)
    (a4 : Memref sig .tc .vmem ⟨3, ![1, 4096, 256]⟩ .f32) (h4 : a4.IsWhole) (a6 : Memref sig .tc .vmem ⟨2, ![8192, 256]⟩ .f32)
    (x2 : Vec F ⟨3, ![1, 4096, 256]⟩ .f32)
    (i4 : ∀ a, (![0, 0, 0] : Fin 3 → Nat) a + (⟨3, ![1, 4096, 256]⟩ : Shape).size a ≤ (⟨3, ![1, 4096, 256]⟩ : Shape).size a)
    (inb : ∀ a, (![4096, 0] : Fin 2 → Nat) a + (⟨2, ![4096, 256]⟩ : Shape).size a ≤ (⟨2, ![8192, 256]⟩ : Shape).size a)
    (inb' : ∀ a, (![0, 0] : Fin 2 → Nat) a + (⟨2, ![4096, 256]⟩ : Shape).size a ≤ (⟨2, ![8192, 256]⟩ : Shape).size a)
    (v : BitVec 32) (hv : v.toNat < 4096) (t : Nat) (ht : t < 8)
    (hoff : ∀ a, (![(Scalar.indexCast (rowWord v (BitVec.ofNat 32 (512 * t)))).toNat, 0] : Fin 2 → Nat) a
      + (⟨2, ![520, 256]⟩ : Shape).size a ≤ (⟨2, ![8192, 256]⟩ : Shape).size a) (j : (⟨2, ![520, 256]⟩ : Shape).Idx) :
    tileAt hc hcc a4 h4 a6 x2 i4 inb inb' v (BitVec.ofNat 32 (512 * t)) hoff j
      = x2 (ix3 (0 : Fin 1) (around (v.toNat / 8 * 8 + 512 * t) (j 0).val) (j 1)) := by
  have hw : ∀ (r : Fin 4096) (ch : Fin 256), shapeCast ⟨2, ![4096, 256]⟩ (shapeCast ⟨2, ![4096, 256]⟩ (View.readAt (Elt F) a4.view
      (Rect.unit (s := ⟨3, ![1, 4096, 256]⟩) ![0, 0, 0] (⟨3, ![1, 4096, 256]⟩ : Shape).size i4).toLoadRect (h4.unread x2)) hc) hcc (ix2 r ch)
      = x2 (ix3 (0 : Fin 1) r ch) := by
    intro r ch
    rw [shapeCast_self, shapeCast_apply _ hc (ix2 r ch) (ix3 (0 : Fin 1) r ch) (by
      rw [Shape.rowMajor_val_three, Shape.rowMajor_val_two]
      show (0 * 4096 + r.val) * 256 + ch.val = r.val * 256 + ch.val; omega)]
    refine (h4.readAt_unread x2 _ _).trans (congrArg x2 (funext fun a => ?_))
    match a with
    | ⟨0, _⟩ => exact Fin.ext (show 0 + 1 * 0 = 0 by omega)
    | ⟨1, _⟩ => exact Fin.ext (show 0 + 1 * r.val = r.val by omega)
    | ⟨2, _⟩ => exact Fin.ext (show 0 + 1 * ch.val = ch.val by omega)
  refine (tile_apply a6.view _ _ _ (fun r ch => x2 (ix3 (0 : Fin 1) r ch)) hw hw inb inb' _ rfl hoff j).trans ?_
  show x2 (ix3 (0 : Fin 1) (around (rowWord v (BitVec.ofNat 32 (512 * t))).toNat (j 0).val) (j 1)) = _
  rw [rowWord_toNat v hv t ht]

/-- A tile of the delayed sum, the eight delays one after the other from zero on, in the kernel's operations. -/
def sumTile (hr : (⟨2, ![520, 256]⟩ : Shape).Rotates 0 none) (hs : (⟨2, ![520, 256]⟩ : Shape).Slices ![0, 0] ⟨2, ![512, 256]⟩)
    (T : Fin 8 → FVec F ⟨2, ![520, 256]⟩ .f32) (v : Fin 8 → BitVec 32) (w : Fin 8 → F .f32) : FVec F ⟨2, ![512, 256]⟩ .f32 :=
  addTurn hr hs (addTurn hr hs (addTurn hr hs (addTurn hr hs (addTurn hr hs (addTurn hr hs (addTurn hr hs (addTurn hr hs
    (broadcast ⟨2, ![512, 256]⟩ (Scalar.ofBits .f32 0x00000000#32))
    (T 0) (v 0) (w 0)) (T 1) (v 1) (w 1)) (T 2) (v 2) (w 2)) (T 3) (v 3) (w 3)) (T 4) (v 4) (w 4)) (T 5) (v 5) (w 5))
    (T 6) (v 6) (w 6)) (T 7) (v 7) (w 7)

/-- The weighted sum of a channel's delayed values at a position, the eight delays one after the other from zero on. -/
def sumAt (x : Fin 4096 → F .f32) (d : Fin 8 → BitVec 32) (w : Fin 8 → F .f32) (l : Nat) : F .f32 :=
  FloatOps.addf (FloatOps.addf (FloatOps.addf (FloatOps.addf (FloatOps.addf (FloatOps.addf (FloatOps.addf (FloatOps.addf
    (FloatOps.ofBits .f32 0x00000000#32)
    (FloatOps.mulf (x (around l (d 0).toNat)) (w 0))) (FloatOps.mulf (x (around l (d 1).toNat)) (w 1)))
    (FloatOps.mulf (x (around l (d 2).toNat)) (w 2))) (FloatOps.mulf (x (around l (d 3).toNat)) (w 3)))
    (FloatOps.mulf (x (around l (d 4).toNat)) (w 4))) (FloatOps.mulf (x (around l (d 5).toNat)) (w 5)))
    (FloatOps.mulf (x (around l (d 6).toNat)) (w 6))) (FloatOps.mulf (x (around l (d 7).toNat)) (w 7))

/-- A tile of the delayed sum at a row and a channel is the weighted sum at that position. -/
theorem sumTile_apply (hr : (⟨2, ![520, 256]⟩ : Shape).Rotates 0 none)
    (hs : (⟨2, ![520, 256]⟩ : Shape).Slices ![0, 0] ⟨2, ![512, 256]⟩) (T : Fin 8 → FVec F ⟨2, ![520, 256]⟩ .f32)
    (v : Fin 8 → BitVec 32) (w : Fin 8 → F .f32) (hv : ∀ k, (v k).toNat < 4096) (o : Nat) (x : Fin 4096 → Fin 256 → F .f32)
    (ht : ∀ k j, T k j = x (around ((v k).toNat / 8 * 8 + o) (j 0).val) (j 1)) (r : Fin 512) (ch : Fin 256) :
    sumTile hr hs T v w (ix2 r ch) = sumAt (fun l => x l ch) v w (o + r.val) := by
  unfold sumTile sumAt
  rw [addTurn_apply hr hs _ (T 7) (v 7) (w 7) (hv 7) o x (ht 7), addTurn_apply hr hs _ (T 6) (v 6) (w 6) (hv 6) o x (ht 6),
    addTurn_apply hr hs _ (T 5) (v 5) (w 5) (hv 5) o x (ht 5), addTurn_apply hr hs _ (T 4) (v 4) (w 4) (hv 4) o x (ht 4),
    addTurn_apply hr hs _ (T 3) (v 3) (w 3) (hv 3) o x (ht 3), addTurn_apply hr hs _ (T 2) (v 2) (w 2) (hv 2) o x (ht 2),
    addTurn_apply hr hs _ (T 1) (v 1) (w 1) (hv 1) o x (ht 1), addTurn_apply hr hs _ (T 0) (v 0) (w 0) (hv 0) o x (ht 0)]
  rfl

/-- Eight words are inside a list of eight. -/
theorem word_in (k : Fin 8) : ∀ a, (![k.val] : Fin 1 → Nat) a + (⟨1, ![1]⟩ : Shape).size a ≤ (⟨1, ![8]⟩ : Shape).size a := by
  intro a; match a with | ⟨0, _⟩ => show k.val + 1 ≤ 8; omega

/-- Each weight of a batch entry is inside the table. -/
theorem weight_in (b : Nat) (hb : b < 4) (k : Fin 8) :
    ∀ a, (![(Scalar.indexCast (BitVec.ofNat 32 b)).toNat, k.val] : Fin 2 → Nat) a + (⟨2, ![1, 1]⟩ : Shape).size a
      ≤ (⟨2, ![4, 8]⟩ : Shape).size a := by
  intro a; match a with
  | ⟨0, _⟩ => show (BitVec.ofNat 32 b).toNat + 1 ≤ 4; rw [BitVec.toNat_ofNat]; omega
  | ⟨1, _⟩ => show k.val + 1 ≤ 8; omega

/-- A delay below 4096 puts its tile inside the values written twice. -/
theorem tile_in (v : BitVec 32) (hv : v.toNat < 4096) (t : Nat) (ht : t < 8) :
    ∀ a, (![(Scalar.indexCast (rowWord v (BitVec.ofNat 32 (512 * t)))).toNat, 0] : Fin 2 → Nat) a
      + (⟨2, ![520, 256]⟩ : Shape).size a ≤ (⟨2, ![8192, 256]⟩ : Shape).size a := by
  intro a; match a with
  | ⟨0, _⟩ =>
    show (rowWord v (BitVec.ofNat 32 (512 * t))).toNat + 520 ≤ 8192
    rw [rowWord_toNat v hv t ht]; omega
  | ⟨1, _⟩ => show 0 + 256 ≤ 256; omega

/-- Tile `t` of the output block as the kernel computes it from its staged list, table and values. -/
abbrev blockTile (hr : (⟨2, ![520, 256]⟩ : Shape).Rotates 0 none) (hs : (⟨2, ![520, 256]⟩ : Shape).Slices ![0, 0] ⟨2, ![512, 256]⟩)
    (hc : (⟨3, ![1, 4096, 256]⟩ : Shape).ShapeCasts ⟨2, ![4096, 256]⟩)
    (hcc : (⟨2, ![4096, 256]⟩ : Shape).ShapeCasts ⟨2, ![4096, 256]⟩)
    (a2 : Memref sig .tc .smem ⟨1, ![8]⟩ .i32) (h2 : a2.IsWhole) (a3 : Memref sig .tc .smem ⟨2, ![4, 8]⟩ .f32) (h3 : a3.IsWhole)
    (a4 : Memref sig .tc .vmem ⟨3, ![1, 4096, 256]⟩ .f32) (h4 : a4.IsWhole) (a6 : Memref sig .tc .vmem ⟨2, ![8192, 256]⟩ .f32)
    (x0 : Vec F ⟨1, ![8]⟩ .i32) (x1 : Vec F ⟨2, ![4, 8]⟩ .f32) (x2 : Vec F ⟨3, ![1, 4096, 256]⟩ .f32)
    (i4 : ∀ a, (![0, 0, 0] : Fin 3 → Nat) a + (⟨3, ![1, 4096, 256]⟩ : Shape).size a ≤ (⟨3, ![1, 4096, 256]⟩ : Shape).size a)
    (inb : ∀ a, (![4096, 0] : Fin 2 → Nat) a + (⟨2, ![4096, 256]⟩ : Shape).size a ≤ (⟨2, ![8192, 256]⟩ : Shape).size a)
    (inb' : ∀ a, (![0, 0] : Fin 2 → Nat) a + (⟨2, ![4096, 256]⟩ : Shape).size a ≤ (⟨2, ![8192, 256]⟩ : Shape).size a)
    (hv : ∀ k : Fin 8, (wordAt a2 h2 x0 k.val (word_in k)).toNat < 4096) (b : Nat) (hb : b < 4) (t : Nat) (ht : t < 8) :
    FVec F ⟨2, ![512, 256]⟩ .f32 :=
  sumTile hr hs
    (fun k => tileAt hc hcc a4 h4 a6 x2 i4 inb inb' (wordAt a2 h2 x0 k.val (word_in k)) (BitVec.ofNat 32 (512 * t)) (tile_in _ (hv k) t ht))
    (fun k => wordAt a2 h2 x0 k.val (word_in k)) (fun k => weightAt a3 h3 x1 b k.val (weight_in b hb k))

/-- That tile at a row and a channel: the weighted sum of the channel's delayed values there. -/
theorem blockTile_apply (hr : (⟨2, ![520, 256]⟩ : Shape).Rotates 0 none) (hs : (⟨2, ![520, 256]⟩ : Shape).Slices ![0, 0] ⟨2, ![512, 256]⟩)
    (hc : (⟨3, ![1, 4096, 256]⟩ : Shape).ShapeCasts ⟨2, ![4096, 256]⟩)
    (hcc : (⟨2, ![4096, 256]⟩ : Shape).ShapeCasts ⟨2, ![4096, 256]⟩)
    (a2 : Memref sig .tc .smem ⟨1, ![8]⟩ .i32) (h2 : a2.IsWhole) (a3 : Memref sig .tc .smem ⟨2, ![4, 8]⟩ .f32) (h3 : a3.IsWhole)
    (a4 : Memref sig .tc .vmem ⟨3, ![1, 4096, 256]⟩ .f32) (h4 : a4.IsWhole) (a6 : Memref sig .tc .vmem ⟨2, ![8192, 256]⟩ .f32)
    (x0 : Vec F ⟨1, ![8]⟩ .i32) (x1 : Vec F ⟨2, ![4, 8]⟩ .f32) (x2 : Vec F ⟨3, ![1, 4096, 256]⟩ .f32)
    (i4 : ∀ a, (![0, 0, 0] : Fin 3 → Nat) a + (⟨3, ![1, 4096, 256]⟩ : Shape).size a ≤ (⟨3, ![1, 4096, 256]⟩ : Shape).size a)
    (inb : ∀ a, (![4096, 0] : Fin 2 → Nat) a + (⟨2, ![4096, 256]⟩ : Shape).size a ≤ (⟨2, ![8192, 256]⟩ : Shape).size a)
    (inb' : ∀ a, (![0, 0] : Fin 2 → Nat) a + (⟨2, ![4096, 256]⟩ : Shape).size a ≤ (⟨2, ![8192, 256]⟩ : Shape).size a)
    (hv : ∀ k : Fin 8, (wordAt a2 h2 x0 k.val (word_in k)).toNat < 4096) (b : Nat) (hb : b < 4) (t : Nat) (ht : t < 8)
    (r : Fin 512) (ch : Fin 256) :
    blockTile hr hs hc hcc a2 h2 a3 h3 a4 h4 a6 x0 x1 x2 i4 inb inb' hv b hb t ht (ix2 r ch)
      = sumAt (fun l => x2 (ix3 (0 : Fin 1) l ch)) (fun k => x0 (ix1 k)) (fun k => x1 (ix2 (⟨b, hb⟩ : Fin 4) k)) (512 * t + r.val) := by
  refine (sumTile_apply hr hs _ _ _ hv (512 * t) (fun l c => x2 (ix3 (0 : Fin 1) l c))
    (fun k j => tileAt_apply hc hcc a4 h4 a6 x2 i4 inb inb' _ (hv k) t ht _ j) r ch).trans ?_
  have e0 : (fun k : Fin 8 => wordAt a2 h2 x0 k.val (word_in k)) = fun k => x0 (ix1 k) :=
    funext fun k => wordAt_eq a2 h2 x0 k.val _ k.isLt
  have e1 : (fun k : Fin 8 => weightAt a3 h3 x1 b k.val (weight_in b hb k)) = fun k => x1 (ix2 (⟨b, hb⟩ : Fin 4) k) :=
    funext fun k => weightAt_eq a3 h3 x1 b k.val _ hb k.isLt
  rw [e0, e1]

end Steps

end Cert.Roll

end
-- ==== Proof.Agg.Check.lean ====
/- A delay below 4096 satisfies what the kernel's body asks of every row it reads from. -/
module

public import proofs.«01_k».proof.Proof.Agg.Tile

@[expose] public section

namespace Cert.Roll

open Idealize.ShloMosaic

/-- The row a tile starts at is a multiple of 8, and the tile is inside the values written twice. -/
theorem row_ok (v : BitVec 32) (hv : v.toNat < 4096) (t : Nat) (ht : t < 8) :
    (8 ∣ (Scalar.muli 8#32 (quot8 v)).toNat)
      ∧ ∀ a, (![(Scalar.indexCast (rowWord v (BitVec.ofNat 32 (512 * t)))).toNat, 0] : Fin 2 → Nat) a
        + (⟨2, ![520, 256]⟩ : Shape).size a ≤ (⟨2, ![8192, 256]⟩ : Shape).size a := by
  refine ⟨?_, tile_in v hv t ht⟩
  have h := rowWord_toNat v hv 0 (by omega)
  have e : rowWord v (BitVec.ofNat 32 (512 * 0)) = Scalar.muli 8#32 (quot8 v) := BitVec.add_zero _
  rw [e] at h
  rw [h]; omega

end Cert.Roll
-- ==== Proof.Agg.Block.lean ====
/- What a grid point leaves in its output block: at every position and channel the weighted sum of the channel's values
   delayed by the eight delays. -/
module

public import proofs.«01_k».proof.Proof.Gen.AggIdeal.Value
public import proofs.«01_k».proof.Proof.Agg.Check

@[expose] public section

noncomputable section

namespace Cert.AggIdeal.Block

open Cert.AggIdeal Cert.AggIdeal.Gen Cert.Roll
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The value the block has at a position and a channel, from the point's staged blocks. -/
abbrev goal (i : grid0.Coords) (x0 : Vec F S8 .i32) (x1 : Vec F S4x8 .f32) (x2 : Vec F S1x4096x256 .f32) (l : Nat) (ch : Fin 256) : F .f32 :=
  sumAt (fun l => x2 (ix3 (0 : Fin 1) l ch)) (fun k => x0 (ix1 k)) (fun k => x1 (ix2 (i 0) k)) l

section Point
variable (i : grid0.Coords) (arg2 : Memref sig .tc .smem S8 .i32) (harg2 : arg2.IsWhole) (arg3 : Memref sig .tc .smem S4x8 .f32)
  (harg3 : arg3.IsWhole) (arg4 : Memref sig .tc .vmem S1x4096x256 .f32) (harg4 : arg4.IsWhole)
  (arg6 : Memref sig .tc .vmem S8192x256 .f32) (x0 : Vec F S8 .i32) (x1 : Vec F S4x8 .f32) (x2 : Vec F S1x4096x256 .f32)
  (hv : ∀ k : Fin 8, (wordAt arg2 harg2 x0 k.val (word_in k)).toNat < 4096)

/-- What the kernel stores as tile `t` of the block. -/
abbrev stored (t : Nat) (ht : t < 8) : FVec F S1x512x256 .f32 :=
  shapeCast S1x512x256 (blockTile rotates_S520x256_d0 slices_S520x256_o0_0_S512x256 shapeCasts_S1x4096x256_S4096x256
    shapeCasts_S4096x256_S4096x256 arg2 harg2 arg3 harg3 arg4 harg4 arg6 x0 x1 x2 inb_S1x4096x256_S1x4096x256_0_0_0
    inb_S8192x256_S4096x256_4096_0 inb_S8192x256_S4096x256_0_0 hv (i 0).val (i 0).isLt t ht) shapeCasts_S512x256_S1x512x256

/-- It holds the weighted sums of its rows wherever it covers the block. -/
theorem stored_at (l : Fin 4096) (ch : Fin 256) (t : Nat) (ht : t < 8) :
    View.TileAt (Val := Elt F) (e := .f32) (ix3 (0 : Fin 1) l ch : S1x4096x256.Idx) (![0, 512 * t, 0] : Fin 3 → Nat) S1x512x256.size
      (stored i arg2 harg2 arg3 harg3 arg4 harg4 arg6 x0 x1 x2 hv t ht) (goal i x0 x1 x2 l.val ch) := by
  intro y hy
  have a1 : l.val = 512 * t + (y 1).val := hy 1
  have a2 : ch.val = 0 + (y 2).val := hy 2
  have h1 : (y 1).val < 512 := (y 1).isLt
  have h2 : (y 2).val < 256 := (y 2).isLt
  have h0 : (y 0).val < 1 := (y 0).isLt
  refine (shapeCast_apply _ _ y (ix2 (⟨(y 1).val, h1⟩ : Fin 512) (⟨(y 2).val, h2⟩ : Fin 256)) (by
    rw [Shape.rowMajor_val_three, Shape.rowMajor_val_two]
    show (y 1).val * 256 + (y 2).val = ((y 0).val * 512 + (y 1).val) * 256 + (y 2).val; omega)).trans ?_
  refine (blockTile_apply _ _ _ _ arg2 harg2 arg3 harg3 arg4 harg4 arg6 x0 x1 x2 _ _ _ hv (i 0).val (i 0).isLt t ht _ _).trans ?_
  have e : (⟨(y 2).val, h2⟩ : Fin 256) = ch := Fin.ext (by show (y 2).val = ch.val; omega)
  rw [e, ← a1]
  rfl

end Point

set_option maxHeartbeats 4000000 in
set_option maxRecDepth 131072 in
/-- What a point writes back, at a position and a channel, where every delay it reads is below 4096. -/
theorem flushed_apply (hH : Hyps m) (c : Dev nD) (t : Fin cfg0.N)
    (hv : ∀ k : Fin 8, (wordAt (ms0_0 t) (hs0_0 t) (iblk m c 0 t) k.val (word_in k)).toNat < 4096) (l : Fin 4096) (ch : Fin 256) :
    outsAt0 m hH c t (ix3 (0 : Fin 1) l ch)
      = goal (grid0.coords t) (iblk m c 0 t) (iblk m c 1 t) (iblk m c 2 t) l.val ch := by
  have key := fun (u : Nat) (hu : u < 8) => stored_at (grid0.coords t) (ms0_0 t) (hs0_0 t) (ms0_1 t) (hs0_1 t) (ms0_2 t) (hs0_2 t)
    scM0_0 (iblk m c 0 t) (iblk m c 1 t) (iblk m c 2 t) hv l ch u hu
  unfold outsAt0 out0_A_3
  refine (congrFun (View.read_writes_eq_canon VO0_3 _ _ (by intro y; apply cover0_A_3)) _).trans ?_
  refine View.canon_eq_of_allAt _ _ _ (by apply cover0_A_3) ?_
  exact View.allAt_cons_unit _ _ _ _ _ (key 7 (by omega)) <| View.allAt_cons_unit _ _ _ _ _ (key 6 (by omega)) <|
    View.allAt_cons_unit _ _ _ _ _ (key 5 (by omega)) <| View.allAt_cons_unit _ _ _ _ _ (key 4 (by omega)) <|
    View.allAt_cons_unit _ _ _ _ _ (key 3 (by omega)) <| View.allAt_cons_unit _ _ _ _ _ (key 2 (by omega)) <|
    View.allAt_cons_unit _ _ _ _ _ (key 1 (by omega)) <| View.allAt_cons_unit _ _ _ _ _ (key 0 (by omega)) (View.allAt_nil _ _)

end Cert.AggIdeal.Block

end
-- ==== Proof.Agg.Final.lean ====
/- The kernel's result array after the run, element by element, as a weighted sum of delayed values of the arguments. -/
module

public import proofs.«01_k».proof.Proof.Agg.Block
public import Idealize.ShloMosaic.Lib.Pipeline.ValueKit

@[expose] public section

noncomputable section

namespace Cert.AggIdeal.Final

open Cert.AggIdeal Cert.AggIdeal.Gen Cert.AggIdeal.Block Cert.Roll
open Idealize.ShloMosaic hiding ix1 ix2 ix3 ix4 ix5
open Idealize.ShloMosaic.TcCoe Idealize.ShloMosaic.ValueIdx

variable {F : FTy → Type} [FloatOps F] (m : (ℓ : Loc nD τ sig) → Buf (Elt F) ℓ)

/-- The delays a device is launched with. -/
abbrev delays (c : Dev nD) : Vec F S1x8 .i32 := m ((c : Thread nD τ).loc main_arg0)
/-- The weights a device is launched with. -/
abbrev weights (c : Dev nD) : Vec F S4x8 .f32 := m ((c : Thread nD τ).loc main_arg1)
/-- The values a device is launched with. -/
abbrev values (c : Dev nD) : Vec F S4x4096x16x64 .f32 := m ((c : Thread nD τ).loc main_arg2)

theorem V_delays (c : Dev nD) : V m c main_call0_v1 = shapeCast S8 (delays m c) shapeCasts_S1x8_S8 := by
  unfold V
  after_results
  rfl

theorem V_values (c : Dev nD) : V m c main_call0_v0 = shapeCast S4x4096x1024 (values m c) shapeCasts_S4x4096x16x64_S4x4096x1024 := by
  unfold V
  after_results
  rfl

theorem index0 : ∀ t : Fin grid0.N, win0_0.index t = ![0] := by decide +kernel
theorem index1 : ∀ t : Fin grid0.N, win0_1.index t = ![0, 0] := by decide +kernel
theorem index2 : ∀ t : Fin grid0.N, win0_2.index t = ![(grid0.coords t 0).val, 0, (grid0.coords t 1).val] := by decide +kernel
theorem index3 : ∀ t : Fin grid0.N, win0_3.index t = ![(grid0.coords t 0).val, 0, (grid0.coords t 1).val] := by decide +kernel

theorem block0 (c : Dev nD) (t : Fin cfg0.N) (k : Fin 8) : iblk m c 0 t (ix1 k) = delays m c (ix2 (0 : Fin 1) k) := by
  have e : iblk m c 0 t (ix1 k) = V m c main_call0_v1 ((win0_0.rect t).emb (ix1 k)) := rfl
  rw [e, V_delays]
  refine shapeCast_apply _ _ _ _ ?_
  rw [Shape.rowMajor_val_two, Shape.rowMajor_val_one]
  have h := Pipeline.Window.rect_emb_val win0_0 t (ix1 k) 0
  rw [index0] at h
  refine Eq.trans ?_ h.symm
  show 0 * 8 + k.val = 0 * 8 + k.val
  rfl

theorem block1 (c : Dev nD) (t : Fin cfg0.N) (b : Fin 4) (k : Fin 8) : iblk m c 1 t (ix2 b k) = weights m c (ix2 b k) := by
  have e : iblk m c 1 t (ix2 b k) = V m c main_arg1 ((win0_1.rect t).emb (ix2 b k)) := rfl
  rw [e, V_main_arg1]
  refine congrArg (weights m c) (funext fun a => Fin.ext ?_)
  match a with
  | ⟨0, _⟩ => exact Pipeline.Window.rect_emb_val_of_index_zero win0_1 t 0 (by rw [index1]; rfl) (ix2 b k)
  | ⟨1, _⟩ => exact Pipeline.Window.rect_emb_val_of_index_zero win0_1 t 1 (by rw [index1]; rfl) (ix2 b k)

/-- The place of a block's channel among a batch entry's 1024. -/
theorem block2 (c : Dev nD) (t : Fin cfg0.N) (l : Fin 4096) (ch : Fin 256) (n : Fin 1024)
    (hn : n.val = (grid0.coords t 1).val * 256 + ch.val) :
    iblk m c 2 t (ix3 (0 : Fin 1) l ch)
      = values m c (ix4 (grid0.coords t 0) l (⟨n.val / 64, by omega⟩ : Fin 16) (⟨n.val % 64, by omega⟩ : Fin 64)) := by
  have e : iblk m c 2 t (ix3 (0 : Fin 1) l ch) = V m c main_call0_v0 ((win0_2.rect t).emb (ix3 (0 : Fin 1) l ch)) := rfl
  rw [e, V_values]
  refine shapeCast_apply _ _ _ _ ?_
  rw [Shape.rowMajor_val_four, Shape.rowMajor_val_three]
  have h0 := Pipeline.Window.rect_emb_val win0_2 t (ix3 (0 : Fin 1) l ch) 0
  have h1 := Pipeline.Window.rect_emb_val win0_2 t (ix3 (0 : Fin 1) l ch) 1
  have h2 := Pipeline.Window.rect_emb_val win0_2 t (ix3 (0 : Fin 1) l ch) 2
  rw [index2] at h0 h1 h2
  have h0' : (((win0_2.rect t).emb (ix3 (0 : Fin 1) l ch)) 0).val = (grid0.coords t 0).val * 1 + 0 := h0
  have h1' : (((win0_2.rect t).emb (ix3 (0 : Fin 1) l ch)) 1).val = 0 * 4096 + l.val := h1
  have h2' : (((win0_2.rect t).emb (ix3 (0 : Fin 1) l ch)) 2).val = (grid0.coords t 1).val * 256 + ch.val := h2
  show (((grid0.coords t 0).val * 4096 + l.val) * 16 + n.val / 64) * 64 + n.val % 64
    = ((((win0_2.rect t).emb (ix3 (0 : Fin 1) l ch)) 0).val * 4096 + (((win0_2.rect t).emb (ix3 (0 : Fin 1) l ch)) 1).val) * 1024 + (((win0_2.rect t).emb (ix3 (0 : Fin 1) l ch)) 2).val
  rw [h0', h1', h2', ← hn]
  omega

/-- The delayed sum of the launched values at a place of the result. -/
def resultAt (c : Dev nD) (b : Fin 4) (l : Fin 4096) (n : Fin 1024) : F .f32 :=
  sumAt (fun l => values m c (ix4 b l (⟨n.val / 64, by omega⟩ : Fin 16) (⟨n.val % 64, by omega⟩ : Fin 64)))
    (fun k => delays m c (ix2 (0 : Fin 1) k)) (fun k => weights m c (ix2 b k)) l.val

theorem word_lt (hd : ∀ c k, (delays m c (ix2 (0 : Fin 1) k)).toNat < 4096) (c : Dev nD) (t : Fin cfg0.N) (k : Fin 8) :
    (wordAt (ms0_0 t) (hs0_0 t) (iblk m c 0 t) k.val (word_in k)).toNat < 4096 := by
  rw [wordAt_eq _ _ _ k.val _ k.isLt]
  have e := block0 m c t k
  rw [e]
  exact hd c k

/-- What a point of the grid stores at a place of its block, as the delayed sum at the block's place in the result. -/
theorem point (hH : Hyps m) (hd : ∀ c k, (delays m c (ix2 (0 : Fin 1) k)).toNat < 4096) (c : Dev nD) (t : Fin cfg0.N)
    (l : Fin 4096) (ch : Fin 256) (n : Fin 1024) (hn : n.val = (grid0.coords t 1).val * 256 + ch.val) :
    outsAt0 m hH c t (ix3 (0 : Fin 1) l ch) = resultAt m c (grid0.coords t 0) l n := by
  rw [flushed_apply m hH c t (fun k => word_lt m hd c t k) l ch]
  unfold goal resultAt
  rw [funext (block0 m c t), funext fun k => block1 m c t (grid0.coords t 0) k, funext fun l => block2 m c t l ch n hn]

/-- A place of a block, in the result array. -/
theorem place (t : Fin cfg0.N) (y : S1x4096x256.Idx) :
    (((win0_3.blk t).view.emb y) 0).val = (grid0.coords t 0).val ∧ (((win0_3.blk t).view.emb y) 1).val = (y 1).val
      ∧ (((win0_3.blk t).view.emb y) 2).val = (grid0.coords t 1).val * 256 + (y 2).val := by
  have h0 := Pipeline.Window.rect_emb_val win0_3 t y 0
  have h1 := Pipeline.Window.rect_emb_val win0_3 t y 1
  have h2 := Pipeline.Window.rect_emb_val win0_3 t y 2
  rw [index3] at h0 h1 h2
  have h0' : (((win0_3.blk t).view.emb y) 0).val = (grid0.coords t 0).val * 1 + (y 0).val := h0
  have h1' : (((win0_3.blk t).view.emb y) 1).val = 0 * 4096 + (y 1).val := h1
  have hy : (y 0).val < 1 := (y 0).isLt
  exact ⟨by rw [h0']; omega, by rw [h1']; omega, h2⟩

/-- The same at a place of the block given as a whole. -/
theorem pointAt (hH : Hyps m) (hd : ∀ c k, (delays m c (ix2 (0 : Fin 1) k)).toNat < 4096) (c : Dev nD) (t : Fin cfg0.N) (y : S1x4096x256.Idx) :
    outsAt0 m hH c t y = resultAt m c (((win0_3.blk t).view.emb y) 0) (((win0_3.blk t).view.emb y) 1) (((win0_3.blk t).view.emb y) 2) := by
  obtain ⟨h0, h1, h2⟩ := place t y
  have ey : y = ix3 (0 : Fin 1) (y 1) (y 2) := by
    refine (ValueIdx.eq_ix3 (n0 := 1) (n1 := 4096) (n2 := 256) y).trans ?_
    rw [show y 0 = (0 : Fin 1) from Fin.ext (Nat.lt_one_iff.mp (y 0).isLt)]
    rfl
  refine (congrArg (outsAt0 m hH c t) ey).trans ((point m hH hd c t (y 1) (y 2) (((win0_3.blk t).view.emb y) 2) h2).trans ?_)
  rw [show grid0.coords t 0 = ((win0_3.blk t).view.emb y) 0 from Fin.ext h0.symm,
    show (y 1 : Fin 4096) = ((win0_3.blk t).view.emb y) 1 from Fin.ext h1.symm]

/-- The result array after the run. -/
theorem final (hH : Hyps m) (hd : ∀ c k, (delays m c (ix2 (0 : Fin 1) k)).toNat < 4096) (c : Dev nD) :
    (dats m hH 0 c).arrAt 3 cfg0.N = fun i : S4x4096x1024.Idx => resultAt m c (i 0) (i 1) (i 2) := by
  refine (dats m hH 0 c).arrAt_eq_of_covers 3 _ (by decide +kernel) fun t hf y => ?_
  rw [after0_3]
  have e := pointAt m hH hd c t y
  generalize outsAt0 m hH c t = f at e ⊢
  exact e

end Cert.AggIdeal.Final
-- ==== Proof.Agg.Host.lean ====
/- The reference's way of delaying: positions plus the delay, modulo the length, and the values taken at those positions. -/
module

public import proofs.«01_k».proof.Proof.Agg.Tile

@[expose] public section

noncomputable section

namespace Cert.Roll

open Idealize.ShloMosaic Idealize.ShloMosaic.ValueIdx

/-- The taking of positions along the last axis, as the reference's text has it. -/
abbrev lastDims (wf : GatherDims.WF ⟨4, ![4, 16, 64, 4096]⟩ ⟨2, ![4096, 1]⟩ ⟨4, ![4, 16, 64, 4096]⟩ [0, 1, 2] [3] [] [3] [] 1 ![4, 16, 64, 1]) :
    GatherDims ⟨4, ![4, 16, 64, 4096]⟩ ⟨2, ![4096, 1]⟩ ⟨4, ![4, 16, 64, 4096]⟩ where
  offsetDims := [0, 1, 2]
  collapsedSliceDims := [3]
  operandBatchingDims := []
  startIndicesBatchingDims := []
  startIndexMap := [3]
  indexVectorDim := 1
  sliceSizes := ![4, 16, 64, 1]
  wf := wf

/-- Taking positions along the last axis reads, at a position inside, the values there. -/
theorem takeLast_apply {α : Type} (wf : GatherDims.WF ⟨4, ![4, 16, 64, 4096]⟩ ⟨2, ![4096, 1]⟩ ⟨4, ![4, 16, 64, 4096]⟩ [0, 1, 2] [3] [] [3] [] 1 ![4, 16, 64, 1])
    (x : (⟨4, ![4, 16, 64, 4096]⟩ : Shape).Idx → α) (ids : IVec ⟨2, ![4096, 1]⟩ 32) (b : Fin 4) (h : Fin 16) (e : Fin 64) (l : Fin 4096)
    (n : Fin 4096) (hn : ids (ix2 l (0 : Fin 1)) = BitVec.ofNat 32 n.val) :
    Host.gather (lastDims wf) x ids (ix4 b h e l) = x (ix4 b h e n) := by
  have hnl := n.isLt
  unfold Host.gather
  congr 1
  funext a
  refine Fin.ext ?_
  show (lastDims wf).start (ix4 b h e l) ids a + (lastDims wf).batchCoord (ix4 b h e l) a + (lastDims wf).offCoord (ix4 b h e l) a = _
  rw [GatherDims.batchCoord_eq_zero _ _ _ List.not_mem_nil]
  have hoff : ∀ a : Fin 4, a ≠ 3 → a ∉ (lastDims wf).startIndexMap := fun a ha h => ha (List.mem_singleton.mp h)
  have hcase : a = 3 ∨ a ≠ 3 := Decidable.em _
  rcases hcase with rfl | ha
  · rw [GatherDims.offCoord_eq_zero _ _ _ (fun h => ((GatherDims.mem_sKept _ _).mp h).1 (List.mem_singleton.mpr rfl))]
    unfold GatherDims.start
    rw [dif_pos (show (3 : Fin 4) ∈ (lastDims wf).startIndexMap from List.mem_singleton.mpr rfl)]
    have hsi : (lastDims wf).siIdx (ix4 b h e l) ⟨List.idxOf (3 : Fin 4) (lastDims wf).startIndexMap,
        List.idxOf_lt_length_iff.2 (List.mem_singleton.mpr rfl)⟩ = ix2 l (0 : Fin 1) := by
      funext c; refine Fin.ext ?_
      match c with
      | ⟨0, _⟩ => rfl
      | ⟨1, _⟩ => rfl
    rw [hsi, hn]
    show min (BitVec.ofNat 32 n.val).toInt.toNat 4095 + 0 + 0 = n.val
    rw [BitVec.toInt_eq_toNat_of_lt (by rw [BitVec.toNat_ofNat]; omega), BitVec.toNat_ofNat]
    omega
  · have hs : (lastDims wf).start (ix4 b h e l) ids a = 0 := by
      unfold GatherDims.start; rw [dif_neg (hoff a ha)]
    rw [hs]
    match a, ha with
    | ⟨0, _⟩, _ => show 0 + 0 + b.val = b.val; omega
    | ⟨1, _⟩, _ => show 0 + 0 + h.val = h.val; omega
    | ⟨2, _⟩, _ => show 0 + 0 + e.val = e.val; omega
    | ⟨3, _⟩, ha => exact absurd rfl ha

/-- The remainder by 4096 as the reference computes it on a signed word. -/
def hostMod (w : BitVec 32) : BitVec 32 :=
  let d : BitVec 32 := Scalar.select (IntOp.cmpi .eq 4096#32 0#32) 1#32 4096#32
  let r : BitVec 32 := IntOp.remsi .host w d
  Scalar.select (IntOp.andi (IntOp.cmpi .ne (IntOp.cmpi .slt r 0#32) (IntOp.cmpi .slt d 0#32)) (IntOp.cmpi .ne r 0#32)) (IntOp.addi r d) r

/-- That remainder on every sum of a position and a delay. -/
theorem hostMod_all : ∀ n : Fin 8192, hostMod (BitVec.ofNat 32 n.val) = BitVec.ofNat 32 (n.val % 4096) := by decide +kernel

/-- Position `l` plus a delay, modulo the length, is the position shifted around. -/
theorem hostMod_add (l : Fin 4096) (w : BitVec 32) (hw : w.toNat < 4096) :
    hostMod (IntOp.addi (BitVec.ofNat 32 l.val) w) = BitVec.ofNat 32 (around l.val w.toNat).val := by
  have hl := l.isLt
  have e : IntOp.addi (BitVec.ofNat 32 l.val) w = BitVec.ofNat 32 (l.val + w.toNat) := by
    apply BitVec.eq_of_toNat_eq
    show (BitVec.ofNat 32 l.val + w).toNat = _
    rw [BitVec.toNat_add, BitVec.toNat_ofNat, BitVec.toNat_ofNat]
    omega
  rw [e]
  exact hostMod_all ⟨l.val + w.toNat, by omega⟩

/-- The values taken at the positions shifted by a delay are the values at the shifted positions. -/
theorem delayed_apply {α : Type} (wf : GatherDims.WF ⟨4, ![4, 16, 64, 4096]⟩ ⟨2, ![4096, 1]⟩ ⟨4, ![4, 16, 64, 4096]⟩ [0, 1, 2] [3] [] [3] [] 1 ![4, 16, 64, 1])
    (hb : Shape.BroadcastsInDim ⟨1, ![4096]⟩ ⟨2, ![4096, 1]⟩ ![0]) (x : (⟨4, ![4, 16, 64, 4096]⟩ : Shape).Idx → α)
    (ids : IVec ⟨1, ![4096]⟩ 32) (w : BitVec 32) (hw : w.toNat < 4096)
    (hids : ∀ l : Fin 4096, ids (ix1 l) = hostMod (IntOp.addi (BitVec.ofNat 32 l.val) w))
    (b : Fin 4) (h : Fin 16) (e : Fin 64) (l : Fin 4096) :
    Host.gather (lastDims wf) x (broadcastInDim ⟨2, ![4096, 1]⟩ ![0] hb ids) (ix4 b h e l) = x (ix4 b h e (around l.val w.toNat)) := by
  refine takeLast_apply wf x _ b h e l _ ?_
  rw [← hostMod_add l w hw, ← hids l]
  exact broadcastInDim_apply _ hb ids (ix2 l (0 : Fin 1)) (ix1 l) (fun a => match a with
    | ⟨0, _⟩ => by show l.val = if (4096 : Nat) = 1 then 0 else l.val; rw [if_neg (by decide)])

/-- The word of a list of eight, cut out of the list and kept as a scalar. -/
theorem word_read {α : Type} (x : (⟨2, ![1, 8]⟩ : Shape).Idx → α) (k : Fin 8) (h : Shape.ShapeCasts ⟨2, ![1, 8]⟩ ⟨1, ![8]⟩)
    (hs : Shape.Slices ⟨1, ![8]⟩ ![k.val] ⟨1, ![1]⟩) (hc : Shape.ShapeCasts ⟨1, ![1]⟩ ⟨0, ![]⟩) (i : (⟨0, ![]⟩ : Shape).Idx) :
    shapeCast ⟨0, ![]⟩ (extractStridedSlice ⟨1, ![1]⟩ ![k.val] (shapeCast ⟨1, ![8]⟩ x h) hs) hc i = x (ix2 (0 : Fin 1) k) := by
  refine (shapeCast_apply _ hc i (ix1 (0 : Fin 1)) ?_).trans ?_
  · have h1 := ((⟨0, ![]⟩ : Shape).rowMajor i).isLt
    have h2 : (⟨0, ![]⟩ : Shape).numel = 1 := rfl
    rw [Shape.rowMajor_val_one]
    show 0 = _
    omega
  refine (extractStridedSlice_apply ![k.val] _ hs (ix1 (0 : Fin 1)) (ix1 k) (fun a => match a with
    | ⟨0, _⟩ => by show k.val = k.val + 0; omega)).trans ?_
  refine shapeCast_apply x h (ix1 k) (ix2 (0 : Fin 1) k) ?_
  rw [Shape.rowMajor_val_two, Shape.rowMajor_val_one]
  show 0 * 8 + k.val = k.val
  omega

/-- A weight of each batch entry, spread over all the entry's values. -/
theorem weight_read {α : Type} (x : (⟨2, ![4, 8]⟩ : Shape).Idx → α) (k : Fin 8) (hs : Shape.Slices ⟨2, ![4, 8]⟩ ![0, k.val] ⟨2, ![4, 1]⟩)
    (hc : Shape.ShapeCasts ⟨2, ![4, 1]⟩ ⟨1, ![4]⟩) (h1 : Shape.BroadcastsInDim ⟨1, ![4]⟩ ⟨4, ![4, 1, 1, 1]⟩ ![0])
    (h2 : Shape.BroadcastsInDim ⟨4, ![4, 1, 1, 1]⟩ ⟨4, ![4, 16, 64, 4096]⟩ ![0, 1, 2, 3])
    (b : Fin 4) (h : Fin 16) (e : Fin 64) (l : Fin 4096) :
    broadcastInDim ⟨4, ![4, 16, 64, 4096]⟩ ![0, 1, 2, 3] h2 (broadcastInDim ⟨4, ![4, 1, 1, 1]⟩ ![0] h1
      (shapeCast ⟨1, ![4]⟩ (extractStridedSlice ⟨2, ![4, 1]⟩ ![0, k.val] x hs) hc)) (ix4 b h e l) = x (ix2 b k) := by
  refine (broadcastInDim_apply _ h2 _ (ix4 b h e l) (ix4 b (0 : Fin 1) (0 : Fin 1) (0 : Fin 1)) (fun a => match a with
    | ⟨0, _⟩ => by show b.val = if (4 : Nat) = 1 then 0 else b.val; rw [if_neg (by decide)]
    | ⟨1, _⟩ => rfl
    | ⟨2, _⟩ => rfl
    | ⟨3, _⟩ => rfl)).trans ?_
  refine (broadcastInDim_apply _ h1 _ (ix4 b (0 : Fin 1) (0 : Fin 1) (0 : Fin 1)) (ix1 b) (fun a => match a with
    | ⟨0, _⟩ => by show b.val = if (4 : Nat) = 1 then 0 else b.val; rw [if_neg (by decide)])).trans ?_
  refine (shapeCast_apply _ hc (ix1 b) (ix2 b (0 : Fin 1)) ?_).trans ?_
  · rw [Shape.rowMajor_val_two, Shape.rowMajor_val_one]
    show b.val * 1 + 0 = b.val
    omega
  exact extractStridedSlice_apply ![0, k.val] x hs (ix2 b (0 : Fin 1)) (ix2 b k) (fun a => match a with
    | ⟨0, _⟩ => by show b.val = 0 + b.val; omega
    | ⟨1, _⟩ => by show k.val = k.val + 0; omega)

end Cert.Roll
-- ==== Proof.Agg.Ref.lean ====
/- The reference's delayed sum, read at an element. -/
module

public import proofs.«01_k».proof.Proof.Gen.AggRefIdeal.Read
public import proofs.«01_k».proof.Proof.Agg.Host

@[expose] public section

noncomputable section

namespace Cert.AggRefIdeal.Sum

open Cert.AggRefIdeal Cert.AggRefIdeal.Gen Cert.AggRefIdeal.Read Cert.Roll
open Idealize.ShloMosaic Idealize.ShloMosaic.TcCoe Idealize.ShloMosaic.ValueIdx

variable {F : FTy → Type} [FloatOps F]
variable (x0 : Vec F S1x8 .i32) (x1 : Vec F S4x8 .f32) (x2 : Vec F S4x4096x16x64 .f32)

/-- The values with their channels first, taken at positions shifted by one of the delays. -/
theorem taken (hx : ∀ k : Fin 8, (x0 (ix2 0 k)).toNat < 4096) (k : Fin 8) (ids : IVec S4096 32) (w : IVec S_ 32)
    (hw : w (fun a => a.elim0) = x0 (ix2 0 k))
    (hids : ∀ l : Fin 4096, ids (ix1 l) = hostMod (IntOp.addi (BitVec.ofNat 32 l.val) (w (fun a => a.elim0))))
    (b : Fin 4) (h : Fin 16) (e : Fin 64) (l : Fin 4096) :
    Host.gather gather_S4x16x64x4096_S4096x1_S4x16x64x4096_012_3_n_n_3_1_416641 (val_main_v1 (F := F) x2)
        (broadcastInDim S4096x1 ![0] bcast_S4096_S4096x1_0 ids) (ix4 b h e l)
      = x2 (ix4 b (around l.val (x0 (ix2 0 k)).toNat) h e) := by
  refine (delayed_apply _ _ _ ids (x0 (ix2 0 k)) (hx k) (fun l => (hids l).trans (by rw [hw])) b h e l).trans ?_
  refine (val_main_v1_apply x2 _).trans (congrArg x2 ?_)
  funext a
  match a with
  | ⟨0, _⟩ => rfl
  | ⟨1, _⟩ => rfl
  | ⟨2, _⟩ => rfl
  | ⟨3, _⟩ => rfl

/-- The reference's sum before its last transposition. -/
theorem summed (hx : ∀ k : Fin 8, (x0 (ix2 0 k)).toNat < 4096) (b : Fin 4) (h : Fin 16) (e : Fin 64) (l : Fin 4096) :
    val_main_v99 (F := F) x0 x1 x2 (ix4 b h e l)
      = sumAt (fun l => x2 (ix4 b l h e)) (fun k => x0 (ix2 0 k)) (fun k => x1 (ix2 b k)) l.val := by
  have g0 : val_main_v9 (F := F) x0 x2 (ix4 b h e l) = _ :=
    taken x0 x2 hx 0 (val_main_v8 (F := F) x0) (val_main_v5 (F := F) x0) (word_read x0 0 _ _ _ _) (fun _ => rfl) b h e l
  have w0 : val_main_v13 (F := F) x1 (ix4 b h e l) = _ := weight_read x1 0 _ _ _ _ b h e l
  have g1 : val_main_v21 (F := F) x0 x2 (ix4 b h e l) = _ :=
    taken x0 x2 hx 1 (val_main_v20 (F := F) x0) (val_main_v17 (F := F) x0) (word_read x0 1 _ _ _ _) (fun _ => rfl) b h e l
  have w1 : val_main_v25 (F := F) x1 (ix4 b h e l) = _ := weight_read x1 1 _ _ _ _ b h e l
  have g2 : val_main_v33 (F := F) x0 x2 (ix4 b h e l) = _ :=
    taken x0 x2 hx 2 (val_main_v32 (F := F) x0) (val_main_v29 (F := F) x0) (word_read x0 2 _ _ _ _) (fun _ => rfl) b h e l
  have w2 : val_main_v37 (F := F) x1 (ix4 b h e l) = _ := weight_read x1 2 _ _ _ _ b h e l
  have g3 : val_main_v45 (F := F) x0 x2 (ix4 b h e l) = _ :=
    taken x0 x2 hx 3 (val_main_v44 (F := F) x0) (val_main_v41 (F := F) x0) (word_read x0 3 _ _ _ _) (fun _ => rfl) b h e l
  have w3 : val_main_v49 (F := F) x1 (ix4 b h e l) = _ := weight_read x1 3 _ _ _ _ b h e l
  have g4 : val_main_v57 (F := F) x0 x2 (ix4 b h e l) = _ :=
    taken x0 x2 hx 4 (val_main_v56 (F := F) x0) (val_main_v53 (F := F) x0) (word_read x0 4 _ _ _ _) (fun _ => rfl) b h e l
  have w4 : val_main_v61 (F := F) x1 (ix4 b h e l) = _ := weight_read x1 4 _ _ _ _ b h e l
  have g5 : val_main_v69 (F := F) x0 x2 (ix4 b h e l) = _ :=
    taken x0 x2 hx 5 (val_main_v68 (F := F) x0) (val_main_v65 (F := F) x0) (word_read x0 5 _ _ _ _) (fun _ => rfl) b h e l
  have w5 : val_main_v73 (F := F) x1 (ix4 b h e l) = _ := weight_read x1 5 _ _ _ _ b h e l
  have g6 : val_main_v81 (F := F) x0 x2 (ix4 b h e l) = _ :=
    taken x0 x2 hx 6 (val_main_v80 (F := F) x0) (val_main_v77 (F := F) x0) (word_read x0 6 _ _ _ _) (fun _ => rfl) b h e l
  have w6 : val_main_v85 (F := F) x1 (ix4 b h e l) = _ := weight_read x1 6 _ _ _ _ b h e l
  have g7 : val_main_v93 (F := F) x0 x2 (ix4 b h e l) = _ :=
    taken x0 x2 hx 7 (val_main_v92 (F := F) x0) (val_main_v89 (F := F) x0) (word_read x0 7 _ _ _ _) (fun _ => rfl) b h e l
  have w7 : val_main_v97 (F := F) x1 (ix4 b h e l) = _ := weight_read x1 7 _ _ _ _ b h e l
  rw [val_main_v99_apply, val_main_v98_apply, val_main_v87_apply, val_main_v86_apply, val_main_v75_apply, val_main_v74_apply, val_main_v63_apply, val_main_v62_apply, val_main_v51_apply, val_main_v50_apply, val_main_v39_apply, val_main_v38_apply, val_main_v27_apply, val_main_v26_apply, val_main_v15_apply, val_main_v14_apply,
    g0, w0, g1, w1, g2, w2, g3, w3, g4, w4, g5, w5, g6, w6, g7, w7]
  rfl

/-- The reference's result at a batch entry, a position and a channel. -/
theorem result (hx : ∀ k : Fin 8, (x0 (ix2 0 k)).toNat < 4096) (b : Fin 4) (l : Fin 4096) (ch : Fin 1024) :
    val_main_v101 (F := F) x0 x1 x2 (ix3 b l ch)
      = sumAt (fun l => x2 (ix4 b l (⟨ch.val / 64, by omega⟩ : Fin 16) (⟨ch.val % 64, by omega⟩ : Fin 64)))
          (fun k => x0 (ix2 0 k)) (fun k => x1 (ix2 b k)) l.val := by
  refine Eq.trans ?_ (summed x0 x1 x2 hx b (⟨ch.val / 64, by omega⟩ : Fin 16) (⟨ch.val % 64, by omega⟩ : Fin 64) l)
  have e1 : val_main_v101 (F := F) x0 x1 x2 (ix3 b l ch)
      = val_main_v100 (F := F) x0 x1 x2 (ix4 b l (⟨ch.val / 64, by omega⟩ : Fin 16) (⟨ch.val % 64, by omega⟩ : Fin 64)) := by
    unfold val_main_v101
    generalize val_main_v100 (F := F) x0 x1 x2 = y
    refine shapeCast_apply y _ _ _ ?_
    rw [Shape.rowMajor_val_four, Shape.rowMajor_val_three]
    show ((b.val * 4096 + l.val) * 16 + ch.val / 64) * 64 + ch.val % 64 = (b.val * 4096 + l.val) * 1024 + ch.val
    omega
  refine e1.trans ((val_main_v100_apply x0 x1 x2 _).trans (congrArg _ ?_))
  funext a
  match a with
  | ⟨0, _⟩ => rfl
  | ⟨1, _⟩ => rfl
  | ⟨2, _⟩ => rfl
  | ⟨3, _⟩ => rfl

end Cert.AggRefIdeal.Sum
-- ==== Proof.Agg.Range.lean ====
/- What the precondition on the delays says of each of them. -/
module

public import proofs.«01_k».proof.Proof.Gen.Pre_in_range

@[expose] public section

namespace Cert.Roll

open Cert.Pre_in_range
open Idealize.ShloMosaic

/-- Delays the predicate holds of are, as numbers, below 4096. -/
theorem in_range_lt [Cert.Pre_in_range.Facts] {F : FTy → Type} [FloatOps F] (x0 : IVec S1x8 32) (x1 : FVec F S4x8 .f32) (x2 : FVec F S4x4096x16x64 .f32)
    (h : Cert.Pre_in_range.fn x0 x1 x2 = fun _ => 1#1) (y : S1x8.Idx) : (x0 y).toNat < 4096 := by
  have both (p q : Bool) : IntOp.andi (BitVec.ofBool p) (BitVec.ofBool q) = BitVec.ofBool (p && q) := by
    cases p <;> cases q <;> decide
  have holds (p : Bool) : (BitVec.ofBool p = 1#1) ↔ p = true := by cases p <;> decide
  have e := congrFun h y
  simp only [Pre_in_range.fn, andi, cmpi, broadcastInDim, constantI, IntOp.cmpi, both, holds, Bool.and_eq_true] at e
  obtain ⟨hge, hlt⟩ := e
  simp only [BitVec.sle, BitVec.slt, decide_eq_true_eq, BitVec.toInt, BitVec.toNat_ofNat] at hge hlt
  omega

end Cert.Roll
-- ==== Proof.Agg.HypAgg.lean ====
/- The delays of Agg's precondition name rows that the kernel's tiles fit behind. -/
module

public import proofs.«01_k».proof.Defs
public import proofs.«01_k».proof.Proof.Gen.Agg.Frame
public import proofs.«01_k».proof.Proof.Agg.Check
public import proofs.«01_k».proof.Proof.Agg.Range

@[expose] public section

namespace Cert.Agg.Hyp

open Cert.Agg Cert.Agg.Gen Cert.Roll
open Idealize.ShloMosaic Idealize.ShloMosaic.TcCoe

/-- Every delay the program is launched with is below 4096. -/
theorem delay_lt [Cert.Pre_in_range.Facts] (m : (ℓ : Loc nD τ sig) → Buf (Elt Bits) ℓ) (h : Cert.Pre_Agg m) (c : Dev nD) (y : S1x8.Idx) :
    (m ((c : Thread nD τ).loc main_arg0) y).toNat < 4096 :=
  in_range_lt _ _ _ (h c) y

/-- Every delay of the block a grid point is given is below 4096. -/
theorem block_lt [Cert.Pre_in_range.Facts] (m : (ℓ : Loc nD τ sig) → Buf (Elt Bits) ℓ) (h : Cert.Pre_Agg m) (c : Dev nD) (t : Fin cfg0.N) (y : S8.Idx) :
    (iblk m c 0 t y).toNat < 4096 := by
  have e : iblk m c 0 t y = V m c main_call0_v1 ((win0_0.rect t).emb y) := rfl
  have e2 : V m c main_call0_v1 = shapeCast S8 (m ((c : Thread nD τ).loc main_arg0)) shapeCasts_S1x8_S8 := by
    unfold V
    after_results
    rfl
  rw [e, e2]
  exact delay_lt m h c _

/-- The precondition gives every condition the kernel assumes of its delays. -/
theorem hyps_of_pre [Cert.Pre_in_range.Facts] (m : (ℓ : Loc nD τ sig) → Buf (Elt Bits) ℓ) (h : Cert.Pre_Agg m) : Hyps m := by
  intro c t
  have q := fun (k s : Fin 8) => row_ok (wordAt (ms0_0 t) (hs0_0 t) (iblk m c 0 t) k.val (word_in k))
    (by rw [wordAt_eq _ _ _ k.val _ k.isLt]; exact block_lt m h c t _) s.val s.isLt
  exact ⟨q 0 0, q 1 0, q 2 0, q 3 0, q 4 0, q 5 0, q 6 0, q 7 0,
    q 0 1, q 1 1, q 2 1, q 3 1, q 4 1, q 5 1, q 6 1, q 7 1,
    q 0 2, q 1 2, q 2 2, q 3 2, q 4 2, q 5 2, q 6 2, q 7 2,
    q 0 3, q 1 3, q 2 3, q 3 3, q 4 3, q 5 3, q 6 3, q 7 3,
    q 0 4, q 1 4, q 2 4, q 3 4, q 4 4, q 5 4, q 6 4, q 7 4,
    q 0 5, q 1 5, q 2 5, q 3 5, q 4 5, q 5 5, q 6 5, q 7 5,
    q 0 6, q 1 6, q 2 6, q 3 6, q 4 6, q 5 6, q 6 6, q 7 6,
    q 0 7, q 1 7, q 2 7, q 3 7, q 4 7, q 5 7, q 6 7, q 7 7⟩

end Cert.Agg.Hyp
-- ==== Proof.Agg.HypIdeal.lean ====
/- The delays of AggIdeal's precondition name rows that the kernel's tiles fit behind. -/
module

public import proofs.«01_k».proof.Defs
public import proofs.«01_k».proof.Proof.Gen.AggIdeal.Frame
public import proofs.«01_k».proof.Proof.Agg.Check
public import proofs.«01_k».proof.Proof.Agg.Range

@[expose] public section

namespace Cert.AggIdeal.Hyp

open Cert.AggIdeal Cert.AggIdeal.Gen Cert.Roll
open Idealize.ShloMosaic Idealize.ShloMosaic.TcCoe

/-- Every delay the program is launched with is below 4096. -/
theorem delay_lt [Cert.Pre_in_range.Facts] (m : (ℓ : Loc nD τ sig) → Buf (Elt Ideal) ℓ) (h : Cert.Pre_AggIdeal m) (c : Dev nD) (y : S1x8.Idx) :
    (m ((c : Thread nD τ).loc main_arg0) y).toNat < 4096 :=
  in_range_lt _ _ _ (h c) y

/-- Every delay of the block a grid point is given is below 4096. -/
theorem block_lt [Cert.Pre_in_range.Facts] (m : (ℓ : Loc nD τ sig) → Buf (Elt Ideal) ℓ) (h : Cert.Pre_AggIdeal m) (c : Dev nD) (t : Fin cfg0.N) (y : S8.Idx) :
    (iblk m c 0 t y).toNat < 4096 := by
  have e : iblk m c 0 t y = V m c main_call0_v1 ((win0_0.rect t).emb y) := rfl
  have e2 : V m c main_call0_v1 = shapeCast S8 (m ((c : Thread nD τ).loc main_arg0)) shapeCasts_S1x8_S8 := by
    unfold V
    after_results
    rfl
  rw [e, e2]
  exact delay_lt m h c _

/-- The precondition gives every condition the kernel assumes of its delays. -/
theorem hyps_of_pre [Cert.Pre_in_range.Facts] (m : (ℓ : Loc nD τ sig) → Buf (Elt Ideal) ℓ) (h : Cert.Pre_AggIdeal m) : Hyps m := by
  intro c t
  have q := fun (k s : Fin 8) => row_ok (wordAt (ms0_0 t) (hs0_0 t) (iblk m c 0 t) k.val (word_in k))
    (by rw [wordAt_eq _ _ _ k.val _ k.isLt]; exact block_lt m h c t _) s.val s.isLt
  exact ⟨q 0 0, q 1 0, q 2 0, q 3 0, q 4 0, q 5 0, q 6 0, q 7 0,
    q 0 1, q 1 1, q 2 1, q 3 1, q 4 1, q 5 1, q 6 1, q 7 1,
    q 0 2, q 1 2, q 2 2, q 3 2, q 4 2, q 5 2, q 6 2, q 7 2,
    q 0 3, q 1 3, q 2 3, q 3 3, q 4 3, q 5 3, q 6 3, q 7 3,
    q 0 4, q 1 4, q 2 4, q 3 4, q 4 4, q 5 4, q 6 4, q 7 4,
    q 0 5, q 1 5, q 2 5, q 3 5, q 4 5, q 5 5, q 6 5, q 7 5,
    q 0 6, q 1 6, q 2 6, q 3 6, q 4 6, q 5 6, q 6 6, q 7 6,
    q 0 7, q 1 7, q 2 7, q 3 7, q 4 7, q 5 7, q 6 7, q 7 7⟩

end Cert.AggIdeal.Hyp
-- ==== Proof.Agg.Cert.lean ====
/- The claims about the delayed aggregation. -/
module

public import proofs.«01_k».proof.Proof.Agg.Final
public import proofs.«01_k».proof.Proof.Agg.Ref
public import proofs.«01_k».proof.Proof.Agg.HypAgg
public import proofs.«01_k».proof.Proof.Agg.HypIdeal
public import Idealize.ShloMosaic.Lib.Quiescent

@[expose] public section

noncomputable section

namespace Cert.AggProof

open Idealize.ShloMosaic hiding ix1 ix2 ix3 ix4 ix5
open Idealize.ShloMosaic.TcCoe Idealize.ShloMosaic.ValueIdx Idealize.SL.Sem

/-- The kernel runs under its precondition, keeps its arguments and ends quiescent. -/
theorem frame_bits : Cert.quiescent_Agg := fun m ρ h =>
  Cert.Agg.Gen.frame m ρ (Cert.Agg.Hyp.hyps_of_pre m h)

/-- So does the kernel over the extended reals. -/
theorem frame_ideal : Cert.quiescent_AggIdeal := fun m ρ h =>
  Cert.AggIdeal.Gen.frame m ρ (Cert.AggIdeal.Hyp.hyps_of_pre m h)

/-- The reference runs from any memory, keeps its arguments and has no counters. -/
theorem frame_reference : Cert.quiescent_AggRefIdeal := fun m ρ _ =>
  (θ_run Cert.AggRefIdeal.defs _ _).mono (fun r h => ⟨fun c => (h c).2, sem_eq_zero_of_no_sems (by decide) r.2⟩)
    (Cert.AggRefIdeal.Value.run (F := Ideal) m ρ)

/-- Kernel and reference compute the same delayed sum. -/
theorem algebraic : Cert.algebraic_AggIdeal_AggRefIdeal := by
  intro m g m' g' hpre hargs
  have hd := fun c k => Cert.AggIdeal.Hyp.delay_lt m hpre c (ix2 (0 : Fin 1) k)
  refine ⟨fun c => fun i : Cert.AggIdeal.S4x4096x1024.Idx => Cert.AggIdeal.Final.resultAt m c (i 0) (i 1) (i 2), ?_, ?_⟩
  · refine (θ_run Cert.AggIdeal.defs _ _).mono (fun r h c => ⟨(h c).1.trans ?_, (h c).2⟩)
      (Cert.AggIdeal.Value.run_blocks m g (Cert.AggIdeal.Hyp.hyps_of_pre m hpre))
    exact Cert.AggIdeal.Final.final m _ hd c
  · refine (θ_run Cert.AggRefIdeal.defs _ _).mono (fun r h c => ⟨(h c).1.trans ?_, (h c).2⟩)
      (Cert.AggRefIdeal.Value.run (F := Ideal) m' g')
    refine (Cert.AggRefIdeal.Read.val_main_v101_eq _).trans ?_
    obtain ⟨h0, h1, h2⟩ := hargs c
    rw [StableHlo.launchContents_devRef, StableHlo.launchContents_devRef, StableHlo.launchContents_devRef, h0, h1, h2]
    funext i
    refine (congrArg _ (ValueIdx.eq_ix3 (n0 := 4) (n1 := 4096) (n2 := 1024) i)).trans ?_
    exact Cert.AggRefIdeal.Sum.result (F := Ideal) _ _ _ (fun k => hd c k) (i 0) (i 1) (i 2)

end Cert.AggProof
-- ==== Proof.Corr.Dft.lean ====
/- The discrete Fourier transform of length 4096 in two steps, over the reals: 32 short transforms, a
   rotation, 128 short transforms. -/
module

public import Mathlib.Analysis.SpecialFunctions.Trigonometric.Basic
public import Mathlib.Analysis.SpecialFunctions.Complex.Log
public import Mathlib.Algebra.BigOperators.Fin

@[expose] public section

namespace Cert.Dft

open Finset

noncomputable section

/-- The cosine of the angle of `m` steps of a circle cut into `n`. -/
def wc (n m : ℕ) : ℝ := Real.cos (((m % n : ℕ) : ℝ) * (2 * Real.pi / n))

/-- Minus the sine of that angle. -/
def ws (n m : ℕ) : ℝ := -Real.sin (((m % n : ℕ) : ℝ) * (2 * Real.pi / n))

/-- Both as one complex number. -/
def w (n m : ℕ) : ℂ := ⟨wc n m, ws n m⟩

theorem w_eq (n m : ℕ) (hn : 0 < n) : w n m = Complex.exp (-((m : ℂ) * (2 * Real.pi / n)) * Complex.I) := by
  have hn' : (n : ℂ) ≠ 0 := by exact_mod_cast hn.ne'
  have e : Complex.exp (-((m : ℂ) * (2 * Real.pi / n)) * Complex.I)
      = Complex.exp ((-(((m % n : ℕ) : ℝ) * (2 * Real.pi / n)) : ℝ) * Complex.I) := by
    rw [Complex.exp_eq_exp_iff_exists_int]
    refine ⟨-((m / n : ℕ) : ℤ), ?_⟩
    have hm : (m : ℂ) = n * ((m / n : ℕ) : ℂ) + ((m % n : ℕ) : ℂ) := by
      exact_mod_cast (Nat.div_add_mod m n).symm
    generalize m / n = u at hm ⊢
    generalize m % n = v at hm ⊢
    rw [hm]
    push_cast
    field_simp
    ring
  rw [e]
  apply Complex.ext
  · rw [Complex.exp_ofReal_mul_I_re, Real.cos_neg]; rfl
  · rw [Complex.exp_ofReal_mul_I_im, Real.sin_neg]; rfl

/-- The phase of time `128 a + b` at frequency `c + 32 d` is the product of the two short transforms'
    phases and the rotation. -/
theorem w_mul (a b c d : ℕ) :
    w 4096 ((128 * a + b) * (c + 32 * d)) = w 32 (c * a) * w 4096 (c * b) * w 128 (b * d) := by
  rw [w_eq _ _ (by norm_num), w_eq _ _ (by norm_num), w_eq _ _ (by norm_num), w_eq _ _ (by norm_num),
    ← Complex.exp_add, ← Complex.exp_add, Complex.exp_eq_exp_iff_exists_int]
  refine ⟨-((a * d : ℕ) : ℤ), ?_⟩
  push_cast
  ring

/-- The transform of `x` at frequency `c + 32 d`, real part: what the definition gives. -/
def dr (x : ℕ → ℝ) (f : ℕ) : ℝ := ∑ t : Fin 4096, x t * Real.cos (((t * f % 4096 : ℕ) : ℝ) * (2 * Real.pi / 4096))

/-- Its imaginary part. -/
def di (x : ℕ → ℝ) (f : ℕ) : ℝ := -∑ t : Fin 4096, x t * Real.sin (((t * f % 4096 : ℕ) : ℝ) * (2 * Real.pi / 4096))

/-- The first short transforms, with `x (128 a + b)` at row `a` and place `b`: row `c`, place `b`. -/
def yr (x : ℕ → ℝ) (c b : ℕ) : ℝ := ∑ a : Fin 32, wc 32 (c * a) * x (128 * a + b)

def yi (x : ℕ → ℝ) (c b : ℕ) : ℝ := ∑ a : Fin 32, ws 32 (c * a) * x (128 * a + b)

/-- Rotated. -/
def zr (x : ℕ → ℝ) (c b : ℕ) : ℝ := yr x c b * wc 4096 (c * b) - yi x c b * ws 4096 (c * b)

def zi (x : ℕ → ℝ) (c b : ℕ) : ℝ := yr x c b * ws 4096 (c * b) + yi x c b * wc 4096 (c * b)

/-- The second short transforms: row `c`, place `d`. -/
def xr (x : ℕ → ℝ) (c d : ℕ) : ℝ :=
  ∑ b : Fin 128, zr x c b * wc 128 (b * d) - ∑ b : Fin 128, zi x c b * ws 128 (b * d)

def xi (x : ℕ → ℝ) (c d : ℕ) : ℝ :=
  ∑ b : Fin 128, zr x c b * ws 128 (b * d) + ∑ b : Fin 128, zi x c b * wc 128 (b * d)

theorem y_eq (x : ℕ → ℝ) (c b : ℕ) :
    (⟨yr x c b, yi x c b⟩ : ℂ) = ∑ a : Fin 32, w 32 (c * a) * (x (128 * a + b) : ℂ) := by
  apply Complex.ext
  · rw [Complex.re_sum]
    show yr x c b = _
    refine Finset.sum_congr rfl fun a _ => ?_
    rw [Complex.re_mul_ofReal]; rfl
  · rw [Complex.im_sum]
    show yi x c b = _
    refine Finset.sum_congr rfl fun a _ => ?_
    rw [Complex.im_mul_ofReal]; rfl

theorem z_eq (x : ℕ → ℝ) (c b : ℕ) :
    (⟨zr x c b, zi x c b⟩ : ℂ) = (⟨yr x c b, yi x c b⟩ : ℂ) * w 4096 (c * b) := by
  apply Complex.ext
  · rw [Complex.mul_re]; rfl
  · rw [Complex.mul_im]; rfl

theorem x_eq (x : ℕ → ℝ) (c d : ℕ) :
    (⟨xr x c d, xi x c d⟩ : ℂ) = ∑ b : Fin 128, (⟨zr x c b, zi x c b⟩ : ℂ) * w 128 (b * d) := by
  apply Complex.ext
  · rw [Complex.re_sum]
    show xr x c d = _
    rw [xr, ← Finset.sum_sub_distrib]
    exact Finset.sum_congr rfl fun b _ => by rw [Complex.mul_re]; rfl
  · rw [Complex.im_sum]
    show xi x c d = _
    rw [xi, ← Finset.sum_add_distrib]
    exact Finset.sum_congr rfl fun b _ => by rw [Complex.mul_im]; rfl

theorem d_eq (x : ℕ → ℝ) (f : ℕ) :
    (⟨dr x f, di x f⟩ : ℂ) = ∑ t : Fin 4096, (x t : ℂ) * w 4096 (t * f) := by
  apply Complex.ext
  · rw [Complex.re_sum]
    show dr x f = _
    refine Finset.sum_congr rfl fun a _ => ?_
    rw [Complex.re_ofReal_mul]; show _ = _ * wc _ _; rw [wc]; norm_num
  · rw [Complex.im_sum]
    show di x f = _
    rw [di, ← Finset.sum_neg_distrib]
    refine Finset.sum_congr rfl fun a _ => ?_
    rw [Complex.im_ofReal_mul]; show _ = _ * ws _ _; rw [ws]; norm_num

/-- A sum over the 4096 times, row by row. -/
theorem sum_rows {M : Type*} [AddCommMonoid M] (g : ℕ → M) :
    ∑ t : Fin 4096, g t = ∑ b : Fin 128, ∑ a : Fin 32, g (128 * a + b) := by
  rw [Finset.sum_comm]
  have e := (finProdFinEquiv (m := 32) (n := 128)).sum_comp (fun t : Fin 4096 => g t)
  rw [← e, Fintype.sum_prod_type]
  exact Finset.sum_congr rfl fun a _ => Finset.sum_congr rfl fun b _ => by
    show g ((b : ℕ) + 128 * (a : ℕ)) = _
    rw [Nat.add_comm]

/-- The two steps compute the transform. -/
theorem x_eq_d (x : ℕ → ℝ) (c d : ℕ) :
    (⟨xr x c d, xi x c d⟩ : ℂ) = ⟨dr x (c + 32 * d), di x (c + 32 * d)⟩ := by
  rw [x_eq, d_eq, sum_rows (fun t => (x t : ℂ) * w 4096 (t * (c + 32 * d)))]
  refine Finset.sum_congr rfl fun b _ => ?_
  rw [z_eq, y_eq, Finset.sum_mul, Finset.sum_mul]
  refine Finset.sum_congr rfl fun a _ => ?_
  rw [w_mul]
  ring

theorem xr_eq (x : ℕ → ℝ) (c d : ℕ) : xr x c d = dr x (c + 32 * d) := congrArg Complex.re (x_eq_d x c d)

theorem xi_eq (x : ℕ → ℝ) (c d : ℕ) : xi x c d = di x (c + 32 * d) := congrArg Complex.im (x_eq_d x c d)

end

end Cert.Dft
-- ==== Proof.Corr.Angle.lean ====
/- The cosines and sines that host code makes of whole multiples of a step: integers multiplied, reduced
   by a remainder, turned into numbers, scaled by the step. -/
module

public import Idealize.ShloMosaic.PureOps.Ideal.Laws
public import proofs.«01_k».proof.Proof.Corr.Dft

@[expose] public section

noncomputable section

namespace Cert.Dft

open Idealize.ShloMosaic

/-- The remainder by a positive number as host code computes it on signed words. -/
def remWord (n w : BitVec 32) : BitVec 32 :=
  let d : BitVec 32 := Scalar.select (IntOp.cmpi .eq n 0#32) 1#32 n
  let r : BitVec 32 := IntOp.remsi .host w d
  Scalar.select (IntOp.andi (IntOp.cmpi .ne (IntOp.cmpi .slt r 0#32) (IntOp.cmpi .slt d 0#32)) (IntOp.cmpi .ne r 0#32)) (IntOp.addi r d) r

theorem remWord_toInt (n w : ℕ) (hn : 0 < n) (hn' : n < 2 ^ 31) (hw : w < 2 ^ 31) :
    (remWord (BitVec.ofNat 32 n) (BitVec.ofNat 32 w)).toInt = ((w % n : ℕ) : ℤ) := by
  have tn : (BitVec.ofNat 32 n).toNat = n := by rw [BitVec.toNat_ofNat]; omega
  have tw : (BitVec.ofNat 32 w).toNat = w := by rw [BitVec.toNat_ofNat]; omega
  have in' : (BitVec.ofNat 32 n).toInt = n := by rw [BitVec.toInt_eq_toNat_of_lt (by omega), tn]
  have iw : (BitVec.ofNat 32 w).toInt = w := by rw [BitVec.toInt_eq_toNat_of_lt (by omega), tw]
  have h0 : BitVec.ofNat 32 n ≠ 0#32 := fun h => by
    have := congrArg BitVec.toNat h; rw [tn] at this; simp at this; omega
  have hd : Scalar.select (IntOp.cmpi .eq (BitVec.ofNat 32 n) 0#32) 1#32 (BitVec.ofNat 32 n) = BitVec.ofNat 32 n := by
    have e : (BitVec.ofNat 32 n == 0#32) = false := beq_false_of_ne h0
    show (if BitVec.ofBool (BitVec.ofNat 32 n == 0#32) = 1#1 then 1#32 else BitVec.ofNat 32 n) = _
    rw [e]
    rfl
  have hm1 : BitVec.ofNat 32 n ≠ -1#32 := fun h => by
    have := congrArg BitVec.toNat h; rw [tn] at this
    have e : (-1#32 : BitVec 32).toNat = 4294967295 := by decide
    omega
  have hr : IntOp.remsi .host (BitVec.ofNat 32 w) (BitVec.ofNat 32 n) = (BitVec.ofNat 32 w).srem (BitVec.ofNat 32 n) := by
    unfold IntOp.remsi
    rw [if_neg]
    unfold IntOp.SDivCorner
    rintro (h | h)
    · exact h0 h
    · exact hm1 h.2
  have hi : ((BitVec.ofNat 32 w).srem (BitVec.ofNat 32 n)).toInt = ((w % n : ℕ) : ℤ) := by
    rw [BitVec.toInt_srem, iw, in']
    exact Int.ofNat_tmod w n |>.symm
  have s1 : IntOp.cmpi .slt ((BitVec.ofNat 32 w).srem (BitVec.ofNat 32 n)) 0#32 = 0#1 := by
    simp only [IntOp.cmpi, BitVec.slt, hi]
    rw [show (0#32).toInt = 0 from rfl, decide_eq_false (not_lt.mpr (Int.natCast_nonneg _))]
    rfl
  have s2 : IntOp.cmpi .slt (BitVec.ofNat 32 n) 0#32 = 0#1 := by
    simp only [IntOp.cmpi, BitVec.slt, in']
    rw [decide_eq_false (by simp)]
    rfl
  unfold remWord
  simp only [hd, hr, s1, s2]
  have e : ∀ c : BitVec 1, IntOp.andi (IntOp.cmpi .ne 0#1 0#1) c = 0#1 := by decide
  rw [e]
  exact hi

theorem muli_ofNat (a b : ℕ) : IntOp.muli (BitVec.ofNat 32 a) (BitVec.ofNat 32 b) = BitVec.ofNat 32 (a * b) :=
  (BitVec.ofNat_mul ..).symm

/-- The angle of `a b` steps: the remainder of the product, as a number, times the step. -/
theorem angle (n : BitVec 32) (N a b : ℕ) (hn : n = BitVec.ofNat 32 N) (h0 : 0 < N) (h1 : N < 2 ^ 31) (hab : a * b < 2 ^ 31)
    (u : Ideal .f32) (hu : u = ((2 * Real.pi / N : ℝ) : EReal)) :
    FloatOps.mulf (FloatOps.sitofp (F := Ideal) .f32 (remWord n (IntOp.muli (BitVec.ofNat 32 a) (BitVec.ofNat 32 b)))) u
      = ((((a * b % N : ℕ) : ℝ) * (2 * Real.pi / N) : ℝ) : EReal) := by
  subst hn
  rw [muli_ofNat, hu]
  show (((remWord (BitVec.ofNat 32 N) (BitVec.ofNat 32 (a * b))).toInt : ℝ) : EReal) * _ = _
  rw [remWord_toInt N (a * b) h0 h1 hab, EReal.coe_mul]
  norm_cast

/-- Half a turn, as an arc cosine. -/
theorem half_turn : Ideal.acos (Ideal.ofBits .f32 0xBF800000#32) = ((Real.pi : ℝ) : EReal) := by
  have e : Ideal.ofBits .f32 0xBF800000#32 = ((-1 : ℝ) : EReal) := by
    simp [Ideal.ofBits, Ideal.ieee, -EReal.coe_mul]; norm_num
  rw [e, Ideal.acos_coe, if_pos (by norm_num), Real.arccos_neg_one]

theorem lit_2_32 : Ideal.ofBits .f32 0x3D800000#32 = ((2 / 32 : ℝ) : EReal) := by
  simp [Ideal.ofBits, Ideal.ieee, -EReal.coe_mul]; norm_num

theorem lit_2_128 : Ideal.ofBits .f32 0x3C800000#32 = ((2 / 128 : ℝ) : EReal) := by
  simp [Ideal.ofBits, Ideal.ieee, -EReal.coe_mul]; norm_num

theorem lit_2_4096 : Ideal.ofBits .f32 0x3A000000#32 = ((2 / 4096 : ℝ) : EReal) := by
  simp [Ideal.ofBits, Ideal.ieee, -EReal.coe_mul]; norm_num

theorem lit_2 : Ideal.ofBits .f32 0x40000000#32 = ((2 : ℝ) : EReal) := by
  simp [Ideal.ofBits, Ideal.ieee, -EReal.coe_mul]; norm_num

theorem lit_4096 : Ideal.ofBits .f32 0x45800000#32 = ((4096 : ℝ) : EReal) := by
  simp [Ideal.ofBits, Ideal.ieee, -EReal.coe_mul]; norm_num

/-- A step as half a turn times a literal. -/
theorem step_mul (x : EReal) (N : ℕ) (hx : x = ((2 / N : ℝ) : EReal)) :
    Ideal.acos (Ideal.ofBits .f32 0xBF800000#32) * x = ((2 * Real.pi / N : ℝ) : EReal) := by
  rw [half_turn, hx, ← EReal.coe_mul]
  congr 1
  ring

/-- The step of 4096 as two half turns divided. -/
theorem step_div : Ideal.div (Ideal.ofBits .f32 0x40000000#32 * Ideal.acos (Ideal.ofBits .f32 0xBF800000#32)) (Ideal.ofBits .f32 0x45800000#32)
    = ((2 * Real.pi / (4096 : ℕ) : ℝ) : EReal) := by
  rw [half_turn, lit_2, lit_4096, Ideal.div_coe (by norm_num : (4096 : ℝ) ≠ 0), ← EReal.coe_mul, ← EReal.coe_mul]
  congr 1
  push_cast
  ring

end Cert.Dft
-- ==== Proof.Corr.Layout.lean ====
/- The layouts that a block of 128 channels passes through: rows of 32, channels and places of 128 laid flat and back. -/
module

public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

namespace Cert.Dft

open Idealize.ShloMosaic Idealize.ShloMosaic.ValueIdx

/-- Channel and place in one number. -/
abbrev col (h b : Fin 128) : Fin 16384 := ⟨128 * h.val + b.val, by omega⟩

/-- Row and channel in one number. -/
abbrev row (a : Fin 32) (h : Fin 128) : Fin 4096 := ⟨128 * a.val + h.val, by omega⟩

variable {α : Type}

theorem flat_read (x : (⟨4, ![1, 32, 128, 128]⟩ : Shape).Idx → α) (h1 : Shape.ShapeCasts ⟨4, ![1, 32, 128, 128]⟩ ⟨3, ![32, 128, 128]⟩)
    (h2 : Shape.ShapeCasts ⟨3, ![32, 128, 128]⟩ ⟨2, ![32, 16384]⟩) (a : Fin 32) (h b : Fin 128) :
    shapeCast ⟨2, ![32, 16384]⟩ (shapeCast ⟨3, ![32, 128, 128]⟩ x h1) h2 (ix2 a (col h b)) = x (ix4 (0 : Fin 1) a h b) := by
  refine (shapeCast_apply _ h2 _ (ix3 a h b) ?_).trans (shapeCast_apply _ h1 _ (ix4 (0 : Fin 1) a h b) ?_)
  · rw [Shape.rowMajor_val_three, Shape.rowMajor_val_two]
    show (a.val * 128 + h.val) * 128 + b.val = a.val * 16384 + (128 * h.val + b.val); omega
  · rw [Shape.rowMajor_val_three, Shape.rowMajor_val_four]
    show ((0 * 32 + a.val) * 128 + h.val) * 128 + b.val = (a.val * 128 + h.val) * 128 + b.val; omega

theorem unflat_read (x : (⟨2, ![32, 16384]⟩ : Shape).Idx → α) (h2 : Shape.ShapeCasts ⟨2, ![32, 16384]⟩ ⟨3, ![32, 128, 128]⟩)
    (a : Fin 32) (h b : Fin 128) : shapeCast ⟨3, ![32, 128, 128]⟩ x h2 (ix3 a h b) = x (ix2 a (col h b)) := by
  refine shapeCast_apply _ h2 _ _ ?_
  rw [Shape.rowMajor_val_three, Shape.rowMajor_val_two]
  show a.val * 16384 + (128 * h.val + b.val) = (a.val * 128 + h.val) * 128 + b.val; omega

theorem pack_read (x : (⟨3, ![32, 128, 128]⟩ : Shape).Idx → α) (h1 : Shape.ShapeCasts ⟨3, ![32, 128, 128]⟩ ⟨2, ![32, 16384]⟩)
    (h2 : Shape.ShapeCasts ⟨2, ![32, 16384]⟩ ⟨2, ![4096, 128]⟩) (a : Fin 32) (h b : Fin 128) :
    shapeCast ⟨2, ![4096, 128]⟩ (shapeCast ⟨2, ![32, 16384]⟩ x h1) h2 (ix2 (row a h) b) = x (ix3 a h b) := by
  refine (shapeCast_apply _ h2 _ (ix2 a (col h b)) ?_).trans (shapeCast_apply _ h1 _ (ix3 a h b) ?_)
  · rw [Shape.rowMajor_val_two, Shape.rowMajor_val_two]
    show a.val * 16384 + (128 * h.val + b.val) = (128 * a.val + h.val) * 128 + b.val; omega
  · rw [Shape.rowMajor_val_three, Shape.rowMajor_val_two]
    show (a.val * 128 + h.val) * 128 + b.val = a.val * 16384 + (128 * h.val + b.val); omega

theorem unpack_read (x : (⟨2, ![4096, 128]⟩ : Shape).Idx → α) (h2 : Shape.ShapeCasts ⟨2, ![4096, 128]⟩ ⟨3, ![32, 128, 128]⟩)
    (a : Fin 32) (h b : Fin 128) : shapeCast ⟨3, ![32, 128, 128]⟩ x h2 (ix3 a h b) = x (ix2 (row a h) b) := by
  refine shapeCast_apply _ h2 _ _ ?_
  rw [Shape.rowMajor_val_three, Shape.rowMajor_val_two]
  show (128 * a.val + h.val) * 128 + b.val = (a.val * 128 + h.val) * 128 + b.val; omega

/-- A table of the rotation, spread over the channels. -/
theorem turn_read (x : (⟨2, ![32, 128]⟩ : Shape).Idx → α) (h1 : Shape.ShapeCasts ⟨2, ![32, 128]⟩ ⟨3, ![32, 1, 128]⟩)
    (h2 : Shape.Broadcasts ⟨3, ![32, 1, 128]⟩ ⟨3, ![32, 128, 128]⟩) (a : Fin 32) (h b : Fin 128) :
    broadcastTo ⟨3, ![32, 128, 128]⟩ (shapeCast ⟨3, ![32, 1, 128]⟩ x h1) h2 (ix3 a h b) = x (ix2 a b) := by
  refine (broadcastTo_apply _ h2 _ (ix3 a (0 : Fin 1) b) ?_).trans (shapeCast_apply _ h1 _ (ix2 a b) ?_)
  · intro k
    match k with
    | ⟨0, _⟩ => rfl
    | ⟨1, _⟩ => rfl
    | ⟨2, _⟩ => rfl
  · rw [Shape.rowMajor_val_three, Shape.rowMajor_val_two]
    show a.val * 128 + b.val = (a.val * 1 + 0) * 128 + b.val; omega

theorem self_read {s : Shape} (x : s.Idx → α) (h : s.ShapeCasts s) : shapeCast s x h = x :=
  funext fun j => shapeCast_apply x h j j rfl

/-- A row of a block laid with a leading axis of one. -/
theorem lead_read (x : (⟨2, ![32, 128]⟩ : Shape).Idx → α) (h1 : Shape.ShapeCasts ⟨2, ![32, 128]⟩ ⟨3, ![1, 32, 128]⟩)
    (a : Fin 32) (b : Fin 128) : shapeCast ⟨3, ![1, 32, 128]⟩ x h1 (ix3 (0 : Fin 1) a b) = x (ix2 a b) := by
  refine shapeCast_apply _ h1 _ _ ?_
  rw [Shape.rowMajor_val_three, Shape.rowMajor_val_two]
  show a.val * 128 + b.val = (0 * 32 + a.val) * 128 + b.val; omega

theorem unlead_read (x : (⟨3, ![1, 32, 128]⟩ : Shape).Idx → α) (h1 : Shape.ShapeCasts ⟨3, ![1, 32, 128]⟩ ⟨2, ![32, 128]⟩)
    (a : Fin 32) (b : Fin 128) : shapeCast ⟨2, ![32, 128]⟩ x h1 (ix2 a b) = x (ix3 (0 : Fin 1) a b) := by
  refine shapeCast_apply _ h1 _ _ ?_
  rw [Shape.rowMajor_val_three, Shape.rowMajor_val_two]
  show (0 * 32 + a.val) * 128 + b.val = a.val * 128 + b.val; omega

/-- A sum of real numbers, taken as extended reals. -/
theorem coe_sum {ι : Type} (s : Finset ι) (f : ι → ℝ) : ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A product of matrices of real numbers. -/
theorem matmul_real {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32)
    (L R : Fin K → ℝ) (i : Fin M) (j : Fin N) (hl : ∀ k, l (ix2 i k) = ((L k : ℝ) : EReal)) (hr : ∀ k, r (ix2 k j) = ((R k : ℝ) : EReal)) (p : Option ContractPrecision) :
    matmul (F := Ideal) d p l r (constant ⟨2, ![M, N]⟩ .f32 0x00000000#32) (ix2 i j) = ((∑ k, L k * R k : ℝ) : EReal) := by
  subst hd
  refine (Ideal.matmul_plain_apply p l r _ i j).trans ?_
  rw [show constant (F := Ideal) ⟨2, ![M, N]⟩ .f32 0x00000000#32 (ix2 i j) = (0 : EReal) from Ideal.ofBits_zero_f32, zero_add, ← coe_sum]
  exact Finset.sum_congr rfl fun k _ => by rw [hl, hr, EReal.coe_mul]

end Cert.Dft
-- ==== Proof.Corr.Tile.lean ====
/- What one block of 128 channels computes: at row `c` and place `d` the sums over the channels of the products of the
   two transforms at frequency `c + 32 d`. -/
module

public import proofs.«01_k».proof.Proof.Gen.CorrIdeal.Skeleton
public import proofs.«01_k».proof.Proof.Corr.Dft
public import proofs.«01_k».proof.Proof.Corr.Layout

@[expose] public section

noncomputable section

namespace Cert.CorrIdeal.Tile

open Cert.CorrIdeal Cert.CorrIdeal.Gen Cert.Dft
open Idealize.ShloMosaic Idealize.ShloMosaic.ValueIdx

/-- The six tables hold the phases. -/
structure Tables (v1 v3 : FVec Ideal S32x32 .f32) (v5 v7 : FVec Ideal S128x128 .f32) (v9 v11 : FVec Ideal S32x128 .f32) : Prop where
  c32 : ∀ a b : Fin 32, v1 (ix2 a b) = ((wc 32 (a * b) : ℝ) : EReal)
  s32 : ∀ a b : Fin 32, v3 (ix2 a b) = ((ws 32 (a * b) : ℝ) : EReal)
  c128 : ∀ a b : Fin 128, v5 (ix2 a b) = ((wc 128 (a * b) : ℝ) : EReal)
  s128 : ∀ a b : Fin 128, v7 (ix2 a b) = ((ws 128 (a * b) : ℝ) : EReal)
  ct : ∀ (a : Fin 32) (b : Fin 128), v9 (ix2 a b) = ((wc 4096 (a * b) : ℝ) : EReal)
  st : ∀ (a : Fin 32) (b : Fin 128), v11 (ix2 a b) = ((ws 4096 (a * b) : ℝ) : EReal)

section
variable {v1 v3 : FVec Ideal S32x32 .f32} {v5 v7 : FVec Ideal S128x128 .f32} {v9 v11 : FVec Ideal S32x128 .f32}
  (T : Tables v1 v3 v5 v7 v9 v11)
  {u : FVec Ideal S32x16384 .f32} {X : Fin 128 → ℕ → ℝ}
  (hu : ∀ (a : Fin 32) (h b : Fin 128), u (ix2 a (col h b)) = ((X h (128 * a + b) : ℝ) : EReal))
include T hu

theorem yr_at (a : Fin 32) (h b : Fin 128) : k0_pay23 (F := Ideal) v1 u (ix3 a h b) = ((yr (X h) a b : ℝ) : EReal) := by
  unfold k0_pay23
  refine (unflat_read _ _ a h b).trans ?_
  exact matmul_real _ rfl _ _ (fun k => wc 32 (a * k)) (fun k => X h (128 * k + b)) a (col h b) (fun k => T.c32 a k) (fun k => hu k h b) _

theorem yi_at (a : Fin 32) (h b : Fin 128) : k0_pay24 (F := Ideal) v3 u (ix3 a h b) = ((yi (X h) a b : ℝ) : EReal) := by
  unfold k0_pay24
  refine (unflat_read _ _ a h b).trans ?_
  exact matmul_real _ rfl _ _ (fun k => ws 32 (a * k)) (fun k => X h (128 * k + b)) a (col h b) (fun k => T.s32 a k) (fun k => hu k h b) _

theorem zr_at (a : Fin 32) (h b : Fin 128) : k0_pay27 (F := Ideal) v1 v3 v9 v11 u (ix2 (row a h) b) = ((zr (X h) a b : ℝ) : EReal) := by
  unfold k0_pay27
  refine (pack_read _ _ _ a h b).trans ?_
  have e1 := yr_at T hu a h b
  have e2 := yi_at T hu a h b
  have e3 := (turn_read v9 shapeCasts_S32x128_S32x1x128 broadcasts_S32x1x128_S32x128x128 a h b).trans (T.ct a b)
  have e4 := (turn_read v11 shapeCasts_S32x128_S32x1x128 broadcasts_S32x1x128_S32x128x128 a h b).trans (T.st a b)
  show (k0_pay23 (F := Ideal) v1 u (ix3 a h b) * broadcastTo S32x128x128 (k0_pay25 v9) broadcasts_S32x1x128_S32x128x128 (ix3 a h b)
    - k0_pay24 (F := Ideal) v3 u (ix3 a h b) * broadcastTo S32x128x128 (k0_pay26 v11) broadcasts_S32x1x128_S32x128x128 (ix3 a h b) : EReal) = _
  rw [e1, e2]
  refine (congrArg₂ (fun p q : EReal => (yr (X h) a b : EReal) * p - (yi (X h) a b : EReal) * q) e3 e4).trans ?_
  show (yr (X h) a b : EReal) * _ - (yi (X h) a b : EReal) * _ = _
  rw [← EReal.coe_mul, ← EReal.coe_mul, ← EReal.coe_sub]; rfl

theorem zi_at (a : Fin 32) (h b : Fin 128) : k0_pay28 (F := Ideal) v1 v3 v9 v11 u (ix2 (row a h) b) = ((zi (X h) a b : ℝ) : EReal) := by
  unfold k0_pay28
  refine (pack_read _ _ _ a h b).trans ?_
  have e1 := yr_at T hu a h b
  have e2 := yi_at T hu a h b
  have e3 := (turn_read v9 shapeCasts_S32x128_S32x1x128 broadcasts_S32x1x128_S32x128x128 a h b).trans (T.ct a b)
  have e4 := (turn_read v11 shapeCasts_S32x128_S32x1x128 broadcasts_S32x1x128_S32x128x128 a h b).trans (T.st a b)
  show (k0_pay23 (F := Ideal) v1 u (ix3 a h b) * broadcastTo S32x128x128 (k0_pay26 v11) broadcasts_S32x1x128_S32x128x128 (ix3 a h b)
    + k0_pay24 (F := Ideal) v3 u (ix3 a h b) * broadcastTo S32x128x128 (k0_pay25 v9) broadcasts_S32x1x128_S32x128x128 (ix3 a h b) : EReal) = _
  rw [e1, e2]
  refine (congrArg₂ (fun p q : EReal => (yr (X h) a b : EReal) * p + (yi (X h) a b : EReal) * q) e4 e3).trans ?_
  show (yr (X h) a b : EReal) * _ + (yi (X h) a b : EReal) * _ = _
  rw [← EReal.coe_mul, ← EReal.coe_mul, ← EReal.coe_add]; rfl

theorem xr_at (a : Fin 32) (h d : Fin 128) :
    k0_pay29 (F := Ideal) v1 v3 v5 v7 v9 v11 u (ix2 (row a h) d) = ((xr (X h) a d : ℝ) : EReal) := by
  have e1 := matmul_real dot_S4096x128_S128x128_S4096x128_1_0_0_1_n_n rfl (k0_pay27 (F := Ideal) v1 v3 v9 v11 u) v5
    (fun k : Fin 128 => zr (X h) a k) (fun k => wc 128 (k * d)) (row a h) d (fun k => zr_at T hu a h k) (fun k => T.c128 k d) none
  have e2 := matmul_real dot_S4096x128_S128x128_S4096x128_1_0_0_1_n_n rfl (k0_pay28 (F := Ideal) v1 v3 v9 v11 u) v7
    (fun k : Fin 128 => zi (X h) a k) (fun k => ws 128 (k * d)) (row a h) d (fun k => zi_at T hu a h k) (fun k => T.s128 k d) none
  refine (congrArg₂ (fun p q : EReal => p - q) e1 e2).trans ?_
  show (_ : EReal) - _ = _
  rw [← EReal.coe_sub]; rfl

theorem xi_at (a : Fin 32) (h d : Fin 128) :
    k0_pay30 (F := Ideal) v1 v3 v5 v7 v9 v11 u (ix2 (row a h) d) = ((xi (X h) a d : ℝ) : EReal) := by
  have e1 := matmul_real dot_S4096x128_S128x128_S4096x128_1_0_0_1_n_n rfl (k0_pay27 (F := Ideal) v1 v3 v9 v11 u) v7
    (fun k : Fin 128 => zr (X h) a k) (fun k => ws 128 (k * d)) (row a h) d (fun k => zr_at T hu a h k) (fun k => T.s128 k d) none
  have e2 := matmul_real dot_S4096x128_S128x128_S4096x128_1_0_0_1_n_n rfl (k0_pay28 (F := Ideal) v1 v3 v9 v11 u) v5
    (fun k : Fin 128 => zi (X h) a k) (fun k => wc 128 (k * d)) (row a h) d (fun k => zi_at T hu a h k) (fun k => T.c128 k d) none
  refine (congrArg₂ (fun p q : EReal => p + q) e1 e2).trans ?_
  show (_ : EReal) + _ = _
  rw [← EReal.coe_add]; rfl

end

/-- The real part of the product of one transform with the other's conjugate, at frequency `c + 32 d`, of one channel. -/
def pr (X Y : ℕ → ℝ) (c d : ℕ) : ℝ := dr X (c + 32 * d) * dr Y (c + 32 * d) + di X (c + 32 * d) * di Y (c + 32 * d)

/-- Its imaginary part. -/
def pim (X Y : ℕ → ℝ) (c d : ℕ) : ℝ := di X (c + 32 * d) * dr Y (c + 32 * d) - dr X (c + 32 * d) * di Y (c + 32 * d)

section
variable {x0 x1 : FVec Ideal S32x32 .f32} {x2 x3 : FVec Ideal S128x128 .f32} {x4 x5 : FVec Ideal S32x128 .f32}
  (T : Tables x0 x1 x2 x3 x4 x5) {x6 x7 : FVec Ideal S1x32x128x128 .f32} {X Y : Fin 128 → ℕ → ℝ}
  (hx : ∀ (a : Fin 32) (h b : Fin 128), x6 (ix4 (0 : Fin 1) a h b) = ((X h (128 * a + b) : ℝ) : EReal))
  (hy : ∀ (a : Fin 32) (h b : Fin 128), x7 (ix4 (0 : Fin 1) a h b) = ((Y h (128 * a + b) : ℝ) : EReal))

/-- The sum over the channels of the real parts, as the block computes it. -/
abbrev re (x0 x1 : FVec Ideal S32x32 .f32) (x2 x3 : FVec Ideal S128x128 .f32) (x4 x5 : FVec Ideal S32x128 .f32)
    (x6 x7 : FVec Ideal S1x32x128x128 .f32) : FVec Ideal S32x128 .f32 :=
  k0_pay31 (k0_pay5 x0) (k0_pay6 x1) (k0_pay7 x2) (k0_pay8 x3) (k0_pay9 x4) (k0_pay10 x5) (k0_pay12 x7)
    (k0_pay17 x0 x1 x4 x5 x6) (k0_pay18 x0 x1 x4 x5 x6)

/-- And of the imaginary parts. -/
abbrev im (x0 x1 : FVec Ideal S32x32 .f32) (x2 x3 : FVec Ideal S128x128 .f32) (x4 x5 : FVec Ideal S32x128 .f32)
    (x6 x7 : FVec Ideal S1x32x128x128 .f32) : FVec Ideal S32x128 .f32 :=
  k0_pay32 (k0_pay5 x0) (k0_pay6 x1) (k0_pay7 x2) (k0_pay8 x3) (k0_pay9 x4) (k0_pay10 x5) (k0_pay12 x7)
    (k0_pay17 x0 x1 x4 x5 x6) (k0_pay18 x0 x1 x4 x5 x6)

include T in
theorem tables_cast : Tables (k0_pay5 (F := Ideal) x0) (k0_pay6 (F := Ideal) x1) (k0_pay7 (F := Ideal) x2) (k0_pay8 (F := Ideal) x3)
    (k0_pay9 (F := Ideal) x4) (k0_pay10 (F := Ideal) x5) := by
  rw [show k0_pay5 (F := Ideal) x0 = x0 from self_read x0 _, show k0_pay6 (F := Ideal) x1 = x1 from self_read x1 _,
    show k0_pay7 (F := Ideal) x2 = x2 from self_read x2 _, show k0_pay8 (F := Ideal) x3 = x3 from self_read x3 _,
    show k0_pay9 (F := Ideal) x4 = x4 from self_read x4 _, show k0_pay10 (F := Ideal) x5 = x5 from self_read x5 _]
  exact T

omit T in
theorem sum_channels (x : FVec Ideal S4096x128 .f32) (f : Fin 128 → ℝ) (a : Fin 32) (d : Fin 128)
    (hf : ∀ h, x (ix2 (row a h) d) = ((f h : ℝ) : EReal)) :
    multiReduction (F := Ideal) .add [1] S32x128 (shapeCast S32x128x128 x shapeCasts_S4096x128_S32x128x128) 0x00000000#32
      reduces_S32x128x128_S32x128 (.inl rfl) rfl (ix2 a d) = ((∑ h, f h : ℝ) : EReal) := by
  refine (Ideal.multiReduction_add_single _ _ _ _ _ _).trans ?_
  rw [← coe_sum]
  refine Finset.sum_congr rfl fun h _ => ?_
  refine Eq.trans (congrArg _ ?_) ((unpack_read x shapeCasts_S4096x128_S32x128x128 a h d).trans (hf h))
  funext k
  match k with
  | ⟨0, _⟩ => rfl
  | ⟨1, _⟩ => rfl
  | ⟨2, _⟩ => rfl

include T hx hy

theorem re_at (a : Fin 32) (d : Fin 128) :
    re x0 x1 x2 x3 x4 x5 x6 x7 (ix2 a d) = ((∑ h, pr (X h) (Y h) a d : ℝ) : EReal) := by
  refine sum_channels _ (fun h => pr (X h) (Y h) a d) a d fun h => ?_
  have T' := tables_cast T
  have q1 := xr_at T' (u := k0_pay11 x6) (X := X) (fun a h b => (flat_read x6 _ _ a h b).trans (hx a h b)) a h d
  have q2 := xi_at T' (u := k0_pay11 x6) (X := X) (fun a h b => (flat_read x6 _ _ a h b).trans (hx a h b)) a h d
  have k1 := xr_at T' (u := k0_pay12 x7) (X := Y) (fun a h b => (flat_read x7 _ _ a h b).trans (hy a h b)) a h d
  have k2 := xi_at T' (u := k0_pay12 x7) (X := Y) (fun a h b => (flat_read x7 _ _ a h b).trans (hy a h b)) a h d
  rw [xr_eq] at q1 k1
  rw [xi_eq] at q2 k2
  refine (congrArg₂ (fun p q : EReal => p + q) (congrArg₂ (fun p q : EReal => p * q) q1 k1)
    (congrArg₂ (fun p q : EReal => p * q) q2 k2)).trans ?_
  show (_ * _ : EReal) + _ * _ = _
  rw [← EReal.coe_mul, ← EReal.coe_mul, ← EReal.coe_add]; rfl

theorem im_at (a : Fin 32) (d : Fin 128) :
    im x0 x1 x2 x3 x4 x5 x6 x7 (ix2 a d) = ((∑ h, pim (X h) (Y h) a d : ℝ) : EReal) := by
  refine sum_channels _ (fun h => pim (X h) (Y h) a d) a d fun h => ?_
  have T' := tables_cast T
  have q1 := xr_at T' (u := k0_pay11 x6) (X := X) (fun a h b => (flat_read x6 _ _ a h b).trans (hx a h b)) a h d
  have q2 := xi_at T' (u := k0_pay11 x6) (X := X) (fun a h b => (flat_read x6 _ _ a h b).trans (hx a h b)) a h d
  have k1 := xr_at T' (u := k0_pay12 x7) (X := Y) (fun a h b => (flat_read x7 _ _ a h b).trans (hy a h b)) a h d
  have k2 := xi_at T' (u := k0_pay12 x7) (X := Y) (fun a h b => (flat_read x7 _ _ a h b).trans (hy a h b)) a h d
  rw [xr_eq] at q1 k1
  rw [xi_eq] at q2 k2
  refine (congrArg₂ (fun p q : EReal => p - q) (congrArg₂ (fun p q : EReal => p * q) q2 k1)
    (congrArg₂ (fun p q : EReal => p * q) q1 k2)).trans ?_
  show (_ * _ : EReal) - _ * _ = _
  rw [← EReal.coe_mul, ← EReal.coe_mul, ← EReal.coe_sub]; rfl

end

end Cert.CorrIdeal.Tile
-- ==== Proof.Corr.Tables.lean ====
/- What the host hands to the kernel: the tables of the phases, and the two arguments with the channels in one axis. -/
module

public import proofs.«01_k».proof.Proof.Gen.CorrIdeal.Value
public import proofs.«01_k».proof.Proof.Corr.Angle
public import proofs.«01_k».proof.Proof.Corr.Tile
public import Idealize.ShloMosaic.Lib.Pipeline.ValueKit

@[expose] public section

noncomputable section

namespace Cert.CorrIdeal.Host

open Cert.CorrIdeal Cert.CorrIdeal.Gen Cert.Dft
open Idealize.ShloMosaic hiding ix1 ix2 ix3 ix4 ix5
open Idealize.ShloMosaic.TcCoe Idealize.ShloMosaic.ValueIdx Idealize.SL.Sem

variable (m : (ℓ : Loc nD τ sig) → Buf (Elt Ideal) ℓ) (c : Dev nD)

/-- The angle at row `a` and column `b` of a table with step `u`. -/
abbrev ang (n : BitVec 32) (lit : BitVec 32) (a b : ℕ) : Ideal .f32 :=
  FloatOps.mulf (FloatOps.sitofp (F := Ideal) .f32 (remWord n (IntOp.muli (BitVec.ofNat 32 a) (BitVec.ofNat 32 b))))
    (Ideal.acos (Ideal.ofBits .f32 0xBF800000#32) * Ideal.ofBits .f32 lit)

theorem V_c32 (y : S32x32.Idx) : V m c main_call0_v13 y = Ideal.cos (ang 32#32 0x3D800000#32 (y 0) (y 1)) := by
  unfold V
  after_results
  rfl

theorem V_s32 (y : S32x32.Idx) : V m c main_call0_v15 y = -Ideal.sin (ang 32#32 0x3D800000#32 (y 0) (y 1)) := by
  unfold V
  after_results
  rfl

theorem V_c128 (y : S128x128.Idx) : V m c main_call0_v24 y = Ideal.cos (ang 128#32 0x3C800000#32 (y 0) (y 1)) := by
  unfold V
  after_results
  rfl

theorem V_s128 (y : S128x128.Idx) : V m c main_call0_v26 y = -Ideal.sin (ang 128#32 0x3C800000#32 (y 0) (y 1)) := by
  unfold V
  after_results
  rfl

theorem V_ct (y : S32x128.Idx) : V m c main_call0_v35 y = Ideal.cos (ang 4096#32 0x3A000000#32 (y 0) (y 1)) := by
  unfold V
  after_results
  rfl

theorem V_st (y : S32x128.Idx) : V m c main_call0_v37 y = -Ideal.sin (ang 4096#32 0x3A000000#32 (y 0) (y 1)) := by
  unfold V
  after_results
  rfl

theorem ang_eq (N : ℕ) (n lit : BitVec 32) (hn : n = BitVec.ofNat 32 N) (h0 : 0 < N) (h1 : N < 2 ^ 31)
    (hl : Ideal.ofBits .f32 lit = ((2 / N : ℝ) : EReal)) (a b : ℕ) (hab : a * b < 2 ^ 31) :
    ang n lit a b = ((((a * b % N : ℕ) : ℝ) * (2 * Real.pi / N) : ℝ) : EReal) :=
  angle n N a b hn h0 h1 hab _ (step_mul _ N hl)

theorem cos_ang (N : ℕ) (n lit : BitVec 32) (hn : n = BitVec.ofNat 32 N) (h0 : 0 < N) (h1 : N < 2 ^ 31)
    (hl : Ideal.ofBits .f32 lit = ((2 / N : ℝ) : EReal)) (a b : ℕ) (hab : a * b < 2 ^ 31) :
    Ideal.cos (ang n lit a b) = ((wc N (a * b) : ℝ) : EReal) := by
  rw [ang_eq N n lit hn h0 h1 hl a b hab, Ideal.cos_coe]; rfl

theorem sin_ang (N : ℕ) (n lit : BitVec 32) (hn : n = BitVec.ofNat 32 N) (h0 : 0 < N) (h1 : N < 2 ^ 31)
    (hl : Ideal.ofBits .f32 lit = ((2 / N : ℝ) : EReal)) (a b : ℕ) (hab : a * b < 2 ^ 31) :
    -Ideal.sin (ang n lit a b) = ((ws N (a * b) : ℝ) : EReal) := by
  rw [ang_eq N n lit hn h0 h1 hl a b hab, Ideal.sin_coe, ← EReal.coe_neg]; rfl

theorem lt_of_fin {p q : ℕ} (hp : p ≤ 128) (hq : q ≤ 128) (a : Fin p) (b : Fin q) : a.val * b.val < 2 ^ 31 :=
  lt_of_le_of_lt (Nat.mul_le_mul (a.isLt.le.trans hp) (b.isLt.le.trans hq)) (by norm_num)

/-- The tables as the host writes them. -/
theorem tables : Tile.Tables (V m c main_call0_v13) (V m c main_call0_v15) (V m c main_call0_v24) (V m c main_call0_v26)
    (V m c main_call0_v35) (V m c main_call0_v37) where
  c32 a b := (V_c32 m c _).trans (cos_ang 32 _ _ rfl (by norm_num) (by norm_num) (by rw [lit_2_32]; norm_num) a b (lt_of_fin (by norm_num) (by norm_num) a b))
  s32 a b := (V_s32 m c _).trans (sin_ang 32 _ _ rfl (by norm_num) (by norm_num) (by rw [lit_2_32]; norm_num) a b (lt_of_fin (by norm_num) (by norm_num) a b))
  c128 a b := (V_c128 m c _).trans (cos_ang 128 _ _ rfl (by norm_num) (by norm_num) (by rw [lit_2_128]; norm_num) a b (lt_of_fin (by norm_num) (by norm_num) a b))
  s128 a b := (V_s128 m c _).trans (sin_ang 128 _ _ rfl (by norm_num) (by norm_num) (by rw [lit_2_128]; norm_num) a b (lt_of_fin (by norm_num) (by norm_num) a b))
  ct a b := (V_ct m c _).trans (cos_ang 4096 _ _ rfl (by norm_num) (by norm_num) (by rw [lit_2_4096]; norm_num) a b (lt_of_fin (by norm_num) (by norm_num) a b))
  st a b := (V_st m c _).trans (sin_ang 4096 _ _ rfl (by norm_num) (by norm_num) (by rw [lit_2_4096]; norm_num) a b (lt_of_fin (by norm_num) (by norm_num) a b))

/-- The values of one channel of one batch entry over time. -/
def series (x : FVec Ideal S4x4096x16x64 .f32) (b : Fin 4) (n : Fin 1024) (t : ℕ) : ℝ :=
  if h : t < 4096 then (x (ix4 b (⟨t, h⟩ : Fin 4096) (⟨n.val / 64, by omega⟩ : Fin 16) (⟨n.val % 64, by omega⟩ : Fin 64))).toReal else 0

/-- An argument array of which every entry is a number. -/
def Numbers (x : FVec Ideal S4x4096x16x64 .f32) : Prop := ∀ i, x i = ((x i).toReal : EReal)

theorem series_at {x : FVec Ideal S4x4096x16x64 .f32} (hx : Numbers x) (b : Fin 4) (n : Fin 1024) (t : Fin 4096) :
    x (ix4 b t (⟨n.val / 64, by omega⟩ : Fin 16) (⟨n.val % 64, by omega⟩ : Fin 64)) = ((series x b n t : ℝ) : EReal) := by
  unfold series
  rw [dif_pos t.isLt]
  exact hx _

abbrev queries : FVec Ideal S4x4096x16x64 .f32 := m ((c : Thread nD τ).loc main_arg0)
abbrev keys : FVec Ideal S4x4096x16x64 .f32 := m ((c : Thread nD τ).loc main_arg1)

theorem V_q : V m c main_call0_v1 = transpose S4x32x1024x128 [0, 1, 3, 2] (shapeCast S4x32x128x1024 (queries m c) shapeCasts_S4x4096x16x64_S4x32x128x1024)
    transposes_S4x32x128x1024_S4x32x1024x128_0_1_3_2 := by
  unfold V
  after_results
  rfl

theorem V_k : V m c main_call0_v3 = transpose S4x32x1024x128 [0, 1, 3, 2] (shapeCast S4x32x128x1024 (keys m c) shapeCasts_S4x4096x16x64_S4x32x128x1024)
    transposes_S4x32x128x1024_S4x32x1024x128_0_1_3_2 := by
  unfold V
  after_results
  rfl

theorem folded_read {α : Type} (x : S4x4096x16x64.Idx → α) (b : Fin 4) (a : Fin 32) (n : Fin 1024) (p : Fin 128) :
    transpose S4x32x1024x128 [0, 1, 3, 2] (shapeCast S4x32x128x1024 x shapeCasts_S4x4096x16x64_S4x32x128x1024)
      transposes_S4x32x128x1024_S4x32x1024x128_0_1_3_2 (ix4 b a n p)
      = x (ix4 b (⟨128 * a.val + p.val, by omega⟩ : Fin 4096) (⟨n.val / 64, by omega⟩ : Fin 16) (⟨n.val % 64, by omega⟩ : Fin 64)) := by
  refine (transpose_apply _ _ _ _ (ix4 b a p n) ?_).trans (shapeCast_apply _ _ _ _ ?_)
  · intro k
    match k with
    | ⟨0, _⟩ => rfl
    | ⟨1, _⟩ => rfl
    | ⟨2, _⟩ => rfl
    | ⟨3, _⟩ => rfl
  · rw [Shape.rowMajor_val_four, Shape.rowMajor_val_four]
    show ((b.val * 4096 + (128 * a.val + p.val)) * 16 + n.val / 64) * 64 + n.val % 64 = ((b.val * 32 + a.val) * 128 + p.val) * 1024 + n.val
    omega

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![(grid0.coords t 0).val, 0, (grid0.coords t 1).val, 0] := by decide +kernel
theorem index7 : ∀ t : Fin grid0.N, win0_7.index t = ![(grid0.coords t 0).val, 0, (grid0.coords t 1).val, 0] := by decide +kernel

theorem block0 (t : Fin cfg0.N) (a : Fin 32) (b : Fin 32) : iblk m c 0 t (ix2 a b) = V m c main_call0_v13 (ix2 a b) := by
  have e : iblk m c 0 t (ix2 a b) = V m c main_call0_v13 ((win0_0.rect t).emb (ix2 a b)) := rfl
  rw [e]
  refine congrArg (V m c main_call0_v13) (funext fun d => Fin.ext ?_)
  match d with
  | ⟨0, _⟩ => exact Pipeline.Window.rect_emb_val_of_index_zero win0_0 t 0 (by rw [index0]; rfl) (ix2 a b)
  | ⟨1, _⟩ => exact Pipeline.Window.rect_emb_val_of_index_zero win0_0 t 1 (by rw [index0]; rfl) (ix2 a b)

theorem block1 (t : Fin cfg0.N) (a : Fin 32) (b : Fin 32) : iblk m c 1 t (ix2 a b) = V m c main_call0_v15 (ix2 a b) := by
  have e : iblk m c 1 t (ix2 a b) = V m c main_call0_v15 ((win0_1.rect t).emb (ix2 a b)) := rfl
  rw [e]
  refine congrArg (V m c main_call0_v15) (funext fun d => Fin.ext ?_)
  match d with
  | ⟨0, _⟩ => exact Pipeline.Window.rect_emb_val_of_index_zero win0_1 t 0 (by rw [index1]; rfl) (ix2 a b)
  | ⟨1, _⟩ => exact Pipeline.Window.rect_emb_val_of_index_zero win0_1 t 1 (by rw [index1]; rfl) (ix2 a b)

theorem block2 (t : Fin cfg0.N) (a : Fin 128) (b : Fin 128) : iblk m c 2 t (ix2 a b) = V m c main_call0_v24 (ix2 a b) := by
  have e : iblk m c 2 t (ix2 a b) = V m c main_call0_v24 ((win0_2.rect t).emb (ix2 a b)) := rfl
  rw [e]
  refine congrArg (V m c main_call0_v24) (funext fun d => Fin.ext ?_)
  match d with
  | ⟨0, _⟩ => exact Pipeline.Window.rect_emb_val_of_index_zero win0_2 t 0 (by rw [index2]; rfl) (ix2 a b)
  | ⟨1, _⟩ => exact Pipeline.Window.rect_emb_val_of_index_zero win0_2 t 1 (by rw [index2]; rfl) (ix2 a b)

theorem block3 (t : Fin cfg0.N) (a : Fin 128) (b : Fin 128) : iblk m c 3 t (ix2 a b) = V m c main_call0_v26 (ix2 a b) := by
  have e : iblk m c 3 t (ix2 a b) = V m c main_call0_v26 ((win0_3.rect t).emb (ix2 a b)) := rfl
  rw [e]
  refine congrArg (V m c main_call0_v26) (funext fun d => Fin.ext ?_)
  match d with
  | ⟨0, _⟩ => exact Pipeline.Window.rect_emb_val_of_index_zero win0_3 t 0 (by rw [index3]; rfl) (ix2 a b)
  | ⟨1, _⟩ => exact Pipeline.Window.rect_emb_val_of_index_zero win0_3 t 1 (by rw [index3]; rfl) (ix2 a b)

theorem block4 (t : Fin cfg0.N) (a : Fin 32) (b : Fin 128) : iblk m c 4 t (ix2 a b) = V m c main_call0_v35 (ix2 a b) := by
  have e : iblk m c 4 t (ix2 a b) = V m c main_call0_v35 ((win0_4.rect t).emb (ix2 a b)) := rfl
  rw [e]
  refine congrArg (V m c main_call0_v35) (funext fun d => Fin.ext ?_)
  match d with
  | ⟨0, _⟩ => exact Pipeline.Window.rect_emb_val_of_index_zero win0_4 t 0 (by rw [index4]; rfl) (ix2 a b)
  | ⟨1, _⟩ => exact Pipeline.Window.rect_emb_val_of_index_zero win0_4 t 1 (by rw [index4]; rfl) (ix2 a b)

theorem block5 (t : Fin cfg0.N) (a : Fin 32) (b : Fin 128) : iblk m c 5 t (ix2 a b) = V m c main_call0_v37 (ix2 a b) := by
  have e : iblk m c 5 t (ix2 a b) = V m c main_call0_v37 ((win0_5.rect t).emb (ix2 a b)) := rfl
  rw [e]
  refine congrArg (V m c main_call0_v37) (funext fun d => Fin.ext ?_)
  match d with
  | ⟨0, _⟩ => exact Pipeline.Window.rect_emb_val_of_index_zero win0_5 t 0 (by rw [index5]; rfl) (ix2 a b)
  | ⟨1, _⟩ => exact Pipeline.Window.rect_emb_val_of_index_zero win0_5 t 1 (by rw [index5]; rfl) (ix2 a b)

/-- The tables as every point of the grid has them. -/
theorem tables_at (t : Fin cfg0.N) : Tile.Tables (iblk m c 0 t) (iblk m c 1 t) (iblk m c 2 t) (iblk m c 3 t) (iblk m c 4 t) (iblk m c 5 t) where
  c32 a b := (block0 m c t a b).trans ((tables m c).c32 a b)
  s32 a b := (block1 m c t a b).trans ((tables m c).s32 a b)
  c128 a b := (block2 m c t a b).trans ((tables m c).c128 a b)
  s128 a b := (block3 m c t a b).trans ((tables m c).s128 a b)
  ct a b := (block4 m c t a b).trans ((tables m c).ct a b)
  st a b := (block5 m c t a b).trans ((tables m c).st a b)

/-- The number of a block's channel among a batch entry's 1024. -/
abbrev chan (j : Fin 8) (h : Fin 128) : Fin 1024 := ⟨128 * j.val + h.val, by omega⟩

theorem block6 (hx : Numbers (queries m c)) (t : Fin cfg0.N) (a : Fin 32) (h p : Fin 128) :
    iblk m c 6 t (ix4 (0 : Fin 1) a h p)
      = ((series (queries m c) (grid0.coords t 0) (chan (grid0.coords t 1) h) (128 * a + p) : ℝ) : EReal) := by
  have e : iblk m c 6 t (ix4 (0 : Fin 1) a h p) = V m c main_call0_v1 ((win0_6.rect t).emb (ix4 (0 : Fin 1) a h p)) := rfl
  have h0 := Pipeline.Window.rect_emb_val win0_6 t (ix4 (0 : Fin 1) a h p) 0
  have h1 := Pipeline.Window.rect_emb_val win0_6 t (ix4 (0 : Fin 1) a h p) 1
  have h2 := Pipeline.Window.rect_emb_val win0_6 t (ix4 (0 : Fin 1) a h p) 2
  have h3 := Pipeline.Window.rect_emb_val win0_6 t (ix4 (0 : Fin 1) a h p) 3
  rw [index6] at h0 h1 h2 h3
  have h0' : (((win0_6.rect t).emb (ix4 (0 : Fin 1) a h p)) 0).val = (grid0.coords t 0).val * 1 + 0 := h0
  have h1' : (((win0_6.rect t).emb (ix4 (0 : Fin 1) a h p)) 1).val = 0 * 32 + a.val := h1
  have h2' : (((win0_6.rect t).emb (ix4 (0 : Fin 1) a h p)) 2).val = (grid0.coords t 1).val * 128 + h.val := h2
  have h3' : (((win0_6.rect t).emb (ix4 (0 : Fin 1) a h p)) 3).val = 0 * 128 + p.val := h3
  have e2 : (win0_6.rect t).emb (ix4 (0 : Fin 1) a h p) = ix4 (grid0.coords t 0) a (chan (grid0.coords t 1) h) p := by
    funext d
    refine Fin.ext ?_
    match d with
    | ⟨0, _⟩ => exact h0'.trans (by show _ = (grid0.coords t 0).val; omega)
    | ⟨1, _⟩ => exact h1'.trans (by show _ = a.val; omega)
    | ⟨2, _⟩ => exact h2'.trans (by show _ = 128 * (grid0.coords t 1).val + h.val; omega)
    | ⟨3, _⟩ => exact h3'.trans (by show _ = p.val; omega)
  rw [e, e2, V_q]
  exact (folded_read _ _ _ _ _).trans (series_at hx _ _ _)

theorem block7 (hx : Numbers (keys m c)) (t : Fin cfg0.N) (a : Fin 32) (h p : Fin 128) :
    iblk m c 7 t (ix4 (0 : Fin 1) a h p)
      = ((series (keys m c) (grid0.coords t 0) (chan (grid0.coords t 1) h) (128 * a + p) : ℝ) : EReal) := by
  have e : iblk m c 7 t (ix4 (0 : Fin 1) a h p) = V m c main_call0_v3 ((win0_7.rect t).emb (ix4 (0 : Fin 1) a h p)) := rfl
  have h0 := Pipeline.Window.rect_emb_val win0_7 t (ix4 (0 : Fin 1) a h p) 0
  have h1 := Pipeline.Window.rect_emb_val win0_7 t (ix4 (0 : Fin 1) a h p) 1
  have h2 := Pipeline.Window.rect_emb_val win0_7 t (ix4 (0 : Fin 1) a h p) 2
  have h3 := Pipeline.Window.rect_emb_val win0_7 t (ix4 (0 : Fin 1) a h p) 3
  rw [index7] at h0 h1 h2 h3
  have h0' : (((win0_7.rect t).emb (ix4 (0 : Fin 1) a h p)) 0).val = (grid0.coords t 0).val * 1 + 0 := h0
  have h1' : (((win0_7.rect t).emb (ix4 (0 : Fin 1) a h p)) 1).val = 0 * 32 + a.val := h1
  have h2' : (((win0_7.rect t).emb (ix4 (0 : Fin 1) a h p)) 2).val = (grid0.coords t 1).val * 128 + h.val := h2
  have h3' : (((win0_7.rect t).emb (ix4 (0 : Fin 1) a h p)) 3).val = 0 * 128 + p.val := h3
  have e2 : (win0_7.rect t).emb (ix4 (0 : Fin 1) a h p) = ix4 (grid0.coords t 0) a (chan (grid0.coords t 1) h) p := by
    funext d
    refine Fin.ext ?_
    match d with
    | ⟨0, _⟩ => exact h0'.trans (by show _ = (grid0.coords t 0).val; omega)
    | ⟨1, _⟩ => exact h1'.trans (by show _ = a.val; omega)
    | ⟨2, _⟩ => exact h2'.trans (by show _ = 128 * (grid0.coords t 1).val + h.val; omega)
    | ⟨3, _⟩ => exact h3'.trans (by show _ = p.val; omega)
  rw [e, e2, V_k]
  exact (folded_read _ _ _ _ _).trans (series_at hx _ _ _)

end Cert.CorrIdeal.Host
-- ==== Proof.Corr.Point.lean ====
/- What a grid point computes from its staged blocks, with the staging buffers read away. -/
module

public import proofs.«01_k».proof.Proof.Corr.Tables
public import Idealize.ShloMosaic.Lib.WholeRead

@[expose] public section

noncomputable section

namespace Cert.CorrIdeal.Point

open Cert.CorrIdeal Cert.CorrIdeal.Gen Cert.CorrIdeal.Host Cert.CorrIdeal.Tile Cert.Dft
open Idealize.ShloMosaic hiding ix1 ix2 ix3 ix4 ix5
open Idealize.ShloMosaic.TcCoe Idealize.ShloMosaic.ValueIdx Idealize.SL.Sem

/-- Reading a whole buffer gives its contents. -/
theorem whole_read {s : Shape} (a : Memref sig .tc .vmem s .f32) (h : a.IsWhole) (x : Vec Ideal s .f32) (off : Fin s.rank → ℕ)
    (h0 : ∀ k, off k = 0) (inb : ∀ k, off k + s.size k ≤ s.size k) :
    a.view.readAt (Elt Ideal) (Rect.unit (s := s) off s.size inb).toLoadRect (h.unread x) = x := by
  funext y
  refine (h.readAt_unread x _ _).trans (congrArg x (funext fun k => Fin.ext ?_))
  show off k + 1 * (y k).val = (y k).val
  rw [h0]; omega

theorem zero2 : ∀ k : Fin 2, (![0, 0] : Fin 2 → ℕ) k = 0 := by decide
theorem zero3 : ∀ k : Fin 3, (![0, 0, 0] : Fin 3 → ℕ) k = 0 := by decide
theorem zero4 : ∀ k : Fin 4, (![0, 0, 0, 0] : Fin 4 → ℕ) k = 0 := by decide

variable (c : Dev nD) (arg2 : Memref sig .tc .vmem S32x32 .f32) (harg2 : arg2.IsWhole) (arg3 : Memref sig .tc .vmem S32x32 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S32x128 .f32) (harg6 : arg6.IsWhole) (arg7 : Memref sig .tc .vmem S32x128 .f32) (harg7 : arg7.IsWhole)
  (arg8 : Memref sig .tc .vmem S1x32x128x128 .f32) (harg8 : arg8.IsWhole) (arg9 : Memref sig .tc .vmem S1x32x128x128 .f32) (harg9 : arg9.IsWhole)
  (x0 x1 : Vec Ideal S32x32 .f32) (x2 x3 : Vec Ideal S128x128 .f32) (x4 x5 : Vec Ideal S32x128 .f32) (x6 x7 : Vec Ideal S1x32x128x128 .f32)

theorem run_re_A : kernelRun0_A.sl.r_9 (F := Ideal) c arg2 harg2 arg3 harg3 arg4 harg4 arg5 harg5 arg6 harg6 arg7 harg7 arg8 harg8 arg9 harg9
    x0 x1 x2 x3 x4 x5 x6 x7 = re x0 x1 x2 x3 x4 x5 x6 x7 := by
  unfold kernelRun0_A.sl.r_9 kernelRun0_A.sl.r kernelRun0_A.sl.r_1 kernelRun0_A.sl.r_2 kernelRun0_A.sl.r_3 kernelRun0_A.sl.r_4
    kernelRun0_A.sl.r_5 kernelRun0_A.sl.r_6 kernelRun0_A.sl.r_7 kernelRun0_A.sl.r_8
  rw [whole_read arg2 harg2 x0 _ zero2, whole_read arg3 harg3 x1 _ zero2, whole_read arg4 harg4 x2 _ zero2, whole_read arg5 harg5 x3 _ zero2,
    whole_read arg6 harg6 x4 _ zero2, whole_read arg7 harg7 x5 _ zero2, whole_read arg8 harg8 x6 _ zero4, whole_read arg9 harg9 x7 _ zero4]

theorem run_im_A : kernelRun0_A.sl.r_10 (F := Ideal) c arg2 harg2 arg3 harg3 arg4 harg4 arg5 harg5 arg6 harg6 arg7 harg7 arg8 harg8 arg9 harg9
    x0 x1 x2 x3 x4 x5 x6 x7 = im x0 x1 x2 x3 x4 x5 x6 x7 := by
  unfold kernelRun0_A.sl.r_10 kernelRun0_A.sl.r kernelRun0_A.sl.r_1 kernelRun0_A.sl.r_2 kernelRun0_A.sl.r_3 kernelRun0_A.sl.r_4
    kernelRun0_A.sl.r_5 kernelRun0_A.sl.r_6 kernelRun0_A.sl.r_7 kernelRun0_A.sl.r_8
  rw [whole_read arg2 harg2 x0 _ zero2, whole_read arg3 harg3 x1 _ zero2, whole_read arg4 harg4 x2 _ zero2, whole_read arg5 harg5 x3 _ zero2,
    whole_read arg6 harg6 x4 _ zero2, whole_read arg7 harg7 x5 _ zero2, whole_read arg8 harg8 x6 _ zero4, whole_read arg9 harg9 x7 _ zero4]

theorem run_re_B : kernelRun0_B.sl.r_9 (F := Ideal) c arg2 harg2 arg3 harg3 arg4 harg4 arg5 harg5 arg6 harg6 arg7 harg7 arg8 harg8 arg9 harg9
    x0 x1 x2 x3 x4 x5 x6 x7 = re x0 x1 x2 x3 x4 x5 x6 x7 := by
  unfold kernelRun0_B.sl.r_9 kernelRun0_B.sl.r kernelRun0_B.sl.r_1 kernelRun0_B.sl.r_2 kernelRun0_B.sl.r_3 kernelRun0_B.sl.r_4
    kernelRun0_B.sl.r_5 kernelRun0_B.sl.r_6 kernelRun0_B.sl.r_7 kernelRun0_B.sl.r_8
  rw [whole_read arg2 harg2 x0 _ zero2, whole_read arg3 harg3 x1 _ zero2, whole_read arg4 harg4 x2 _ zero2, whole_read arg5 harg5 x3 _ zero2,
    whole_read arg6 harg6 x4 _ zero2, whole_read arg7 harg7 x5 _ zero2, whole_read arg8 harg8 x6 _ zero4, whole_read arg9 harg9 x7 _ zero4]

theorem run_im_B : kernelRun0_B.sl.r_10 (F := Ideal) c arg2 harg2 arg3 harg3 arg4 harg4 arg5 harg5 arg6 harg6 arg7 harg7 arg8 harg8 arg9 harg9
    x0 x1 x2 x3 x4 x5 x6 x7 = im x0 x1 x2 x3 x4 x5 x6 x7 := by
  unfold kernelRun0_B.sl.r_10 kernelRun0_B.sl.r kernelRun0_B.sl.r_1 kernelRun0_B.sl.r_2 kernelRun0_B.sl.r_3 kernelRun0_B.sl.r_4
    kernelRun0_B.sl.r_5 kernelRun0_B.sl.r_6 kernelRun0_B.sl.r_7 kernelRun0_B.sl.r_8
  rw [whole_read arg2 harg2 x0 _ zero2, whole_read arg3 harg3 x1 _ zero2, whole_read arg4 harg4 x2 _ zero2, whole_read arg5 harg5 x3 _ zero2,
    whole_read arg6 harg6 x4 _ zero2, whole_read arg7 harg7 x5 _ zero2, whole_read arg8 harg8 x6 _ zero4, whole_read arg9 harg9 x7 _ zero4]

end Cert.CorrIdeal.Point
-- ==== Proof.Corr.Final.lean ====
/- The two result arrays after the run: at row `c` and place `d` of a batch entry the sum over its 1024 channels, block by block. -/
module

public import proofs.«01_k».proof.Proof.Corr.Point

@[expose] public section

noncomputable section

namespace Cert.CorrIdeal.Final

open Cert.CorrIdeal Cert.CorrIdeal.Gen Cert.CorrIdeal.Host Cert.CorrIdeal.Tile Cert.CorrIdeal.Point Cert.Dft
open Idealize.ShloMosaic hiding ix1 ix2 ix3 ix4 ix5
open Idealize.ShloMosaic.TcCoe Idealize.ShloMosaic.ValueIdx Idealize.SL.Sem

variable (m : (ℓ : Loc nD τ sig) → Buf (Elt Ideal) ℓ) (c : Dev nD)

theorem lead_at (x : FVec Ideal S32x128 .f32) (a : Fin 32) (d : Fin 128) :
    View.TileAt (Val := Elt Ideal) (e := .f32) (ix3 (0 : Fin 1) a d : S1x32x128.Idx) (![0, 0, 0] : Fin 3 → Nat) S1x32x128.size
      (shapeCast S1x32x128 x shapeCasts_S32x128_S1x32x128) (x (ix2 a d)) := by
  intro y hy
  have a1 : a.val = 0 + (y 1).val := hy 1
  have a2 : d.val = 0 + (y 2).val := hy 2
  have h0 : (y 0).val < 1 := (y 0).isLt
  refine shapeCast_apply _ _ y (ix2 a d) ?_
  rw [Shape.rowMajor_val_three, Shape.rowMajor_val_two]
  show a.val * 128 + d.val = ((y 0).val * 32 + (y 1).val) * 128 + (y 2).val
  omega

section
variable (t : Fin cfg0.N) (a : Fin 32) (d : Fin 128)

set_option maxHeartbeats 4000000 in
set_option maxRecDepth 131072 in
theorem first8 (h0 : t.val % 8 = 0) (h1 : ¬1 ≤ t.val % 8) : (outsAt0 m c t.val t.isLt).1 (ix3 (0 : Fin 1) a d)
    = re (iblk m c 0 t) (iblk m c 1 t) (iblk m c 2 t) (iblk m c 3 t) (iblk m c 4 t) (iblk m c 5 t) (iblk m c 6 t) (iblk m c 7 t) (ix2 a d) := by
  have key := lead_at (re (iblk m c 0 t) (iblk m c 1 t) (iblk m c 2 t) (iblk m c 3 t) (iblk m c 4 t) (iblk m c 5 t) (iblk m c 6 t) (iblk m c 7 t)) a d
  rw [outsAt0_A m c t h0 h1]
  unfold out0_A_8
  dsimp only
  refine (congrFun (View.read_writes_eq_canon VO0_8 _ _ (by intro y; apply cover0_A_8)) _).trans ?_
  refine View.canon_eq_of_allAt _ _ _ (by apply cover0_A_8) ?_
  refine View.allAt_cons_unit _ _ _ _ _ ?_ (View.allAt_nil _ _)
  rw [run_re_A]
  exact key

set_option maxHeartbeats 4000000 in
set_option maxRecDepth 131072 in
theorem first9 (h0 : t.val % 8 = 0) (h1 : ¬1 ≤ t.val % 8) : (outsAt0 m c t.val t.isLt).2 (ix3 (0 : Fin 1) a d)
    = im (iblk m c 0 t) (iblk m c 1 t) (iblk m c 2 t) (iblk m c 3 t) (iblk m c 4 t) (iblk m c 5 t) (iblk m c 6 t) (iblk m c 7 t) (ix2 a d) := by
  have key := lead_at (im (iblk m c 0 t) (iblk m c 1 t) (iblk m c 2 t) (iblk m c 3 t) (iblk m c 4 t) (iblk m c 5 t) (iblk m c 6 t) (iblk m c 7 t)) a d
  rw [outsAt0_A m c t h0 h1]
  unfold out0_A_9
  dsimp only
  refine (congrFun (View.read_writes_eq_canon VO0_9 _ _ (by intro y; apply cover0_A_9)) _).trans ?_
  refine View.canon_eq_of_allAt _ _ _ (by apply cover0_A_9) ?_
  refine View.allAt_cons_unit _ _ _ _ _ ?_ (View.allAt_nil _ _)
  rw [run_im_A]
  exact key

/-- What the block held before, plus what the point adds. -/
abbrev added (old : FVec Ideal S1x32x128 .f32) (x : FVec Ideal S32x128 .f32) : FVec Ideal S32x128 .f32 :=
  addf (shapeCast S32x128 old shapeCasts_S1x32x128_S32x128) x

theorem added_at (old : FVec Ideal S1x32x128 .f32) (x : FVec Ideal S32x128 .f32) :
    added old x (ix2 a d) = (old (ix3 (0 : Fin 1) a d) + x (ix2 a d) : EReal) :=
  congrArg (fun p : EReal => p + x (ix2 a d)) (unlead_read old shapeCasts_S1x32x128_S32x128 a d)

set_option maxHeartbeats 4000000 in
set_option maxRecDepth 131072 in
theorem next8 (h0 : ¬t.val % 8 = 0) (h1 : 1 ≤ t.val % 8) : (outsAt0 m c t.val t.isLt).1 (ix3 (0 : Fin 1) a d)
    = added (outsAt0 m c (t.val - 1) (Nat.lt_of_le_of_lt (Nat.sub_le _ _) t.isLt)).1
      (re (iblk m c 0 t) (iblk m c 1 t) (iblk m c 2 t) (iblk m c 3 t) (iblk m c 4 t) (iblk m c 5 t) (iblk m c 6 t) (iblk m c 7 t)) (ix2 a d) := by
  rw [outsAt0_B m c t h0 h1]
  generalize outsAt0 m c (t.val - 1) (Nat.lt_of_le_of_lt (Nat.sub_le _ _) t.isLt) = old
  have key := lead_at (added old.1 (re (iblk m c 0 t) (iblk m c 1 t) (iblk m c 2 t) (iblk m c 3 t) (iblk m c 4 t) (iblk m c 5 t) (iblk m c 6 t) (iblk m c 7 t))) a d
  unfold out0_B_8
  dsimp only
  refine (congrFun (View.read_writes_eq_canon VO0_8 _ _ (by intro y; apply cover0_B_8)) _).trans ?_
  refine View.canon_eq_of_allAt _ _ _ (by apply cover0_B_8) ?_
  refine View.allAt_cons_unit _ _ _ _ _ ?_ (View.allAt_nil _ _)
  rw [run_re_B, whole_read (ms0_8 t) (hs0_8 t) old.1 _ zero3]
  exact key

set_option maxHeartbeats 4000000 in
set_option maxRecDepth 131072 in
theorem next9 (h0 : ¬t.val % 8 = 0) (h1 : 1 ≤ t.val % 8) : (outsAt0 m c t.val t.isLt).2 (ix3 (0 : Fin 1) a d)
    = added (outsAt0 m c (t.val - 1) (Nat.lt_of_le_of_lt (Nat.sub_le _ _) t.isLt)).2
      (im (iblk m c 0 t) (iblk m c 1 t) (iblk m c 2 t) (iblk m c 3 t) (iblk m c 4 t) (iblk m c 5 t) (iblk m c 6 t) (iblk m c 7 t)) (ix2 a d) := by
  rw [outsAt0_B m c t h0 h1]
  generalize outsAt0 m c (t.val - 1) (Nat.lt_of_le_of_lt (Nat.sub_le _ _) t.isLt) = old
  have key := lead_at (added old.2 (im (iblk m c 0 t) (iblk m c 1 t) (iblk m c 2 t) (iblk m c 3 t) (iblk m c 4 t) (iblk m c 5 t) (iblk m c 6 t) (iblk m c 7 t))) a d
  unfold out0_B_9
  dsimp only
  refine (congrFun (View.read_writes_eq_canon VO0_9 _ _ (by intro y; apply cover0_B_9)) _).trans ?_
  refine View.canon_eq_of_allAt _ _ _ (by apply cover0_B_9) ?_
  refine View.allAt_cons_unit _ _ _ _ _ ?_ (View.allAt_nil _ _)
  rw [run_im_B, whole_read (ms0_9 t) (hs0_9 t) old.2 _ zero3]
  exact key

end

/-- The sum over one block's channels of the products given by `p`. -/
def part (p : (ℕ → ℝ) → (ℕ → ℝ) → ℕ → ℕ → ℝ) (x y : FVec Ideal S4x4096x16x64 .f32) (b j a d : ℕ) : ℝ :=
  if h : b < 4 ∧ j < 8 then ∑ k, p (series x ⟨b, h.1⟩ (chan ⟨j, h.2⟩ k)) (series y ⟨b, h.1⟩ (chan ⟨j, h.2⟩ k)) a d else 0

theorem part_eq (p : (ℕ → ℝ) → (ℕ → ℝ) → ℕ → ℕ → ℝ) (x y : FVec Ideal S4x4096x16x64 .f32) (b : Fin 4) (j : Fin 8) (a d : ℕ) :
    part p x y b j a d = ∑ k, p (series x b (chan j k)) (series y b (chan j k)) a d := by
  unfold part
  rw [dif_pos ⟨b.isLt, j.isLt⟩]

theorem coords0 : ∀ t : Fin grid0.N, (grid0.coords t 0).val = t.val / 8 := by decide +kernel
theorem coords1 : ∀ t : Fin grid0.N, (grid0.coords t 1).val = t.val % 8 := by decide +kernel

section
variable (hq : Numbers (queries m c)) (hk : Numbers (keys m c))
include hq hk

theorem re_point (t : Fin cfg0.N) (a : Fin 32) (d : Fin 128) :
    re (iblk m c 0 t) (iblk m c 1 t) (iblk m c 2 t) (iblk m c 3 t) (iblk m c 4 t) (iblk m c 5 t) (iblk m c 6 t) (iblk m c 7 t) (ix2 a d)
      = ((part pr (queries m c) (keys m c) (t.val / 8) (t.val % 8) a d : ℝ) : EReal) := by
  refine (re_at (tables_at m c t) (fun a h p => block6 m c hq t a h p) (fun a h p => block7 m c hk t a h p) a d).trans ?_
  rw [← coords0 t, ← coords1 t]
  exact congrArg _ (part_eq pr (queries m c) (keys m c) (grid0.coords t 0) (grid0.coords t 1) a d).symm

theorem im_point (t : Fin cfg0.N) (a : Fin 32) (d : Fin 128) :
    im (iblk m c 0 t) (iblk m c 1 t) (iblk m c 2 t) (iblk m c 3 t) (iblk m c 4 t) (iblk m c 5 t) (iblk m c 6 t) (iblk m c 7 t) (ix2 a d)
      = ((part pim (queries m c) (keys m c) (t.val / 8) (t.val % 8) a d : ℝ) : EReal) := by
  refine (im_at (tables_at m c t) (fun a h p => block6 m c hq t a h p) (fun a h p => block7 m c hk t a h p) a d).trans ?_
  rw [← coords0 t, ← coords1 t]
  exact congrArg _ (part_eq pim (queries m c) (keys m c) (grid0.coords t 0) (grid0.coords t 1) a d).symm

/-- After point `n` the block holds the sum of the parts so far. -/
theorem sums8 (n : ℕ) (hn : n < cfg0.N) (a : Fin 32) (d : Fin 128) : (outsAt0 m c n hn).1 (ix3 (0 : Fin 1) a d)
    = ((∑ j ∈ Finset.range (n % 8 + 1), part pr (queries m c) (keys m c) (n / 8) j a d : ℝ) : EReal) := by
  induction n with
  | zero =>
    refine (first8 m c ⟨0, hn⟩ a d (by norm_num) (by norm_num)).trans ((re_point m c hq hk ⟨0, hn⟩ a d).trans ?_)
    simp
  | succ n ih =>
    by_cases h0 : (n + 1) % 8 = 0
    · refine (first8 m c ⟨n + 1, hn⟩ a d h0 (by show ¬1 ≤ (n + 1) % 8; omega)).trans ((re_point m c hq hk ⟨n + 1, hn⟩ a d).trans ?_)
      simp only [h0, zero_add, Finset.sum_range_one]
    · have h1 : 1 ≤ (n + 1) % 8 := by omega
      refine (next8 m c ⟨n + 1, hn⟩ a d h0 h1).trans ((added_at a d _ _).trans ?_)
      rw [re_point m c hq hk ⟨n + 1, hn⟩ a d]
      have e := ih (Nat.lt_of_succ_lt hn)
      refine (congrArg (fun p : EReal => p + _) e).trans ?_
      rw [show (n + 1) % 8 + 1 = (n % 8 + 1) + 1 by omega, Finset.sum_range_succ _ (n % 8 + 1)]
      show (_ : EReal) + ((part pr _ _ ((n + 1) / 8) ((n + 1) % 8) a d : ℝ) : EReal) = _
      rw [← EReal.coe_add, show (n + 1) / 8 = n / 8 by omega, show (n + 1) % 8 = n % 8 + 1 by omega]

theorem sums9 (n : ℕ) (hn : n < cfg0.N) (a : Fin 32) (d : Fin 128) : (outsAt0 m c n hn).2 (ix3 (0 : Fin 1) a d)
    = ((∑ j ∈ Finset.range (n % 8 + 1), part pim (queries m c) (keys m c) (n / 8) j a d : ℝ) : EReal) := by
  induction n with
  | zero =>
    refine (first9 m c ⟨0, hn⟩ a d (by norm_num) (by norm_num)).trans ((im_point m c hq hk ⟨0, hn⟩ a d).trans ?_)
    simp
  | succ n ih =>
    by_cases h0 : (n + 1) % 8 = 0
    · refine (first9 m c ⟨n + 1, hn⟩ a d h0 (by show ¬1 ≤ (n + 1) % 8; omega)).trans ((im_point m c hq hk ⟨n + 1, hn⟩ a d).trans ?_)
      simp only [h0, zero_add, Finset.sum_range_one]
    · have h1 : 1 ≤ (n + 1) % 8 := by omega
      refine (next9 m c ⟨n + 1, hn⟩ a d h0 h1).trans ((added_at a d _ _).trans ?_)
      rw [im_point m c hq hk ⟨n + 1, hn⟩ a d]
      have e := ih (Nat.lt_of_succ_lt hn)
      refine (congrArg (fun p : EReal => p + _) e).trans ?_
      rw [show (n + 1) % 8 + 1 = (n % 8 + 1) + 1 by omega, Finset.sum_range_succ _ (n % 8 + 1)]
      show (_ : EReal) + ((part pim _ _ ((n + 1) / 8) ((n + 1) % 8) a d : ℝ) : EReal) = _
      rw [← EReal.coe_add, show (n + 1) / 8 = n / 8 by omega, show (n + 1) % 8 = n % 8 + 1 by omega]

end

/-- The sum over all channels of a batch entry. -/
def total (p : (ℕ → ℝ) → (ℕ → ℝ) → ℕ → ℕ → ℝ) (x y : FVec Ideal S4x4096x16x64 .f32) (b a d : ℕ) : ℝ :=
  ∑ j ∈ Finset.range 8, part p x y b j a d

theorem index8 : ∀ t : Fin grid0.N, win0_8.index t = ![(grid0.coords t 0).val, 0, 0] := by decide +kernel
theorem index9 : ∀ t : Fin grid0.N, win0_9.index t = ![(grid0.coords t 0).val, 0, 0] := by decide +kernel

theorem place8 (t : Fin cfg0.N) (y : S1x32x128.Idx) :
    (((win0_8.blk t).view.emb y) 0).val = t.val / 8 ∧ (((win0_8.blk t).view.emb y) 1).val = (y 1).val
      ∧ (((win0_8.blk t).view.emb y) 2).val = (y 2).val := by
  have h0 := Pipeline.Window.rect_emb_val win0_8 t y 0
  have h1 := Pipeline.Window.rect_emb_val win0_8 t y 1
  have h2 := Pipeline.Window.rect_emb_val win0_8 t y 2
  rw [index8] at h0 h1 h2
  have h0' : (((win0_8.blk t).view.emb y) 0).val = (grid0.coords t 0).val * 1 + (y 0).val := h0
  have h1' : (((win0_8.blk t).view.emb y) 1).val = 0 * 32 + (y 1).val := h1
  have h2' : (((win0_8.blk t).view.emb y) 2).val = 0 * 128 + (y 2).val := h2
  have hy : (y 0).val < 1 := (y 0).isLt
  have hc := coords0 t
  exact ⟨by rw [h0']; omega, by rw [h1']; omega, by rw [h2']; omega⟩

theorem place9 (t : Fin cfg0.N) (y : S1x32x128.Idx) :
    (((win0_9.blk t).view.emb y) 0).val = t.val / 8 ∧ (((win0_9.blk t).view.emb y) 1).val = (y 1).val
      ∧ (((win0_9.blk t).view.emb y) 2).val = (y 2).val := by
  have h0 := Pipeline.Window.rect_emb_val win0_9 t y 0
  have h1 := Pipeline.Window.rect_emb_val win0_9 t y 1
  have h2 := Pipeline.Window.rect_emb_val win0_9 t y 2
  rw [index9] at h0 h1 h2
  have h0' : (((win0_9.blk t).view.emb y) 0).val = (grid0.coords t 0).val * 1 + (y 0).val := h0
  have h1' : (((win0_9.blk t).view.emb y) 1).val = 0 * 32 + (y 1).val := h1
  have h2' : (((win0_9.blk t).view.emb y) 2).val = 0 * 128 + (y 2).val := h2
  have hy : (y 0).val < 1 := (y 0).isLt
  have hc := coords0 t
  exact ⟨by rw [h0']; omega, by rw [h1']; omega, by rw [h2']; omega⟩

theorem lead_eq (y : S1x32x128.Idx) : y = ix3 (0 : Fin 1) (y 1) (y 2) := by
  refine (ValueIdx.eq_ix3 (n0 := 1) (n1 := 32) (n2 := 128) y).trans ?_
  rw [show y 0 = (0 : Fin 1) from Fin.ext (Nat.lt_one_iff.mp (y 0).isLt)]
  rfl

section
variable (hq : Numbers (queries m c)) (hk : Numbers (keys m c))
include hq hk

theorem pointAt8 (t : Fin cfg0.N) (ht : t.val % 8 = 7) (y : S1x32x128.Idx) : (outsAt0 m c t.val t.isLt).1 y
    = ((total pr (queries m c) (keys m c) (((win0_8.blk t).view.emb y) 0).val (((win0_8.blk t).view.emb y) 1).val
        (((win0_8.blk t).view.emb y) 2).val : ℝ) : EReal) := by
  obtain ⟨h0, h1, h2⟩ := place8 t y
  rw [h0, h1, h2]
  refine (congrArg (outsAt0 m c t.val t.isLt).1 (lead_eq y)).trans ((sums8 m c hq hk t.val t.isLt (y 1) (y 2)).trans ?_)
  rw [ht]
  rfl

theorem pointAt9 (t : Fin cfg0.N) (ht : t.val % 8 = 7) (y : S1x32x128.Idx) : (outsAt0 m c t.val t.isLt).2 y
    = ((total pim (queries m c) (keys m c) (((win0_9.blk t).view.emb y) 0).val (((win0_9.blk t).view.emb y) 1).val
        (((win0_9.blk t).view.emb y) 2).val : ℝ) : EReal) := by
  obtain ⟨h0, h1, h2⟩ := place9 t y
  rw [h0, h1, h2]
  refine (congrArg (outsAt0 m c t.val t.isLt).2 (lead_eq y)).trans ((sums9 m c hq hk t.val t.isLt (y 1) (y 2)).trans ?_)
  rw [ht]
  rfl

/-- The first result array after the run. -/
theorem final8 : (dats m 0 c).arrAt 8 cfg0.N
    = fun i : S4x32x128.Idx => ((total pr (queries m c) (keys m c) (i 0).val (i 1).val (i 2).val : ℝ) : EReal) := by
  refine (dats m 0 c).arrAt_eq_of_covers 8 _ (by decide +kernel) fun t hf y => ?_
  rw [after0_8]
  have e := pointAt8 m c hq hk t ((flush0_8 t).mp hf) y
  generalize (outsAt0 m c t.val t.isLt).1 = f at e ⊢
  exact e

/-- The second. -/
theorem final9 : (dats m 0 c).arrAt 9 cfg0.N
    = fun i : S4x32x128.Idx => ((total pim (queries m c) (keys m c) (i 0).val (i 1).val (i 2).val : ℝ) : EReal) := by
  refine (dats m 0 c).arrAt_eq_of_covers 9 _ (by decide +kernel) fun t hf y => ?_
  rw [after0_9]
  have e := pointAt9 m c hq hk t ((flush0_9 t).mp hf) y
  generalize (outsAt0 m c t.val t.isLt).2 = f at e ⊢
  exact e

end

end Cert.CorrIdeal.Final
-- ==== Proof.Corr.Ref.lean ====
/- The reference over the extended reals: the transform of each channel by its definition, the products
   of queries' and keys' spectra, summed over heads and channels. -/
module

public import proofs.«01_k».proof.Proof.Corr.Final
public import proofs.«01_k».proof.Proof.Gen.CorrRefIdeal.Read

@[expose] public section

noncomputable section

namespace Cert.CorrRefIdeal.Spectrum

open Cert.CorrRefIdeal Cert.CorrRefIdeal.Gen Cert.CorrRefIdeal.Read Cert.Dft
open Cert.CorrIdeal.Host (series Numbers series_at chan)
open Cert.CorrIdeal.Tile (pr pim)
open Cert.CorrIdeal.Final (part part_eq total)
open Idealize.ShloMosaic hiding ix1 ix2 ix3 ix4 ix5
open Idealize.ShloMosaic.TcCoe Idealize.ShloMosaic.ValueIdx Idealize.SL.Sem

theorem angle_at (t f : Fin 4096) : val_main_v9 (F := Ideal) (ix2 t f) = ((((t.val * f.val % 4096 : ℕ) : ℝ) * (2 * Real.pi / (4096 : ℕ)) : ℝ) : EReal) := by
  have e : val_main_v9 (F := Ideal) (ix2 t f)
      = FloatOps.mulf (FloatOps.sitofp (F := Ideal) .f32 (remWord 4096#32 (IntOp.muli (BitVec.ofNat 32 t.val) (BitVec.ofNat 32 f.val))))
        (Ideal.div (Ideal.ofBits .f32 0x40000000#32 * Ideal.acos (Ideal.ofBits .f32 0xBF800000#32)) (Ideal.ofBits .f32 0x45800000#32)) := by
    rw [val_main_v9_apply, val_main_v8_apply, val_main_v4_apply]
    rfl
  rw [e]
  exact angle 4096#32 4096 t f rfl (by norm_num) (by norm_num)
    (lt_of_le_of_lt (Nat.mul_le_mul t.isLt.le f.isLt.le) (by norm_num)) _ step_div

theorem cos_at (t f : Fin 4096) : val_main_v10 (F := Ideal) (ix2 t f) = ((Real.cos (((t.val * f.val % 4096 : ℕ) : ℝ) * (2 * Real.pi / 4096)) : ℝ) : EReal) := by
  rw [val_main_v10_apply, angle_at]
  refine (Ideal.cos_coe _).trans ?_
  norm_num

theorem sin_at (t f : Fin 4096) : val_main_v11 (F := Ideal) (ix2 t f) = ((Real.sin (((t.val * f.val % 4096 : ℕ) : ℝ) * (2 * Real.pi / 4096)) : ℝ) : EReal) := by
  rw [val_main_v11_apply, angle_at]
  refine (Ideal.sin_coe _).trans ?_
  norm_num

/-- The channel of a head and a place in it. -/
def channel (h : Fin 16) (e : Fin 64) : Fin 1024 := ⟨64 * h.val + e.val, by omega⟩

theorem entry {x : FVec Ideal S4x4096x16x64 .f32} (hx : Numbers x) (b : Fin 4) (h : Fin 16) (e : Fin 64) (t : Fin 4096) :
    x (ix4 b t h e) = ((series x b (channel h e) t : ℝ) : EReal) := by
  rw [← series_at hx b (channel h e) t]
  have h1 : h = (⟨(channel h e).val / 64, by omega⟩ : Fin 16) := Fin.ext (by show h.val = (64 * h.val + e.val) / 64; omega)
  have h2 : e = (⟨(channel h e).val % 64, by omega⟩ : Fin 64) := Fin.ext (by show e.val = (64 * h.val + e.val) % 64; omega)
  exact congrArg x (congrArg₂ (ix4 b t) h1 h2)

section
variable {x : FVec Ideal S4x4096x16x64 .f32} (hx : Numbers x) (b : Fin 4) (h : Fin 16) (e : Fin 64) (f : Fin 4096)
include hx

/-- A sum over time of the channel's values times reals. -/
theorem time_sum (g : Fin 4096 → EReal) (r : Fin 4096 → ℝ) (hg : ∀ t, g t = ((r t : ℝ) : EReal)) :
    ∑ t : Fin 4096, x (ix4 b t h e) * g t = ((∑ t : Fin 4096, series x b (channel h e) t * r t : ℝ) : EReal) := by
  rw [← coe_sum]
  refine Finset.sum_congr rfl fun t _ => ?_
  rw [entry hx, hg, ← EReal.coe_mul]

theorem v12_at (t : Fin 4096) : val_main_v12 (F := Ideal) x (ix4 b h e t) = x (ix4 b t h e) := by
  rw [val_main_v12_apply]
  exact congrArg x (funext fun a => by match a with | ⟨0, _⟩ => rfl | ⟨1, _⟩ => rfl | ⟨2, _⟩ => rfl | ⟨3, _⟩ => rfl)

theorem v14_at : val_main_v14 (F := Ideal) x (ix4 b h e f) = ((dr (series x b (channel h e)) f : ℝ) : EReal) := by
  refine (val_main_v14_apply x _).trans (Eq.trans ?_ (time_sum hx b h e (fun t => val_main_v10 (F := Ideal) (ix2 t f)) _ fun t => cos_at t f))
  refine Finset.sum_congr rfl fun t _ => ?_
  rw [← v12_at hx b h e t]
  refine congrArg₂ (· * ·) (congrArg (val_main_v12 (F := Ideal) x) (funext fun a => ?_)) (congrArg (val_main_v10 (F := Ideal)) (funext fun a => ?_))
  · match a with | ⟨0, _⟩ => rfl | ⟨1, _⟩ => rfl | ⟨2, _⟩ => rfl | ⟨3, _⟩ => rfl
  · match a with | ⟨0, _⟩ => rfl | ⟨1, _⟩ => rfl

theorem v15_at : val_main_v15 (F := Ideal) x (ix4 b h e f) = ((-di (series x b (channel h e)) f : ℝ) : EReal) := by
  rw [di, neg_neg]
  refine (val_main_v15_apply x _).trans (Eq.trans ?_ (time_sum hx b h e (fun t => val_main_v11 (F := Ideal) (ix2 t f)) _ fun t => sin_at t f))
  refine Finset.sum_congr rfl fun t _ => ?_
  rw [← v12_at hx b h e t]
  refine congrArg₂ (· * ·) (congrArg (val_main_v12 (F := Ideal) x) (funext fun a => ?_)) (congrArg (val_main_v11 (F := Ideal)) (funext fun a => ?_))
  · match a with | ⟨0, _⟩ => rfl | ⟨1, _⟩ => rfl | ⟨2, _⟩ => rfl | ⟨3, _⟩ => rfl
  · match a with | ⟨0, _⟩ => rfl | ⟨1, _⟩ => rfl

theorem v16_at : val_main_v16 (F := Ideal) x (ix4 b h e f) = ((di (series x b (channel h e)) f : ℝ) : EReal) := by
  rw [val_main_v16_apply, v15_at hx]
  show -((_ : ℝ) : EReal) = _
  rw [← EReal.coe_neg, neg_neg]

theorem v17_at : val_main_v17 (F := Ideal) x (ix4 b h e f) = ((dr (series x b (channel h e)) f : ℝ) : EReal) :=
  v14_at hx b h e f

theorem v19_at : val_main_v19 (F := Ideal) x (ix4 b h e f) = ((di (series x b (channel h e)) f : ℝ) : EReal) :=
  v16_at hx b h e f

end

section
variable {x y : FVec Ideal S4x4096x16x64 .f32} (hx : Numbers x) (hy : Numbers y) (b : Fin 4) (f : Fin 4096)
include hx hy

theorem v22_at (h : Fin 16) (e : Fin 64) : val_main_v22 (F := Ideal) x y (ix4 b h e f)
    = ((dr (series x b (channel h e)) f * dr (series y b (channel h e)) f + di (series x b (channel h e)) f * di (series y b (channel h e)) f : ℝ) : EReal) := by
  rw [val_main_v22_apply, val_main_v20_apply, val_main_v21_apply, v14_at hx, v16_at hx, v17_at hy, v19_at hy, EReal.coe_add, EReal.coe_mul, EReal.coe_mul]
  rfl

theorem v27_at (h : Fin 16) (e : Fin 64) : val_main_v27 (F := Ideal) x y (ix4 b h e f)
    = ((di (series x b (channel h e)) f * dr (series y b (channel h e)) f - dr (series x b (channel h e)) f * di (series y b (channel h e)) f : ℝ) : EReal) := by
  rw [val_main_v27_apply, val_main_v25_apply, val_main_v26_apply, v14_at hx, v16_at hx, v17_at hy, v19_at hy, EReal.coe_sub, EReal.coe_mul, EReal.coe_mul]
  rfl

theorem zero_add_of (z s : EReal) (hz : z = FloatOps.ofBits (F := Ideal) .f32 0x00000000#32) : z + s = s := by
  rw [hz]
  show Ideal.ofBits .f32 0x00000000#32 + s = s
  rw [Ideal.ofBits_zero_f32, zero_add]

theorem v24_at : val_main_v24 (F := Ideal) x y (ix2 b f)
    = ((∑ h : Fin 16, ∑ e : Fin 64, (dr (series x b (channel h e)) f * dr (series y b (channel h e)) f
        + di (series x b (channel h e)) f * di (series y b (channel h e)) f) : ℝ) : EReal) := by
  rw [← coe_sum]
  refine (val_main_v24_apply x y _).trans ((zero_add_of hx hy _ _ rfl).trans (Finset.sum_congr rfl fun h _ => ?_))
  rw [← coe_sum]
  refine (val_main_v23_apply x y _).trans ((zero_add_of hx hy _ _ rfl).trans (Finset.sum_congr rfl fun e _ => ?_))
  rw [← v22_at hx hy b f h e]
  refine congrArg (val_main_v22 (F := Ideal) x y) (funext fun a => ?_)
  match a with | ⟨0, _⟩ => rfl | ⟨1, _⟩ => rfl | ⟨2, _⟩ => rfl | ⟨3, _⟩ => rfl

theorem v29_at : val_main_v29 (F := Ideal) x y (ix2 b f)
    = ((∑ h : Fin 16, ∑ e : Fin 64, (di (series x b (channel h e)) f * dr (series y b (channel h e)) f
        - dr (series x b (channel h e)) f * di (series y b (channel h e)) f) : ℝ) : EReal) := by
  rw [← coe_sum]
  refine (val_main_v29_apply x y _).trans ((zero_add_of hx hy _ _ rfl).trans (Finset.sum_congr rfl fun h _ => ?_))
  rw [← coe_sum]
  refine (val_main_v28_apply x y _).trans ((zero_add_of hx hy _ _ rfl).trans (Finset.sum_congr rfl fun e _ => ?_))
  rw [← v27_at hx hy b f h e]
  refine congrArg (val_main_v27 (F := Ideal) x y) (funext fun a => ?_)
  match a with | ⟨0, _⟩ => rfl | ⟨1, _⟩ => rfl | ⟨2, _⟩ => rfl | ⟨3, _⟩ => rfl

end

/-- A sum over channels, by heads. -/
theorem by_heads (g : Fin 1024 → ℝ) : ∑ h : Fin 16, ∑ e : Fin 64, g (channel h e) = ∑ n : Fin 1024, g n := by
  rw [← (finProdFinEquiv (m := 16) (n := 64)).sum_comp (fun n : Fin 1024 => g n), Fintype.sum_prod_type]
  refine Finset.sum_congr rfl fun h _ => Finset.sum_congr rfl fun e _ => congrArg g (Fin.ext ?_)
  show 64 * h.val + e.val = e.val + 64 * h.val
  omega

/-- And by the kernel's blocks. -/
theorem by_blocks (g : Fin 1024 → ℝ) : ∑ j : Fin 8, ∑ k : Fin 128, g (chan j k) = ∑ n : Fin 1024, g n := by
  rw [← (finProdFinEquiv (m := 8) (n := 128)).sum_comp (fun n : Fin 1024 => g n), Fintype.sum_prod_type]
  refine Finset.sum_congr rfl fun h _ => Finset.sum_congr rfl fun e _ => congrArg g (Fin.ext ?_)
  show 128 * h.val + e.val = e.val + 128 * h.val
  omega

theorem total_eq (p : (ℕ → ℝ) → (ℕ → ℝ) → ℕ → ℕ → ℝ) (x y : FVec Ideal S4x4096x16x64 .f32) (b : Fin 4) (a d : ℕ) :
    total p x y b a d = ∑ h : Fin 16, ∑ e : Fin 64, p (series x b (channel h e)) (series y b (channel h e)) a d := by
  rw [by_heads fun n => p (series x b n) (series y b n) a d, ← by_blocks, total, Finset.sum_range]
  exact Finset.sum_congr rfl fun j _ => part_eq p x y b j a d

/-- The frequency a row and a place stand for. -/
def freq (a : Fin 32) (d : Fin 128) : Fin 4096 := ⟨a.val + 32 * d.val, by omega⟩

section
variable {x y : FVec Ideal S4x4096x16x64 .f32} (hx : Numbers x) (hy : Numbers y) (b : Fin 4) (a : Fin 32) (d : Fin 128)

theorem place (i : S4x4096.Idx) (h0 : (i 0).val = ((b.val * 128 + d.val) * 32 + a.val) / 4096) (h1 : (i 1).val = ((b.val * 128 + d.val) * 32 + a.val) % 4096) :
    i = ix2 b (freq a d) := by
  refine (ValueIdx.eq_ix2 (n0 := 4) (n1 := 4096) i).trans (congrArg₂ ix2 (Fin.ext ?_) (Fin.ext ?_))
  · refine h0.trans ?_
    show _ = b.val
    omega
  · refine h1.trans ?_
    show _ = a.val + 32 * d.val
    omega

include hx hy

theorem result_re : val_main_v31 (F := Ideal) x y (ix3 b a d) = ((total pr x y b a d : ℝ) : EReal) := by
  rw [val_main_v31_apply, val_main_v30_apply, place b a d (idx_main_v30 (idx_main_v31 (ix3 b a d))) rfl rfl, v24_at hx hy, total_eq]
  rfl

theorem result_im : val_main_v33 (F := Ideal) x y (ix3 b a d) = ((total pim x y b a d : ℝ) : EReal) := by
  rw [val_main_v33_apply, val_main_v32_apply, place b a d (idx_main_v32 (idx_main_v33 (ix3 b a d))) rfl rfl, v29_at hx hy, total_eq]
  rfl

end

end Cert.CorrRefIdeal.Spectrum
-- ==== Proof.Corr.Finite.lean ====
/- What the precondition on queries and keys says of their entries: each is a real number. -/
module

public import proofs.«01_k».proof.Proof.Gen.Pre_finite
public import proofs.«01_k».proof.Proof.Corr.Tables
public import Idealize.ShloMosaic.Lib.ReduceAll

@[expose] public section

noncomputable section

namespace Cert.CorrProof

open Cert.CorrIdeal.Host (Numbers)
open Idealize.ShloMosaic

theorem top_word : Ideal.ofBits .f32 0x7F800000#32 = (⊤ : EReal) := by
  simp [Ideal.ofBits, Ideal.ieee]

/-- A value whose absolute value is below the top one is a number. -/
theorem number_of (x : EReal) (h : max x (-x) < ⊤) : x = (x.toReal : EReal) := by
  refine (EReal.coe_toReal ?_ ?_).symm
  · rintro rfl
    simp at h
  · rintro rfl
    simp at h

theorem andi_one : ∀ p q : BitVec 1, IntOp.andi p q = 1#1 → p = 1#1 ∧ q = 1#1 := by decide

/-- Arguments the predicate holds of have numbers for entries. -/
theorem numbers [Cert.Pre_finite.Facts] (x0 x1 : FVec Ideal Cert.Pre_finite.S4x4096x16x64 .f32)
    (h : Cert.Pre_finite.fn (F := Ideal) x0 x1 = fun _ => 1#1) : Numbers x0 ∧ Numbers x1 := by
  have e := congrFun h ValueIdx.ix0
  unfold Cert.Pre_finite.fn at e
  obtain ⟨e0, e1⟩ := andi_one _ _ e
  have key : ∀ a : EReal, BitVec.ofBool (decide (max a (-a) < Ideal.ofBits .f32 0x7F800000#32)) = 1#1 → a = (a.toReal : EReal) := by
    intro a ha
    rw [top_word] at ha
    by_cases hlt : max a (-a) < ⊤
    · exact number_of a hlt
    · rw [decide_eq_false hlt] at ha
      exact absurd ha (by decide)
  haveI : Subsingleton Cert.Pre_finite.S_.Idx := ⟨fun a b => funext fun d => d.elim0⟩
  exact ⟨fun i => key _ (Host.reduce_andi_all _ _ _ _ _ e0 i), fun i => key _ (Host.reduce_andi_all _ _ _ _ _ e1 i)⟩

end Cert.CorrProof
-- ==== Proof.Corr.Cert.lean ====
/- The claims about the correlation's spectrum. -/
module

public import proofs.«01_k».proof.Proof.Corr.Ref
public import proofs.«01_k».proof.Proof.Corr.Finite
public import proofs.«01_k».proof.Proof.Gen.Corr.Frame
public import proofs.«01_k».proof.Proof.Gen.CorrIdeal.Frame
public import proofs.«01_k».proof.Proof.Gen.CorrIdeal.Value
public import proofs.«01_k».proof.Proof.Gen.CorrRefIdeal.Run
public import proofs.«01_k».proof.Defs
public import Idealize.ShloMosaic.Lib.Quiescent

@[expose] public section

noncomputable section

namespace Cert.CorrProof

open Cert.Dft
open Cert.CorrIdeal.Host (Numbers)
open Cert.CorrIdeal.Tile (pr pim)
open Cert.CorrIdeal.Final (total)
open Idealize.ShloMosaic hiding ix1 ix2 ix3 ix4 ix5
open Idealize.ShloMosaic.TcCoe Idealize.ShloMosaic.ValueIdx Idealize.SL.Sem

/-- The kernel runs, keeps its arguments and ends quiescent. -/
theorem frame_bits : Cert.quiescent_Corr := fun m ρ _ => Cert.Corr.Gen.frame m ρ

/-- So does the kernel over the extended reals. -/
theorem frame_ideal : Cert.quiescent_CorrIdeal := fun m ρ _ => Cert.CorrIdeal.Gen.frame m ρ

/-- The reference runs from any memory, keeps its arguments and has no counters. -/
theorem frame_reference : Cert.quiescent_CorrRefIdeal := fun m ρ _ =>
  (θ_run Cert.CorrRefIdeal.defs _ _).mono (fun r h => ⟨fun c => (h c).2.2, sem_eq_zero_of_no_sems (by decide) r.2⟩)
    (Cert.CorrRefIdeal.Value.run (F := Ideal) m ρ)

/-- Kernel and reference compute the same spectrum. -/
theorem algebraic : Cert.algebraic_CorrIdeal_CorrRefIdeal_pre_finite := by
  intro m g m' g' hpre hargs
  have hn := fun c => numbers _ _ (hpre c)
  refine ⟨fun c => fun i : Cert.CorrIdeal.S4x32x128.Idx => ((total pr (Cert.CorrIdeal.Host.queries m c) (Cert.CorrIdeal.Host.keys m c) (i 0).val (i 1).val (i 2).val : ℝ) : EReal),
    fun c => fun i : Cert.CorrIdeal.S4x32x128.Idx => ((total pim (Cert.CorrIdeal.Host.queries m c) (Cert.CorrIdeal.Host.keys m c) (i 0).val (i 1).val (i 2).val : ℝ) : EReal), ?_, ?_⟩
  · refine (θ_run Cert.CorrIdeal.defs _ _).mono (fun r h c => ⟨(h c).1.trans ?_, (h c).2.1.trans ?_, (h c).2.2⟩)
      (Cert.CorrIdeal.Value.run_blocks m g)
    · exact Cert.CorrIdeal.Final.final8 m c (hn c).1 (hn c).2
    · exact Cert.CorrIdeal.Final.final9 m c (hn c).1 (hn c).2
  · refine (θ_run Cert.CorrRefIdeal.defs _ _).mono (fun r h c => ⟨(h c).1.trans ?_, (h c).2.1.trans ?_, (h c).2.2⟩)
      (Cert.CorrRefIdeal.Value.run (F := Ideal) m' g')
    · refine (Cert.CorrRefIdeal.Read.val_main_v31_eq _ _).trans ?_
      obtain ⟨h0, h1⟩ := hargs c
      rw [h0, h1]
      funext i
      refine (congrArg _ (ValueIdx.eq_ix3 (n0 := 4) (n1 := 32) (n2 := 128) i)).trans ?_
      exact Cert.CorrRefIdeal.Spectrum.result_re (hn c).1 (hn c).2 (i 0) (i 1) (i 2)
    · refine (Cert.CorrRefIdeal.Read.val_main_v33_eq _ _).trans ?_
      obtain ⟨h0, h1⟩ := hargs c
      rw [h0, h1]
      funext i
      refine (congrArg _ (ValueIdx.eq_ix3 (n0 := 4) (n1 := 32) (n2 := 128) i)).trans ?_
      exact Cert.CorrRefIdeal.Spectrum.result_im (hn c).1 (hn c).2 (i 0) (i 1) (i 2)

end Cert.CorrProof
-- ==== Proof.Select.Rounds.lean ====
/- The largest scores one after the other: each round takes the first position of the largest remaining score and
   strikes it out. The stable descending sort lists the same positions. -/
module

public import Idealize.ShloMosaic.Lib.SortPrefix
public import Mathlib.Data.EReal.Basic

@[expose] public section

namespace Cert.Rounds

open Idealize.ShloMosaic

/-- Position `p` holds the largest score, and is the first that does. -/
def IsBest (s : Fin 4096 → EReal) (p : Fin 4096) : Prop := (∀ q, s q ≤ s p) ∧ ∀ q, q < p → s q < s p

theorem exists_best (s : Fin 4096 → EReal) : ∃ p, IsBest s p := by
  classical
  obtain ⟨m, -, hm⟩ := Finset.exists_max_image Finset.univ s Finset.univ_nonempty
  have hne : (Finset.univ.filter fun q => s q = s m).Nonempty := ⟨m, by simp⟩
  have hmem := Finset.min'_mem _ hne
  have e : s (Finset.min' _ hne) = s m := (Finset.mem_filter.mp hmem).2
  refine ⟨Finset.min' _ hne, fun q => (hm q (Finset.mem_univ q)).trans (le_of_eq e.symm), fun q hq =>
    lt_of_le_of_ne ((hm q (Finset.mem_univ q)).trans (le_of_eq e.symm)) fun h => ?_⟩
  exact absurd (Finset.min'_le _ q (by simp [h.trans e])) (not_le.mpr hq)

noncomputable def best (s : Fin 4096 → EReal) : Fin 4096 := Classical.choose (exists_best s)

theorem best_spec (s : Fin 4096 → EReal) : IsBest s (best s) := Classical.choose_spec (exists_best s)

/-- The scores with position `p` struck out. -/
noncomputable def cut (s : Fin 4096 → EReal) (p : Fin 4096) : Fin 4096 → EReal := fun q => if q = p then ⊥ else s q

/-- The scores at the start of round `r`. -/
noncomputable def after (s : Fin 4096 → EReal) : ℕ → Fin 4096 → EReal
  | 0 => s
  | r + 1 => cut (after s r) (best (after s r))

/-- The position that round `r` takes. -/
noncomputable def pick (s : Fin 4096 → EReal) (r : ℕ) : Fin 4096 := best (after s r)

theorem after_of_new (s : Fin 4096 → EReal) (q : Fin 4096) : ∀ r, (∀ i < r, pick s i ≠ q) → after s r q = s q
  | 0, _ => rfl
  | r + 1, h => by
    show (if q = best (after s r) then ⊥ else after s r q) = _
    rw [if_neg fun e => h r (Nat.lt_succ_self r) e.symm]
    exact after_of_new s q r fun i hi => h i (Nat.lt_succ_of_lt hi)

theorem after_of_old (s : Fin 4096 → EReal) (q : Fin 4096) : ∀ r, (∃ i < r, pick s i = q) → after s r q = ⊥
  | 0, ⟨_, h, _⟩ => absurd h (Nat.not_lt_zero _)
  | r + 1, ⟨i, hi, e⟩ => by
    show (if q = best (after s r) then ⊥ else after s r q) = _
    split
    · rfl
    · rename_i hne
      refine after_of_old s q r ⟨i, lt_of_le_of_ne (Nat.le_of_lt_succ hi) ?_, e⟩
      rintro rfl
      exact hne e.symm

section
variable {s : Fin 4096 → EReal} (hs : ∀ q, ⊥ < s q)
include hs

/-- A round takes a position that none before it took. -/
theorem pick_new {r : ℕ} (hr : r < 4096) : ∀ i < r, pick s i ≠ pick s r := by
  intro i hi e
  have hb : after s r (pick s r) = ⊥ := after_of_old s _ r ⟨i, hi, e⟩
  obtain ⟨q, hq⟩ : ∃ q, q ∉ (Finset.range r).image (pick s) := by
    by_contra hall
    push Not at hall
    have h1 : (Finset.univ : Finset (Fin 4096)) ⊆ (Finset.range r).image (pick s) := fun q _ => hall q
    have h2 := (Finset.card_le_card h1).trans Finset.card_image_le
    rw [Finset.card_univ, Fintype.card_fin, Finset.card_range] at h2
    omega
  have hn : after s r q = s q := after_of_new s q r fun j hj e' => hq (Finset.mem_image.mpr ⟨j, Finset.mem_range.mpr hj, e'⟩)
  have hle := (best_spec (after s r)).1 q
  rw [hn] at hle
  exact absurd (lt_of_lt_of_le (hs q) (hle.trans (le_of_eq hb))) (lt_irrefl _)

/-- A position not taken before round `r` scores no more than what round `r` takes, and less if it comes earlier. -/
theorem pick_best {r : ℕ} (hr : r < 4096) (q : Fin 4096) (hq : ∀ i < r, pick s i ≠ q) :
    s q ≤ s (pick s r) ∧ (q < pick s r → s q < s (pick s r)) := by
  have e1 := after_of_new s q r hq
  have e2 := after_of_new s (pick s r) r (pick_new hs hr)
  have hb := best_spec (after s r)
  refine ⟨?_, fun h => ?_⟩
  · have := hb.1 q
    rw [e1] at this
    exact this.trans (le_of_eq e2)
  · have := hb.2 q h
    rw [e1] at this
    exact this.trans_le (le_of_eq e2)

end

/-- Positions in the order in which a stable sort leaves them, largest score first. -/
noncomputable def ahead (s : Fin 4096 → EReal) (p q : Fin 4096) : Bool :=
  (fun a b => decide (b < a)) (s p) (s q) || (decide (s p = s q) && decide (p < q))

theorem ahead_total (s : Fin 4096 → EReal) : StrictTotalBefore (ahead s) :=
  StrictTotalBefore.of_key_then_position (fun a b : EReal => decide (b < a)) s (fun a => by simp)
    (fun a b c h1 h2 => by simp only [decide_eq_true_eq] at *; exact h2.trans h1)
    (fun a b => by simp only [decide_eq_true_eq]; rcases lt_trichotomy b a with h | h | h <;> simp [h])

theorem ahead_false {s : Fin 4096 → EReal} {p q : Fin 4096} (h : s p ≤ s q) (h' : p < q → s p < s q) : ahead s p q = false := by
  unfold ahead
  simp only [Bool.or_eq_false_iff, Bool.and_eq_false_iff, decide_eq_false_iff_not, not_lt]
  refine ⟨h, ?_⟩
  by_cases e : s p = s q
  · exact Or.inr (not_lt.mp fun hpq => absurd e (h' hpq).ne)
  · exact Or.inl e

/-- The stable sort by score alone keeps equal scores in the order of their positions. -/
theorem stable_eq {n : ℕ} (B B' : Fin n → Fin n → Bool) (h : ∀ p q, p < q → B q p = B' q p) :
    ∀ l : List (Fin n), l.Pairwise (· < ·) → stableSort B l = stableSort B' l
  | [], _ => rfl
  | a :: l, hl => by
    rw [List.pairwise_cons] at hl
    show insertBefore B a (stableSort B l) = insertBefore B' a (stableSort B' l)
    rw [stable_eq B B' h l hl.2]
    exact insertBefore_congr _ _ a _ fun b hb => h a b (hl.1 b ((perm_stableSort B' l).mem_iff.mp hb))

theorem sortedFrom_eq {n : ℕ} (B B' : Fin n → Fin n → Bool) (h : ∀ p q, p < q → B q p = B' q p) (k : Fin n) :
    sortedFrom B k = sortedFrom B' k := by
  have e : sortPositions n B = sortPositions n B' := stable_eq B B' h _ (List.pairwise_lt_finRange n)
  unfold sortedFrom
  simp only [List.get_eq_getElem, e]
  rfl

/-- The first positions of the stable descending sort are the rounds' picks. -/
theorem sorted_pick {s : Fin 4096 → EReal} (hs : ∀ q, ⊥ < s q) {k : ℕ} (hk : k ≤ 4096) (B : Fin 4096 → Fin 4096 → Bool)
    (hB : ∀ p q, B p q = decide (s q < s p)) (r : Fin k) : sortedFrom B (r.castLE hk) = pick s r.val := by
  have hlt : ∀ i : Fin k, i.val < 4096 := fun i => lt_of_lt_of_le i.isLt hk
  rw [sortedFrom_eq B (ahead s) fun p q h => by
    rw [hB]; unfold ahead
    have : ¬ q < p := not_lt.mpr h.le
    simp [this]]
  refine (ahead_total s).sortedFrom_eq_of_prefix hk (fun r : Fin k => pick s r.val) ?_ ?_ ?_ r
  · intro i j e
    rcases lt_trichotomy i.val j.val with h | h | h
    · exact absurd e (pick_new hs (hlt j) i.val h)
    · exact Fin.ext h
    · exact absurd e.symm (pick_new hs (hlt i) j.val h)
  · intro i j hij
    have := pick_best hs (hlt i) (pick s j.val) fun a ha => pick_new hs (hlt j) a (ha.trans hij)
    exact ahead_false this.1 this.2
  · intro i p hp
    have := pick_best hs (hlt i) p fun a ha => hp ⟨a, ha.trans i.isLt⟩
    exact ahead_false this.1 this.2

end Cert.Rounds
-- ==== Proof.Select.Round.lean ====
/- One round of the selection on the vectors of the call: the largest score, the first position that holds it, the score
   struck out, the position and the four weights put in their lane. -/
module

public import proofs.«01_k».proof.Proof.Gen.SelectIdeal.Skeleton
public import proofs.«01_k».proof.Proof.Corr.Layout
public import proofs.«01_k».proof.Proof.Select.Rounds
public import Idealize.ShloMosaic.PureOps.Reduce
public import Idealize.ShloMosaic.Lib.ValueLayout
public import Idealize.ShloMosaic.Lib.ValueLayoutCasts

@[expose] public section

noncomputable section

namespace Cert.SelectIdeal.Round

open Cert.SelectIdeal Cert.SelectIdeal.Gen Cert.Rounds Cert.Dft
open Idealize.ShloMosaic Idealize.ShloMosaic.ValueIdx

/-- Row and place in one position. -/
abbrev pos (a : Fin 32) (b : Fin 128) : Fin 4096 := ⟨128 * a.val + b.val, by omega⟩

theorem pos_inj {a a' : Fin 32} {b b' : Fin 128} (h : pos a b = pos a' b') : a = a' ∧ b = b' := by
  have := congrArg Fin.val h
  simp only at this
  exact ⟨Fin.ext (by omega), Fin.ext (by omega)⟩

theorem exists_pos (q : Fin 4096) : ∃ a b, pos a b = q :=
  ⟨⟨q.val / 128, by omega⟩, ⟨q.val % 128, by omega⟩, Fin.ext (by simp only; omega)⟩

def topW (mm : FVec Ideal S32x128 .f32) : Ideal .f32 :=
  extractAt ![0, 0, 0] (shapeCast S1x1x1 (multiReduction (F := Ideal) .maximumf [1, 2] S1
    (shapeCast S1x32x128 mm shapeCasts_S32x128_S1x32x128) 0xFF800000#32 reduces_S1x32x128_S1 (.inl rfl) rfl)
    shapeCasts_S1_S1x1x1) inpos_S1x1x1_p0_0_0

def topMask (mm : FVec Ideal S32x128 .f32) : IVec S32x128 1 := cmpf .oeq mm (broadcast S32x128 (topW mm))

def leastCube (ti : IVec S32x128 32) (k : IVec S32x128 1) (c : BitVec 32) : IVec S1x1x1 32 :=
  shapeCast S1x1x1 (multiReductionI .minsi [1, 2] S1
    (shapeCast S1x32x128 (select k ti (broadcast S32x128 c)) shapeCasts_S32x128_S1x32x128) 2147483647#32
    reduces_S1x32x128_S1 rfl) shapeCasts_S1_S1x1x1

def least (ti : IVec S32x128 32) (k : IVec S32x128 1) (c : BitVec 32) : BitVec 32 :=
  extractAt ![0, 0, 0] (leastCube ti k c) inpos_S1x1x1_p0_0_0

def cutV (ti : IVec S32x128 32) (x : IVec S32x128 32) (mm : FVec Ideal S32x128 .f32) : FVec Ideal S32x128 .f32 :=
  select (cmpi .eq ti x) (broadcast S32x128 (Scalar.ofBits (F := Ideal) .f32 0xFF800000#32)) mm

def putI (lane : IVec S1x8 32) (i x : BitVec 32) (idxs : IVec S1x8 32) : IVec S1x8 32 :=
  select (cmpi .eq lane (broadcast S1x8 i)) (broadcast S1x8 x) idxs

def hitV (m : FVec Ideal S4x32x128 .f32) (ti : IVec S32x128 32) (x : BitVec 32) : FVec Ideal S4x32x128 .f32 :=
  mulf m (broadcastTo S4x32x128 (shapeCast S1x32x128 (sitofp (F := Ideal) .f32
    (extui 32 (cmpi .eq ti (broadcast S32x128 x)) natLt_1_32)) shapeCasts_S32x128_S1x32x128) broadcasts_S1x32x128_S4x32x128)

def laneMask (lane : IVec S1x8 32) (i : BitVec 32) : IVec S4x8 1 :=
  broadcastTo S4x8 (shapeCast S1x8 (cmpi .eq lane (broadcast S1x8 i)) shapeCasts_S1x8_S1x8) broadcasts_S1x8_S4x8

def spreadW (g : FVec Ideal S4x32x128 .f32) : FVec Ideal S4x8 .f32 :=
  broadcastTo S4x8 (shapeCast S4x1 (shapeCast S4x1 (multiReduction (F := Ideal) .add [1, 2] S4 g 0x00000000#32
    reduces_S4x32x128_S4 (.inl rfl) rfl) shapeCasts_S4_S4x1) shapeCasts_S4x1_S4x1) broadcasts_S4x1_S4x8

def putW (lane : IVec S1x8 32) (i : BitVec 32) (g : FVec Ideal S4x32x128 .f32) (ws : FVec Ideal S4x8 .f32) : FVec Ideal S4x8 .f32 :=
  select (laneMask lane i) (spreadW g) ws

/-- The vector of positions. -/
def Pos (ti : IVec S32x128 32) : Prop := ∀ a b, ti (ix2 a b) = BitVec.ofNat 32 (128 * a.val + b.val)

/-- The vector holds these scores. -/
def Scores (mm : FVec Ideal S32x128 .f32) (s : Fin 4096 → EReal) : Prop := ∀ a b, mm (ix2 a b) = s (pos a b)

theorem bottom : Ideal.ofBits .f32 0xFF800000#32 = (⊥ : EReal) := by simp [Ideal.ofBits, Ideal.ieee]

theorem cube_read {α : Type} (x : S1.Idx → α) (h : S1.ShapeCasts S1x1x1) (k : S1x1x1.Idx) : shapeCast S1x1x1 x h k = x (ix1 (0 : Fin 1)) := by
  obtain ⟨a, b, c, rfl⟩ : ∃ a b c, k = ix3 a b c := ⟨k 0, k 1, k 2, eq_ix3 k⟩
  refine shapeCast_apply _ h _ _ ?_
  rw [Shape.rowMajor_val_three, Shape.rowMajor_val_one]
  have h0 : a.val < 1 := a.isLt
  have h1 : b.val < 1 := b.isLt
  have h2 : c.val < 1 := c.isLt
  show 0 = (a.val * 1 + b.val) * 1 + c.val
  omega

theorem mem_all (i : S1x32x128.Idx) : i ∈ Finset.univ.filter fun i : S1x32x128.Idx => reduces_S1x32x128_S1.drop i = ix1 (0 : Fin 1) := by
  refine Finset.mem_filter.mpr ⟨Finset.mem_univ _, funext fun b => Fin.ext ?_⟩
  have h1 := (reduces_S1x32x128_S1.drop i b).isLt
  have h2 := ((ix1 (0 : Fin 1) : S1.Idx) b).isLt
  match b with
  | ⟨0, _⟩ => change _ < 1 at h1; change _ < 1 at h2; omega

theorem flat_at {α : Type} (x : S32x128.Idx → α) (i : S1x32x128.Idx) :
    shapeCast S1x32x128 x shapeCasts_S32x128_S1x32x128 i = x (ix2 (i 1) (i 2)) := by
  refine shapeCast_apply _ _ _ _ ?_
  rw [Shape.rowMajor_val_three, Shape.rowMajor_val_two]
  have h0 := (i 0).isLt
  change (i 0).val < 1 at h0
  show (i 1).val * 128 + (i 2).val = ((i 0).val * 32 + (i 1).val) * 128 + (i 2).val
  omega

theorem topW_eq {mm : FVec Ideal S32x128 .f32} {s : Fin 4096 → EReal} (h : Scores mm s) : topW mm = s (best s) := by
  unfold topW extractAt
  refine (cube_read _ _ _).trans ?_
  refine (multiReduction_maximumf_eq_fold _ _ _ _ _ _).trans ?_
  refine le_antisymm ?_ ?_
  · refine Finset.fold_max_le (c := (s (best s) : EReal)) |>.mpr ⟨?_, fun i _ => ?_⟩
    · exact (le_of_eq bottom).trans bot_le
    · rw [flat_at]; exact (le_of_eq (h _ _)).trans ((best_spec s).1 _)
  · obtain ⟨a, b, e⟩ := exists_pos (best s)
    refine Finset.le_fold_max (c := (s (best s) : EReal)) |>.mpr (Or.inr ⟨ix3 (0 : Fin 1) a b, mem_all _, ?_⟩)
    rw [flat_at]
    exact le_of_eq ((congrArg s e).symm.trans (h a b).symm)

theorem topMask_at (mm : FVec Ideal S32x128 .f32) (i : S32x128.Idx) : topMask mm i = Ideal.cmp .oeq (mm i) (topW mm) := by
  unfold topMask
  generalize topW mm = t
  rfl

theorem toInt_small {n : ℕ} (h : n ≤ 4096) : (BitVec.ofNat 32 n).toInt = n := by
  rw [BitVec.toInt_eq_toNat_cond, BitVec.toNat_ofNat]
  have : n % 2 ^ 32 = n := Nat.mod_eq_of_lt (by omega)
  rw [this, if_pos (by omega)]

theorem le_minsi (x y z : BitVec 32) : x.toInt ≤ (IntOp.minsi y z).toInt ↔ x.toInt ≤ y.toInt ∧ x.toInt ≤ z.toInt := by
  unfold IntOp.minsi
  by_cases h : y.slt z = true
  · rw [if_pos h]; have := BitVec.slt_iff_toInt_lt.mp h; omega
  · rw [if_neg h]; have : ¬ (y.toInt < z.toInt) := fun h' => h (BitVec.slt_iff_toInt_lt.mpr h'); omega

theorem minsi_le (x y z : BitVec 32) : (IntOp.minsi y z).toInt ≤ x.toInt ↔ y.toInt ≤ x.toInt ∨ z.toInt ≤ x.toInt := by
  unfold IntOp.minsi
  by_cases h : y.slt z = true
  · rw [if_pos h]; have := BitVec.slt_iff_toInt_lt.mp h; omega
  · rw [if_neg h]; have : ¬ (y.toInt < z.toInt) := fun h' => h (BitVec.slt_iff_toInt_lt.mpr h'); omega

theorem least_eq {ti : IVec S32x128 32} (ht : Pos ti) {mm : FVec Ideal S32x128 .f32} {s : Fin 4096 → EReal} (h : Scores mm s) :
    least ti (topMask mm) 4096#32 = BitVec.ofNat 32 (best s).val := by
  have hmask : ∀ a b, select (topMask mm) ti (broadcast S32x128 4096#32) (ix2 a b)
      = if s (pos a b) = s (best s) then BitVec.ofNat 32 (128 * a.val + b.val) else 4096#32 := by
    intro a b
    show Scalar.select (topMask mm (ix2 a b)) (ti (ix2 a b)) (4096#32) = _
    rw [topMask_at, topW_eq h, h a b, ht a b]
    unfold Scalar.select Ideal.cmp
    by_cases e : s (pos a b) = s (best s) <;> simp [e]
  unfold least extractAt leastCube
  refine (cube_read _ _ _).trans ?_
  refine (multiReductionI_eq_fold _ _ _ _ _ _).trans ?_
  show Finset.fold IntOp.minsi _ _ _ = _
  refine BitVec.eq_of_toInt_eq (le_antisymm ?_ ?_)
  · refine (Finset.fold_op_rel_iff_or (op := IntOp.minsi) (r := fun x y : BitVec 32 => y.toInt ≤ x.toInt)
      (fun {x y z} => minsi_le x y z)).mpr (Or.inr ?_)
    obtain ⟨a, b, e⟩ := exists_pos (best s)
    refine ⟨ix3 (0 : Fin 1) a b, mem_all _, ?_⟩
    rw [flat_at]
    refine (congrArg BitVec.toInt (hmask a b)).le.trans ?_
    rw [if_pos (congrArg s e), ← e]
  · refine (Finset.fold_op_rel_iff_and (op := IntOp.minsi) (r := fun x y : BitVec 32 => x.toInt ≤ y.toInt)
      (fun {x y z} => le_minsi x y z)).mpr ⟨?_, fun i _ => ?_⟩
    · rw [toInt_small (best s).isLt.le]
      have := (best s).isLt
      show ((best s).val : ℤ) ≤ 2147483647
      omega
    · rw [flat_at]
      refine le_trans ?_ (congrArg BitVec.toInt (hmask (i 1) (i 2))).ge
      rw [toInt_small (best s).isLt.le]
      split
      · rename_i e
        have h1 := (i 1).isLt; have h2 := (i 2).isLt
        change (i 1).val < 32 at h1; change (i 2).val < 128 at h2
        rw [toInt_small (by omega)]
        by_contra hlt
        have : pos (i 1) (i 2) < best s := Fin.lt_def.mpr (by show 128 * (i 1).val + (i 2).val < _; omega)
        exact absurd e ((best_spec s).2 _ this).ne
      · have := (best s).isLt
        show ((best s).val : ℤ) ≤ 4096
        omega

theorem eq_word {p q : Fin 4096} : (BitVec.ofNat 32 p.val == BitVec.ofNat 32 q.val) = decide (p = q) := by
  by_cases h : p = q
  · subst h; simp
  · have hp := p.isLt; have hq := q.isLt
    have : ¬ BitVec.ofNat 32 p.val = BitVec.ofNat 32 q.val := fun e => h (Fin.ext (by
      have := congrArg BitVec.toNat e
      rw [BitVec.toNat_ofNat, BitVec.toNat_ofNat, Nat.mod_eq_of_lt (by omega), Nat.mod_eq_of_lt (by omega)] at this
      exact this))
    simp [h, this]

theorem cut_scores {ti : IVec S32x128 32} (ht : Pos ti) {mm : FVec Ideal S32x128 .f32} {s : Fin 4096 → EReal} (h : Scores mm s)
    (q : Fin 4096) : Scores (cutV ti (broadcast S32x128 (BitVec.ofNat 32 q.val)) mm) (cut s q) := by
  intro a b
  show Scalar.select (BitVec.ofBool (ti (ix2 a b) == BitVec.ofNat 32 q.val)) (Ideal.ofBits .f32 0xFF800000#32) (mm (ix2 a b)) = _
  rw [ht a b, h a b, eq_word (p := pos a b) (q := q), bottom]
  unfold Scalar.select cut
  by_cases e : pos a b = q <;> simp [e]

/-- The lanes counted from zero. -/
def Lanes (lane : IVec S1x8 32) : Prop := ∀ i : Fin 8, lane (ix2 (0 : Fin 1) i) = BitVec.ofNat 32 i.val

theorem eq_lane (i j : Fin 8) : (BitVec.ofNat 32 i.val == BitVec.ofNat 32 j.val) = decide (i = j) := by
  revert i j; decide +kernel

theorem putI_at {lane : IVec S1x8 32} (hl : Lanes lane) (j : Fin 8) (x : BitVec 32) (idxs : IVec S1x8 32) (i : Fin 8) :
    putI lane (BitVec.ofNat 32 j.val) x idxs (ix2 (0 : Fin 1) i) = if i = j then x else idxs (ix2 (0 : Fin 1) i) := by
  show Scalar.select (BitVec.ofBool (lane (ix2 (0 : Fin 1) i) == BitVec.ofNat 32 j.val)) x (idxs (ix2 (0 : Fin 1) i)) = _
  rw [hl, eq_lane]
  unfold Scalar.select
  by_cases e : i = j <;> simp [e]

/-- The maps hold these real numbers. -/
def Maps (m : FVec Ideal S4x32x128 .f32) (M : Fin 4 → Fin 4096 → ℝ) : Prop := ∀ c a b, m (ix3 c a b) = ((M c (pos a b) : ℝ) : EReal)

theorem hit_at {m : FVec Ideal S4x32x128 .f32} {M : Fin 4 → Fin 4096 → ℝ} (hm : Maps m M) {ti : IVec S32x128 32} (ht : Pos ti)
    (q : Fin 4096) (c : Fin 4) (a : Fin 32) (b : Fin 128) :
    hitV m ti (BitVec.ofNat 32 q.val) (ix3 c a b) = if pos a b = q then ((M c q : ℝ) : EReal) else 0 := by
  have e1 : broadcastTo S4x32x128 (shapeCast S1x32x128 (sitofp (F := Ideal) .f32
      (extui 32 (cmpi .eq ti (broadcast S32x128 (BitVec.ofNat 32 q.val))) natLt_1_32)) shapeCasts_S32x128_S1x32x128) broadcasts_S1x32x128_S4x32x128
      (ix3 c a b) = if pos a b = q then (1 : EReal) else 0 := by
    refine (broadcastTo_apply _ _ _ (ix3 (0 : Fin 1) a b) ?_).trans ((lead_read _ _ a b).trans ?_)
    · intro k
      match k with
      | ⟨0, _⟩ => rfl
      | ⟨1, _⟩ => rfl
      | ⟨2, _⟩ => rfl
    · show ((((BitVec.ofBool (ti (ix2 a b) == BitVec.ofNat 32 q.val)).setWidth 32).toInt : ℝ) : EReal) = _
      rw [ht a b, eq_word (p := pos a b) (q := q)]
      by_cases e : pos a b = q <;> simp [e]
  show m (ix3 c a b) * _ = _
  rw [e1, hm]
  by_cases e : pos a b = q
  · rw [if_pos e, if_pos e, mul_one, e]
  · rw [if_neg e, if_neg e, mul_zero]

theorem drop_val (i : S4x32x128.Idx) : (reduces_S4x32x128_S4.drop i (0 : Fin 1)).val = (i 0).val :=
  reduces_S4x32x128_S4.drop_apply_val_of_eq i 0 0 (by decide)

theorem weight_at {g : FVec Ideal S4x32x128 .f32} {q : Fin 4096} {W : Fin 4 → ℝ}
    (hg : ∀ c a b, g (ix3 c a b) = if pos a b = q then ((W c : ℝ) : EReal) else 0) (c : Fin 4) (i : Fin 8) :
    spreadW g (ix2 c i) = ((W c : ℝ) : EReal) := by
  unfold spreadW
  refine (broadcastTo_apply _ _ _ (ix2 c (0 : Fin 1)) ?_).trans ?_
  · intro k
    match k with
    | ⟨0, _⟩ => rfl
    | ⟨1, _⟩ => rfl
  rw [self_read]
  refine (shapeCast_apply _ _ _ (ix1 c) ?_).trans ?_
  · rw [Shape.rowMajor_val_one, Shape.rowMajor_val_two]; show c.val = c.val * 1 + 0; omega
  show (∑ i ∈ Finset.univ.filter (fun i : S4x32x128.Idx => reduces_S4x32x128_S4.drop i = ix1 c), g i : EReal) = _
  obtain ⟨a, b, e⟩ := exists_pos q
  have hd := drop_val
  rw [Finset.sum_eq_single (ix3 c a b)]
  · rw [hg, if_pos e]
  · intro j hj hne
    obtain ⟨c', a', b', rfl⟩ : ∃ c' a' b', j = ix3 c' a' b' := ⟨j 0, j 1, j 2, eq_ix3 j⟩
    have hj' := congrArg (fun f : S4.Idx => (f (0 : Fin 1)).val) (Finset.mem_filter.mp hj).2
    have h0 : c' = c := Fin.ext ((hd (ix3 c' a' b')).symm.trans hj')
    refine (hg c' a' b').trans (if_neg fun e' => hne ?_)
    obtain ⟨e1, e2⟩ := pos_inj (e'.trans e.symm)
    rw [h0, e1, e2]
  · intro hn
    refine absurd (Finset.mem_filter.mpr ⟨Finset.mem_univ _, ?_⟩) hn
    exact funext fun k => Fin.ext (by
      match k with
      | ⟨0, _⟩ => exact hd (ix3 c a b))

theorem putW_at {lane : IVec S1x8 32} (hl : Lanes lane) (j : Fin 8) (g : FVec Ideal S4x32x128 .f32) (ws : FVec Ideal S4x8 .f32)
    (c : Fin 4) (i : Fin 8) :
    putW lane (BitVec.ofNat 32 j.val) g ws (ix2 c i) = if i = j then spreadW g (ix2 c i) else ws (ix2 c i) := by
  have e : laneMask lane (BitVec.ofNat 32 j.val) (ix2 c i) = BitVec.ofBool (decide (i = j)) := by
    unfold laneMask
    refine (broadcastTo_apply _ _ _ (ix2 (0 : Fin 1) i) ?_).trans ?_
    · intro k
      match k with
      | ⟨0, _⟩ => rfl
      | ⟨1, _⟩ => rfl
    rw [self_read]
    show BitVec.ofBool (lane (ix2 (0 : Fin 1) i) == BitVec.ofNat 32 j.val) = _
    rw [hl, eq_lane]
  show Scalar.select (laneMask lane (BitVec.ofNat 32 j.val) (ix2 c i)) (spreadW g (ix2 c i)) (ws (ix2 c i)) = _
  rw [e]
  unfold Scalar.select
  by_cases h : i = j <;> simp [h]

end Cert.SelectIdeal.Round
-- ==== Proof.Select.Chain.lean ====
/- The eight rounds as the call runs them, and the normalisation of the weights at the end. -/
module

public import proofs.«01_k».proof.Proof.Select.Round
public import proofs.«01_k».proof.Proof.Gen.SelectIdeal.Frame

@[expose] public section

noncomputable section

namespace Cert.SelectIdeal.Round

open Cert.SelectIdeal Cert.SelectIdeal.Gen Cert.Rounds Cert.Dft
open Idealize.ShloMosaic Idealize.ShloMosaic.ValueIdx

/-- The position a round takes from the scores `mm`. -/
abbrev word (ti : IVec S32x128 32) (mm : FVec Ideal S32x128 .f32) : BitVec 32 := least ti (topMask mm) 4096#32

/-- The scores a round leaves. -/
def next (ti : IVec S32x128 32) (mm : FVec Ideal S32x128 .f32) : FVec Ideal S32x128 .f32 :=
  cutV ti (broadcast S32x128 (word ti mm)) mm

/-- The lanes' numbers. -/
abbrev lanes : IVec S1x8 32 := iota .tc S1x8 32 [1] iota_S1x8_d1_w32

theorem lanes_at : Lanes lanes := by
  intro i; revert i; decide +kernel

theorem p16 (mm : FVec Ideal S32x128 .f32) (v82 : IVec S32x128 32) :
    k0_pay16 (F := Ideal) mm v82 128#32 = next (k0_pay15 v82 128#32) mm := rfl

theorem p17 (mm : FVec Ideal S32x128 .f32) (v82 : IVec S32x128 32) :
    k0_pay17 (F := Ideal) mm v82 128#32 = putI lanes 0#32 (word (k0_pay15 v82 128#32) mm) (broadcast S1x8 0#32) := rfl

theorem p18 (m : FVec Ideal S4x32x128 .f32) (mm : FVec Ideal S32x128 .f32) (v82 : IVec S32x128 32) :
    k0_pay18 (F := Ideal) m mm v82 128#32 = putW lanes 0#32 (hitV m (k0_pay15 v82 128#32) (word (k0_pay15 v82 128#32) mm))
      (broadcast S4x8 (Scalar.ofBits (F := Ideal) .f32 0x00000000#32)) := rfl

theorem p19 (mm : FVec Ideal S32x128 .f32) (v82 : IVec S32x128 32) :
    k0_pay19 (F := Ideal) mm v82 128#32 = topMask (next (k0_pay15 v82 128#32) mm) := rfl

section
variable (m : FVec Ideal S4x32x128 .f32) (ti : IVec S32x128 32) (lane : IVec S1x8 32) (mm : FVec Ideal S32x128 .f32)
  (idxs : IVec S1x8 32) (ws : FVec Ideal S4x8 .f32) (x : BitVec 32)

theorem p20 : k0_pay20 (F := Ideal) ti mm (topMask mm) 4096#32 = next ti mm := rfl

theorem p21 : k0_pay21 (F := Ideal) m ti lane ws (topMask mm) 4096#32 = putW lane 1#32 (hitV m ti (word ti mm)) ws := rfl

theorem p22 : k0_pay22 (F := Ideal) ti mm (topMask mm) 4096#32 = leastCube ti (topMask (next ti mm)) 4096#32 := rfl

theorem p22' (k : IVec S32x128 1) : extractAt ![0, 0, 0] (leastCube ti k 4096#32) inpos_S1x1x1_p0_0_0 = least ti k 4096#32 := rfl

theorem p23 : k0_pay23 (F := Ideal) ti mm (topMask mm) 4096#32 = next ti (next ti mm) := rfl

theorem p24 : k0_pay24 (F := Ideal) ti lane mm idxs (topMask mm) 4096#32
    = putI lane 2#32 (word ti (next ti mm)) (putI lane 1#32 (word ti mm) idxs) := rfl

theorem p25 : k0_pay25 (F := Ideal) m ti lane ws x = putW lane 2#32 (hitV m ti x) ws := rfl

theorem p26 : k0_pay26 (F := Ideal) ti mm = next ti mm := rfl

theorem p27 : k0_pay27 (F := Ideal) ti lane mm idxs = putI lane 3#32 (word ti mm) idxs := rfl

theorem p28 : k0_pay28 lane = laneMask lane 3#32 := rfl

theorem p29 : k0_pay29 (F := Ideal) m ti mm = spreadW (hitV m ti (word ti mm)) := rfl

theorem p30 : k0_pay30 (F := Ideal) ti mm = next ti mm := rfl

theorem p31 : k0_pay31 (F := Ideal) ti lane mm idxs = putI lane 4#32 (word ti mm) idxs := rfl

theorem p32 (g : FVec Ideal S4x32x128 .f32) : k0_pay32 (F := Ideal) m ti lane ws mm (laneMask lane 3#32) (spreadW g)
    = putW lane 4#32 (hitV m ti (word ti mm)) (putW lane 3#32 g ws) := rfl

theorem p33 : k0_pay33 (F := Ideal) ti mm = leastCube ti (topMask (next ti mm)) 4096#32 := rfl

theorem p34 : k0_pay34 (F := Ideal) ti mm = broadcast S32x128 (word ti (next ti mm)) := rfl

theorem p36 : k0_pay36 (F := Ideal) m ti lane ws x = putW lane 5#32 (hitV m ti x) ws := rfl

theorem p37 : k0_pay37 (F := Ideal) ti mm (broadcast S32x128 (word ti mm)) = next ti (next ti mm) := rfl

theorem p38 : k0_pay38 (F := Ideal) ti lane mm idxs x (broadcast S32x128 (word ti mm))
    = putI lane 6#32 (word ti (next ti mm)) (putI lane 5#32 x idxs) := rfl

theorem p39 : k0_pay39 (F := Ideal) m ti mm (broadcast S32x128 (word ti mm)) = hitV m ti (word ti (next ti mm)) := rfl

theorem p40 : k0_pay40 (F := Ideal) ti lane mm idxs = putI lane 7#32 (word ti mm) idxs := rfl

/-- Each row of weights divided into shares: exponentials of the distances from the largest, over their sum. -/
def shareV (ws : FVec Ideal S4x8 .f32) : FVec Ideal S4x8 .f32 :=
  have e : FVec Ideal S4x8 .f32 := exp (subf ws (broadcastTo S4x8 (shapeCast S4x1
    (multiReduction (F := Ideal) .maximumf [1] S4 ws 0xFF800000#32 reduces_S4x8_S4 (.inl rfl) rfl) shapeCasts_S4_S4x1) broadcasts_S4x1_S4x8))
  divf e (broadcastTo S4x8 (shapeCast S4x1
    (multiReduction (F := Ideal) .add [1] S4 e 0x00000000#32 reduces_S4x8_S4 (.inl rfl) rfl) shapeCasts_S4_S4x1) broadcasts_S4x1_S4x8)

theorem p41 (g : FVec Ideal S4x32x128 .f32) : k0_pay41 (F := Ideal) m ti lane ws mm g
    = shareV (putW lane 7#32 (hitV m ti (word ti mm)) (putW lane 6#32 g ws)) := rfl

/-- The scores at the start of round `r`. -/
def mmv : ℕ → FVec Ideal S32x128 .f32
  | 0 => mm
  | r + 1 => next ti (mmv r)

/-- The positions after `r` rounds. -/
def idv : ℕ → IVec S1x8 32
  | 0 => broadcast S1x8 0#32
  | r + 1 => putI lanes (BitVec.ofNat 32 r) (word ti (mmv ti mm r)) (idv r)

/-- The weights after `r` rounds. -/
def wv : ℕ → FVec Ideal S4x8 .f32
  | 0 => broadcast S4x8 (Scalar.ofBits (F := Ideal) .f32 0x00000000#32)
  | r + 1 => putW lanes (BitVec.ofNat 32 r) (hitV m ti (word ti (mmv ti mm r))) (wv r)

theorem mmv_zero : mmv ti mm 0 = mm := (rfl)
theorem mmv_succ (r : ℕ) : mmv ti mm (r + 1) = next ti (mmv ti mm r) := (rfl)
theorem idv_zero : idv ti mm 0 = broadcast S1x8 0#32 := (rfl)
theorem idv_succ (r : ℕ) : idv ti mm (r + 1) = putI lanes (BitVec.ofNat 32 r) (word ti (mmv ti mm r)) (idv ti mm r) := (rfl)
theorem wv_zero : wv m ti mm 0 = broadcast S4x8 (Scalar.ofBits (F := Ideal) .f32 0x00000000#32) := (rfl)
theorem wv_succ (r : ℕ) : wv m ti mm (r + 1) = putW lanes (BitVec.ofNat 32 r) (hitV m ti (word ti (mmv ti mm r))) (wv m ti mm r) := (rfl)
theorem after_succ (s : Fin 4096 → EReal) (r : ℕ) : after s (r + 1) = cut (after s r) (best (after s r)) := (rfl)

end

section
variable {ti : IVec S32x128 32} (ht : Pos ti) {mm : FVec Ideal S32x128 .f32} {s : Fin 4096 → EReal} (h : Scores mm s)
include ht h

theorem next_scores : Scores (next ti mm) (cut s (best s)) := by
  unfold next
  rw [word, least_eq ht h]
  exact cut_scores ht h _

theorem mmv_scores (r : ℕ) : Scores (mmv ti mm r) (after s r) := by
  induction r with
  | zero => exact h
  | succ r ih =>
    rw [mmv_succ, after_succ]
    exact next_scores ht ih

theorem word_pick (r : ℕ) : word ti (mmv ti mm r) = BitVec.ofNat 32 (pick s r).val := least_eq ht (mmv_scores ht h r)

theorem idv_at (i : Fin 8) : ∀ r, i.val < r → r ≤ 8 → idv ti mm r (ix2 (0 : Fin 1) i) = BitVec.ofNat 32 (pick s i.val).val
  | 0, hi, _ => absurd hi (Nat.not_lt_zero _)
  | r + 1, hi, hr => by
    refine (putI_at lanes_at (⟨r, hr⟩ : Fin 8) _ _ i).trans ?_
    by_cases e : i = ⟨r, hr⟩
    · rw [if_pos e, word_pick ht h]; subst e; rfl
    · rw [if_neg e]
      exact idv_at i r (lt_of_le_of_ne (Nat.le_of_lt_succ hi) fun e' => e (Fin.ext e')) (Nat.le_of_succ_le hr)

theorem wv_at {m : FVec Ideal S4x32x128 .f32} {M : Fin 4 → Fin 4096 → ℝ} (hm : Maps m M) (c : Fin 4) (i : Fin 8) :
    ∀ r, i.val < r → r ≤ 8 → wv m ti mm r (ix2 c i) = ((M c (pick s i.val) : ℝ) : EReal)
  | 0, hi, _ => absurd hi (Nat.not_lt_zero _)
  | r + 1, hi, hr => by
    refine (putW_at lanes_at (⟨r, hr⟩ : Fin 8) _ _ c i).trans ?_
    by_cases e : i = ⟨r, hr⟩
    · rw [if_pos e, word_pick ht h]
      subst e
      exact weight_at (q := pick s r) (W := fun c => M c (pick s r)) (fun c a b => hit_at hm ht (pick s r) c a b) c _
    · rw [if_neg e]
      exact wv_at hm c i r (lt_of_le_of_ne (Nat.le_of_lt_succ hi) fun e' => e (Fin.ext e')) (Nat.le_of_succ_le hr)

end

/-- The position of a row and a place, as the call writes it. -/
abbrev posV : IVec S32x128 32 := k0_pay15 (iota .tc S32x128 32 [0] iota_S32x128_d0_w32) 128#32

theorem posV_at : Pos posV := by
  intro a b
  show IntOp.addi (IntOp.muli (iota .tc S32x128 32 [0] iota_S32x128_d0_w32 (ix2 a b)) 128#32) (iota .tc S32x128 32 [1] iota_S32x128_d1_w32 (ix2 a b)) = _
  have e0 : iota .tc S32x128 32 [0] iota_S32x128_d0_w32 (ix2 a b) = BitVec.ofNat 32 a.val := by
    unfold iota; simp
  have e1 : iota .tc S32x128 32 [1] iota_S32x128_d1_w32 (ix2 a b) = BitVec.ofNat 32 b.val := by
    unfold iota; simp
  rw [e0, e1]
  show BitVec.ofNat 32 a.val * 128#32 + BitVec.ofNat 32 b.val = _
  apply BitVec.eq_of_toNat_eq
  have ha := a.isLt; have hb := b.isLt
  simp only [BitVec.toNat_add, BitVec.toNat_mul, BitVec.toNat_ofNat]
  omega

variable (x0 x1 : Vec Ideal S32x32 .f32) (x2 x3 : Vec Ideal S128x128 .f32) (x4 x5 : Vec Ideal S32x128 .f32) (x6 x7 : Vec Ideal S4x32x128 .f32)

/-- The positions the call stores. -/
theorem out_positions : out0_8 (F := Ideal) x0 x1 x2 x3 x4 x5 x6 x7
    = View.canon ([⟨r0_4, idv posV (k0_pay48 (F := Ideal) x0 x1 x2 x3 x4 x5 x6 x7) 8⟩] : List (View.Piece (Elt Ideal) S1x8 .i32)) := by
  unfold out0_8 k0_pay57 k0_pay56 k0_pay55 k0_pay54 k0_pay53 k0_pay52 k0_pay51 k0_pay50 k0_pay49 k0_pay46
  generalize k0_pay48 (F := Ideal) x0 x1 x2 x3 x4 x5 x6 x7 = mm
  simp only [p16, p17, p19, p20, p22, p22', p23, p24, p26, p27, p30, p31, p33, p34, p37, p38, p40, idv_succ, mmv_succ, idv_zero, mmv_zero]

/-- The shares the call stores. -/
theorem out_shares : out0_9 (F := Ideal) x0 x1 x2 x3 x4 x5 x6 x7
    = View.canon ([⟨r0_5, shareV (wv (k0_pay47 (F := Ideal) x0 x1 x2 x3 x4 x5 x6 x7) posV (k0_pay48 (F := Ideal) x0 x1 x2 x3 x4 x5 x6 x7) 8)⟩] : List (View.Piece (Elt Ideal) S4x8 .f32)) := by
  unfold out0_9 k0_pay57 k0_pay56 k0_pay55 k0_pay54 k0_pay53 k0_pay52 k0_pay51 k0_pay50 k0_pay49 k0_pay46
  generalize k0_pay48 (F := Ideal) x0 x1 x2 x3 x4 x5 x6 x7 = mm
  generalize k0_pay47 (F := Ideal) x0 x1 x2 x3 x4 x5 x6 x7 = m
  simp only [p16, p18, p19, p20, p21, p22, p22', p23, p25, p26, p28, p29, p30, p32, p33, p34, p36, p37, p39, p41, wv_succ, mmv_succ, wv_zero, mmv_zero]

end Cert.SelectIdeal.Round
-- ==== Proof.Select.Inverse.lean ====
/- The inverse transform of length 4096 in two steps, over the reals: 128 short transforms, a rotation, 32 short
   transforms, of which only the real part is kept. -/
module

public import proofs.«01_k».proof.Proof.Corr.Dft

@[expose] public section

namespace Cert.Dft

open Finset ComplexConjugate

noncomputable section

/-- What the definition gives at time `t` for the spectrum with these real and imaginary parts. -/
def back (R I : ℕ → ℝ) (t : ℕ) : ℝ :=
  ∑ f : Fin 4096, R f * Real.cos (((f * t % 4096 : ℕ) : ℝ) * (2 * Real.pi / 4096))
    - ∑ f : Fin 4096, I f * Real.sin (((f * t % 4096 : ℕ) : ℝ) * (2 * Real.pi / 4096))

/-- The first short transforms, of the spectrum with frequency `c + 32 d` at row `c` and place `d`. -/
def ar (R I : ℕ → ℝ) (c b : ℕ) : ℝ :=
  ∑ d : Fin 128, R (c + 32 * d) * wc 128 (d * b) + ∑ d : Fin 128, I (c + 32 * d) * ws 128 (d * b)

def ai (R I : ℕ → ℝ) (c b : ℕ) : ℝ :=
  ∑ d : Fin 128, I (c + 32 * d) * wc 128 (d * b) - ∑ d : Fin 128, R (c + 32 * d) * ws 128 (d * b)

/-- Rotated. -/
def er (R I : ℕ → ℝ) (c b : ℕ) : ℝ := ar R I c b * wc 4096 (c * b) + ai R I c b * ws 4096 (c * b)

def ei (R I : ℕ → ℝ) (c b : ℕ) : ℝ := ai R I c b * wc 4096 (c * b) - ar R I c b * ws 4096 (c * b)

/-- The second short transforms, real part. -/
def vr (R I : ℕ → ℝ) (a b : ℕ) : ℝ :=
  ∑ c : Fin 32, wc 32 (a * c) * er R I c b + ∑ c : Fin 32, ws 32 (a * c) * ei R I c b

theorem a_eq (R I : ℕ → ℝ) (c b : ℕ) :
    (⟨ar R I c b, ai R I c b⟩ : ℂ) = ∑ d : Fin 128, (⟨R (c + 32 * d), I (c + 32 * d)⟩ : ℂ) * conj (w 128 (d * b)) := by
  apply Complex.ext
  · rw [Complex.re_sum]
    show ar R I c b = _
    rw [ar, ← Finset.sum_add_distrib]
    exact Finset.sum_congr rfl fun d _ => by
      rw [Complex.mul_re, Complex.conj_re, Complex.conj_im]; show _ = _ * wc _ _ - _ * -ws _ _; ring
  · rw [Complex.im_sum]
    show ai R I c b = _
    rw [ai, ← Finset.sum_sub_distrib]
    exact Finset.sum_congr rfl fun d _ => by
      rw [Complex.mul_im, Complex.conj_re, Complex.conj_im]; show _ = _ * -ws _ _ + _ * wc _ _; ring

theorem e_eq (R I : ℕ → ℝ) (c b : ℕ) :
    (⟨er R I c b, ei R I c b⟩ : ℂ) = (⟨ar R I c b, ai R I c b⟩ : ℂ) * conj (w 4096 (c * b)) := by
  apply Complex.ext
  · rw [Complex.mul_re, Complex.conj_re, Complex.conj_im]; show er R I c b = _ * wc _ _ - _ * -ws _ _; rw [er]; ring
  · rw [Complex.mul_im, Complex.conj_re, Complex.conj_im]; show ei R I c b = _ * -ws _ _ + _ * wc _ _; rw [ei]; ring

theorem v_eq (R I : ℕ → ℝ) (a b : ℕ) :
    vr R I a b = (∑ c : Fin 32, (⟨er R I c b, ei R I c b⟩ : ℂ) * conj (w 32 (a * c))).re := by
  rw [Complex.re_sum, vr, ← Finset.sum_add_distrib]
  exact Finset.sum_congr rfl fun d _ => by
    rw [Complex.mul_re, Complex.conj_re, Complex.conj_im]; show _ = _ * wc _ _ - _ * -ws _ _; ring

theorem back_eq (R I : ℕ → ℝ) (t : ℕ) :
    back R I t = (∑ f : Fin 4096, (⟨R f, I f⟩ : ℂ) * conj (w 4096 (f * t))).re := by
  rw [Complex.re_sum, back, ← Finset.sum_sub_distrib]
  refine Finset.sum_congr rfl fun d _ => ?_
  rw [Complex.mul_re, Complex.conj_re, Complex.conj_im]
  show _ = _ * wc _ _ - _ * -ws _ _
  rw [wc, ws]; norm_num

/-- A sum over the 4096 frequencies, row by row. -/
theorem sum_places {M : Type*} [AddCommMonoid M] (g : ℕ → M) :
    ∑ f : Fin 4096, g f = ∑ c : Fin 32, ∑ d : Fin 128, g (c + 32 * d) := by
  rw [Finset.sum_comm]
  have e := (finProdFinEquiv (m := 128) (n := 32)).sum_comp (fun t : Fin 4096 => g t)
  rw [← e, Fintype.sum_prod_type]
  rfl

/-- The two steps compute the inverse transform. -/
theorem vr_eq (R I : ℕ → ℝ) (a b : ℕ) : vr R I a b = back R I (128 * a + b) := by
  rw [v_eq, back_eq, sum_places (fun f => (⟨R f, I f⟩ : ℂ) * conj (w 4096 (f * (128 * a + b))))]
  refine congrArg Complex.re (Finset.sum_congr rfl fun c _ => ?_)
  rw [e_eq, a_eq, Finset.sum_mul, Finset.sum_mul]
  refine Finset.sum_congr rfl fun d _ => ?_
  rw [Nat.mul_comm (c.val + 32 * d.val), w_mul, map_mul, map_mul, Nat.mul_comm a, Nat.mul_comm b]
  ring

end

end Cert.Dft
-- ==== Proof.Select.Tile.lean ====
/- What the call computes before its rounds: each batch entry's mean correlation at every delay, and the batch's mean of these. -/
module

public import proofs.«01_k».proof.Proof.Select.Chain
public import proofs.«01_k».proof.Proof.Select.Inverse
public import proofs.«01_k».proof.Proof.Corr.Tile

@[expose] public section

noncomputable section

namespace Cert.SelectIdeal.Maps

open Cert.SelectIdeal Cert.SelectIdeal.Gen Cert.SelectIdeal.Round Cert.Dft
open Cert.CorrIdeal.Tile (Tables)
open Idealize.ShloMosaic Idealize.ShloMosaic.ValueIdx

/-- Batch entry and row in one number. -/
abbrev line (k : Fin 4) (c : Fin 32) : Fin 128 := ⟨32 * k.val + c.val, by omega⟩

section
variable {α : Type}

theorem stack_read (x : S4x32x128.Idx → α) (h : S4x32x128.ShapeCasts S128x128) (k : Fin 4) (c : Fin 32) (d : Fin 128) :
    shapeCast S128x128 x h (ix2 (line k c) d) = x (ix3 k c d) := by
  refine shapeCast_apply _ h _ _ ?_
  rw [Shape.rowMajor_val_three, Shape.rowMajor_val_two]
  show (k.val * 32 + c.val) * 128 + d.val = (32 * k.val + c.val) * 128 + d.val
  omega

theorem unstack_read (x : S128x128.Idx → α) (h : S128x128.ShapeCasts S4x32x128) (k : Fin 4) (c : Fin 32) (d : Fin 128) :
    shapeCast S4x32x128 x h (ix3 k c d) = x (ix2 (line k c) d) := by
  refine shapeCast_apply _ h _ _ ?_
  rw [Shape.rowMajor_val_three, Shape.rowMajor_val_two]
  show (32 * k.val + c.val) * 128 + d.val = (k.val * 32 + c.val) * 128 + d.val
  omega

theorem spread_read (x : S32x128.Idx → α) (k : Fin 4) (c : Fin 32) (d : Fin 128) :
    broadcastTo S4x32x128 (shapeCast S1x32x128 x shapeCasts_S32x128_S1x32x128) broadcasts_S1x32x128_S4x32x128 (ix3 k c d) = x (ix2 c d) := by
  refine (broadcastTo_apply _ _ _ (ix3 (0 : Fin 1) c d) ?_).trans (lead_read x _ c d)
  intro a
  match a with
  | ⟨0, _⟩ => rfl
  | ⟨1, _⟩ => rfl
  | ⟨2, _⟩ => rfl

theorem part_read (x : S4x32x128.Idx → α) (k : Fin 4) (h : Shape.Slices S4x32x128 ![k.val, 0, 0] S1x32x128) (c : Fin 32) (d : Fin 128) :
    shapeCast S32x128 (extractStridedSlice S1x32x128 ![k.val, 0, 0] x h) shapeCasts_S1x32x128_S32x128 (ix2 c d) = x (ix3 k c d) := by
  refine (unlead_read _ _ c d).trans (extractStridedSlice_apply _ _ _ _ (ix3 k c d) ?_)
  intro a
  match a with
  | ⟨0, _⟩ => show k.val = k.val + 0; omega
  | ⟨1, _⟩ => show c.val = 0 + c.val; omega
  | ⟨2, _⟩ => show d.val = 0 + d.val; omega

end

theorem lit_scale : Ideal.ofBits .f32 0x34800000#32 = ((1 / 4194304 : ℝ) : EReal) := by
  simp [Ideal.ofBits, Ideal.ieee, -EReal.coe_mul]; norm_num

theorem lit_four : Ideal.ofBits .f32 0x40800000#32 = ((4 : ℝ) : EReal) := by
  simp [Ideal.ofBits, Ideal.ieee, -EReal.coe_mul]; norm_num

section
variable {x0 x1 : FVec Ideal S32x32 .f32} {x2 x3 : FVec Ideal S128x128 .f32} {x4 x5 : FVec Ideal S32x128 .f32}
  (T : Tables x0 x1 x2 x3 x4 x5) {x6 x7 : FVec Ideal S4x32x128 .f32} {R I : Fin 4 → ℕ → ℝ}
  (hr : ∀ (k : Fin 4) (c : Fin 32) (d : Fin 128), x6 (ix3 k c d) = ((R k (c + 32 * d) : ℝ) : EReal))
  (hi : ∀ (k : Fin 4) (c : Fin 32) (d : Fin 128), x7 (ix3 k c d) = ((I k (c + 32 * d) : ℝ) : EReal))
include T hr hi

theorem ar_at (k : Fin 4) (c : Fin 32) (b : Fin 128) : k0_pay9 (F := Ideal) x2 x3 x6 x7 (ix3 k c b) = ((ar (R k) (I k) c b : ℝ) : EReal) := by
  unfold k0_pay9 k0_pay7 k0_pay8 k0_pay3 k0_pay4
  refine (unstack_read _ _ k c b).trans ?_
  rw [self_read x2, self_read x3]
  have e1 := matmul_real dot_S128x128_S128x128_S128x128_1_0_0_1_n_n rfl (shapeCast S128x128 x6 shapeCasts_S4x32x128_S128x128) x2
    (fun d : Fin 128 => R k (c + 32 * d)) (fun d => wc 128 (d * b)) (line k c) b (fun d => (stack_read x6 _ k c d).trans (hr k c d)) (fun d => T.c128 d b) (some .fp32)
  have e2 := matmul_real dot_S128x128_S128x128_S128x128_1_0_0_1_n_n rfl (shapeCast S128x128 x7 shapeCasts_S4x32x128_S128x128) x3
    (fun d : Fin 128 => I k (c + 32 * d)) (fun d => ws 128 (d * b)) (line k c) b (fun d => (stack_read x7 _ k c d).trans (hi k c d)) (fun d => T.s128 d b) (some .fp32)
  refine (congrArg₂ (fun p q : EReal => p + q) e1 e2).trans ?_
  show (_ : EReal) + _ = _
  rw [← EReal.coe_add]; rfl

theorem ai_at (k : Fin 4) (c : Fin 32) (b : Fin 128) : k0_pay10 (F := Ideal) x2 x3 x6 x7 (ix3 k c b) = ((ai (R k) (I k) c b : ℝ) : EReal) := by
  unfold k0_pay10 k0_pay7 k0_pay8 k0_pay3 k0_pay4
  refine (unstack_read _ _ k c b).trans ?_
  rw [self_read x2, self_read x3]
  have e1 := matmul_real dot_S128x128_S128x128_S128x128_1_0_0_1_n_n rfl (shapeCast S128x128 x7 shapeCasts_S4x32x128_S128x128) x2
    (fun d : Fin 128 => I k (c + 32 * d)) (fun d => wc 128 (d * b)) (line k c) b (fun d => (stack_read x7 _ k c d).trans (hi k c d)) (fun d => T.c128 d b) (some .fp32)
  have e2 := matmul_real dot_S128x128_S128x128_S128x128_1_0_0_1_n_n rfl (shapeCast S128x128 x6 shapeCasts_S4x32x128_S128x128) x3
    (fun d : Fin 128 => R k (c + 32 * d)) (fun d => ws 128 (d * b)) (line k c) b (fun d => (stack_read x6 _ k c d).trans (hr k c d)) (fun d => T.s128 d b) (some .fp32)
  refine (congrArg₂ (fun p q : EReal => p - q) e1 e2).trans ?_
  show (_ : EReal) - _ = _
  rw [← EReal.coe_sub]; rfl

theorem er_at (k : Fin 4) (c : Fin 32) (b : Fin 128) : k0_pay11 (F := Ideal) x2 x3 x4 x5 x6 x7 (ix3 k c b) = ((er (R k) (I k) c b : ℝ) : EReal) := by
  unfold k0_pay11 k0_pay5 k0_pay6
  rw [self_read x4, self_read x5]
  have e1 := ar_at T hr hi k c b
  have e2 := ai_at T hr hi k c b
  have e3 := (spread_read x4 k c b).trans (T.ct c b)
  have e4 := (spread_read x5 k c b).trans (T.st c b)
  generalize k0_pay9 (F := Ideal) x2 x3 x6 x7 = p at e1 ⊢
  generalize k0_pay10 (F := Ideal) x2 x3 x6 x7 = q at e2 ⊢
  refine (congrArg₂ (fun s t : EReal => s + t) (congrArg₂ (fun s t : EReal => s * t) e1 e3) (congrArg₂ (fun s t : EReal => s * t) e2 e4)).trans ?_
  show (ar (R k) (I k) c b : EReal) * _ + (ai (R k) (I k) c b : EReal) * _ = _
  rw [← EReal.coe_mul, ← EReal.coe_mul, ← EReal.coe_add]; rfl

theorem ei_at (k : Fin 4) (c : Fin 32) (b : Fin 128) : k0_pay12 (F := Ideal) x2 x3 x4 x5 x6 x7 (ix3 k c b) = ((ei (R k) (I k) c b : ℝ) : EReal) := by
  unfold k0_pay12 k0_pay5 k0_pay6
  rw [self_read x4, self_read x5]
  have e1 := ar_at T hr hi k c b
  have e2 := ai_at T hr hi k c b
  have e3 := (spread_read x4 k c b).trans (T.ct c b)
  have e4 := (spread_read x5 k c b).trans (T.st c b)
  generalize k0_pay9 (F := Ideal) x2 x3 x6 x7 = p at e1 ⊢
  generalize k0_pay10 (F := Ideal) x2 x3 x6 x7 = q at e2 ⊢
  refine (congrArg₂ (fun s t : EReal => s - t) (congrArg₂ (fun s t : EReal => s * t) e2 e3) (congrArg₂ (fun s t : EReal => s * t) e1 e4)).trans ?_
  show (ai (R k) (I k) c b : EReal) * _ - (ar (R k) (I k) c b : EReal) * _ = _
  rw [← EReal.coe_mul, ← EReal.coe_mul, ← EReal.coe_sub]; rfl

end

/-- One batch entry's part of the last step. -/
def entryV (v1 v3 : FVec Ideal S32x32 .f32) (v30 v37 : FVec Ideal S4x32x128 .f32) (k : Fin 4)
    (h : Shape.Slices S4x32x128 ![k.val, 0, 0] S1x32x128) : FVec Ideal S1x32x128 .f32 :=
  shapeCast S1x32x128 (mulf (addf
    (matmul (F := Ideal) dot_S32x32_S32x128_S32x128_1_0_0_1_n_n (some .fp32) v1
      (shapeCast S32x128 (extractStridedSlice S1x32x128 ![k.val, 0, 0] v30 h) shapeCasts_S1x32x128_S32x128) (constant S32x128 .f32 0x00000000#32))
    (matmul (F := Ideal) dot_S32x32_S32x128_S32x128_1_0_0_1_n_n (some .fp32) v3
      (shapeCast S32x128 (extractStridedSlice S1x32x128 ![k.val, 0, 0] v37 h) shapeCasts_S1x32x128_S32x128) (constant S32x128 .f32 0x00000000#32)))
    (broadcast S32x128 (Scalar.ofBits (F := Ideal) .f32 0x34800000#32))) shapeCasts_S32x128_S1x32x128

theorem pay13_eq (v1 v3 : FVec Ideal S32x32 .f32) (v30 v37 : FVec Ideal S4x32x128 .f32) : k0_pay13 (F := Ideal) v1 v3 v30 v37
    = concatenate S4x32x128 0 [⟨S1x32x128, entryV v1 v3 v30 v37 0 slices_S4x32x128_o0_0_0_S1x32x128⟩,
      ⟨S1x32x128, entryV v1 v3 v30 v37 1 slices_S4x32x128_o1_0_0_S1x32x128⟩,
      ⟨S1x32x128, entryV v1 v3 v30 v37 2 slices_S4x32x128_o2_0_0_S1x32x128⟩,
      ⟨S1x32x128, entryV v1 v3 v30 v37 3 slices_S4x32x128_o3_0_0_S1x32x128⟩]
      concatenates_S1x32x128_S1x32x128_S1x32x128_S1x32x128_S4x32x128_d0 := rfl

/-- The mean correlation of a batch entry at a delay. -/
def mean (R I : Fin 4 → ℕ → ℝ) (k : Fin 4) (p : Fin 4096) : ℝ := back (R k) (I k) p * (1 / 4194304)

/-- A delay's score: the mean over the batch. -/
def score (R I : Fin 4 → ℕ → ℝ) (p : Fin 4096) : EReal := (((∑ k, mean R I k p) / 4 : ℝ) : EReal)

theorem score_pos (R I : Fin 4 → ℕ → ℝ) (p : Fin 4096) : ⊥ < score R I p := EReal.bot_lt_coe _

section
variable {v1 v3 : FVec Ideal S32x32 .f32} (h1 : ∀ a b : Fin 32, v1 (ix2 a b) = ((wc 32 (a * b) : ℝ) : EReal))
  (h3 : ∀ a b : Fin 32, v3 (ix2 a b) = ((ws 32 (a * b) : ℝ) : EReal))
  {v30 v37 : FVec Ideal S4x32x128 .f32} {R I : Fin 4 → ℕ → ℝ}
  (hr : ∀ (k : Fin 4) (c : Fin 32) (b : Fin 128), v30 (ix3 k c b) = ((er (R k) (I k) c b : ℝ) : EReal))
  (hi : ∀ (k : Fin 4) (c : Fin 32) (b : Fin 128), v37 (ix3 k c b) = ((ei (R k) (I k) c b : ℝ) : EReal))
include h1 h3 hr hi

theorem entry_at (k : Fin 4) (h : Shape.Slices S4x32x128 ![k.val, 0, 0] S1x32x128) (a : Fin 32) (b : Fin 128) :
    entryV v1 v3 v30 v37 k h (ix3 (0 : Fin 1) a b) = ((mean R I k (pos a b) : ℝ) : EReal) := by
  unfold entryV
  refine (lead_read _ _ a b).trans ?_
  have e1 := matmul_real dot_S32x32_S32x128_S32x128_1_0_0_1_n_n rfl v1
    (shapeCast S32x128 (extractStridedSlice S1x32x128 ![k.val, 0, 0] v30 h) shapeCasts_S1x32x128_S32x128)
    (fun c : Fin 32 => wc 32 (a * c)) (fun c => er (R k) (I k) c b) a b (fun c => h1 a c) (fun c => (part_read v30 k h c b).trans (hr k c b)) (some .fp32)
  have e2 := matmul_real dot_S32x32_S32x128_S32x128_1_0_0_1_n_n rfl v3
    (shapeCast S32x128 (extractStridedSlice S1x32x128 ![k.val, 0, 0] v37 h) shapeCasts_S1x32x128_S32x128)
    (fun c : Fin 32 => ws 32 (a * c)) (fun c => ei (R k) (I k) c b) a b (fun c => h3 a c) (fun c => (part_read v37 k h c b).trans (hi k c b)) (some .fp32)
  refine (congrArg₂ (fun s t : EReal => s * t) (congrArg₂ (fun s t : EReal => s + t) e1 e2) lit_scale).trans ?_
  show ((_ : EReal) + _) * _ = _
  rw [← EReal.coe_add, ← EReal.coe_mul]
  refine congrArg _ (congrArg (· * (1 / 4194304 : ℝ)) ?_)
  exact vr_eq (R k) (I k) a b

theorem maps_at : Maps (k0_pay13 (F := Ideal) v1 v3 v30 v37) (mean R I) := by
  intro k a b
  rw [pay13_eq]
  have off : ∀ (d : Fin S1x32x128.rank), d.cast rfl ≠ (0 : Fin S4x32x128.rank) →
      ((ix3 (0 : Fin 1) a b : S1x32x128.Idx) d).val = ((ix3 k a b : S4x32x128.Idx) (d.cast rfl)).val := by
    intro d hd
    match d with
    | ⟨0, _⟩ => exact absurd rfl hd
    | ⟨1, _⟩ => rfl
    | ⟨2, _⟩ => rfl
  match k with
  | ⟨0, _⟩ => exact Eq.trans (concatenate_apply_piece (t := S4x32x128) 0 _ _ _ 0 (by show 0 < 4; decide) S1x32x128 _ rfl rfl 0 rfl (ix3 (0 : Fin 1) a b) off rfl) (entry_at h1 h3 hr hi 0 _ a b)
  | ⟨1, _⟩ => exact Eq.trans (concatenate_apply_piece (t := S4x32x128) 0 _ _ _ 1 (by show 1 < 4; decide) S1x32x128 _ rfl rfl 1 rfl (ix3 (0 : Fin 1) a b) off rfl) (entry_at h1 h3 hr hi 1 _ a b)
  | ⟨2, _⟩ => exact Eq.trans (concatenate_apply_piece (t := S4x32x128) 0 _ _ _ 2 (by show 2 < 4; decide) S1x32x128 _ rfl rfl 2 rfl (ix3 (0 : Fin 1) a b) off rfl) (entry_at h1 h3 hr hi 2 _ a b)
  | ⟨3, _⟩ => exact Eq.trans (concatenate_apply_piece (t := S4x32x128) 0 _ _ _ 3 (by show 3 < 4; decide) S1x32x128 _ rfl rfl 3 rfl (ix3 (0 : Fin 1) a b) off rfl) (entry_at h1 h3 hr hi 3 _ a b)

theorem scores_at : Scores (k0_pay14 (F := Ideal) v1 v3 v30 v37) (score R I) := by
  intro a b
  unfold k0_pay14
  have hm := maps_at h1 h3 hr hi
  generalize k0_pay13 (F := Ideal) v1 v3 v30 v37 = g at hm ⊢
  have e : multiReduction (F := Ideal) .add [0] S32x128 g 0x00000000#32 reduces_S4x32x128_S32x128 (.inl rfl) rfl (ix2 a b)
      = ((∑ k, mean R I k (pos a b) : ℝ) : EReal) := by
    refine (Ideal.multiReduction_add_single _ _ _ _ _ _).trans ?_
    rw [← coe_sum]
    refine Finset.sum_congr rfl fun k _ => ?_
    refine Eq.trans (congrArg g ?_) (hm k a b)
    funext d
    match d with
    | ⟨0, _⟩ => rfl
    | ⟨1, _⟩ => rfl
    | ⟨2, _⟩ => rfl
  refine (congrArg₂ (fun s t : EReal => Ideal.div s t) e lit_four).trans ?_
  refine (Ideal.div_coe (by norm_num : (4 : ℝ) ≠ 0) _).trans ?_
  rw [← EReal.coe_mul, score, mul_one_div]

end

theorem zero2 : (![0, 0] : Fin 2 → ℕ) = fun _ => 0 := by decide

theorem zero3 : (![0, 0, 0] : Fin 3 → ℕ) = fun _ => 0 := by decide

section
variable {x0 x1 : FVec Ideal S32x32 .f32} {x2 x3 : FVec Ideal S128x128 .f32} {x4 x5 : FVec Ideal S32x128 .f32}
  {x6 x7 : FVec Ideal S4x32x128 .f32} {R I : Fin 4 → ℕ → ℝ}

theorem pay42_eq : k0_pay42 (F := Ideal) x0 x1 x2 x3 x4 x5 x6 x7 = x0 := by
  unfold k0_pay42 k0_pay1
  exact (self_read _ _).trans (View.ld_unit_zero zero2 _ _)

theorem pay43_eq : k0_pay43 (F := Ideal) x0 x1 x2 x3 x4 x5 x6 x7 = x1 := by
  unfold k0_pay43 k0_pay2
  exact (self_read _ _).trans (View.ld_unit_zero zero2 _ _)

theorem pay44_eq : k0_pay44 (F := Ideal) x0 x1 x2 x3 x4 x5 x6 x7 = k0_pay11 (F := Ideal) x2 x3 x4 x5 x6 x7 := by
  unfold k0_pay44
  have e2 : View.ld (Val := Elt Ideal) (e' := .f32) x2 r0_1 = x2 := View.ld_unit_zero (S := S128x128) zero2 _ _
  have e3 : View.ld (Val := Elt Ideal) (e' := .f32) x3 r0_1 = x3 := View.ld_unit_zero (S := S128x128) zero2 _ _
  have e4 : View.ld (Val := Elt Ideal) (e' := .f32) x4 r0_2 = x4 := View.ld_unit_zero zero2 _ _
  have e5 : View.ld (Val := Elt Ideal) (e' := .f32) x5 r0_2 = x5 := View.ld_unit_zero zero2 _ _
  have e6 : View.ld (Val := Elt Ideal) (e' := .f32) x6 r0_3 = x6 := View.ld_unit_zero zero3 _ _
  have e7 : View.ld (Val := Elt Ideal) (e' := .f32) x7 r0_3 = x7 := View.ld_unit_zero zero3 _ _
  rw [e2, e3, e4, e5, e6, e7]

theorem pay45_eq : k0_pay45 (F := Ideal) x0 x1 x2 x3 x4 x5 x6 x7 = k0_pay12 (F := Ideal) x2 x3 x4 x5 x6 x7 := by
  unfold k0_pay45
  have e2 : View.ld (Val := Elt Ideal) (e' := .f32) x2 r0_1 = x2 := View.ld_unit_zero (S := S128x128) zero2 _ _
  have e3 : View.ld (Val := Elt Ideal) (e' := .f32) x3 r0_1 = x3 := View.ld_unit_zero (S := S128x128) zero2 _ _
  have e4 : View.ld (Val := Elt Ideal) (e' := .f32) x4 r0_2 = x4 := View.ld_unit_zero zero2 _ _
  have e5 : View.ld (Val := Elt Ideal) (e' := .f32) x5 r0_2 = x5 := View.ld_unit_zero zero2 _ _
  have e6 : View.ld (Val := Elt Ideal) (e' := .f32) x6 r0_3 = x6 := View.ld_unit_zero zero3 _ _
  have e7 : View.ld (Val := Elt Ideal) (e' := .f32) x7 r0_3 = x7 := View.ld_unit_zero zero3 _ _
  rw [e2, e3, e4, e5, e6, e7]

variable (T : Tables x0 x1 x2 x3 x4 x5)
  (hr : ∀ (k : Fin 4) (c : Fin 32) (d : Fin 128), x6 (ix3 k c d) = ((R k (c + 32 * d) : ℝ) : EReal))
  (hi : ∀ (k : Fin 4) (c : Fin 32) (d : Fin 128), x7 (ix3 k c d) = ((I k (c + 32 * d) : ℝ) : EReal))
include T hr hi

/-- The maps the rounds read the weights from. -/
theorem maps_all : Maps (k0_pay47 (F := Ideal) x0 x1 x2 x3 x4 x5 x6 x7) (mean R I) := by
  unfold k0_pay47
  rw [pay42_eq, pay43_eq, pay44_eq, pay45_eq]
  exact maps_at T.c32 T.s32 (fun k c b => er_at T hr hi k c b) (fun k c b => ei_at T hr hi k c b)

/-- The scores the rounds start from. -/
theorem scores_all : Scores (k0_pay48 (F := Ideal) x0 x1 x2 x3 x4 x5 x6 x7) (score R I) := by
  unfold k0_pay48
  rw [pay42_eq, pay43_eq, pay44_eq, pay45_eq]
  exact scores_at T.c32 T.s32 (fun k c b => er_at T hr hi k c b) (fun k c b => ei_at T hr hi k c b)

end

end Cert.SelectIdeal.Maps
-- ==== Proof.Select.Tables.lean ====
/- What the host hands to the call: the tables of the phases, and the two arguments as they are. -/
module

public import proofs.«01_k».proof.Proof.Gen.SelectIdeal.Value
public import proofs.«01_k».proof.Proof.Corr.Tables
public import Idealize.ShloMosaic.Lib.Pipeline.ValueKit

@[expose] public section

noncomputable section

namespace Cert.SelectIdeal.Host

open Cert.SelectIdeal Cert.SelectIdeal.Gen Cert.Dft
open Cert.CorrIdeal.Host (ang cos_ang sin_ang lt_of_fin)
open Cert.CorrIdeal.Tile (Tables)
open Idealize.ShloMosaic hiding ix1 ix2 ix3 ix4 ix5
open Idealize.ShloMosaic.TcCoe Idealize.ShloMosaic.ValueIdx Idealize.SL.Sem

variable (m : (ℓ : Loc nD τ sig) → Buf (Elt Ideal) ℓ) (c : Dev nD)

theorem host_c32 (y : S32x32.Idx) : V m c main_call0_v9 y = Ideal.cos (ang 32#32 0x3D800000#32 (y 0) (y 1)) := by
  unfold V
  after_results
  rfl

theorem host_s32 (y : S32x32.Idx) : V m c main_call0_v11 y = -Ideal.sin (ang 32#32 0x3D800000#32 (y 0) (y 1)) := by
  unfold V
  after_results
  rfl

theorem host_c128 (y : S128x128.Idx) : V m c main_call0_v20 y = Ideal.cos (ang 128#32 0x3C800000#32 (y 0) (y 1)) := by
  unfold V
  after_results
  rfl

theorem host_s128 (y : S128x128.Idx) : V m c main_call0_v22 y = -Ideal.sin (ang 128#32 0x3C800000#32 (y 0) (y 1)) := by
  unfold V
  after_results
  rfl

theorem host_ct (y : S32x128.Idx) : V m c main_call0_v31 y = Ideal.cos (ang 4096#32 0x3A000000#32 (y 0) (y 1)) := by
  unfold V
  after_results
  rfl

theorem host_st (y : S32x128.Idx) : V m c main_call0_v33 y = -Ideal.sin (ang 4096#32 0x3A000000#32 (y 0) (y 1)) := by
  unfold V
  after_results
  rfl

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![0, 0, 0] := by decide +kernel
theorem at7 : ∀ t : Fin grid0.N, win0_7.index t = ![0, 0, 0] := by decide +kernel

theorem input0 (t : Fin cfg0.N) (a : Fin 32) (b : Fin 32) : iblk m c 0 t (ix2 a b) = V m c main_call0_v9 (ix2 a b) := by
  have e : iblk m c 0 t (ix2 a b) = V m c main_call0_v9 ((win0_0.rect t).emb (ix2 a b)) := rfl
  rw [e]
  refine congrArg (V m c main_call0_v9) (funext fun d => Fin.ext ?_)
  match d with
  | ⟨0, _⟩ => exact Pipeline.Window.rect_emb_val_of_index_zero win0_0 t 0 (by rw [at0]; rfl) (ix2 a b)
  | ⟨1, _⟩ => exact Pipeline.Window.rect_emb_val_of_index_zero win0_0 t 1 (by rw [at0]; rfl) (ix2 a b)

theorem input1 (t : Fin cfg0.N) (a : Fin 32) (b : Fin 32) : iblk m c 1 t (ix2 a b) = V m c main_call0_v11 (ix2 a b) := by
  have e : iblk m c 1 t (ix2 a b) = V m c main_call0_v11 ((win0_1.rect t).emb (ix2 a b)) := rfl
  rw [e]
  refine congrArg (V m c main_call0_v11) (funext fun d => Fin.ext ?_)
  match d with
  | ⟨0, _⟩ => exact Pipeline.Window.rect_emb_val_of_index_zero win0_1 t 0 (by rw [at1]; rfl) (ix2 a b)
  | ⟨1, _⟩ => exact Pipeline.Window.rect_emb_val_of_index_zero win0_1 t 1 (by rw [at1]; rfl) (ix2 a b)

theorem input2 (t : Fin cfg0.N) (a : Fin 128) (b : Fin 128) : iblk m c 2 t (ix2 a b) = V m c main_call0_v20 (ix2 a b) := by
  have e : iblk m c 2 t (ix2 a b) = V m c main_call0_v20 ((win0_2.rect t).emb (ix2 a b)) := rfl
  rw [e]
  refine congrArg (V m c main_call0_v20) (funext fun d => Fin.ext ?_)
  match d with
  | ⟨0, _⟩ => exact Pipeline.Window.rect_emb_val_of_index_zero win0_2 t 0 (by rw [at2]; rfl) (ix2 a b)
  | ⟨1, _⟩ => exact Pipeline.Window.rect_emb_val_of_index_zero win0_2 t 1 (by rw [at2]; rfl) (ix2 a b)

theorem input3 (t : Fin cfg0.N) (a : Fin 128) (b : Fin 128) : iblk m c 3 t (ix2 a b) = V m c main_call0_v22 (ix2 a b) := by
  have e : iblk m c 3 t (ix2 a b) = V m c main_call0_v22 ((win0_3.rect t).emb (ix2 a b)) := rfl
  rw [e]
  refine congrArg (V m c main_call0_v22) (funext fun d => Fin.ext ?_)
  match d with
  | ⟨0, _⟩ => exact Pipeline.Window.rect_emb_val_of_index_zero win0_3 t 0 (by rw [at3]; rfl) (ix2 a b)
  | ⟨1, _⟩ => exact Pipeline.Window.rect_emb_val_of_index_zero win0_3 t 1 (by rw [at3]; rfl) (ix2 a b)

theorem input4 (t : Fin cfg0.N) (a : Fin 32) (b : Fin 128) : iblk m c 4 t (ix2 a b) = V m c main_call0_v31 (ix2 a b) := by
  have e : iblk m c 4 t (ix2 a b) = V m c main_call0_v31 ((win0_4.rect t).emb (ix2 a b)) := rfl
  rw [e]
  refine congrArg (V m c main_call0_v31) (funext fun d => Fin.ext ?_)
  match d with
  | ⟨0, _⟩ => exact Pipeline.Window.rect_emb_val_of_index_zero win0_4 t 0 (by rw [at4]; rfl) (ix2 a b)
  | ⟨1, _⟩ => exact Pipeline.Window.rect_emb_val_of_index_zero win0_4 t 1 (by rw [at4]; rfl) (ix2 a b)

theorem input5 (t : Fin cfg0.N) (a : Fin 32) (b : Fin 128) : iblk m c 5 t (ix2 a b) = V m c main_call0_v33 (ix2 a b) := by
  have e : iblk m c 5 t (ix2 a b) = V m c main_call0_v33 ((win0_5.rect t).emb (ix2 a b)) := rfl
  rw [e]
  refine congrArg (V m c main_call0_v33) (funext fun d => Fin.ext ?_)
  match d with
  | ⟨0, _⟩ => exact Pipeline.Window.rect_emb_val_of_index_zero win0_5 t 0 (by rw [at5]; rfl) (ix2 a b)
  | ⟨1, _⟩ => exact Pipeline.Window.rect_emb_val_of_index_zero win0_5 t 1 (by rw [at5]; rfl) (ix2 a b)

theorem input6 (t : Fin cfg0.N) (k : Fin 4) (a : Fin 32) (b : Fin 128) : iblk m c 6 t (ix3 k a b) = V m c main_arg0 (ix3 k a b) := by
  have e : iblk m c 6 t (ix3 k a b) = V m c main_arg0 ((win0_6.rect t).emb (ix3 k a b)) := rfl
  rw [e]
  refine congrArg (V m c main_arg0) (funext fun d => Fin.ext ?_)
  match d with
  | ⟨0, _⟩ => exact Pipeline.Window.rect_emb_val_of_index_zero win0_6 t 0 (by rw [at6]; rfl) (ix3 k a b)
  | ⟨1, _⟩ => exact Pipeline.Window.rect_emb_val_of_index_zero win0_6 t 1 (by rw [at6]; rfl) (ix3 k a b)
  | ⟨2, _⟩ => exact Pipeline.Window.rect_emb_val_of_index_zero win0_6 t 2 (by rw [at6]; rfl) (ix3 k a b)

theorem input7 (t : Fin cfg0.N) (k : Fin 4) (a : Fin 32) (b : Fin 128) : iblk m c 7 t (ix3 k a b) = V m c main_arg1 (ix3 k a b) := by
  have e : iblk m c 7 t (ix3 k a b) = V m c main_arg1 ((win0_7.rect t).emb (ix3 k a b)) := rfl
  rw [e]
  refine congrArg (V m c main_arg1) (funext fun d => Fin.ext ?_)
  match d with
  | ⟨0, _⟩ => exact Pipeline.Window.rect_emb_val_of_index_zero win0_7 t 0 (by rw [at7]; rfl) (ix3 k a b)
  | ⟨1, _⟩ => exact Pipeline.Window.rect_emb_val_of_index_zero win0_7 t 1 (by rw [at7]; rfl) (ix3 k a b)
  | ⟨2, _⟩ => exact Pipeline.Window.rect_emb_val_of_index_zero win0_7 t 2 (by rw [at7]; rfl) (ix3 k a b)

/-- The tables as the point of the grid has them. -/
theorem tables_in (t : Fin cfg0.N) : Tables (iblk m c 0 t) (iblk m c 1 t) (iblk m c 2 t) (iblk m c 3 t) (iblk m c 4 t) (iblk m c 5 t) where
  c32 a b := (input0 m c t a b).trans ((host_c32 m c _).trans (cos_ang 32 _ _ rfl (by norm_num) (by norm_num) (by rw [lit_2_32]; norm_num) a b (lt_of_fin (by norm_num) (by norm_num) a b)))
  s32 a b := (input1 m c t a b).trans ((host_s32 m c _).trans (sin_ang 32 _ _ rfl (by norm_num) (by norm_num) (by rw [lit_2_32]; norm_num) a b (lt_of_fin (by norm_num) (by norm_num) a b)))
  c128 a b := (input2 m c t a b).trans ((host_c128 m c _).trans (cos_ang 128 _ _ rfl (by norm_num) (by norm_num) (by rw [lit_2_128]; norm_num) a b (lt_of_fin (by norm_num) (by norm_num) a b)))
  s128 a b := (input3 m c t a b).trans ((host_s128 m c _).trans (sin_ang 128 _ _ rfl (by norm_num) (by norm_num) (by rw [lit_2_128]; norm_num) a b (lt_of_fin (by norm_num) (by norm_num) a b)))
  ct a b := (input4 m c t a b).trans ((host_ct m c _).trans (cos_ang 4096 _ _ rfl (by norm_num) (by norm_num) (by rw [lit_2_4096]; norm_num) a b (lt_of_fin (by norm_num) (by norm_num) a b)))
  st a b := (input5 m c t a b).trans ((host_st m c _).trans (sin_ang 4096 _ _ rfl (by norm_num) (by norm_num) (by rw [lit_2_4096]; norm_num) a b (lt_of_fin (by norm_num) (by norm_num) a b)))

/-- The two arguments: the real and the imaginary parts of the spectrum. -/
abbrev reals : FVec Ideal S4x32x128 .f32 := m ((c : Thread nD τ).loc main_arg0)
abbrev imags : FVec Ideal S4x32x128 .f32 := m ((c : Thread nD τ).loc main_arg1)

/-- The numbers of one batch entry's spectrum, by frequency. -/
def spectrum (x : FVec Ideal S4x32x128 .f32) (k : Fin 4) (f : ℕ) : ℝ :=
  if h : f < 4096 then (x (ix3 k (⟨f % 32, by omega⟩ : Fin 32) (⟨f / 32, by omega⟩ : Fin 128))).toReal else 0

/-- An argument of which every entry is a number. -/
def AllReal (x : FVec Ideal S4x32x128 .f32) : Prop := ∀ i, x i = ((x i).toReal : EReal)

theorem spectrum_at {x : FVec Ideal S4x32x128 .f32} (hx : AllReal x) (k : Fin 4) (a : Fin 32) (d : Fin 128) :
    x (ix3 k a d) = ((spectrum x k (a + 32 * d) : ℝ) : EReal) := by
  unfold spectrum
  have h : a.val + 32 * d.val < 4096 := by omega
  rw [dif_pos h]
  refine Eq.trans (congrArg x ?_) (hx _)
  exact congrArg₂ (ix3 k) (Fin.ext (by show a.val = (a.val + 32 * d.val) % 32; omega)) (Fin.ext (by show d.val = (a.val + 32 * d.val) / 32; omega))

theorem reals_in (hx : AllReal (reals m c)) (t : Fin cfg0.N) (k : Fin 4) (a : Fin 32) (d : Fin 128) :
    iblk m c 6 t (ix3 k a d) = ((spectrum (reals m c) k (a + 32 * d) : ℝ) : EReal) := by
  rw [input6, V_main_arg0]
  exact spectrum_at hx k a d

theorem imags_in (hx : AllReal (imags m c)) (t : Fin cfg0.N) (k : Fin 4) (a : Fin 32) (d : Fin 128) :
    iblk m c 7 t (ix3 k a d) = ((spectrum (imags m c) k (a + 32 * d) : ℝ) : EReal) := by
  rw [input7, V_main_arg1]
  exact spectrum_at hx k a d

end Cert.SelectIdeal.Host
-- ==== Proof.Select.Final.lean ====
/- The two result arrays after the run: the eight best delays, and each batch entry's shares of its means there. -/
module

public import proofs.«01_k».proof.Proof.Select.Tile
public import proofs.«01_k».proof.Proof.Select.Tables

@[expose] public section

noncomputable section

namespace Cert.SelectIdeal.Final

open Cert.SelectIdeal Cert.SelectIdeal.Gen Cert.SelectIdeal.Host Cert.SelectIdeal.Maps Cert.SelectIdeal.Round Cert.Rounds Cert.Dft
open Idealize.ShloMosaic hiding ix1 ix2 ix3 ix4 ix5
open Idealize.ShloMosaic.TcCoe Idealize.ShloMosaic.ValueIdx Idealize.SL.Sem

/-- The largest of eight weights. -/
def top (W : Fin 8 → EReal) : EReal := (Finset.univ : Finset (Fin 8)).fold max ⊥ W

/-- A weight's share: its exponential, by distance from the largest, over the sum of all eight. -/
def share (W : Fin 8 → EReal) (i : Fin 8) : EReal :=
  Ideal.div (Ideal.exp (W i - top W)) (∑ j, Ideal.exp (W j - top W))

/-- A value per batch entry, spread along its row. -/
theorem row_read {α : Type} (x : S4.Idx → α) (k : Fin 4) (i : Fin 8) :
    broadcastTo S4x8 (shapeCast S4x1 x shapeCasts_S4_S4x1) broadcasts_S4x1_S4x8 (ix2 k i) = x (ix1 k) := by
  refine (broadcastTo_apply _ _ _ (ix2 k (0 : Fin 1)) ?_).trans (shapeCast_apply _ _ _ (ix1 k) ?_)
  · intro a
    match a with
    | ⟨0, _⟩ => rfl
    | ⟨1, _⟩ => rfl
  · rw [Shape.rowMajor_val_two, Shape.rowMajor_val_one]
    show k.val = k.val * 1 + 0
    omega

theorem shareV_at {ws : FVec Ideal S4x8 .f32} {W : Fin 4 → Fin 8 → EReal} (h : ∀ k i, ws (ix2 k i) = W k i) (k : Fin 4) (i : Fin 8) :
    shareV ws (ix2 k i) = share (W k) i := by
  have lift : ∀ j : Fin 8, (reduces_S4x8_S4.lift (ix1 k) j : S4x8.Idx) = ix2 k j := by
    intro j
    funext a
    match a with
    | ⟨0, _⟩ => rfl
    | ⟨1, _⟩ => rfl
  have e1 : multiReduction (F := Ideal) .maximumf [1] S4 ws 0xFF800000#32 reduces_S4x8_S4 (.inl rfl) rfl (ix1 k) = top (W k) := by
    refine (Ideal.multiReduction_maximumf_single _ _ _ _ _ _).trans ?_
    have f : (ws ∘ reduces_S4x8_S4.lift (ix1 k)) = W k := funext fun j => (congrArg ws (lift j)).trans (h k j)
    unfold top
    exact congrArg₂ (fun b g => (Finset.univ : Finset (Fin 8)).fold max b g) bottom f
  have e2 : ∀ j : Fin 8, exp (F := Ideal) (subf ws (broadcastTo S4x8 (shapeCast S4x1
      (multiReduction (F := Ideal) .maximumf [1] S4 ws 0xFF800000#32 reduces_S4x8_S4 (.inl rfl) rfl) shapeCasts_S4_S4x1) broadcasts_S4x1_S4x8)) (ix2 k j)
      = Ideal.exp (W k j - top (W k)) := by
    intro j
    exact congrArg Ideal.exp (congrArg₂ (fun p q : EReal => p - q) (h k j) ((row_read _ k j).trans e1))
  unfold shareV
  dsimp only
  generalize exp (F := Ideal) (subf ws (broadcastTo S4x8 (shapeCast S4x1
      (multiReduction (F := Ideal) .maximumf [1] S4 ws 0xFF800000#32 reduces_S4x8_S4 (.inl rfl) rfl) shapeCasts_S4_S4x1) broadcasts_S4x1_S4x8)) = g at e2 ⊢
  have e3 : multiReduction (F := Ideal) .add [1] S4 g 0x00000000#32 reduces_S4x8_S4 (.inl rfl) rfl (ix1 k) = ∑ j, Ideal.exp (W k j - top (W k)) := by
    refine (Ideal.multiReduction_add_single _ _ _ _ _ _).trans ?_
    exact Finset.sum_congr rfl fun j _ => (congrArg g (lift j)).trans (e2 j)
  exact congrArg₂ (fun p q : EReal => Ideal.div p q) (e2 i) ((row_read _ k i).trans e3)

/-- The delays of the eight rounds. -/
def delays (R I : Fin 4 → ℕ → ℝ) (i : Fin 8) : BitVec 32 := BitVec.ofNat 32 (pick (score R I) i.val).val

/-- A batch entry's means at these delays. -/
def weights (R I : Fin 4 → ℕ → ℝ) (k : Fin 4) (i : Fin 8) : EReal := ((mean R I k (pick (score R I) i.val) : ℝ) : EReal)

section
variable {x0 x1 : FVec Ideal S32x32 .f32} {x2 x3 : FVec Ideal S128x128 .f32} {x4 x5 : FVec Ideal S32x128 .f32}
  {x6 x7 : FVec Ideal S4x32x128 .f32} {R I : Fin 4 → ℕ → ℝ}
  (T : Cert.CorrIdeal.Tile.Tables x0 x1 x2 x3 x4 x5)
  (hr : ∀ (k : Fin 4) (c : Fin 32) (d : Fin 128), x6 (ix3 k c d) = ((R k (c + 32 * d) : ℝ) : EReal))
  (hi : ∀ (k : Fin 4) (c : Fin 32) (d : Fin 128), x7 (ix3 k c d) = ((I k (c + 32 * d) : ℝ) : EReal))
include T hr hi

theorem positions_at (i : Fin 8) : out0_8 (F := Ideal) x0 x1 x2 x3 x4 x5 x6 x7 (ix2 (0 : Fin 1) i) = delays R I i := by
  have e := idv_at posV_at (scores_all T hr hi) i 8 i.isLt le_rfl
  rw [out_positions]
  generalize idv posV (k0_pay48 (F := Ideal) x0 x1 x2 x3 x4 x5 x6 x7) 8 = g at e ⊢
  refine View.canon_eq_of_allAt _ _ _ (by apply cover0_8) ?_
  refine View.allAt_cons_unit _ _ _ _ _ ?_ (View.allAt_nil _ _)
  intro x hx
  have a0 : (0 : ℕ) = 0 + (x 0).val := hx 0
  have a1 : i.val = 0 + (x 1).val := hx 1
  refine Eq.trans (congrArg g ?_) e
  funext d
  refine Fin.ext ?_
  match d with
  | ⟨0, _⟩ => show (x 0).val = 0; omega
  | ⟨1, _⟩ => show (x 1).val = i.val; omega

theorem shares_at (k : Fin 4) (i : Fin 8) : out0_9 (F := Ideal) x0 x1 x2 x3 x4 x5 x6 x7 (ix2 k i) = share (weights R I k) i := by
  have e := shareV_at (W := weights R I) (fun k i => wv_at posV_at (scores_all T hr hi) (maps_all T hr hi) k i 8 i.isLt le_rfl) k i
  rw [out_shares]
  generalize shareV (wv (k0_pay47 (F := Ideal) x0 x1 x2 x3 x4 x5 x6 x7) posV (k0_pay48 (F := Ideal) x0 x1 x2 x3 x4 x5 x6 x7) 8) = g at e ⊢
  refine View.canon_eq_of_allAt _ _ _ (by apply cover0_9) ?_
  refine View.allAt_cons_unit _ _ _ _ _ ?_ (View.allAt_nil _ _)
  intro x hx
  have a0 : k.val = 0 + (x 0).val := hx 0
  have a1 : i.val = 0 + (x 1).val := hx 1
  refine Eq.trans (congrArg g ?_) e
  funext d
  refine Fin.ext ?_
  match d with
  | ⟨0, _⟩ => show (x 0).val = k.val; omega
  | ⟨1, _⟩ => show (x 1).val = i.val; omega

end

variable (m : (ℓ : Loc nD τ sig) → Buf (Elt Ideal) ℓ) (c : Dev nD)

theorem at8 : ∀ t : Fin grid0.N, win0_8.index t = ![0, 0] := by decide +kernel
theorem at9 : ∀ t : Fin grid0.N, win0_9.index t = ![0, 0] := by decide +kernel

theorem place8 (t : Fin cfg0.N) (y : S1x8.Idx) : (win0_8.blk t).view.emb y = y := by
  have h0 := Pipeline.Window.rect_emb_val_of_index_zero win0_8 t 0 (by rw [at8]; rfl) y
  have h1 := Pipeline.Window.rect_emb_val_of_index_zero win0_8 t 1 (by rw [at8]; rfl) y
  funext d
  refine Fin.ext ?_
  match d with
  | ⟨0, _⟩ => exact h0
  | ⟨1, _⟩ => exact h1

theorem place9 (t : Fin cfg0.N) (y : S4x8.Idx) : (win0_9.blk t).view.emb y = y := by
  have h0 := Pipeline.Window.rect_emb_val_of_index_zero win0_9 t 0 (by rw [at9]; rfl) y
  have h1 := Pipeline.Window.rect_emb_val_of_index_zero win0_9 t 1 (by rw [at9]; rfl) y
  funext d
  refine Fin.ext ?_
  match d with
  | ⟨0, _⟩ => exact h0
  | ⟨1, _⟩ => exact h1

section
variable (hr : AllReal (reals m c)) (hi : AllReal (imags m c))
include hr hi

/-- The first result array after the run. -/
theorem final8 : (dats m 0 c).arrAt 8 cfg0.N
    = fun i : S1x8.Idx => delays (spectrum (reals m c)) (spectrum (imags m c)) (i 1) := by
  refine (dats m 0 c).arrAt_eq_of_covers 8 _ (by decide +kernel) fun t hf y => ?_
  rw [after0_8]
  have hy : y = ix2 (0 : Fin 1) (y 1) := by
    refine (ValueIdx.eq_ix2 (n0 := 1) (n1 := 8) y).trans ?_
    rw [show y 0 = (0 : Fin 1) from Fin.ext (Nat.lt_one_iff.mp (y 0).isLt)]
    rfl
  have e := positions_at (tables_in m c t) (fun k a d => reals_in m c hr t k a d) (fun k a d => imags_in m c hi t k a d) (y 1)
  have p := place8 t y
  generalize out0_8 (F := Ideal) (iblk m c 0 t) (iblk m c 1 t) (iblk m c 2 t) (iblk m c 3 t) (iblk m c 4 t) (iblk m c 5 t) (iblk m c 6 t) (iblk m c 7 t) = g at e ⊢
  refine (congrArg g hy).trans (e.trans ?_)
  exact congrArg (fun z : S1x8.Idx => delays (spectrum (reals m c)) (spectrum (imags m c)) (z 1)) p.symm

/-- The second. -/
theorem final9 : (dats m 0 c).arrAt 9 cfg0.N
    = fun i : S4x8.Idx => share (weights (spectrum (reals m c)) (spectrum (imags m c)) (i 0)) (i 1) := by
  refine (dats m 0 c).arrAt_eq_of_covers 9 _ (by decide +kernel) fun t hf y => ?_
  rw [after0_9]
  have hy : y = ix2 (y 0) (y 1) := ValueIdx.eq_ix2 (n0 := 4) (n1 := 8) y
  have e := shares_at (tables_in m c t) (fun k a d => reals_in m c hr t k a d) (fun k a d => imags_in m c hi t k a d) (y 0) (y 1)
  have p := place9 t y
  generalize out0_9 (F := Ideal) (iblk m c 0 t) (iblk m c 1 t) (iblk m c 2 t) (iblk m c 3 t) (iblk m c 4 t) (iblk m c 5 t) (iblk m c 6 t) (iblk m c 7 t) = g at e ⊢
  refine (congrArg g hy).trans (e.trans ?_)
  exact congrArg (fun z : S4x8.Idx => share (weights (spectrum (reals m c)) (spectrum (imags m c)) (z 0)) (z 1)) p.symm

end

end Cert.SelectIdeal.Final
-- ==== Proof.Select.Ref.lean ====
/- The reference over the extended reals: the inverse transform by its definition, the eight largest batch means
   by a stable descending sort, and the softmax of each entry's means there. -/
module

public import proofs.«01_k».proof.Proof.Select.Final
public import proofs.«01_k».proof.Proof.Gen.SelectRefIdeal.Read
public import Idealize.ShloMosaic.Lib.KernelVsHost

@[expose] public section

noncomputable section

namespace Cert.SelectRefIdeal.Best

open Cert.SelectRefIdeal Cert.SelectRefIdeal.Gen Cert.SelectRefIdeal.Read Cert.Dft Cert.Rounds
open Cert.SelectIdeal.Host (spectrum AllReal)
open Cert.SelectIdeal.Maps (mean score score_pos lit_four)
open Cert.SelectIdeal.Final (top share delays weights)
open Cert.SelectIdeal.Round (bottom)
open Idealize.ShloMosaic hiding ix1 ix2 ix3 ix4 ix5
open Idealize.ShloMosaic.TcCoe Idealize.ShloMosaic.ValueIdx Idealize.SL.Sem

theorem angle_at (f t : Fin 4096) : val_main_v13 (F := Ideal) (ix2 f t) = ((((f.val * t.val % 4096 : ℕ) : ℝ) * (2 * Real.pi / (4096 : ℕ)) : ℝ) : EReal) := by
  have e : val_main_v13 (F := Ideal) (ix2 f t)
      = FloatOps.mulf (FloatOps.sitofp (F := Ideal) .f32 (remWord 4096#32 (IntOp.muli (BitVec.ofNat 32 f.val) (BitVec.ofNat 32 t.val))))
        (Ideal.div (Ideal.ofBits .f32 0x40000000#32 * Ideal.acos (Ideal.ofBits .f32 0xBF800000#32)) (Ideal.ofBits .f32 0x45800000#32)) := by
    rw [val_main_v13_apply, val_main_v12_apply, val_main_v8_apply]
    rfl
  rw [e]
  exact angle 4096#32 4096 f t rfl (by norm_num) (by norm_num)
    (lt_of_le_of_lt (Nat.mul_le_mul f.isLt.le t.isLt.le) (by norm_num)) _ step_div

theorem cos_at (f t : Fin 4096) : val_main_v14 (F := Ideal) (ix2 f t) = ((Real.cos (((f.val * t.val % 4096 : ℕ) : ℝ) * (2 * Real.pi / 4096)) : ℝ) : EReal) := by
  rw [val_main_v14_apply, angle_at]
  refine (Ideal.cos_coe _).trans ?_
  norm_num

theorem sin_at (f t : Fin 4096) : val_main_v15 (F := Ideal) (ix2 f t) = ((Real.sin (((f.val * t.val % 4096 : ℕ) : ℝ) * (2 * Real.pi / 4096)) : ℝ) : EReal) := by
  rw [val_main_v15_apply, angle_at]
  refine (Ideal.sin_coe _).trans ?_
  norm_num

theorem lit_64 : Ideal.ofBits .f32 0x42800000#32 = ((64 : ℝ) : EReal) := by
  simp [Ideal.ofBits, Ideal.ieee, -EReal.coe_mul]; norm_num

theorem lit_16 : Ideal.ofBits .f32 0x41800000#32 = ((16 : ℝ) : EReal) := by
  simp [Ideal.ofBits, Ideal.ieee, -EReal.coe_mul]; norm_num

theorem zero_add_of (z s : EReal) (hz : z = FloatOps.ofBits (F := Ideal) .f32 0x00000000#32) : z + s = s := by
  rw [hz]
  show Ideal.ofBits .f32 0x00000000#32 + s = s
  rw [Ideal.ofBits_zero_f32, zero_add]

/-- The entry at frequency `f`, out of the array with frequency `c + 32 d` at row `c` and place `d`. -/
theorem entry {x : FVec Ideal S4x32x128 .f32} (hx : AllReal x) (k : Fin 4) (f : Fin 4096) (i : S4x32x128.Idx)
    (h0 : (i 0).val = k.val) (h1 : (i 1).val = f.val % 32) (h2 : (i 2).val = f.val / 32) :
    x i = ((spectrum x k f : ℝ) : EReal) := by
  have e := Cert.SelectIdeal.Host.spectrum_at hx k (⟨f.val % 32, by omega⟩ : Fin 32) (⟨f.val / 32, by omega⟩ : Fin 128)
  have ef : f.val % 32 + 32 * (f.val / 32) = f.val := by omega
  rw [show ((⟨f.val % 32, by omega⟩ : Fin 32) : ℕ) + 32 * ((⟨f.val / 32, by omega⟩ : Fin 128) : ℕ) = f.val from ef] at e
  refine Eq.trans (congrArg x (funext fun a => Fin.ext ?_)) e
  match a with
  | ⟨0, _⟩ => exact h0
  | ⟨1, _⟩ => exact h1
  | ⟨2, _⟩ => exact h2

theorem v1_at {x : FVec Ideal S4x32x128 .f32} (hx : AllReal x) (k : Fin 4) (f : Fin 4096) :
    val_main_v1 (F := Ideal) x (ix2 k f) = ((spectrum x k f : ℝ) : EReal) := by
  rw [val_main_v1_apply, val_main_v0_apply]
  refine entry hx k f _ ?_ ?_ ?_
  · show (k.val * 4096 + f.val) / 4096 = k.val
    omega
  · show (k.val * 4096 + f.val) % 32 = f.val % 32
    omega
  · show (k.val * 4096 + f.val) / 32 % 128 = f.val / 32
    omega

theorem v3_at {x : FVec Ideal S4x32x128 .f32} (hx : AllReal x) (k : Fin 4) (f : Fin 4096) :
    val_main_v3 (F := Ideal) x (ix2 k f) = ((spectrum x k f : ℝ) : EReal) := by
  rw [val_main_v3_apply, val_main_v2_apply]
  refine entry hx k f _ ?_ ?_ ?_
  · show (k.val * 4096 + f.val) / 4096 = k.val
    omega
  · show (k.val * 4096 + f.val) % 32 = f.val % 32
    omega
  · show (k.val * 4096 + f.val) / 32 % 128 = f.val / 32
    omega

theorem v16_at {x : FVec Ideal S4x32x128 .f32} (hx : AllReal x) (k : Fin 4) (t : Fin 4096) : val_main_v16 (F := Ideal) x (ix2 k t)
    = ((∑ f : Fin 4096, spectrum x k f * Real.cos (((f.val * t.val % 4096 : ℕ) : ℝ) * (2 * Real.pi / 4096)) : ℝ) : EReal) := by
  rw [← coe_sum]
  refine (val_main_v16_apply x _).trans (Finset.sum_congr rfl fun f _ => ?_)
  rw [EReal.coe_mul, ← v1_at hx k f, ← cos_at f t]
  refine congrArg₂ (· * ·) (congrArg (val_main_v1 (F := Ideal) x) (funext fun a => ?_)) (congrArg (val_main_v14 (F := Ideal)) (funext fun a => ?_))
  · match a with | ⟨0, _⟩ => rfl | ⟨1, _⟩ => rfl
  · match a with | ⟨0, _⟩ => rfl | ⟨1, _⟩ => rfl

theorem v17_at {x : FVec Ideal S4x32x128 .f32} (hx : AllReal x) (k : Fin 4) (t : Fin 4096) : val_main_v17 (F := Ideal) x (ix2 k t)
    = ((∑ f : Fin 4096, spectrum x k f * Real.sin (((f.val * t.val % 4096 : ℕ) : ℝ) * (2 * Real.pi / 4096)) : ℝ) : EReal) := by
  rw [← coe_sum]
  refine (val_main_v17_apply x _).trans (Finset.sum_congr rfl fun f _ => ?_)
  rw [EReal.coe_mul, ← v3_at hx k f, ← sin_at f t]
  refine congrArg₂ (· * ·) (congrArg (val_main_v3 (F := Ideal) x) (funext fun a => ?_)) (congrArg (val_main_v15 (F := Ideal)) (funext fun a => ?_))
  · match a with | ⟨0, _⟩ => rfl | ⟨1, _⟩ => rfl
  · match a with | ⟨0, _⟩ => rfl | ⟨1, _⟩ => rfl

/-- Taking columns of four rows, as the reference's text has it. -/
abbrev columnDims (wf : GatherDims.WF ⟨2, ![4, 4096]⟩ ⟨2, ![8, 1]⟩ ⟨2, ![4, 8]⟩ [0] [1] [] [1] [] 1 ![4, 1]) :
    GatherDims ⟨2, ![4, 4096]⟩ ⟨2, ![8, 1]⟩ ⟨2, ![4, 8]⟩ where
  offsetDims := [0]
  collapsedSliceDims := [1]
  operandBatchingDims := []
  startIndicesBatchingDims := []
  startIndexMap := [1]
  indexVectorDim := 1
  sliceSizes := ![4, 1]
  wf := wf

/-- A column taken reads that column's entries. -/
theorem column_apply {α : Type} (wf : GatherDims.WF ⟨2, ![4, 4096]⟩ ⟨2, ![8, 1]⟩ ⟨2, ![4, 8]⟩ [0] [1] [] [1] [] 1 ![4, 1])
    (x : (⟨2, ![4, 4096]⟩ : Shape).Idx → α) (ids : IVec ⟨2, ![8, 1]⟩ 32) (k : Fin 4) (i : Fin 8)
    (n : Fin 4096) (hn : ids (ix2 i (0 : Fin 1)) = BitVec.ofNat 32 n.val) :
    Host.gather (columnDims wf) x ids (ix2 k i) = x (ix2 k n) := by
  have hnl := n.isLt
  unfold Host.gather
  congr 1
  funext a
  refine Fin.ext ?_
  show (columnDims wf).start (ix2 k i) ids a + (columnDims wf).batchCoord (ix2 k i) a + (columnDims wf).offCoord (ix2 k i) a = _
  rw [GatherDims.batchCoord_eq_zero _ _ _ List.not_mem_nil]
  have hcase : a = 1 ∨ a ≠ 1 := Decidable.em _
  rcases hcase with rfl | ha
  · rw [GatherDims.offCoord_eq_zero _ _ _ (fun h => ((GatherDims.mem_sKept _ _).mp h).1 (List.mem_singleton.mpr rfl))]
    unfold GatherDims.start
    rw [dif_pos (show (1 : Fin 2) ∈ (columnDims wf).startIndexMap from List.mem_singleton.mpr rfl)]
    have hsi : (columnDims wf).siIdx (ix2 k i) ⟨List.idxOf (1 : Fin 2) (columnDims wf).startIndexMap,
        List.idxOf_lt_length_iff.2 (List.mem_singleton.mpr rfl)⟩ = ix2 i (0 : Fin 1) := by
      funext c; refine Fin.ext ?_
      match c with
      | ⟨0, _⟩ => rfl
      | ⟨1, _⟩ => rfl
    rw [hsi, hn]
    show min (BitVec.ofNat 32 n.val).toInt.toNat 4095 + 0 + 0 = n.val
    rw [BitVec.toInt_eq_toNat_of_lt (by rw [BitVec.toNat_ofNat]; omega), BitVec.toNat_ofNat]
    omega
  · have hs : (columnDims wf).start (ix2 k i) ids a = 0 := by
      unfold GatherDims.start; rw [dif_neg (fun h => ha (List.mem_singleton.mp h))]
    rw [hs]
    match a, ha with
    | ⟨0, _⟩, _ => show 0 + 0 + k.val = k.val; omega
    | ⟨1, _⟩, ha => exact absurd rfl ha

/-- The positions of the eight greatest, by the stable descending sort, are the rounds' picks. -/
theorem topK_at (x : FVec Ideal ⟨1, ![4096]⟩ .f32) (h : (⟨1, ![4096]⟩ : Shape).Slices (fun _ => 0) ⟨1, ![8]⟩) {s : Fin 4096 → EReal}
    (hx : ∀ p, x (ix1 p) = s p) (hs : ∀ q, ⊥ < s q) (i : Fin 8) :
    (Host.topK ⟨1, ![8]⟩ 0 (FloatOps.cmpfTotal (F := Ideal) .gt) x h).2 (ix1 i) = BitVec.ofNat 32 (pick s i.val).val := by
  have e := sorted_pick hs (k := 8) (by norm_num) (fun p q => FloatOps.cmpfTotal (F := Ideal) .gt (x (ix1 p)) (x (ix1 q)) == 1#1) (fun p q => by
    rw [hx, hx]
    show (BitVec.ofBool (decide (s q < s p)) == 1#1) = decide (s q < s p)
    by_cases hd : s q < s p
    · rw [decide_eq_true hd]; rfl
    · rw [decide_eq_false hd]; rfl) i
  rw [← e]
  have along : ∀ (j : (⟨1, ![4096]⟩ : Shape).Idx) (p : Fin 4096), j.along (0 : Fin 1) p = ix1 p := by
    intro j p
    funext a
    match a with
    | ⟨0, _⟩ => exact Function.update_self _ _ _
  unfold Host.topK Host.sort2
  dsimp only
  refine (extractStridedSlice_apply (fun _ => 0) _ h (ix1 i) (ix1 (i.castLE (by norm_num : 8 ≤ 4096))) (fun a => match a with
    | ⟨0, _⟩ => by show i.val = 0 + i.val; omega)).trans ?_
  rw [dif_pos (show (0 : ℕ) < (⟨1, ![4096]⟩ : Shape).rank by decide)]
  dsimp only
  rw [dif_pos (show (0 : ℕ) < (⟨1, ![4096]⟩ : Shape).rank by decide)]
  show BitVec.ofNat 32 (((ix1 (i.castLE (by norm_num : 8 ≤ 4096)) : (⟨1, ![4096]⟩ : Shape).Idx).along (0 : Fin 1) (sortedFrom _ _)) 0).val = _
  refine (congrArg (fun q : (⟨1, ![4096]⟩ : Shape).Idx => BitVec.ofNat 32 (q 0).val) (along _ _)).trans ?_
  refine congrArg (fun p : Fin 4096 => BitVec.ofNat 32 p.val) ?_
  show sortedFrom _ (i.castLE (by norm_num : 8 ≤ 4096)) = _
  refine congrArg (fun B => sortedFrom B (i.castLE (by norm_num : 8 ≤ 4096))) ?_
  funext p q
  exact congrArg₂ (fun a b : (⟨1, ![4096]⟩ : Shape).Idx => FloatOps.cmpfTotal (F := Ideal) .gt (x a) (x b) == 1#1) (along _ p) (along _ q)

section
variable {x y : FVec Ideal S4x32x128 .f32} (hx : AllReal x) (hy : AllReal y)
include hx hy

theorem v24_at (k : Fin 4) (t : Fin 4096) : val_main_v24 (F := Ideal) x y (ix2 k t) = ((mean (spectrum x) (spectrum y) k t : ℝ) : EReal) := by
  rw [val_main_v24_apply, val_main_v22_apply, val_main_v20_apply, val_main_v18_apply, v16_at hx, v17_at hy, val_main_v19_apply, val_main_v21_apply, val_main_v23_apply]
  show Ideal.div (Ideal.div (Ideal.div (((_ : ℝ) : EReal) - ((_ : ℝ) : EReal)) (Ideal.ofBits .f32 0x45800000#32)) (Ideal.ofBits .f32 0x42800000#32)) (Ideal.ofBits .f32 0x41800000#32) = _
  rw [lit_4096, lit_64, lit_16, Ideal.div_coe (by norm_num), Ideal.div_coe (by norm_num), Ideal.div_coe (by norm_num), ← EReal.coe_sub,
    ← EReal.coe_mul, ← EReal.coe_mul, ← EReal.coe_mul]
  refine congrArg _ ?_
  unfold mean back
  ring

theorem v27_at (t : Fin 4096) : val_main_v27 (F := Ideal) x y (ix1 t) = score (spectrum x) (spectrum y) t := by
  rw [val_main_v27_apply, val_main_v26_apply]
  have e : val_main_v25 (F := Ideal) x y (ix1 t) = ((∑ k, mean (spectrum x) (spectrum y) k t : ℝ) : EReal) := by
    rw [← coe_sum]
    refine (val_main_v25_apply x y _).trans ((zero_add_of _ _ rfl).trans (Finset.sum_congr rfl fun k _ => ?_))
    rw [← v24_at hx hy k t]
    refine congrArg (val_main_v24 (F := Ideal) x y) (funext fun a => ?_)
    match a with | ⟨0, _⟩ => rfl | ⟨1, _⟩ => rfl
  rw [e]
  show Ideal.div ((_ : ℝ) : EReal) (Ideal.ofBits .f32 0x40800000#32) = _
  rw [lit_four, Ideal.div_coe (by norm_num), ← EReal.coe_mul]
  unfold score
  refine congrArg _ ?_
  ring

theorem indices_at (i : Fin 8) : val_main_indices (F := Ideal) x y (ix1 i) = delays (spectrum x) (spectrum y) i :=
  topK_at _ _ (fun p => v27_at hx hy p) (score_pos _ _) i

theorem v33_at (i : Fin 8) : val_main_v33 (F := Ideal) x y (ix2 i (0 : Fin 1)) = delays (spectrum x) (spectrum y) i := by
  have hi : idx_main_v33 (ix2 i (0 : Fin 1)) = ix1 i := funext fun a => by match a with | ⟨0, _⟩ => rfl
  rw [val_main_v33_apply, hi, val_main_v32_apply, val_main_v29_apply, val_main_v28_apply, indices_at hx hy]
  have small : IntOp.cmpi .slt (delays (spectrum x) (spectrum y) i) 0#32 = 0#1 := by
    unfold delays
    generalize pick (score (spectrum x) (spectrum y)) i.val = p
    have hp := p.isLt
    show BitVec.ofBool ((BitVec.ofNat 32 p.val).slt 0#32) = 0#1
    have : (BitVec.ofNat 32 p.val).slt 0#32 = false := by
      rw [BitVec.slt, BitVec.toInt_eq_toNat_of_lt (by rw [BitVec.toNat_ofNat]; omega)]
      exact decide_eq_false (by show ¬ ((_ : ℕ) : ℤ) < 0; omega)
    rw [this]; rfl
  show Scalar.select (IntOp.cmpi .slt (delays (spectrum x) (spectrum y) i) 0#32) _ _ = _
  rw [small]
  rfl

theorem v34_at (k : Fin 4) (i : Fin 8) : val_main_v34 (F := Ideal) x y (ix2 k i) = weights (spectrum x) (spectrum y) k i := by
  refine Eq.trans ?_ (v24_at hx hy k (pick (score (spectrum x) (spectrum y)) i.val))
  have e := v33_at hx hy i
  unfold val_main_v34
  generalize val_main_v33 (F := Ideal) x y = ids at e ⊢
  generalize val_main_v24 (F := Ideal) x y = z
  exact column_apply _ z ids k i _ e

theorem v37_at (k : Fin 4) : val_main_v37 (F := Ideal) x y (ix1 k) = top (weights (spectrum x) (spectrum y) k) := by
  have e : val_main_v35 (F := Ideal) x y (ix1 k) = top (weights (spectrum x) (spectrum y) k) := by
    have e1 : ∀ i, val_main_v34 (F := Ideal) x y (ix2 k i) = weights (spectrum x) (spectrum y) k i := v34_at hx hy k
    unfold val_main_v35
    generalize val_main_v34 (F := Ideal) x y = z at e1 ⊢
    have r : S4x8.Reduces [1] S4 := by decide
    refine (congrFun (hostReduce_maximumf_eq_multiReduction (F := Ideal) (φ := .f32) z 0xFF800000#32 reducesTo_S4x8_S4_d1 h_S_ r (.inl rfl) rfl) (ix1 k)).trans ?_
    refine (Ideal.multiReduction_maximumf_single _ _ _ _ _ _).trans ?_
    have lift : ∀ j : Fin 8, (r.lift (ix1 k) j : S4x8.Idx) = ix2 k j := by
      intro j
      funext a
      match a with
      | ⟨0, _⟩ => rfl
      | ⟨1, _⟩ => rfl
    have f : (z ∘ r.lift (ix1 k)) = weights (spectrum x) (spectrum y) k := funext fun j => (congrArg z (lift j)).trans (e1 j)
    unfold top
    exact congrArg₂ (fun b g => (Finset.univ : Finset (Fin 8)).fold max b g) bottom f
  rw [val_main_v37_apply, val_main_v36_apply, e]
  show max (Ideal.ofBits .f32 0xFF800000#32) _ = _
  rw [bottom]
  exact max_eq_right bot_le

theorem v41_at (k : Fin 4) (i : Fin 8) : val_main_v41 (F := Ideal) x y (ix2 k i)
    = Ideal.exp (weights (spectrum x) (spectrum y) k i - top (weights (spectrum x) (spectrum y) k)) := by
  have hi : idx_main_v38 (idx_main_v39 (ix2 k i)) = ix1 k := funext fun a => by match a with | ⟨0, _⟩ => rfl
  rw [val_main_v41_apply, val_main_v40_apply, val_main_v39_apply, val_main_v38_apply, hi, v37_at hx hy, v34_at hx hy]
  rfl

/-- The second result: the shares. -/
theorem v45_at (k : Fin 4) (i : Fin 8) : val_main_v45 (F := Ideal) x y (ix2 k i) = share (weights (spectrum x) (spectrum y) k) i := by
  have hi : idx_main_v43 (idx_main_v44 (ix2 k i)) = ix1 k := funext fun a => by match a with | ⟨0, _⟩ => rfl
  have e : val_main_v42 (F := Ideal) x y (ix1 k)
      = ∑ j, Ideal.exp (weights (spectrum x) (spectrum y) k j - top (weights (spectrum x) (spectrum y) k)) := by
    refine (val_main_v42_apply x y _).trans ((zero_add_of _ _ rfl).trans (Finset.sum_congr rfl fun j _ => ?_))
    rw [← v41_at hx hy k j]
    refine congrArg (val_main_v41 (F := Ideal) x y) (funext fun a => ?_)
    match a with | ⟨0, _⟩ => rfl | ⟨1, _⟩ => rfl
  rw [val_main_v45_apply, val_main_v44_apply, val_main_v43_apply, hi, e, v41_at hx hy]
  rfl

/-- The first result: the delays. -/
theorem v46_at (i : S1x8.Idx) : val_main_v46 (F := Ideal) x y i = delays (spectrum x) (spectrum y) (i 1) := by
  rw [← indices_at hx hy (i 1), val_main_v46_apply]
  refine congrArg (val_main_indices (F := Ideal) x y) (funext fun a => Fin.ext ?_)
  have h0 : (i 0).val < 1 := (i 0).isLt
  match a with
  | ⟨0, _⟩ => show (i 0).val * 8 + (i 1).val = (i 1).val; omega

end

end Cert.SelectRefIdeal.Best
-- ==== Proof.Select.Finite.lean ====
/- What the precondition on the spectra says of their entries: each is a real number. -/
module

public import proofs.«01_k».proof.Proof.Gen.Pre_finite_spectra
public import proofs.«01_k».proof.Proof.Corr.Finite
public import proofs.«01_k».proof.Proof.Select.Tables
public import Idealize.ShloMosaic.Lib.ReduceAll

@[expose] public section

noncomputable section

namespace Cert.SelectProof

open Cert.SelectIdeal.Host (AllReal)
open Cert.CorrProof (number_of top_word andi_one)
open Idealize.ShloMosaic

/-- Spectra the predicate holds of have numbers for entries. -/
theorem numbers [Cert.Pre_finite_spectra.Facts] (x0 x1 : FVec Ideal Cert.Pre_finite_spectra.S4x32x128 .f32)
    (h : Cert.Pre_finite_spectra.fn (F := Ideal) x0 x1 = fun _ => 1#1) : AllReal x0 ∧ AllReal x1 := by
  have e := congrFun h ValueIdx.ix0
  unfold Cert.Pre_finite_spectra.fn at e
  obtain ⟨e0, e1⟩ := andi_one _ _ e
  have below : ∀ a : EReal, BitVec.ofBool (decide (max a (-a) < Ideal.ofBits .f32 0x7F800000#32)) = 1#1 → a = (a.toReal : EReal) := by
    intro a ha
    rw [top_word] at ha
    refine number_of a (by_contra fun hlt => ?_)
    rw [decide_eq_false hlt] at ha
    exact absurd ha (by decide)
  haveI : Subsingleton Cert.Pre_finite_spectra.S_.Idx := ⟨fun a b => funext fun d => d.elim0⟩
  exact ⟨fun i => below _ (Host.reduce_andi_all _ _ _ _ _ e0 i), fun i => below _ (Host.reduce_andi_all _ _ _ _ _ e1 i)⟩

end Cert.SelectProof
-- ==== Proof.Select.Cert.lean ====
/- The claims about the choice of delays and their weights. -/
module

public import proofs.«01_k».proof.Proof.Select.Ref
public import proofs.«01_k».proof.Proof.Select.Finite
public import proofs.«01_k».proof.Proof.Gen.Select.Frame
public import proofs.«01_k».proof.Proof.Gen.SelectIdeal.Frame
public import proofs.«01_k».proof.Proof.Gen.SelectIdeal.Value
public import proofs.«01_k».proof.Proof.Gen.SelectRefIdeal.Run
public import proofs.«01_k».proof.Defs
public import Idealize.ShloMosaic.Lib.Quiescent

@[expose] public section

noncomputable section

namespace Cert.SelectProof

open Cert.SelectIdeal.Host (AllReal spectrum reals imags)
open Cert.SelectIdeal.Final (delays weights share)
open Idealize.ShloMosaic hiding ix1 ix2 ix3 ix4 ix5
open Idealize.ShloMosaic.TcCoe Idealize.ShloMosaic.ValueIdx Idealize.SL.Sem

/-- The kernel runs, keeps its arguments and ends quiescent. -/
theorem frame_bits : Cert.quiescent_Select := fun m ρ _ => Cert.Select.Gen.frame m ρ

/-- So does the kernel over the extended reals. -/
theorem frame_ideal : Cert.quiescent_SelectIdeal := fun m ρ _ => Cert.SelectIdeal.Gen.frame m ρ

/-- The reference runs from any memory, keeps its arguments and has no counters. -/
theorem frame_reference : Cert.quiescent_SelectRefIdeal := fun m ρ _ =>
  (θ_run Cert.SelectRefIdeal.defs _ _).mono (fun r h => ⟨fun c => (h c).2.2, sem_eq_zero_of_no_sems (by decide) r.2⟩)
    (Cert.SelectRefIdeal.Value.run (F := Ideal) m ρ)

/-- Kernel and reference choose the same delays, in the same order, and weigh them alike. -/
theorem algebraic : Cert.algebraic_SelectIdeal_SelectRefIdeal_pre_finite_spectra := by
  intro m g m' g' hpre hargs
  have hn := fun c => numbers _ _ (hpre c)
  refine ⟨fun c => fun i : Cert.SelectIdeal.S1x8.Idx => delays (spectrum (reals m c)) (spectrum (imags m c)) (i 1),
    fun c => fun i : Cert.SelectIdeal.S4x8.Idx => share (weights (spectrum (reals m c)) (spectrum (imags m c)) (i 0)) (i 1), ?_, ?_⟩
  · refine (θ_run Cert.SelectIdeal.defs _ _).mono (fun r h c => ⟨(h c).1.trans ?_, (h c).2.1.trans ?_, (h c).2.2⟩)
      (Cert.SelectIdeal.Value.run_blocks m g)
    · exact Cert.SelectIdeal.Final.final8 m c (hn c).1 (hn c).2
    · exact Cert.SelectIdeal.Final.final9 m c (hn c).1 (hn c).2
  · refine (θ_run Cert.SelectRefIdeal.defs _ _).mono (fun r h c => ⟨(h c).1.trans ?_, (h c).2.1.trans ?_, (h c).2.2⟩)
      (Cert.SelectRefIdeal.Value.run (F := Ideal) m' g')
    · refine (Cert.SelectRefIdeal.Read.val_main_v46_eq _ _).trans ?_
      obtain ⟨h0, h1⟩ := hargs c
      rw [h0, h1]
      funext i
      exact Cert.SelectRefIdeal.Best.v46_at (hn c).1 (hn c).2 i
    · refine (Cert.SelectRefIdeal.Read.val_main_v45_eq _ _).trans ?_
      obtain ⟨h0, h1⟩ := hargs c
      rw [h0, h1]
      funext i
      refine (congrArg _ (ValueIdx.eq_ix2 (n0 := 4) (n1 := 8) i)).trans ?_
      exact Cert.SelectRefIdeal.Best.v45_at (hn c).1 (hn c).2 (i 0) (i 1)

end Cert.SelectProof
-- ==== Proof.lean ====
/- The proof of the certificate's claim: the frames, and that kernel and reference compute the same function. -/
module

public import proofs.«01_k».proof.Defs
public import proofs.«01_k».proof.Proof.Gen.Agg
public import proofs.«01_k».proof.Proof.Gen.Agg.Frame
public import proofs.«01_k».proof.Proof.Gen.AggIdeal
public import proofs.«01_k».proof.Proof.Gen.AggIdeal.Frame
public import proofs.«01_k».proof.Proof.Gen.AggIdeal.Value
public import proofs.«01_k».proof.Proof.Gen.AggRefIdeal
public import proofs.«01_k».proof.Proof.Gen.Pre_in_range
public import proofs.«01_k».proof.Proof.Gen.Pre_finite
public import proofs.«01_k».proof.Proof.Gen.AggRefIdeal.Run
public import proofs.«01_k».proof.Proof.Gen.AggRefIdeal.Read
public import proofs.«01_k».proof.Proof.Agg.Cert
public import proofs.«01_k».proof.Proof.Gen.Corr
public import proofs.«01_k».proof.Proof.Gen.CorrIdeal
public import proofs.«01_k».proof.Proof.Gen.CorrRefIdeal
public import proofs.«01_k».proof.Proof.Corr.Cert
public import proofs.«01_k».proof.Proof.Select.Cert
public import proofs.«01_k».proof.Proof.Gen.CorrIdeal.Value
public import proofs.«01_k».proof.Proof.Gen.CorrRefIdeal.Run
public import proofs.«01_k».proof.Proof.Gen.CorrRefIdeal.Read
public import proofs.«01_k».proof.Proof.Gen.Corr.Frame
public import proofs.«01_k».proof.Proof.Gen.CorrIdeal.Frame
public import proofs.«01_k».proof.Proof.Gen.Select
public import proofs.«01_k».proof.Proof.Gen.Select.Frame
public import proofs.«01_k».proof.Proof.Gen.SelectIdeal
public import proofs.«01_k».proof.Proof.Gen.SelectIdeal.Frame
public import proofs.«01_k».proof.Proof.Gen.SelectIdeal.Value
public import proofs.«01_k».proof.Proof.Gen.SelectRefIdeal
public import proofs.«01_k».proof.Proof.Gen.SelectRefIdeal.Run
public import proofs.«01_k».proof.Proof.Gen.SelectRefIdeal.Read
public import proofs.«01_k».proof.Proof.Gen.Pre_finite_spectra

@[expose] public section

noncomputable section

namespace Cert.Proof

open Idealize.ShloMosaic Idealize.SL.Sem

theorem claim : Cert.Claim := ⟨Cert.Corr.Gen.facts, Cert.CorrIdeal.Gen.facts, Cert.CorrRefIdeal.Gen.facts,
  Cert.Select.Gen.facts, Cert.SelectIdeal.Gen.facts, Cert.SelectRefIdeal.Gen.facts,
  Cert.Agg.Gen.facts, Cert.AggIdeal.Gen.facts, Cert.AggRefIdeal.Gen.facts,
  Cert.Pre_finite.Gen.facts, Cert.Pre_finite_spectra.Gen.facts, Cert.Pre_in_range.Gen.facts,
  Cert.CorrProof.frame_bits, Cert.CorrProof.frame_ideal, fun m ρ _ => Cert.CorrProof.frame_ideal m ρ trivial,
  Cert.CorrProof.frame_reference, fun m ρ _ => Cert.CorrProof.frame_reference m ρ trivial,
  Cert.SelectProof.frame_bits, Cert.SelectProof.frame_ideal, fun m ρ _ => Cert.SelectProof.frame_ideal m ρ trivial,
  Cert.SelectProof.frame_reference, fun m ρ _ => Cert.SelectProof.frame_reference m ρ trivial,
  Cert.AggProof.frame_bits, Cert.AggProof.frame_ideal, Cert.AggProof.frame_reference, fun m ρ _ => Cert.AggProof.frame_reference m ρ trivial,
  trivial, Cert.CorrProof.algebraic, trivial, Cert.SelectProof.algebraic, trivial, Cert.AggProof.algebraic⟩

end Cert.Proof

end
